-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v38_0)) (v1 : (c : Dev Cert.KernelIdeal.nD) → Buf (Elt Ideal) ((c.tc : Thread Cert.KernelIdeal.nD Cert.KernelIdeal.τ).loc Cert.KernelIdeal.main_v38_1)) (v2 : (c : Dev Cert.KernelIdeal.nD) → Buf (Elt Ideal) ((c.tc : Thread Cert.KernelIdeal.nD Cert.KernelIdeal.τ).loc Cert.KernelIdeal.main_v38_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38_0) = v0 c
          ∧ r.2.mem ((c.tc : Thread Cert.KernelIdeal.nD Cert.KernelIdeal.τ).loc Cert.KernelIdeal.main_v38_1) = v1 c
          ∧ r.2.mem ((c.tc : Thread Cert.KernelIdeal.nD Cert.KernelIdeal.τ).loc Cert.KernelIdeal.main_v38_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_v65) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v14) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v1_0)) (v1 : (c : Dev Cert.Kernel8Ideal.nD) → Buf (Elt Ideal) ((c.tc : Thread Cert.Kernel8Ideal.nD Cert.Kernel8Ideal.τ).loc Cert.Kernel8Ideal.main_v1_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1_0) = v0 c
          ∧ r.2.mem ((c.tc : Thread Cert.Kernel8Ideal.nD Cert.Kernel8Ideal.τ).loc Cert.Kernel8Ideal.main_v1_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v36) = v0 c
          ∧ r.2.mem ((c.tc : Thread Cert.Reference8Ideal.nD Cert.Reference8Ideal.τ).loc Cert.Reference8Ideal.main_v37) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v5_0)) (v1 : (c : Dev Cert.Kernel9Ideal.nD) → Buf (Elt Ideal) ((c.tc : Thread Cert.Kernel9Ideal.nD Cert.Kernel9Ideal.τ).loc Cert.Kernel9Ideal.main_v5_1)) (v2 : (c : Dev Cert.Kernel9Ideal.nD) → Buf (Elt Ideal) ((c.tc : Thread Cert.Kernel9Ideal.nD Cert.Kernel9Ideal.τ).loc Cert.Kernel9Ideal.main_v5_2)) (v3 : (c : Dev Cert.Kernel9Ideal.nD) → Buf (Elt Ideal) ((c.tc : Thread Cert.Kernel9Ideal.nD Cert.Kernel9Ideal.τ).loc Cert.Kernel9Ideal.main_v5_3)) (v4 : (c : Dev Cert.Kernel9Ideal.nD) → Buf (Elt Ideal) ((c.tc : Thread Cert.Kernel9Ideal.nD Cert.Kernel9Ideal.τ).loc Cert.Kernel9Ideal.main_v5_4)) (v5 : (c : Dev Cert.Kernel9Ideal.nD) → Buf (Elt Ideal) ((c.tc : Thread Cert.Kernel9Ideal.nD Cert.Kernel9Ideal.τ).loc Cert.Kernel9Ideal.main_v5_5)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v5_0) = v0 c
          ∧ r.2.mem ((c.tc : Thread Cert.Kernel9Ideal.nD Cert.Kernel9Ideal.τ).loc Cert.Kernel9Ideal.main_v5_1) = v1 c
          ∧ r.2.mem ((c.tc : Thread Cert.Kernel9Ideal.nD Cert.Kernel9Ideal.τ).loc Cert.Kernel9Ideal.main_v5_2) = v2 c
          ∧ r.2.mem ((c.tc : Thread Cert.Kernel9Ideal.nD Cert.Kernel9Ideal.τ).loc Cert.Kernel9Ideal.main_v5_3) = v3 c
          ∧ r.2.mem ((c.tc : Thread Cert.Kernel9Ideal.nD Cert.Kernel9Ideal.τ).loc Cert.Kernel9Ideal.main_v5_4) = v4 c
          ∧ r.2.mem ((c.tc : Thread Cert.Kernel9Ideal.nD Cert.Kernel9Ideal.τ).loc Cert.Kernel9Ideal.main_v5_5) = v5 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v46) = v0 c
          ∧ r.2.mem ((c.tc : Thread Cert.Reference9Ideal.nD Cert.Reference9Ideal.τ).loc Cert.Reference9Ideal.main_v47) = v1 c
          ∧ r.2.mem ((c.tc : Thread Cert.Reference9Ideal.nD Cert.Reference9Ideal.τ).loc Cert.Reference9Ideal.main_v48) = v2 c
          ∧ r.2.mem ((c.tc : Thread Cert.Reference9Ideal.nD Cert.Reference9Ideal.τ).loc Cert.Reference9Ideal.main_v49) = v3 c
          ∧ r.2.mem ((c.tc : Thread Cert.Reference9Ideal.nD Cert.Reference9Ideal.τ).loc Cert.Reference9Ideal.main_v50) = v4 c
          ∧ r.2.mem ((c.tc : Thread Cert.Reference9Ideal.nD Cert.Reference9Ideal.τ).loc Cert.Reference9Ideal.main_v51) = v5 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v1) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v1) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v1) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v1_0)) (v1 : (c : Dev Cert.Kernel16Ideal.nD) → Buf (Elt Ideal) ((c.tc : Thread Cert.Kernel16Ideal.nD Cert.Kernel16Ideal.τ).loc Cert.Kernel16Ideal.main_v1_1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v1_0) = v0 c
          ∧ r.2.mem ((c.tc : Thread Cert.Kernel16Ideal.nD Cert.Kernel16Ideal.τ).loc Cert.Kernel16Ideal.main_v1_1) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v17) = v0 c
          ∧ r.2.mem ((c.tc : Thread Cert.Reference16Ideal.nD Cert.Reference16Ideal.τ).loc Cert.Reference16Ideal.main_v19) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v3_0)) (v1 : (c : Dev Cert.Kernel17Ideal.nD) → Buf (Elt Ideal) ((c.tc : Thread Cert.Kernel17Ideal.nD Cert.Kernel17Ideal.τ).loc Cert.Kernel17Ideal.main_v3_1)) (v2 : (c : Dev Cert.Kernel17Ideal.nD) → Buf (Elt Ideal) ((c.tc : Thread Cert.Kernel17Ideal.nD Cert.Kernel17Ideal.τ).loc Cert.Kernel17Ideal.main_v3_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v3_0) = v0 c
          ∧ r.2.mem ((c.tc : Thread Cert.Kernel17Ideal.nD Cert.Kernel17Ideal.τ).loc Cert.Kernel17Ideal.main_v3_1) = v1 c
          ∧ r.2.mem ((c.tc : Thread Cert.Kernel17Ideal.nD Cert.Kernel17Ideal.τ).loc Cert.Kernel17Ideal.main_v3_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v57) = v0 c
          ∧ r.2.mem ((c.tc : Thread Cert.Reference17Ideal.nD Cert.Reference17Ideal.τ).loc Cert.Reference17Ideal.main_v58) = v1 c
          ∧ r.2.mem ((c.tc : Thread Cert.Reference17Ideal.nD Cert.Reference17Ideal.τ).loc Cert.Reference17Ideal.main_v59) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v2) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v1) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)) →
    ∃ (v0 : (c : Dev Cert.Kernel19Ideal.nD) → Buf (Elt Ideal) ((c.tc : Thread Cert.Kernel19Ideal.nD Cert.Kernel19Ideal.τ).loc Cert.Kernel19Ideal.main_v2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v2) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v4) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)) →
    ∃ (v0 : (c : Dev Cert.Kernel20Ideal.nD) → Buf (Elt Ideal) ((c.tc : Thread Cert.Kernel20Ideal.nD Cert.Kernel20Ideal.τ).loc Cert.Kernel20Ideal.main_v2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v2) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v4) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v2) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v1) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)) →
    ∃ (v0 : (c : Dev Cert.Kernel22Ideal.nD) → Buf (Elt Ideal) ((c.tc : Thread Cert.Kernel22Ideal.nD Cert.Kernel22Ideal.τ).loc Cert.Kernel22Ideal.main_v2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v2) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v4) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)) →
    ∃ (v0 : (c : Dev Cert.Kernel23Ideal.nD) → Buf (Elt Ideal) ((c.tc : Thread Cert.Kernel23Ideal.nD Cert.Kernel23Ideal.τ).loc Cert.Kernel23Ideal.main_v2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v2) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v4) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v2) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v1) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)) →
    ∃ (v0 : (c : Dev Cert.Kernel25Ideal.nD) → Buf (Elt Ideal) ((c.tc : Thread Cert.Kernel25Ideal.nD Cert.Kernel25Ideal.τ).loc Cert.Kernel25Ideal.main_v2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v2) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v4) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)) →
    ∃ (v0 : (c : Dev Cert.Kernel26Ideal.nD) → Buf (Elt Ideal) ((c.tc : Thread Cert.Kernel26Ideal.nD Cert.Kernel26Ideal.τ).loc Cert.Kernel26Ideal.main_v2)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v2) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v4) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
-- ==== Pre_finite.lean ====
abbrev S4112x8x96 : Shape := ⟨3, ![4112, 8, 96]⟩
abbrev S4112x8x64 : Shape := ⟨3, ![4112, 8, 64]⟩
abbrev S_ : Shape := ⟨0, ![]⟩

class Facts : Prop where
  bcast_S_S4112x8x96 : S_.BroadcastsInDim S4112x8x96 (![] : Fin 0 → Fin S4112x8x96.rank)
  bcast_S_S4112x8x64 : S_.BroadcastsInDim S4112x8x64 (![] : Fin 0 → Fin S4112x8x64.rank)

variable [Facts]

def fn {F : FTy → Type} [FloatOps F] (main_arg0 : FVec F S4112x8x96 .f32) (main_arg1 : FVec F S4112x8x96 .f32) (main_arg2 : FVec F S4112x8x64 .f32) (main_arg3 : FVec F S4112x8x64 .f32) : IVec S4112x8x96 1 × IVec S4112x8x96 1 × IVec S4112x8x64 1 × IVec S4112x8x64 1 :=
  let main_v0 : FVec F S4112x8x96 .f32 := Host.absf main_arg0
  let main_cst : FVec F S_ .f32 := constant S_ .f32 0x7F800000#32
  let main_v1 : FVec F S4112x8x96 .f32 := broadcastInDim S4112x8x96 ![] bcast_S_S4112x8x96 main_cst
  let main_v2 : IVec S4112x8x96 1 := cmpf .olt main_v0 main_v1
  let main_v3 : FVec F S4112x8x96 .f32 := Host.absf main_arg1
  let main_cst_0 : FVec F S_ .f32 := constant S_ .f32 0x7F800000#32
  let main_v4 : FVec F S4112x8x96 .f32 := broadcastInDim S4112x8x96 ![] bcast_S_S4112x8x96 main_cst_0
  let main_v5 : IVec S4112x8x96 1 := cmpf .olt main_v3 main_v4
  let main_v6 : FVec F S4112x8x64 .f32 := Host.absf main_arg2
  let main_cst_1 : FVec F S_ .f32 := constant S_ .f32 0x7F800000#32
  let main_v7 : FVec F S4112x8x64 .f32 := broadcastInDim S4112x8x64 ![] bcast_S_S4112x8x64 main_cst_1
  let main_v8 : IVec S4112x8x64 1 := cmpf .olt main_v6 main_v7
  let main_v9 : FVec F S4112x8x64 .f32 := Host.absf main_arg3
  let main_cst_2 : FVec F S_ .f32 := constant S_ .f32 0x7F800000#32
  let main_v10 : FVec F S4112x8x64 .f32 := broadcastInDim S4112x8x64 ![] bcast_S_S4112x8x64 main_cst_2
  let main_v11 : IVec S4112x8x64 1 := cmpf .olt main_v9 main_v10
  (main_v2, main_v5, main_v8, main_v11)
-- ==== Kernel.lean ====
abbrev S4112x8x96 : Shape := ⟨3, ![4112, 8, 96]⟩
abbrev S4112x8x64 : Shape := ⟨3, ![4112, 8, 64]⟩
abbrev S_ : Shape := ⟨0, ![]⟩
abbrev S8x4112x4112 : Shape := ⟨3, ![8, 4112, 4112]⟩
abbrev S8x4112 : Shape := ⟨2, ![8, 4112]⟩
abbrev S8x4112x1 : Shape := ⟨3, ![8, 4112, 1]⟩
abbrev S8x64x4112 : Shape := ⟨3, ![8, 64, 4112]⟩
abbrev S8x4224 : Shape := ⟨2, ![8, 4224]⟩
abbrev S8x11x1x384 : Shape := ⟨4, ![8, 11, 1, 384]⟩
abbrev S4224x8x128 : Shape := ⟨3, ![4224, 8, 128]⟩
abbrev S4224x1024 : Shape := ⟨2, ![4224, 1024]⟩
abbrev S4224x128 : Shape := ⟨2, ![4224, 128]⟩
abbrev S384x128 : Shape := ⟨2, ![384, 128]⟩
abbrev S1x11x1x384 : Shape := ⟨4, ![1, 11, 1, 384]⟩
abbrev S11x1x384 : Shape := ⟨3, ![11, 1, 384]⟩
abbrev S11x128x384 : Shape := ⟨3, ![11, 128, 384]⟩
abbrev S128x384 : Shape := ⟨2, ![128, 384]⟩
abbrev S384 : Shape := ⟨1, ![384]⟩
abbrev S1x384 : Shape := ⟨2, ![1, 384]⟩
abbrev S1x1x384 : Shape := ⟨3, ![1, 1, 384]⟩
abbrev S384x384 : Shape := ⟨2, ![384, 384]⟩
abbrev S1x1x1x384 : Shape := ⟨4, ![1, 1, 1, 384]⟩
abbrev S1x128x384 : Shape := ⟨3, ![1, 128, 384]⟩

abbrev nBuf : Space → Nat
  | .hbm => 63
  | .vmem => 22
  | .smem => 0
  | _ => 0

abbrev bufTy : (tb : Table) → Fin (tcTables nBuf tb) → BufTy
  | .hbm, ⟨0, _⟩ => ⟨S4112x8x96, .f32⟩
  | .hbm, ⟨1, _⟩ => ⟨S4112x8x96, .f32⟩
  | .hbm, ⟨2, _⟩ => ⟨S4112x8x64, .f32⟩
  | .hbm, ⟨3, _⟩ => ⟨S4112x8x64, .f32⟩
  | .hbm, ⟨4, _⟩ => ⟨S_, .f32⟩
  | .hbm, ⟨5, _⟩ => ⟨S4112x8x96, .f32⟩
  | .hbm, ⟨6, _⟩ => ⟨S4112x8x96, .f32⟩
  | .hbm, ⟨7, _⟩ => ⟨S8x4112x4112, .f32⟩
  | .hbm, ⟨8, _⟩ => ⟨S8x4112x4112, .i32⟩
  | .hbm, ⟨9, _⟩ => ⟨S8x4112x4112, .i32⟩
  | .hbm, ⟨10, _⟩ => ⟨S8x4112x4112, .i1⟩
  | .hbm, ⟨11, _⟩ => ⟨S_, .f32⟩
  | .hbm, ⟨12, _⟩ => ⟨S_, .f32⟩
  | .hbm, ⟨13, _⟩ => ⟨S8x4112x4112, .f32⟩
  | .hbm, ⟨14, _⟩ => ⟨S8x4112x4112, .f32⟩
  | .hbm, ⟨15, _⟩ => ⟨S_, .f32⟩
  | .hbm, ⟨16, _⟩ => ⟨S8x4112, .f32⟩
  | .hbm, ⟨17, _⟩ => ⟨S8x4112x1, .f32⟩
  | .hbm, ⟨18, _⟩ => ⟨S8x4112x4112, .f32⟩
  | .hbm, ⟨19, _⟩ => ⟨S8x4112x4112, .f32⟩
  | .hbm, ⟨20, _⟩ => ⟨S8x4112x4112, .f32⟩
  | .hbm, ⟨21, _⟩ => ⟨S_, .f32⟩
  | .hbm, ⟨22, _⟩ => ⟨S8x4112, .f32⟩
  | .hbm, ⟨23, _⟩ => ⟨S8x4112x1, .f32⟩
  | .hbm, ⟨24, _⟩ => ⟨S8x4112x4112, .f32⟩
  | .hbm, ⟨25, _⟩ => ⟨S8x4112x4112, .f32⟩
  | .hbm, ⟨26, _⟩ => ⟨S8x64x4112, .f32⟩
  | .hbm, ⟨27, _⟩ => ⟨S4112x8x64, .f32⟩
  | .hbm, ⟨28, _⟩ => ⟨S8x4112x1, .f32⟩
  | .hbm, ⟨29, _⟩ => ⟨S8x4112x1, .f32⟩
  | .hbm, ⟨30, _⟩ => ⟨S8x4112, .f32⟩
  | .hbm, ⟨31, _⟩ => ⟨S_, .i32⟩
  | .hbm, ⟨32, _⟩ => ⟨S_, .f32⟩
  | .hbm, ⟨33, _⟩ => ⟨S8x4224, .f32⟩
  | .hbm, ⟨34, _⟩ => ⟨S8x11x1x384, .f32⟩
  | .hbm, ⟨35, _⟩ => ⟨S_, .i32⟩
  | .hbm, ⟨36, _⟩ => ⟨S_, .f32⟩
  | .hbm, ⟨37, _⟩ => ⟨S4224x8x128, .f32⟩
  | .hbm, ⟨38, _⟩ => ⟨S4224x1024, .f32⟩
  | .hbm, ⟨39, _⟩ => ⟨S4224x1024, .bf16⟩
  | .hbm, ⟨40, _⟩ => ⟨S_, .i32⟩
  | .hbm, ⟨41, _⟩ => ⟨S_, .f32⟩
  | .hbm, ⟨42, _⟩ => ⟨S4224x8x128, .f32⟩
  | .hbm, ⟨43, _⟩ => ⟨S4224x1024, .f32⟩
  | .hbm, ⟨44, _⟩ => ⟨S4224x1024, .bf16⟩
  | .hbm, ⟨45, _⟩ => ⟨S_, .i32⟩
  | .hbm, ⟨46, _⟩ => ⟨S_, .f32⟩
  | .hbm, ⟨47, _⟩ => ⟨S4224x8x128, .f32⟩
  | .hbm, ⟨48, _⟩ => ⟨S4224x1024, .f32⟩
  | .hbm, ⟨49, _⟩ => ⟨S4224x1024, .bf16⟩
  | .hbm, ⟨50, _⟩ => ⟨S_, .i32⟩
  | .hbm, ⟨51, _⟩ => ⟨S_, .f32⟩
  | .hbm, ⟨52, _⟩ => ⟨S4224x8x128, .f32⟩
  | .hbm, ⟨53, _⟩ => ⟨S4224x1024, .f32⟩
  | .hbm, ⟨54, _⟩ => ⟨S4224x1024, .bf16⟩
  | .hbm, ⟨55, _⟩ => ⟨S_, .i32⟩
  | .hbm, ⟨56, _⟩ => ⟨S_, .f32⟩
  | .hbm, ⟨57, _⟩ => ⟨S4224x8x128, .f32⟩
  | .hbm, ⟨58, _⟩ => ⟨S4224x1024, .f32⟩
  | .hbm, ⟨59, _⟩ => ⟨S4224x1024, .bf16⟩
  | .hbm, ⟨60, _⟩ => ⟨S4224x1024, .f32⟩
  | .hbm, ⟨61, _⟩ => ⟨S4224x1024, .bf16⟩
  | .hbm, ⟨62, _⟩ => ⟨S4224x1024, .bf16⟩
  | .local _ .vmem, ⟨0, _⟩ => ⟨S4224x128, .bf16⟩
  | .local _ .vmem, ⟨1, _⟩ => ⟨S4224x128, .bf16⟩
  | .local _ .vmem, ⟨2, _⟩ => ⟨S384x128, .bf16⟩
  | .local _ .vmem, ⟨3, _⟩ => ⟨S384x128, .bf16⟩
  | .local _ .vmem, ⟨4, _⟩ => ⟨S384x128, .bf16⟩
  | .local _ .vmem, ⟨5, _⟩ => ⟨S384x128, .bf16⟩
  | .local _ .vmem, ⟨6, _⟩ => ⟨S4224x128, .bf16⟩
  | .local _ .vmem, ⟨7, _⟩ => ⟨S4224x128, .bf16⟩
  | .local _ .vmem, ⟨8, _⟩ => ⟨S1x11x1x384, .f32⟩
  | .local _ .vmem, ⟨9, _⟩ => ⟨S1x11x1x384, .f32⟩
  | .local _ .vmem, ⟨10, _⟩ => ⟨S4224x128, .bf16⟩
  | .local _ .vmem, ⟨11, _⟩ => ⟨S4224x128, .bf16⟩
  | .local _ .vmem, ⟨12, _⟩ => ⟨S4224x128, .f32⟩
  | .local _ .vmem, ⟨13, _⟩ => ⟨S4224x128, .f32⟩
  | .local _ .vmem, ⟨14, _⟩ => ⟨S384x128, .bf16⟩
  | .local _ .vmem, ⟨15, _⟩ => ⟨S384x128, .bf16⟩
  | .local _ .vmem, ⟨16, _⟩ => ⟨S384x128, .bf16⟩
  | .local _ .vmem, ⟨17, _⟩ => ⟨S384x128, .bf16⟩
  | .local _ .vmem, ⟨18, _⟩ => ⟨S11x1x384, .f32⟩
  | .local _ .vmem, ⟨19, _⟩ => ⟨S11x128x384, .f32⟩
  | .local _ .vmem, ⟨20, _⟩ => ⟨S384x128, .f32⟩
  | .local _ .vmem, ⟨21, _⟩ => ⟨S384x128, .f32⟩
  | _, _ => ⟨S4112x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_call0_v0 : Ref sig .tc := ⟨.hbm, 12, rfl⟩
abbrev main_call0_v1 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c : Ref sig .tc := ⟨.hbm, 31, rfl⟩
abbrev main_call1_v0 : Ref sig .tc := ⟨.hbm, 32, rfl⟩
abbrev main_v21 : Ref sig .tc := ⟨.hbm, 33, rfl⟩
abbrev main_v22 : Ref sig .tc := ⟨.hbm, 34, rfl⟩
abbrev main_c_3 : Ref sig .tc := ⟨.hbm, 35, rfl⟩
abbrev main_call2_v0 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_4 : Ref sig .tc := ⟨.hbm, 40, rfl⟩
abbrev main_call3_v0 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_5 : Ref sig .tc := ⟨.hbm, 45, rfl⟩
abbrev main_call4_v0 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_call5_v0 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_call6_v0 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38_0 : Ref sig .tc := ⟨.hbm, 60, rfl⟩
abbrev main_v38_1 : Ref sig .tc := ⟨.hbm, 61, rfl⟩
abbrev main_v38_2 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_26 : BitVec 32 := 0#32
  let c11_i32 : BitVec 32 := 11#32
  let v37 : BitVec 32 := Scalar.addi c0_i32_26 c11_i32
  let c1_i32 : BitVec 32 := 1#32
  ⟨c0_i32_26, v37, c1_i32⟩
def k0_mult1 (k0_t1 : Fin k0_t1_loop.trips) : BitVec 32 :=
  let c0_i32_26 : BitVec 32 := 0#32
  let c1_i32 : BitVec 32 := 1#32
  let arg15 : BitVec 32 := Scf.iv c0_i32_26 c1_i32 k0_t1
  let c384_i32 : BitVec 32 := 384#32
  let v38 : BitVec 32 := Scalar.muli arg15 c384_i32
  v38
def k0_off1 (k0_t1 : Fin k0_t1_loop.trips) : Fin 2 → Nat :=
  let c0_i32_26 : BitVec 32 := 0#32
  let c1_i32 : BitVec 32 := 1#32
  let arg15 : BitVec 32 := Scf.iv c0_i32_26 c1_i32 k0_t1
  let c384_i32 : BitVec 32 := 384#32
  let v38 : BitVec 32 := Scalar.muli arg15 c384_i32
  let v39 : BitVec 32 := v38
  let v40 : Index := Scalar.indexCast v39
  let c0_28 : Index := 0#32
  ![v40.toNat, 0]
def k0_off2 (k0_t1 : Fin k0_t1_loop.trips) : Fin 3 → Nat :=
  let c0_i32_26 : BitVec 32 := 0#32
  let c1_i32 : BitVec 32 := 1#32
  let arg15 : BitVec 32 := Scf.iv c0_i32_26 c1_i32 k0_t1
  let v52 : Index := Scalar.indexCast arg15
  let c0_31 : Index := 0#32
  let c0_32 : Index := 0#32
  ![v52.toNat, 0, 0]
def k0_cond2 (i : grid0.Coords) : BitVec 1 :=
  let arg1 : BitVec 32 := BitVec.ofNat 32 (i 1).val
  let c0_i32_9 : BitVec 32 := 0#32
  let v18 : BitVec 1 := Scalar.cmpi .eq arg1 c0_i32_9
  let v19 : BitVec 32 := Scalar.extui v18
  let c0_i32_10 : BitVec 32 := 0#32
  let v20 : BitVec 1 := Scalar.cmpi .ne v19 c0_i32_10
  v20

@[reducible] def k0_t2_loop : Scf.Loop 32 :=
  let c0_i32_22 : BitVec 32 := 0#32
  let c3_i32 : BitVec 32 := 3#32
  let v33 : BitVec 32 := Scalar.addi c0_i32_22 c3_i32
  let c1_i32 : BitVec 32 := 1#32
  ⟨c0_i32_22, v33, c1_i32⟩
def k0_mult2 (k0_t2 : Fin k0_t2_loop.trips) : BitVec 32 :=
  let c0_i32_80 : BitVec 32 := 0#32
  let c3_i32_79 : BitVec 32 := 3#32
  let c0_i32_22 : BitVec 32 := 0#32
  let c1_i32 : BitVec 32 := 1#32
  let arg15 : BitVec 32 := Scf.iv c0_i32_22 c1_i32 k0_t2
  let v133 : BitVec 32 := Scalar.muli c3_i32_79 arg15
  let v134 : BitVec 32 := Scalar.addi c0_i32_80 v133
  let c0_i32_81 : BitVec 32 := 0#32
  let v135 : BitVec 32 := Scalar.addi v134 c0_i32_81
  let c384_i32_87 : BitVec 32 := 384#32
  let v142 : BitVec 32 := Scalar.muli v135 c384_i32_87
  v142
def k0_off3 (k0_t2 : Fin k0_t2_loop.trips) (c0_i32_81 : BitVec 32) : Fin 2 → Nat :=
  let c0_i32_80 : BitVec 32 := 0#32
  let c3_i32_79 : BitVec 32 := 3#32
  let c0_i32_22 : BitVec 32 := 0#32
  let c1_i32 : BitVec 32 := 1#32
  let arg15 : BitVec 32 := Scf.iv c0_i32_22 c1_i32 k0_t2
  let v133 : BitVec 32 := Scalar.muli c3_i32_79 arg15
  let v134 : BitVec 32 := Scalar.addi c0_i32_80 v133
  let v135 : BitVec 32 := Scalar.addi v134 c0_i32_81
  let c384_i32_87 : BitVec 32 := 384#32
  let v142 : BitVec 32 := Scalar.muli v135 c384_i32_87
  let v143 : BitVec 32 := v142
  let v144 : Index := Scalar.indexCast v143
  let c0_88 : Index := 0#32
  ![v144.toNat, 0]
def k0_off4 (k0_t2 : Fin k0_t2_loop.trips) (c0_i32_81 : BitVec 32) : Fin 4 → Nat :=
  let c0_91 : Index := 0#32
  let c0_i32_80 : BitVec 32 := 0#32
  let c3_i32_79 : BitVec 32 := 3#32
  let c0_i32_22 : BitVec 32 := 0#32
  let c1_i32 : BitVec 32 := 1#32
  let arg15 : BitVec 32 := Scf.iv c0_i32_22 c1_i32 k0_t2
  let v133 : BitVec 32 := Scalar.muli c3_i32_79 arg15
  let v134 : BitVec 32 := Scalar.addi c0_i32_80 v133
  let v135 : BitVec 32 := Scalar.addi v134 c0_i32_81
  let v151 : Index := Scalar.indexCast v135
  let c0_92 : Index := 0#32
  let c0_93 : Index := 0#32
  ![0, v151.toNat, 0, 0]
def k0_off5 (k0_t2 : Fin k0_t2_loop.trips) (c0_i32_81 : BitVec 32) : Fin 3 → Nat :=
  let c0_i32_80 : BitVec 32 := 0#32
  let c3_i32_79 : BitVec 32 := 3#32
  let c0_i32_22 : BitVec 32 := 0#32
  let c1_i32 : BitVec 32 := 1#32
  let arg15 : BitVec 32 := Scf.iv c0_i32_22 c1_i32 k0_t2
  let v133 : BitVec 32 := Scalar.muli c3_i32_79 arg15
  let v134 : BitVec 32 := Scalar.addi c0_i32_80 v133
  let v135 : BitVec 32 := Scalar.addi v134 c0_i32_81
  let v174 : Index := Scalar.indexCast v135
  let c0_100 : Index := 0#32
  let c0_101 : Index := 0#32
  ![v174.toNat, 0, 0]
def k0_off6 (k0_t2 : Fin k0_t2_loop.trips) (c0_i32_81 : BitVec 32) : Fin 3 → Nat :=
  let c0_i32_80 : BitVec 32 := 0#32
  let c3_i32_79 : BitVec 32 := 3#32
  let c0_i32_22 : BitVec 32 := 0#32
  let c1_i32 : BitVec 32 := 1#32
  let arg15 : BitVec 32 := Scf.iv c0_i32_22 c1_i32 k0_t2
  let v133 : BitVec 32 := Scalar.muli c3_i32_79 arg15
  let v134 : BitVec 32 := Scalar.addi c0_i32_80 v133
  let v135 : BitVec 32 := Scalar.addi v134 c0_i32_81
  let v182 : Index := Scalar.indexCast v135
  let c0_103 : Index := 0#32
  let c0_104 : Index := 0#32
  ![v182.toNat, 0, 0]
def k0_mult3 (k0_t2 : Fin k0_t2_loop.trips) : BitVec 32 :=
  let c0_i32_83 : BitVec 32 := 0#32
  let c3_i32_82 : BitVec 32 := 3#32
  let c0_i32_22 : BitVec 32 := 0#32
  let c1_i32 : BitVec 32 := 1#32
  let arg15 : BitVec 32 := Scf.iv c0_i32_22 c1_i32 k0_t2
  let v136 : BitVec 32 := Scalar.muli c3_i32_82 arg15
  let v137 : BitVec 32 := Scalar.addi c0_i32_83 v136
  let c1_i32_84 : BitVec 32 := 1#32
  let v138 : BitVec 32 := Scalar.addi v137 c1_i32_84
  let c384_i32_108 : BitVec 32 := 384#32
  let v191 : BitVec 32 := Scalar.muli v138 c384_i32_108
  v191
def k0_mult4 (k0_t2 : Fin k0_t2_loop.trips) : BitVec 32 :=
  let c0_i32_86 : BitVec 32 := 0#32
  let c3_i32_85 : BitVec 32 := 3#32
  let c0_i32_22 : BitVec 32 := 0#32
  let c1_i32 : BitVec 32 := 1#32
  let arg15 : BitVec 32 := Scf.iv c0_i32_22 c1_i32 k0_t2
  let v139 : BitVec 32 := Scalar.muli c3_i32_85 arg15
  let v140 : BitVec 32 := Scalar.addi c0_i32_86 v139
  let c2_i32 : BitVec 32 := 2#32
  let v141 : BitVec 32 := Scalar.addi v140 c2_i32
  let c384_i32_129 : BitVec 32 := 384#32
  let v240 : BitVec 32 := Scalar.muli v141 c384_i32_129
  v240
def k0_mult5 : BitVec 32 :=
  let c3456_i32 : BitVec 32 := 3456#32
  c3456_i32
def k0_mult6 : BitVec 32 :=
  let c3840_i32 : BitVec 32 := 3840#32
  c3840_i32
def k0_cond3 (i : grid0.Coords) : BitVec 1 :=
  let arg1 : BitVec 32 := BitVec.ofNat 32 (i 1).val
  let c0_i32_11 : BitVec 32 := 0#32
  let v21 : BitVec 1 := Scalar.cmpi .sgt arg1 c0_i32_11
  let v22 : BitVec 32 := Scalar.extui v21
  let c0_i32_12 : BitVec 32 := 0#32
  let v23 : BitVec 1 := Scalar.cmpi .ne v22 c0_i32_12
  v23

def k0_mult7 (i : grid0.Coords) : BitVec 32 :=
  let arg1 : BitVec 32 := BitVec.ofNat 32 (i 1).val
  let c384_i32 : BitVec 32 := 384#32
  let v33 : BitVec 32 := Scalar.muli arg1 c384_i32
  v33
def k0_off7 (i : grid0.Coords) : Fin 2 → Nat :=
  let arg1 : BitVec 32 := BitVec.ofNat 32 (i 1).val
  let c384_i32 : BitVec 32 := 384#32
  let v33 : BitVec 32 := Scalar.muli arg1 c384_i32
  let v34 : BitVec 32 := v33
  let v35 : Index := Scalar.indexCast v34
  let c0_22 : Index := 0#32
  ![v35.toNat, 0]
def k0_off8 (i : grid0.Coords) : Fin 4 → Nat :=
  let c0_25 : Index := 0#32
  let arg1 : BitVec 32 := BitVec.ofNat 32 (i 1).val
  let v42 : Index := Scalar.indexCast arg1
  let c0_26 : Index := 0#32
  let c0_27 : Index := 0#32
  ![0, v42.toNat, 0, 0]
def k0_off9 (i : grid0.Coords) : Fin 3 → Nat :=
  let arg1 : BitVec 32 := BitVec.ofNat 32 (i 1).val
  let v65 : Index := Scalar.indexCast arg1
  let c0_33 : Index := 0#32
  let c0_34 : Index := 0#32
  ![v65.toNat, 0, 0]
def k0_off10 (i : grid0.Coords) : Fin 3 → Nat :=
  let arg1 : BitVec 32 := BitVec.ofNat 32 (i 1).val
  let v73 : Index := Scalar.indexCast arg1
  let c0_36 : Index := 0#32
  let c0_37 : Index := 0#32
  ![v73.toNat, 0, 0]
@[reducible] def k0_t3_loop (i : grid0.Coords) : Scf.Loop 32 :=
  let c0_i32_57 : BitVec 32 := 0#32
  let c11_i32 : BitVec 32 := 11#32
  let arg1 : BitVec 32 := BitVec.ofNat 32 (i 1).val
  let c1_i32 : BitVec 32 := 1#32
  let v92 : BitVec 32 := Scalar.addi arg1 c1_i32
  let v93 : BitVec 32 := Scalar.subi c11_i32 v92
  let c0_i32_49 : BitVec 32 := 0#32
  let v95 : BitVec 1 := Scalar.cmpi .sgt v93 c0_i32_49
  let v96 : BitVec 32 := Scalar.extui v95
  let c0_i32_50 : BitVec 32 := 0#32
  let v97 : BitVec 1 := Scalar.cmpi .slt v93 c0_i32_50
  let v98 : BitVec 32 := Scalar.extui v97
  let v99 : BitVec 32 := Scalar.subi v96 v98
  let c3_i32 : BitVec 32 := 3#32
  let c0_i32_51 : BitVec 32 := 0#32
  let v100 : BitVec 1 := Scalar.cmpi .sgt c3_i32 c0_i32_51
  let v101 : BitVec 32 := Scalar.extui v100
  let c0_i32_52 : BitVec 32 := 0#32
  let v102 : BitVec 1 := Scalar.cmpi .slt c3_i32 c0_i32_52
  let v103 : BitVec 32 := Scalar.extui v102
  let v104 : BitVec 32 := Scalar.subi v101 v103
  let v105 : BitVec 1 := Scalar.cmpi .ne v99 v104
  let v106 : BitVec 32 := Scalar.remsi v93 c3_i32
  let c0_i32_53 : BitVec 32 := 0#32
  let v107 : BitVec 1 := Scalar.cmpi .ne v106 c0_i32_53
  let v108 : BitVec 1 := Scalar.andi v105 v107
  let v94 : BitVec 32 := Scalar.divsi v93 c3_i32
  let c1_i32_54 : BitVec 32 := 1#32
  let v109 : BitVec 32 := Scalar.subi v94 c1_i32_54
  let v110 : BitVec 32 := Scalar.select v108 v109 v94
  let v113 : BitVec 32 := Scalar.subi v110 c0_i32_57
  let c1_i32_58 : BitVec 32 := 1#32
  let v115 : BitVec 32 := Scalar.divsi v113 c1_i32_58
  let v116 : BitVec 32 := Scalar.muli v115 c1_i32_58
  let v117 : BitVec 32 := Scalar.addi c0_i32_57 v116
  let c1_i32_59 : BitVec 32 := 1#32
  ⟨c0_i32_57, v117, c1_i32_59⟩
def k0_mult8 (i : grid0.Coords) (k0_t3 : Fin (k0_t3_loop i).trips) : BitVec 32 :=
  let arg1 : BitVec 32 := BitVec.ofNat 32 (i 1).val
  let c1_i32 : BitVec 32 := 1#32
  let v92 : BitVec 32 := Scalar.addi arg1 c1_i32
  let c3_i32_83 : BitVec 32 := 3#32
  let c0_i32_57 : BitVec 32 := 0#32
  let c1_i32_59 : BitVec 32 := 1#32
  let arg15 : BitVec 32 := Scf.iv c0_i32_57 c1_i32_59 k0_t3
  let v155 : BitVec 32 := Scalar.muli c3_i32_83 arg15
  let v156 : BitVec 32 := Scalar.addi v92 v155
  let c0_i32_84 : BitVec 32 := 0#32
  let v157 : BitVec 32 := Scalar.addi v156 c0_i32_84
  let c384_i32_89 : BitVec 32 := 384#32
  let v164 : BitVec 32 := Scalar.muli v157 c384_i32_89
  v164
def k0_off11 (i : grid0.Coords) (k0_t3 : Fin (k0_t3_loop i).trips) (c0_i32_84 : BitVec 32) : Fin 2 → Nat :=
  let arg1 : BitVec 32 := BitVec.ofNat 32 (i 1).val
  let c1_i32 : BitVec 32 := 1#32
  let v92 : BitVec 32 := Scalar.addi arg1 c1_i32
  let c3_i32_83 : BitVec 32 := 3#32
  let c0_i32_57 : BitVec 32 := 0#32
  let c1_i32_59 : BitVec 32 := 1#32
  let arg15 : BitVec 32 := Scf.iv c0_i32_57 c1_i32_59 k0_t3
  let v155 : BitVec 32 := Scalar.muli c3_i32_83 arg15
  let v156 : BitVec 32 := Scalar.addi v92 v155
  let v157 : BitVec 32 := Scalar.addi v156 c0_i32_84
  let c384_i32_89 : BitVec 32 := 384#32
  let v164 : BitVec 32 := Scalar.muli v157 c384_i32_89
  let v165 : BitVec 32 := v164
  let v166 : Index := Scalar.indexCast v165
  let c0_90 : Index := 0#32
  ![v166.toNat, 0]
def k0_off12 (i : grid0.Coords) (k0_t3 : Fin (k0_t3_loop i).trips) (c0_i32_84 : BitVec 32) : Fin 4 → Nat :=
  let c0_93 : Index := 0#32
  let arg1 : BitVec 32 := BitVec.ofNat 32 (i 1).val
  let c1_i32 : BitVec 32 := 1#32
  let v92 : BitVec 32 := Scalar.addi arg1 c1_i32
  let c3_i32_83 : BitVec 32 := 3#32
  let c0_i32_57 : BitVec 32 := 0#32
  let c1_i32_59 : BitVec 32 := 1#32
  let arg15 : BitVec 32 := Scf.iv c0_i32_57 c1_i32_59 k0_t3
  let v155 : BitVec 32 := Scalar.muli c3_i32_83 arg15
  let v156 : BitVec 32 := Scalar.addi v92 v155
  let v157 : BitVec 32 := Scalar.addi v156 c0_i32_84
  let v173 : Index := Scalar.indexCast v157
  let c0_94 : Index := 0#32
  let c0_95 : Index := 0#32
  ![0, v173.toNat, 0, 0]
def k0_off13 (i : grid0.Coords) (k0_t3 : Fin (k0_t3_loop i).trips) (c0_i32_84 : BitVec 32) : Fin 3 → Nat :=
  let arg1 : BitVec 32 := BitVec.ofNat 32 (i 1).val
  let c1_i32 : BitVec 32 := 1#32
  let v92 : BitVec 32 := Scalar.addi arg1 c1_i32
  let c3_i32_83 : BitVec 32 := 3#32
  let c0_i32_57 : BitVec 32 := 0#32
  let c1_i32_59 : BitVec 32 := 1#32
  let arg15 : BitVec 32 := Scf.iv c0_i32_57 c1_i32_59 k0_t3
  let v155 : BitVec 32 := Scalar.muli c3_i32_83 arg15
  let v156 : BitVec 32 := Scalar.addi v92 v155
  let v157 : BitVec 32 := Scalar.addi v156 c0_i32_84
  let v182 : Index := Scalar.indexCast v157
  let c0_98 : Index := 0#32
  let c0_99 : Index := 0#32
  ![v182.toNat, 0, 0]
def k0_off14 (i : grid0.Coords) (k0_t3 : Fin (k0_t3_loop i).trips) (c0_i32_84 : BitVec 32) : Fin 3 → Nat :=
  let arg1 : BitVec 32 := BitVec.ofNat 32 (i 1).val
  let c1_i32 : BitVec 32 := 1#32
  let v92 : BitVec 32 := Scalar.addi arg1 c1_i32
  let c3_i32_83 : BitVec 32 := 3#32
  let c0_i32_57 : BitVec 32 := 0#32
  let c1_i32_59 : BitVec 32 := 1#32
  let arg15 : BitVec 32 := Scf.iv c0_i32_57 c1_i32_59 k0_t3
  let v155 : BitVec 32 := Scalar.muli c3_i32_83 arg15
  let v156 : BitVec 32 := Scalar.addi v92 v155
  let v157 : BitVec 32 := Scalar.addi v156 c0_i32_84
  let v190 : Index := Scalar.indexCast v157
  let c0_101 : Index := 0#32
  let c0_102 : Index := 0#32
  ![v190.toNat, 0, 0]
def k0_mult9 (i : grid0.Coords) (k0_t3 : Fin (k0_t3_loop i).trips) : BitVec 32 :=
  let arg1 : BitVec 32 := BitVec.ofNat 32 (i 1).val
  let c1_i32 : BitVec 32 := 1#32
  let v92 : BitVec 32 := Scalar.addi arg1 c1_i32
  let c3_i32_85 : BitVec 32 := 3#32
  let c0_i32_57 : BitVec 32 := 0#32
  let c1_i32_59 : BitVec 32 := 1#32
  let arg15 : BitVec 32 := Scf.iv c0_i32_57 c1_i32_59 k0_t3
  let v158 : BitVec 32 := Scalar.muli c3_i32_85 arg15
  let v159 : BitVec 32 := Scalar.addi v92 v158
  let c1_i32_86 : BitVec 32 := 1#32
  let v160 : BitVec 32 := Scalar.addi v159 c1_i32_86
  let c384_i32_106 : BitVec 32 := 384#32
  let v199 : BitVec 32 := Scalar.muli v160 c384_i32_106
  v199
def k0_mult10 (i : grid0.Coords) (k0_t3 : Fin (k0_t3_loop i).trips) : BitVec 32 :=
  let arg1 : BitVec 32 := BitVec.ofNat 32 (i 1).val
  let c1_i32 : BitVec 32 := 1#32
  let v92 : BitVec 32 := Scalar.addi arg1 c1_i32
  let c3_i32_87 : BitVec 32 := 3#32
  let c0_i32_57 : BitVec 32 := 0#32
  let c1_i32_59 : BitVec 32 := 1#32
  let arg15 : BitVec 32 := Scf.iv c0_i32_57 c1_i32_59 k0_t3
  let v161 : BitVec 32 := Scalar.muli c3_i32_87 arg15
  let v162 : BitVec 32 := Scalar.addi v92 v161
  let c2_i32_88 : BitVec 32 := 2#32
  let v163 : BitVec 32 := Scalar.addi v162 c2_i32_88
  let c384_i32_123 : BitVec 32 := 384#32
  let v234 : BitVec 32 := Scalar.muli v163 c384_i32_123
  v234
@[reducible] def k0_t4_loop (i : grid0.Coords) : Scf.Loop 32 :=
  let c0_i32_57 : BitVec 32 := 0#32
  let c11_i32 : BitVec 32 := 11#32
  let arg1 : BitVec 32 := BitVec.ofNat 32 (i 1).val
  let c1_i32 : BitVec 32 := 1#32
  let v92 : BitVec 32 := Scalar.addi arg1 c1_i32
  let v93 : BitVec 32 := Scalar.subi c11_i32 v92
  let c0_i32_49 : BitVec 32 := 0#32
  let v95 : BitVec 1 := Scalar.cmpi .sgt v93 c0_i32_49
  let v96 : BitVec 32 := Scalar.extui v95
  let c0_i32_50 : BitVec 32 := 0#32
  let v97 : BitVec 1 := Scalar.cmpi .slt v93 c0_i32_50
  let v98 : BitVec 32 := Scalar.extui v97
  let v99 : BitVec 32 := Scalar.subi v96 v98
  let c3_i32 : BitVec 32 := 3#32
  let c0_i32_51 : BitVec 32 := 0#32
  let v100 : BitVec 1 := Scalar.cmpi .sgt c3_i32 c0_i32_51
  let v101 : BitVec 32 := Scalar.extui v100
  let c0_i32_52 : BitVec 32 := 0#32
  let v102 : BitVec 1 := Scalar.cmpi .slt c3_i32 c0_i32_52
  let v103 : BitVec 32 := Scalar.extui v102
  let v104 : BitVec 32 := Scalar.subi v101 v103
  let v105 : BitVec 1 := Scalar.cmpi .ne v99 v104
  let v106 : BitVec 32 := Scalar.remsi v93 c3_i32
  let c0_i32_53 : BitVec 32 := 0#32
  let v107 : BitVec 1 := Scalar.cmpi .ne v106 c0_i32_53
  let v108 : BitVec 1 := Scalar.andi v105 v107
  let v94 : BitVec 32 := Scalar.divsi v93 c3_i32
  let c1_i32_54 : BitVec 32 := 1#32
  let v109 : BitVec 32 := Scalar.subi v94 c1_i32_54
  let v110 : BitVec 32 := Scalar.select v108 v109 v94
  let v113 : BitVec 32 := Scalar.subi v110 c0_i32_57
  let c1_i32_58 : BitVec 32 := 1#32
  let v115 : BitVec 32 := Scalar.divsi v113 c1_i32_58
  let v116 : BitVec 32 := Scalar.muli v115 c1_i32_58
  let v117 : BitVec 32 := Scalar.addi c0_i32_57 v116
  let v114 : BitVec 32 := Scalar.addi c0_i32_57 v113
  let c1_i32_60 : BitVec 32 := 1#32
  ⟨v117, v114, c1_i32_60⟩
def k0_mult11 (i : grid0.Coords) (k0_t4 : Fin (k0_t4_loop i).trips) : BitVec 32 :=
  let arg1 : BitVec 32 := BitVec.ofNat 32 (i 1).val
  let c1_i32 : BitVec 32 := 1#32
  let v92 : BitVec 32 := Scalar.addi arg1 c1_i32
  let c3_i32_83 : BitVec 32 := 3#32
  let c0_i32_57 : BitVec 32 := 0#32
  let c11_i32 : BitVec 32 := 11#32
  let v93 : BitVec 32 := Scalar.subi c11_i32 v92
  let c0_i32_49 : BitVec 32 := 0#32
  let v95 : BitVec 1 := Scalar.cmpi .sgt v93 c0_i32_49
  let v96 : BitVec 32 := Scalar.extui v95
  let c0_i32_50 : BitVec 32 := 0#32
  let v97 : BitVec 1 := Scalar.cmpi .slt v93 c0_i32_50
  let v98 : BitVec 32 := Scalar.extui v97
  let v99 : BitVec 32 := Scalar.subi v96 v98
  let c3_i32 : BitVec 32 := 3#32
  let c0_i32_51 : BitVec 32 := 0#32
  let v100 : BitVec 1 := Scalar.cmpi .sgt c3_i32 c0_i32_51
  let v101 : BitVec 32 := Scalar.extui v100
  let c0_i32_52 : BitVec 32 := 0#32
  let v102 : BitVec 1 := Scalar.cmpi .slt c3_i32 c0_i32_52
  let v103 : BitVec 32 := Scalar.extui v102
  let v104 : BitVec 32 := Scalar.subi v101 v103
  let v105 : BitVec 1 := Scalar.cmpi .ne v99 v104
  let v106 : BitVec 32 := Scalar.remsi v93 c3_i32
  let c0_i32_53 : BitVec 32 := 0#32
  let v107 : BitVec 1 := Scalar.cmpi .ne v106 c0_i32_53
  let v108 : BitVec 1 := Scalar.andi v105 v107
  let v94 : BitVec 32 := Scalar.divsi v93 c3_i32
  let c1_i32_54 : BitVec 32 := 1#32
  let v109 : BitVec 32 := Scalar.subi v94 c1_i32_54
  let v110 : BitVec 32 := Scalar.select v108 v109 v94
  let v113 : BitVec 32 := Scalar.subi v110 c0_i32_57
  let c1_i32_58 : BitVec 32 := 1#32
  let v115 : BitVec 32 := Scalar.divsi v113 c1_i32_58
  let v116 : BitVec 32 := Scalar.muli v115 c1_i32_58
  let v117 : BitVec 32 := Scalar.addi c0_i32_57 v116
  let c1_i32_60 : BitVec 32 := 1#32
  let arg15 : BitVec 32 := Scf.iv v117 c1_i32_60 k0_t4
  let v155 : BitVec 32 := Scalar.muli c3_i32_83 arg15
  let v156 : BitVec 32 := Scalar.addi v92 v155
  let c0_i32_84 : BitVec 32 := 0#32
  let v157 : BitVec 32 := Scalar.addi v156 c0_i32_84
  let c384_i32_89 : BitVec 32 := 384#32
  let v164 : BitVec 32 := Scalar.muli v157 c384_i32_89
  v164
def k0_off15 (i : grid0.Coords) (k0_t4 : Fin (k0_t4_loop i).trips) (c0_i32_84 : BitVec 32) : Fin 2 → Nat :=
  let arg1 : BitVec 32 := BitVec.ofNat 32 (i 1).val
  let c1_i32 : BitVec 32 := 1#32
  let v92 : BitVec 32 := Scalar.addi arg1 c1_i32
  let c3_i32_83 : BitVec 32 := 3#32
  let c0_i32_57 : BitVec 32 := 0#32
  let c11_i32 : BitVec 32 := 11#32
  let v93 : BitVec 32 := Scalar.subi c11_i32 v92
  let c0_i32_49 : BitVec 32 := 0#32
  let v95 : BitVec 1 := Scalar.cmpi .sgt v93 c0_i32_49
  let v96 : BitVec 32 := Scalar.extui v95
  let c0_i32_50 : BitVec 32 := 0#32
  let v97 : BitVec 1 := Scalar.cmpi .slt v93 c0_i32_50
  let v98 : BitVec 32 := Scalar.extui v97
  let v99 : BitVec 32 := Scalar.subi v96 v98
  let c3_i32 : BitVec 32 := 3#32
  let c0_i32_51 : BitVec 32 := 0#32
  let v100 : BitVec 1 := Scalar.cmpi .sgt c3_i32 c0_i32_51
  let v101 : BitVec 32 := Scalar.extui v100
  let c0_i32_52 : BitVec 32 := 0#32
  let v102 : BitVec 1 := Scalar.cmpi .slt c3_i32 c0_i32_52
  let v103 : BitVec 32 := Scalar.extui v102
  let v104 : BitVec 32 := Scalar.subi v101 v103
  let v105 : BitVec 1 := Scalar.cmpi .ne v99 v104
  let v106 : BitVec 32 := Scalar.remsi v93 c3_i32
  let c0_i32_53 : BitVec 32 := 0#32
  let v107 : BitVec 1 := Scalar.cmpi .ne v106 c0_i32_53
  let v108 : BitVec 1 := Scalar.andi v105 v107
  let v94 : BitVec 32 := Scalar.divsi v93 c3_i32
  let c1_i32_54 : BitVec 32 := 1#32
  let v109 : BitVec 32 := Scalar.subi v94 c1_i32_54
  let v110 : BitVec 32 := Scalar.select v108 v109 v94
  let v113 : BitVec 32 := Scalar.subi v110 c0_i32_57
  let c1_i32_58 : BitVec 32 := 1#32
  let v115 : BitVec 32 := Scalar.divsi v113 c1_i32_58
  let v116 : BitVec 32 := Scalar.muli v115 c1_i32_58
  let v117 : BitVec 32 := Scalar.addi c0_i32_57 v116
  let c1_i32_60 : BitVec 32 := 1#32
  let arg15 : BitVec 32 := Scf.iv v117 c1_i32_60 k0_t4
  let v155 : BitVec 32 := Scalar.muli c3_i32_83 arg15
  let v156 : BitVec 32 := Scalar.addi v92 v155
  let v157 : BitVec 32 := Scalar.addi v156 c0_i32_84
  let c384_i32_89 : BitVec 32 := 384#32
  let v164 : BitVec 32 := Scalar.muli v157 c384_i32_89
  let v165 : BitVec 32 := v164
  let v166 : Index := Scalar.indexCast v165
  let c0_90 : Index := 0#32
  ![v166.toNat, 0]
def k0_off16 (i : grid0.Coords) (k0_t4 : Fin (k0_t4_loop i).trips) (c0_i32_84 : BitVec 32) : Fin 4 → Nat :=
  let c0_93 : Index := 0#32
  let arg1 : BitVec 32 := BitVec.ofNat 32 (i 1).val
  let c1_i32 : BitVec 32 := 1#32
  let v92 : BitVec 32 := Scalar.addi arg1 c1_i32
  let c3_i32_83 : BitVec 32 := 3#32
  let c0_i32_57 : BitVec 32 := 0#32
  let c11_i32 : BitVec 32 := 11#32
  let v93 : BitVec 32 := Scalar.subi c11_i32 v92
  let c0_i32_49 : BitVec 32 := 0#32
  let v95 : BitVec 1 := Scalar.cmpi .sgt v93 c0_i32_49
  let v96 : BitVec 32 := Scalar.extui v95
  let c0_i32_50 : BitVec 32 := 0#32
  let v97 : BitVec 1 := Scalar.cmpi .slt v93 c0_i32_50
  let v98 : BitVec 32 := Scalar.extui v97
  let v99 : BitVec 32 := Scalar.subi v96 v98
  let c3_i32 : BitVec 32 := 3#32
  let c0_i32_51 : BitVec 32 := 0#32
  let v100 : BitVec 1 := Scalar.cmpi .sgt c3_i32 c0_i32_51
  let v101 : BitVec 32 := Scalar.extui v100
  let c0_i32_52 : BitVec 32 := 0#32
  let v102 : BitVec 1 := Scalar.cmpi .slt c3_i32 c0_i32_52
  let v103 : BitVec 32 := Scalar.extui v102
  let v104 : BitVec 32 := Scalar.subi v101 v103
  let v105 : BitVec 1 := Scalar.cmpi .ne v99 v104
  let v106 : BitVec 32 := Scalar.remsi v93 c3_i32
  let c0_i32_53 : BitVec 32 := 0#32
  let v107 : BitVec 1 := Scalar.cmpi .ne v106 c0_i32_53
  let v108 : BitVec 1 := Scalar.andi v105 v107
  let v94 : BitVec 32 := Scalar.divsi v93 c3_i32
  let c1_i32_54 : BitVec 32 := 1#32
  let v109 : BitVec 32 := Scalar.subi v94 c1_i32_54
  let v110 : BitVec 32 := Scalar.select v108 v109 v94
  let v113 : BitVec 32 := Scalar.subi v110 c0_i32_57
  let c1_i32_58 : BitVec 32 := 1#32
  let v115 : BitVec 32 := Scalar.divsi v113 c1_i32_58
  let v116 : BitVec 32 := Scalar.muli v115 c1_i32_58
  let v117 : BitVec 32 := Scalar.addi c0_i32_57 v116
  let c1_i32_60 : BitVec 32 := 1#32
  let arg15 : BitVec 32 := Scf.iv v117 c1_i32_60 k0_t4
  let v155 : BitVec 32 := Scalar.muli c3_i32_83 arg15
  let v156 : BitVec 32 := Scalar.addi v92 v155
  let v157 : BitVec 32 := Scalar.addi v156 c0_i32_84
  let v173 : Index := Scalar.indexCast v157
  let c0_94 : Index := 0#32
  let c0_95 : Index := 0#32
  ![0, v173.toNat, 0, 0]
def k0_off17 (i : grid0.Coords) (k0_t4 : Fin (k0_t4_loop i).trips) (c0_i32_84 : BitVec 32) : Fin 3 → Nat :=
  let arg1 : BitVec 32 := BitVec.ofNat 32 (i 1).val
  let c1_i32 : BitVec 32 := 1#32
  let v92 : BitVec 32 := Scalar.addi arg1 c1_i32
  let c3_i32_83 : BitVec 32 := 3#32
  let c0_i32_57 : BitVec 32 := 0#32
  let c11_i32 : BitVec 32 := 11#32
  let v93 : BitVec 32 := Scalar.subi c11_i32 v92
  let c0_i32_49 : BitVec 32 := 0#32
  let v95 : BitVec 1 := Scalar.cmpi .sgt v93 c0_i32_49
  let v96 : BitVec 32 := Scalar.extui v95
  let c0_i32_50 : BitVec 32 := 0#32
  let v97 : BitVec 1 := Scalar.cmpi .slt v93 c0_i32_50
  let v98 : BitVec 32 := Scalar.extui v97
  let v99 : BitVec 32 := Scalar.subi v96 v98
  let c3_i32 : BitVec 32 := 3#32
  let c0_i32_51 : BitVec 32 := 0#32
  let v100 : BitVec 1 := Scalar.cmpi .sgt c3_i32 c0_i32_51
  let v101 : BitVec 32 := Scalar.extui v100
  let c0_i32_52 : BitVec 32 := 0#32
  let v102 : BitVec 1 := Scalar.cmpi .slt c3_i32 c0_i32_52
  let v103 : BitVec 32 := Scalar.extui v102
  let v104 : BitVec 32 := Scalar.subi v101 v103
  let v105 : BitVec 1 := Scalar.cmpi .ne v99 v104
  let v106 : BitVec 32 := Scalar.remsi v93 c3_i32
  let c0_i32_53 : BitVec 32 := 0#32
  let v107 : BitVec 1 := Scalar.cmpi .ne v106 c0_i32_53
  let v108 : BitVec 1 := Scalar.andi v105 v107
  let v94 : BitVec 32 := Scalar.divsi v93 c3_i32
  let c1_i32_54 : BitVec 32 := 1#32
  let v109 : BitVec 32 := Scalar.subi v94 c1_i32_54
  let v110 : BitVec 32 := Scalar.select v108 v109 v94
  let v113 : BitVec 32 := Scalar.subi v110 c0_i32_57
  let c1_i32_58 : BitVec 32 := 1#32
  let v115 : BitVec 32 := Scalar.divsi v113 c1_i32_58
  let v116 : BitVec 32 := Scalar.muli v115 c1_i32_58
  let v117 : BitVec 32 := Scalar.addi c0_i32_57 v116
  let c1_i32_60 : BitVec 32 := 1#32
  let arg15 : BitVec 32 := Scf.iv v117 c1_i32_60 k0_t4
  let v155 : BitVec 32 := Scalar.muli c3_i32_83 arg15
  let v156 : BitVec 32 := Scalar.addi v92 v155
  let v157 : BitVec 32 := Scalar.addi v156 c0_i32_84
  let v182 : Index := Scalar.indexCast v157
  let c0_98 : Index := 0#32
  let c0_99 : Index := 0#32
  ![v182.toNat, 0, 0]
def k0_off18 (i : grid0.Coords) (k0_t4 : Fin (k0_t4_loop i).trips) (c0_i32_84 : BitVec 32) : Fin 3 → Nat :=
  let arg1 : BitVec 32 := BitVec.ofNat 32 (i 1).val
  let c1_i32 : BitVec 32 := 1#32
  let v92 : BitVec 32 := Scalar.addi arg1 c1_i32
  let c3_i32_83 : BitVec 32 := 3#32
  let c0_i32_57 : BitVec 32 := 0#32
  let c11_i32 : BitVec 32 := 11#32
  let v93 : BitVec 32 := Scalar.subi c11_i32 v92
  let c0_i32_49 : BitVec 32 := 0#32
  let v95 : BitVec 1 := Scalar.cmpi .sgt v93 c0_i32_49
  let v96 : BitVec 32 := Scalar.extui v95
  let c0_i32_50 : BitVec 32 := 0#32
  let v97 : BitVec 1 := Scalar.cmpi .slt v93 c0_i32_50
  let v98 : BitVec 32 := Scalar.extui v97
  let v99 : BitVec 32 := Scalar.subi v96 v98
  let c3_i32 : BitVec 32 := 3#32
  let c0_i32_51 : BitVec 32 := 0#32
  let v100 : BitVec 1 := Scalar.cmpi .sgt c3_i32 c0_i32_51
  let v101 : BitVec 32 := Scalar.extui v100
  let c0_i32_52 : BitVec 32 := 0#32
  let v102 : BitVec 1 := Scalar.cmpi .slt c3_i32 c0_i32_52
  let v103 : BitVec 32 := Scalar.extui v102
  let v104 : BitVec 32 := Scalar.subi v101 v103
  let v105 : BitVec 1 := Scalar.cmpi .ne v99 v104
  let v106 : BitVec 32 := Scalar.remsi v93 c3_i32
  let c0_i32_53 : BitVec 32 := 0#32
  let v107 : BitVec 1 := Scalar.cmpi .ne v106 c0_i32_53
  let v108 : BitVec 1 := Scalar.andi v105 v107
  let v94 : BitVec 32 := Scalar.divsi v93 c3_i32
  let c1_i32_54 : BitVec 32 := 1#32
  let v109 : BitVec 32 := Scalar.subi v94 c1_i32_54
  let v110 : BitVec 32 := Scalar.select v108 v109 v94
  let v113 : BitVec 32 := Scalar.subi v110 c0_i32_57
  let c1_i32_58 : BitVec 32 := 1#32
  let v115 : BitVec 32 := Scalar.divsi v113 c1_i32_58
  let v116 : BitVec 32 := Scalar.muli v115 c1_i32_58
  let v117 : BitVec 32 := Scalar.addi c0_i32_57 v116
  let c1_i32_60 : BitVec 32 := 1#32
  let arg15 : BitVec 32 := Scf.iv v117 c1_i32_60 k0_t4
  let v155 : BitVec 32 := Scalar.muli c3_i32_83 arg15
  let v156 : BitVec 32 := Scalar.addi v92 v155
  let v157 : BitVec 32 := Scalar.addi v156 c0_i32_84
  let v190 : Index := Scalar.indexCast v157
  let c0_101 : Index := 0#32
  let c0_102 : Index := 0#32
  ![v190.toNat, 0, 0]
def k0_mult12 (i : grid0.Coords) (k0_t4 : Fin (k0_t4_loop i).trips) : BitVec 32 :=
  let arg1 : BitVec 32 := BitVec.ofNat 32 (i 1).val
  let c1_i32 : BitVec 32 := 1#32
  let v92 : BitVec 32 := Scalar.addi arg1 c1_i32
  let c3_i32_85 : BitVec 32 := 3#32
  let c0_i32_57 : BitVec 32 := 0#32
  let c11_i32 : BitVec 32 := 11#32
  let v93 : BitVec 32 := Scalar.subi c11_i32 v92
  let c0_i32_49 : BitVec 32 := 0#32
  let v95 : BitVec 1 := Scalar.cmpi .sgt v93 c0_i32_49
  let v96 : BitVec 32 := Scalar.extui v95
  let c0_i32_50 : BitVec 32 := 0#32
  let v97 : BitVec 1 := Scalar.cmpi .slt v93 c0_i32_50
  let v98 : BitVec 32 := Scalar.extui v97
  let v99 : BitVec 32 := Scalar.subi v96 v98
  let c3_i32 : BitVec 32 := 3#32
  let c0_i32_51 : BitVec 32 := 0#32
  let v100 : BitVec 1 := Scalar.cmpi .sgt c3_i32 c0_i32_51
  let v101 : BitVec 32 := Scalar.extui v100
  let c0_i32_52 : BitVec 32 := 0#32
  let v102 : BitVec 1 := Scalar.cmpi .slt c3_i32 c0_i32_52
  let v103 : BitVec 32 := Scalar.extui v102
  let v104 : BitVec 32 := Scalar.subi v101 v103
  let v105 : BitVec 1 := Scalar.cmpi .ne v99 v104
  let v106 : BitVec 32 := Scalar.remsi v93 c3_i32
  let c0_i32_53 : BitVec 32 := 0#32
  let v107 : BitVec 1 := Scalar.cmpi .ne v106 c0_i32_53
  let v108 : BitVec 1 := Scalar.andi v105 v107
  let v94 : BitVec 32 := Scalar.divsi v93 c3_i32
  let c1_i32_54 : BitVec 32 := 1#32
  let v109 : BitVec 32 := Scalar.subi v94 c1_i32_54
  let v110 : BitVec 32 := Scalar.select v108 v109 v94
  let v113 : BitVec 32 := Scalar.subi v110 c0_i32_57
  let c1_i32_58 : BitVec 32 := 1#32
  let v115 : BitVec 32 := Scalar.divsi v113 c1_i32_58
  let v116 : BitVec 32 := Scalar.muli v115 c1_i32_58
  let v117 : BitVec 32 := Scalar.addi c0_i32_57 v116
  let c1_i32_60 : BitVec 32 := 1#32
  let arg15 : BitVec 32 := Scf.iv v117 c1_i32_60 k0_t4
  let v158 : BitVec 32 := Scalar.muli c3_i32_85 arg15
  let v159 : BitVec 32 := Scalar.addi v92 v158
  let c1_i32_86 : BitVec 32 := 1#32
  let v160 : BitVec 32 := Scalar.addi v159 c1_i32_86
  let c384_i32_106 : BitVec 32 := 384#32
  let v199 : BitVec 32 := Scalar.muli v160 c384_i32_106
  v199
def k0_mult13 (i : grid0.Coords) (k0_t4 : Fin (k0_t4_loop i).trips) : BitVec 32 :=
  let arg1 : BitVec 32 := BitVec.ofNat 32 (i 1).val
  let c1_i32 : BitVec 32 := 1#32
  let v92 : BitVec 32 := Scalar.addi arg1 c1_i32
  let c3_i32_87 : BitVec 32 := 3#32
  let c0_i32_57 : BitVec 32 := 0#32
  let c11_i32 : BitVec 32 := 11#32
  let v93 : BitVec 32 := Scalar.subi c11_i32 v92
  let c0_i32_49 : BitVec 32 := 0#32
  let v95 : BitVec 1 := Scalar.cmpi .sgt v93 c0_i32_49
  let v96 : BitVec 32 := Scalar.extui v95
  let c0_i32_50 : BitVec 32 := 0#32
  let v97 : BitVec 1 := Scalar.cmpi .slt v93 c0_i32_50
  let v98 : BitVec 32 := Scalar.extui v97
  let v99 : BitVec 32 := Scalar.subi v96 v98
  let c3_i32 : BitVec 32 := 3#32
  let c0_i32_51 : BitVec 32 := 0#32
  let v100 : BitVec 1 := Scalar.cmpi .sgt c3_i32 c0_i32_51
  let v101 : BitVec 32 := Scalar.extui v100
  let c0_i32_52 : BitVec 32 := 0#32
  let v102 : BitVec 1 := Scalar.cmpi .slt c3_i32 c0_i32_52
  let v103 : BitVec 32 := Scalar.extui v102
  let v104 : BitVec 32 := Scalar.subi v101 v103
  let v105 : BitVec 1 := Scalar.cmpi .ne v99 v104
  let v106 : BitVec 32 := Scalar.remsi v93 c3_i32
  let c0_i32_53 : BitVec 32 := 0#32
  let v107 : BitVec 1 := Scalar.cmpi .ne v106 c0_i32_53
  let v108 : BitVec 1 := Scalar.andi v105 v107
  let v94 : BitVec 32 := Scalar.divsi v93 c3_i32
  let c1_i32_54 : BitVec 32 := 1#32
  let v109 : BitVec 32 := Scalar.subi v94 c1_i32_54
  let v110 : BitVec 32 := Scalar.select v108 v109 v94
  let v113 : BitVec 32 := Scalar.subi v110 c0_i32_57
  let c1_i32_58 : BitVec 32 := 1#32
  let v115 : BitVec 32 := Scalar.divsi v113 c1_i32_58
  let v116 : BitVec 32 := Scalar.muli v115 c1_i32_58
  let v117 : BitVec 32 := Scalar.addi c0_i32_57 v116
  let c1_i32_60 : BitVec 32 := 1#32
  let arg15 : BitVec 32 := Scf.iv v117 c1_i32_60 k0_t4
  let v161 : BitVec 32 := Scalar.muli c3_i32_87 arg15
  let v162 : BitVec 32 := Scalar.addi v92 v161
  let c2_i32_88 : BitVec 32 := 2#32
  let v163 : BitVec 32 := Scalar.addi v162 c2_i32_88
  let c384_i32_123 : BitVec 32 := 384#32
  let v234 : BitVec 32 := Scalar.muli v163 c384_i32_123
  v234
@[reducible] def k0_t5_loop (i : grid0.Coords) : Scf.Loop 32 :=
  let c0_i32_68 : BitVec 32 := 0#32
  let c11_i32 : BitVec 32 := 11#32
  let arg1 : BitVec 32 := BitVec.ofNat 32 (i 1).val
  let c1_i32 : BitVec 32 := 1#32
  let v92 : BitVec 32 := Scalar.addi arg1 c1_i32
  let v93 : BitVec 32 := Scalar.subi c11_i32 v92
  let c3_i32_55 : BitVec 32 := 3#32
  let c0_i32_49 : BitVec 32 := 0#32
  let v95 : BitVec 1 := Scalar.cmpi .sgt v93 c0_i32_49
  let v96 : BitVec 32 := Scalar.extui v95
  let c0_i32_50 : BitVec 32 := 0#32
  let v97 : BitVec 1 := Scalar.cmpi .slt v93 c0_i32_50
  let v98 : BitVec 32 := Scalar.extui v97
  let v99 : BitVec 32 := Scalar.subi v96 v98
  let c3_i32 : BitVec 32 := 3#32
  let c0_i32_51 : BitVec 32 := 0#32
  let v100 : BitVec 1 := Scalar.cmpi .sgt c3_i32 c0_i32_51
  let v101 : BitVec 32 := Scalar.extui v100
  let c0_i32_52 : BitVec 32 := 0#32
  let v102 : BitVec 1 := Scalar.cmpi .slt c3_i32 c0_i32_52
  let v103 : BitVec 32 := Scalar.extui v102
  let v104 : BitVec 32 := Scalar.subi v101 v103
  let v105 : BitVec 1 := Scalar.cmpi .ne v99 v104
  let v106 : BitVec 32 := Scalar.remsi v93 c3_i32
  let c0_i32_53 : BitVec 32 := 0#32
  let v107 : BitVec 1 := Scalar.cmpi .ne v106 c0_i32_53
  let v108 : BitVec 1 := Scalar.andi v105 v107
  let v94 : BitVec 32 := Scalar.divsi v93 c3_i32
  let c1_i32_54 : BitVec 32 := 1#32
  let v109 : BitVec 32 := Scalar.subi v94 c1_i32_54
  let v110 : BitVec 32 := Scalar.select v108 v109 v94
  let v111 : BitVec 32 := Scalar.muli c3_i32_55 v110
  let v112 : BitVec 32 := Scalar.subi v93 v111
  let c0_i32_61 : BitVec 32 := 0#32
  let v119 : BitVec 1 := Scalar.cmpi .sgt v112 c0_i32_61
  let v120 : BitVec 32 := Scalar.extui v119
  let c0_i32_62 : BitVec 32 := 0#32
  let v121 : BitVec 1 := Scalar.cmpi .slt v112 c0_i32_62
  let v122 : BitVec 32 := Scalar.extui v121
  let v123 : BitVec 32 := Scalar.subi v120 v122
  let c2_i32 : BitVec 32 := 2#32
  let c0_i32_63 : BitVec 32 := 0#32
  let v124 : BitVec 1 := Scalar.cmpi .sgt c2_i32 c0_i32_63
  let v125 : BitVec 32 := Scalar.extui v124
  let c0_i32_64 : BitVec 32 := 0#32
  let v126 : BitVec 1 := Scalar.cmpi .slt c2_i32 c0_i32_64
  let v127 : BitVec 32 := Scalar.extui v126
  let v128 : BitVec 32 := Scalar.subi v125 v127
  let v129 : BitVec 1 := Scalar.cmpi .ne v123 v128
  let v130 : BitVec 32 := Scalar.remsi v112 c2_i32
  let c0_i32_65 : BitVec 32 := 0#32
  let v131 : BitVec 1 := Scalar.cmpi .ne v130 c0_i32_65
  let v132 : BitVec 1 := Scalar.andi v129 v131
  let v118 : BitVec 32 := Scalar.divsi v112 c2_i32
  let c1_i32_66 : BitVec 32 := 1#32
  let v133 : BitVec 32 := Scalar.subi v118 c1_i32_66
  let v134 : BitVec 32 := Scalar.select v132 v133 v118
  let v135 : BitVec 32 := Scalar.subi v134 c0_i32_68
  let c1_i32_69 : BitVec 32 := 1#32
  let v137 : BitVec 32 := Scalar.divsi v135 c1_i32_69
  let v138 : BitVec 32 := Scalar.muli v137 c1_i32_69
  let v139 : BitVec 32 := Scalar.addi c0_i32_68 v138
  let c1_i32_70 : BitVec 32 := 1#32
  ⟨c0_i32_68, v139, c1_i32_70⟩
def k0_mult14 : BitVec 32 :=
  let c3456_i32 : BitVec 32 := 3456#32
  c3456_i32
def k0_mult15 : BitVec 32 :=
  let c3840_i32 : BitVec 32 := 3840#32
  c3840_i32
@[reducible] def k0_t6_loop (i : grid0.Coords) : Scf.Loop 32 :=
  let c0_i32_68 : BitVec 32 := 0#32
  let c11_i32 : BitVec 32 := 11#32
  let arg1 : BitVec 32 := BitVec.ofNat 32 (i 1).val
  let c1_i32 : BitVec 32 := 1#32
  let v92 : BitVec 32 := Scalar.addi arg1 c1_i32
  let v93 : BitVec 32 := Scalar.subi c11_i32 v92
  let c3_i32_55 : BitVec 32 := 3#32
  let c0_i32_49 : BitVec 32 := 0#32
  let v95 : BitVec 1 := Scalar.cmpi .sgt v93 c0_i32_49
  let v96 : BitVec 32 := Scalar.extui v95
  let c0_i32_50 : BitVec 32 := 0#32
  let v97 : BitVec 1 := Scalar.cmpi .slt v93 c0_i32_50
  let v98 : BitVec 32 := Scalar.extui v97
  let v99 : BitVec 32 := Scalar.subi v96 v98
  let c3_i32 : BitVec 32 := 3#32
  let c0_i32_51 : BitVec 32 := 0#32
  let v100 : BitVec 1 := Scalar.cmpi .sgt c3_i32 c0_i32_51
  let v101 : BitVec 32 := Scalar.extui v100
  let c0_i32_52 : BitVec 32 := 0#32
  let v102 : BitVec 1 := Scalar.cmpi .slt c3_i32 c0_i32_52
  let v103 : BitVec 32 := Scalar.extui v102
  let v104 : BitVec 32 := Scalar.subi v101 v103
  let v105 : BitVec 1 := Scalar.cmpi .ne v99 v104
  let v106 : BitVec 32 := Scalar.remsi v93 c3_i32
  let c0_i32_53 : BitVec 32 := 0#32
  let v107 : BitVec 1 := Scalar.cmpi .ne v106 c0_i32_53
  let v108 : BitVec 1 := Scalar.andi v105 v107
  let v94 : BitVec 32 := Scalar.divsi v93 c3_i32
  let c1_i32_54 : BitVec 32 := 1#32
  let v109 : BitVec 32 := Scalar.subi v94 c1_i32_54
  let v110 : BitVec 32 := Scalar.select v108 v109 v94
  let v111 : BitVec 32 := Scalar.muli c3_i32_55 v110
  let v112 : BitVec 32 := Scalar.subi v93 v111
  let c0_i32_61 : BitVec 32 := 0#32
  let v119 : BitVec 1 := Scalar.cmpi .sgt v112 c0_i32_61
  let v120 : BitVec 32 := Scalar.extui v119
  let c0_i32_62 : BitVec 32 := 0#32
  let v121 : BitVec 1 := Scalar.cmpi .slt v112 c0_i32_62
  let v122 : BitVec 32 := Scalar.extui v121
  let v123 : BitVec 32 := Scalar.subi v120 v122
  let c2_i32 : BitVec 32 := 2#32
  let c0_i32_63 : BitVec 32 := 0#32
  let v124 : BitVec 1 := Scalar.cmpi .sgt c2_i32 c0_i32_63
  let v125 : BitVec 32 := Scalar.extui v124
  let c0_i32_64 : BitVec 32 := 0#32
  let v126 : BitVec 1 := Scalar.cmpi .slt c2_i32 c0_i32_64
  let v127 : BitVec 32 := Scalar.extui v126
  let v128 : BitVec 32 := Scalar.subi v125 v127
  let v129 : BitVec 1 := Scalar.cmpi .ne v123 v128
  let v130 : BitVec 32 := Scalar.remsi v112 c2_i32
  let c0_i32_65 : BitVec 32 := 0#32
  let v131 : BitVec 1 := Scalar.cmpi .ne v130 c0_i32_65
  let v132 : BitVec 1 := Scalar.andi v129 v131
  let v118 : BitVec 32 := Scalar.divsi v112 c2_i32
  let c1_i32_66 : BitVec 32 := 1#32
  let v133 : BitVec 32 := Scalar.subi v118 c1_i32_66
  let v134 : BitVec 32 := Scalar.select v132 v133 v118
  let v135 : BitVec 32 := Scalar.subi v134 c0_i32_68
  let c1_i32_69 : BitVec 32 := 1#32
  let v137 : BitVec 32 := Scalar.divsi v135 c1_i32_69
  let v138 : BitVec 32 := Scalar.muli v137 c1_i32_69
  let v139 : BitVec 32 := Scalar.addi c0_i32_68 v138
  let v136 : BitVec 32 := Scalar.addi c0_i32_68 v135
  let c1_i32_71 : BitVec 32 := 1#32
  ⟨v139, v136, c1_i32_71⟩
def k0_mult16 : BitVec 32 :=
  let c3456_i32 : BitVec 32 := 3456#32
  c3456_i32
def k0_mult17 : BitVec 32 :=
  let c3840_i32 : BitVec 32 := 3840#32
  c3840_i32
@[reducible] def k0_t7_loop (i : grid0.Coords) : Scf.Loop 32 :=
  let c0_i32_79 : BitVec 32 := 0#32
  let c11_i32 : BitVec 32 := 11#32
  let arg1 : BitVec 32 := BitVec.ofNat 32 (i 1).val
  let c1_i32 : BitVec 32 := 1#32
  let v92 : BitVec 32 := Scalar.addi arg1 c1_i32
  let v93 : BitVec 32 := Scalar.subi c11_i32 v92
  let c3_i32_55 : BitVec 32 := 3#32
  let c0_i32_49 : BitVec 32 := 0#32
  let v95 : BitVec 1 := Scalar.cmpi .sgt v93 c0_i32_49
  let v96 : BitVec 32 := Scalar.extui v95
  let c0_i32_50 : BitVec 32 := 0#32
  let v97 : BitVec 1 := Scalar.cmpi .slt v93 c0_i32_50
  let v98 : BitVec 32 := Scalar.extui v97
  let v99 : BitVec 32 := Scalar.subi v96 v98
  let c3_i32 : BitVec 32 := 3#32
  let c0_i32_51 : BitVec 32 := 0#32
  let v100 : BitVec 1 := Scalar.cmpi .sgt c3_i32 c0_i32_51
  let v101 : BitVec 32 := Scalar.extui v100
  let c0_i32_52 : BitVec 32 := 0#32
  let v102 : BitVec 1 := Scalar.cmpi .slt c3_i32 c0_i32_52
  let v103 : BitVec 32 := Scalar.extui v102
  let v104 : BitVec 32 := Scalar.subi v101 v103
  let v105 : BitVec 1 := Scalar.cmpi .ne v99 v104
  let v106 : BitVec 32 := Scalar.remsi v93 c3_i32
  let c0_i32_53 : BitVec 32 := 0#32
  let v107 : BitVec 1 := Scalar.cmpi .ne v106 c0_i32_53
  let v108 : BitVec 1 := Scalar.andi v105 v107
  let v94 : BitVec 32 := Scalar.divsi v93 c3_i32
  let c1_i32_54 : BitVec 32 := 1#32
  let v109 : BitVec 32 := Scalar.subi v94 c1_i32_54
  let v110 : BitVec 32 := Scalar.select v108 v109 v94
  let v111 : BitVec 32 := Scalar.muli c3_i32_55 v110
  let v112 : BitVec 32 := Scalar.subi v93 v111
  let c2_i32_72 : BitVec 32 := 2#32
  let c0_i32_73 : BitVec 32 := 0#32
  let v140 : BitVec 1 := Scalar.cmpi .eq c2_i32_72 c0_i32_73
  let c1_i32_74 : BitVec 32 := 1#32
  let v141 : BitVec 32 := Scalar.select v140 c1_i32_74 c2_i32_72
  let v142 : BitVec 32 := Scalar.remsi v112 v141
  let c0_i32_76 : BitVec 32 := 0#32
  let v144 : BitVec 1 := Scalar.cmpi .slt v142 c0_i32_76
  let c0_i32_77 : BitVec 32 := 0#32
  let v145 : BitVec 1 := Scalar.cmpi .slt v141 c0_i32_77
  let v146 : BitVec 1 := Scalar.xori v144 v145
  let c0_i32_75 : BitVec 32 := 0#32
  let v143 : BitVec 1 := Scalar.cmpi .ne v142 c0_i32_75
  let v147 : BitVec 1 := Scalar.andi v146 v143
  let v148 : BitVec 32 := Scalar.addi v142 v141
  let v149 : BitVec 32 := Scalar.select v147 v148 v142
  let v150 : BitVec 32 := Scalar.subi v149 c0_i32_79
  let c1_i32_80 : BitVec 32 := 1#32
  let v152 : BitVec 32 := Scalar.divsi v150 c1_i32_80
  let v153 : BitVec 32 := Scalar.muli v152 c1_i32_80
  let v154 : BitVec 32 := Scalar.addi c0_i32_79 v153
  let c1_i32_81 : BitVec 32 := 1#32
  ⟨c0_i32_79, v154, c1_i32_81⟩
def k0_mult18 : BitVec 32 :=
  let c3840_i32 : BitVec 32 := 3840#32
  c3840_i32
@[reducible] def k0_t8_loop (i : grid0.Coords) : Scf.Loop 32 :=
  let c0_i32_79 : BitVec 32 := 0#32
  let c11_i32 : BitVec 32 := 11#32
  let arg1 : BitVec 32 := BitVec.ofNat 32 (i 1).val
  let c1_i32 : BitVec 32 := 1#32
  let v92 : BitVec 32 := Scalar.addi arg1 c1_i32
  let v93 : BitVec 32 := Scalar.subi c11_i32 v92
  let c3_i32_55 : BitVec 32 := 3#32
  let c0_i32_49 : BitVec 32 := 0#32
  let v95 : BitVec 1 := Scalar.cmpi .sgt v93 c0_i32_49
  let v96 : BitVec 32 := Scalar.extui v95
  let c0_i32_50 : BitVec 32 := 0#32
  let v97 : BitVec 1 := Scalar.cmpi .slt v93 c0_i32_50
  let v98 : BitVec 32 := Scalar.extui v97
  let v99 : BitVec 32 := Scalar.subi v96 v98
  let c3_i32 : BitVec 32 := 3#32
  let c0_i32_51 : BitVec 32 := 0#32
  let v100 : BitVec 1 := Scalar.cmpi .sgt c3_i32 c0_i32_51
  let v101 : BitVec 32 := Scalar.extui v100
  let c0_i32_52 : BitVec 32 := 0#32
  let v102 : BitVec 1 := Scalar.cmpi .slt c3_i32 c0_i32_52
  let v103 : BitVec 32 := Scalar.extui v102
  let v104 : BitVec 32 := Scalar.subi v101 v103
  let v105 : BitVec 1 := Scalar.cmpi .ne v99 v104
  let v106 : BitVec 32 := Scalar.remsi v93 c3_i32
  let c0_i32_53 : BitVec 32 := 0#32
  let v107 : BitVec 1 := Scalar.cmpi .ne v106 c0_i32_53
  let v108 : BitVec 1 := Scalar.andi v105 v107
  let v94 : BitVec 32 := Scalar.divsi v93 c3_i32
  let c1_i32_54 : BitVec 32 := 1#32
  let v109 : BitVec 32 := Scalar.subi v94 c1_i32_54
  let v110 : BitVec 32 := Scalar.select v108 v109 v94
  let v111 : BitVec 32 := Scalar.muli c3_i32_55 v110
  let v112 : BitVec 32 := Scalar.subi v93 v111
  let c2_i32_72 : BitVec 32 := 2#32
  let c0_i32_73 : BitVec 32 := 0#32
  let v140 : BitVec 1 := Scalar.cmpi .eq c2_i32_72 c0_i32_73
  let c1_i32_74 : BitVec 32 := 1#32
  let v141 : BitVec 32 := Scalar.select v140 c1_i32_74 c2_i32_72
  let v142 : BitVec 32 := Scalar.remsi v112 v141
  let c0_i32_76 : BitVec 32 := 0#32
  let v144 : BitVec 1 := Scalar.cmpi .slt v142 c0_i32_76
  let c0_i32_77 : BitVec 32 := 0#32
  let v145 : BitVec 1 := Scalar.cmpi .slt v141 c0_i32_77
  let v146 : BitVec 1 := Scalar.xori v144 v145
  let c0_i32_75 : BitVec 32 := 0#32
  let v143 : BitVec 1 := Scalar.cmpi .ne v142 c0_i32_75
  let v147 : BitVec 1 := Scalar.andi v146 v143
  let v148 : BitVec 32 := Scalar.addi v142 v141
  let v149 : BitVec 32 := Scalar.select v147 v148 v142
  let v150 : BitVec 32 := Scalar.subi v149 c0_i32_79
  let c1_i32_80 : BitVec 32 := 1#32
  let v152 : BitVec 32 := Scalar.divsi v150 c1_i32_80
  let v153 : BitVec 32 := Scalar.muli v152 c1_i32_80
  let v154 : BitVec 32 := Scalar.addi c0_i32_79 v153
  let v151 : BitVec 32 := Scalar.addi c0_i32_79 v150
  let c1_i32_82 : BitVec 32 := 1#32
  ⟨v154, v151, c1_i32_82⟩
def k0_mult19 : BitVec 32 :=
  let c3840_i32 : BitVec 32 := 3840#32
  c3840_i32
def k0_cond4 (i : grid0.Coords) : BitVec 1 :=
  let arg1 : BitVec 32 := BitVec.ofNat 32 (i 1).val
  let c10_i32 : BitVec 32 := 10#32
  let v30 : BitVec 1 := Scalar.cmpi .eq arg1 c10_i32
  let v31 : BitVec 32 := Scalar.extui v30
  let c0_i32_21 : BitVec 32 := 0#32
  let v32 : BitVec 1 := Scalar.cmpi .ne v31 c0_i32_21
  v32

@[reducible] def k0_t9_loop : Scf.Loop 32 :=
  let c0_i32_22 : BitVec 32 := 0#32
  let c11_i32 : BitVec 32 := 11#32
  let v33 : BitVec 32 := Scalar.addi c0_i32_22 c11_i32
  let c1_i32 : BitVec 32 := 1#32
  ⟨c0_i32_22, v33, c1_i32⟩
def k0_off19 (k0_t9 : Fin k0_t9_loop.trips) : Fin 3 → Nat :=
  let c0_i32_22 : BitVec 32 := 0#32
  let c1_i32 : BitVec 32 := 1#32
  let arg15 : BitVec 32 := Scf.iv c0_i32_22 c1_i32 k0_t9
  let v34 : Index := Scalar.indexCast arg15
  let c0_24 : Index := 0#32
  let c0_25 : Index := 0#32
  ![v34.toNat, 0, 0]
def k0_mult20 (k0_t9 : Fin k0_t9_loop.trips) : BitVec 32 :=
  let c0_i32_22 : BitVec 32 := 0#32
  let c1_i32 : BitVec 32 := 1#32
  let arg15 : BitVec 32 := Scf.iv c0_i32_22 c1_i32 k0_t9
  let c384_i32 : BitVec 32 := 384#32
  let v38 : BitVec 32 := Scalar.muli arg15 c384_i32
  v38
def k0_off20 (k0_t9 : Fin k0_t9_loop.trips) : Fin 2 → Nat :=
  let c0_i32_22 : BitVec 32 := 0#32
  let c1_i32 : BitVec 32 := 1#32
  let arg15 : BitVec 32 := Scf.iv c0_i32_22 c1_i32 k0_t9
  let c384_i32 : BitVec 32 := 384#32
  let v38 : BitVec 32 := Scalar.muli arg15 c384_i32
  let v39 : BitVec 32 := v38
  let v40 : Index := Scalar.indexCast v39
  let c0_26 : Index := 0#32
  ![v40.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4224x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4224x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x11x1x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S4224x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S4224x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S384x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S384x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S4112x8x96 : Shape := ⟨3, ![4112, 8, 96]⟩
abbrev S4112x8x64 : Shape := ⟨3, ![4112, 8, 64]⟩
abbrev S_ : Shape := ⟨0, ![]⟩
abbrev S8x4112x4112 : Shape := ⟨3, ![8, 4112, 4112]⟩
abbrev S8x4112 : Shape := ⟨2, ![8, 4112]⟩
abbrev S8x4112x1 : Shape := ⟨3, ![8, 4112, 1]⟩
abbrev S8x64x4112 : Shape := ⟨3, ![8, 64, 4112]⟩
abbrev S8x4112x96 : Shape := ⟨3, ![8, 4112, 96]⟩
abbrev S4224x8x128 : Shape := ⟨3, ![4224, 8, 128]⟩
abbrev S4224x1024 : Shape := ⟨2, ![4224, 1024]⟩

abbrev nBuf : Space → Nat
  | .hbm => 96
  | .vmem => 0
  | .smem => 0
  | _ => 0

abbrev bufTy : (tb : Table) → Fin (tcTables nBuf tb) → BufTy
  | .hbm, ⟨0, _⟩ => ⟨S4112x8x96, .f32⟩
  | .hbm, ⟨1, _⟩ => ⟨S4112x8x96, .f32⟩
  | .hbm, ⟨2, _⟩ => ⟨S4112x8x64, .f32⟩
  | .hbm, ⟨3, _⟩ => ⟨S4112x8x64, .f32⟩
  | .hbm, ⟨4, _⟩ => ⟨S_, .f32⟩
  | .hbm, ⟨5, _⟩ => ⟨S4112x8x96, .f32⟩
  | .hbm, ⟨6, _⟩ => ⟨S4112x8x96, .f32⟩
  | .hbm, ⟨7, _⟩ => ⟨S8x4112x4112, .f32⟩
  | .hbm, ⟨8, _⟩ => ⟨S8x4112x4112, .i32⟩
  | .hbm, ⟨9, _⟩ => ⟨S8x4112x4112, .i32⟩
  | .hbm, ⟨10, _⟩ => ⟨S8x4112x4112, .i1⟩
  | .hbm, ⟨11, _⟩ => ⟨S_, .f32⟩
  | .hbm, ⟨12, _⟩ => ⟨S_, .f32⟩
  | .hbm, ⟨13, _⟩ => ⟨S8x4112x4112, .f32⟩
  | .hbm, ⟨14, _⟩ => ⟨S8x4112x4112, .f32⟩
  | .hbm, ⟨15, _⟩ => ⟨S_, .f32⟩
  | .hbm, ⟨16, _⟩ => ⟨S8x4112x4112, .f32⟩
  | .hbm, ⟨17, _⟩ => ⟨S_, .f32⟩
  | .hbm, ⟨18, _⟩ => ⟨S8x4112, .f32⟩
  | .hbm, ⟨19, _⟩ => ⟨S8x4112x1, .f32⟩
  | .hbm, ⟨20, _⟩ => ⟨S8x4112x4112, .f32⟩
  | .hbm, ⟨21, _⟩ => ⟨S8x4112x4112, .i1⟩
  | .hbm, ⟨22, _⟩ => ⟨S8x4112x4112, .f32⟩
  | .hbm, ⟨23, _⟩ => ⟨S_, .f32⟩
  | .hbm, ⟨24, _⟩ => ⟨S8x4112, .f32⟩
  | .hbm, ⟨25, _⟩ => ⟨S_, .f32⟩
  | .hbm, ⟨26, _⟩ => ⟨S8x4112, .f32⟩
  | .hbm, ⟨27, _⟩ => ⟨S8x4112, .f32⟩
  | .hbm, ⟨28, _⟩ => ⟨S_, .f32⟩
  | .hbm, ⟨29, _⟩ => ⟨S8x4112, .f32⟩
  | .hbm, ⟨30, _⟩ => ⟨S8x4112, .i1⟩
  | .hbm, ⟨31, _⟩ => ⟨S_, .f32⟩
  | .hbm, ⟨32, _⟩ => ⟨S8x4112, .f32⟩
  | .hbm, ⟨33, _⟩ => ⟨S8x4112, .i1⟩
  | .hbm, ⟨34, _⟩ => ⟨S_, .f32⟩
  | .hbm, ⟨35, _⟩ => ⟨S8x4112, .f32⟩
  | .hbm, ⟨36, _⟩ => ⟨S_, .f32⟩
  | .hbm, ⟨37, _⟩ => ⟨S8x4112, .f32⟩
  | .hbm, ⟨38, _⟩ => ⟨S_, .f32⟩
  | .hbm, ⟨39, _⟩ => ⟨S8x4112, .f32⟩
  | .hbm, ⟨40, _⟩ => ⟨S8x4112, .f32⟩
  | .hbm, ⟨41, _⟩ => ⟨S8x4112, .f32⟩
  | .hbm, ⟨42, _⟩ => ⟨S8x4112x1, .f32⟩
  | .hbm, ⟨43, _⟩ => ⟨S8x4112x4112, .f32⟩
  | .hbm, ⟨44, _⟩ => ⟨S8x4112x4112, .f32⟩
  | .hbm, ⟨45, _⟩ => ⟨S8x4112x4112, .f32⟩
  | .hbm, ⟨46, _⟩ => ⟨S_, .f32⟩
  | .hbm, ⟨47, _⟩ => ⟨S8x4112, .f32⟩
  | .hbm, ⟨48, _⟩ => ⟨S8x4112x1, .f32⟩
  | .hbm, ⟨49, _⟩ => ⟨S8x4112x4112, .f32⟩
  | .hbm, ⟨50, _⟩ => ⟨S8x4112x4112, .f32⟩
  | .hbm, ⟨51, _⟩ => ⟨S8x4112x1, .f32⟩
  | .hbm, ⟨52, _⟩ => ⟨S_, .f32⟩
  | .hbm, ⟨53, _⟩ => ⟨S8x4112x1, .f32⟩
  | .hbm, ⟨54, _⟩ => ⟨S8x4112x1, .f32⟩
  | .hbm, ⟨55, _⟩ => ⟨S8x64x4112, .f32⟩
  | .hbm, ⟨56, _⟩ => ⟨S4112x8x64, .f32⟩
  | .hbm, ⟨57, _⟩ => ⟨S8x64x4112, .f32⟩
  | .hbm, ⟨58, _⟩ => ⟨S8x4112x4112, .f32⟩
  | .hbm, ⟨59, _⟩ => ⟨S8x64x4112, .f32⟩
  | .hbm, ⟨60, _⟩ => ⟨S4112x8x64, .f32⟩
  | .hbm, ⟨61, _⟩ => ⟨S8x4112x4112, .f32⟩
  | .hbm, ⟨62, _⟩ => ⟨S8x4112x4112, .f32⟩
  | .hbm, ⟨63, _⟩ => ⟨S8x4112x4112, .f32⟩
  | .hbm, ⟨64, _⟩ => ⟨S_, .f32⟩
  | .hbm, ⟨65, _⟩ => ⟨S8x4112, .f32⟩
  | .hbm, ⟨66, _⟩ => ⟨S8x4112x1, .f32⟩
  | .hbm, ⟨67, _⟩ => ⟨S8x4112x1, .f32⟩
  | .hbm, ⟨68, _⟩ => ⟨S8x4112x4112, .f32⟩
  | .hbm, ⟨69, _⟩ => ⟨S8x4112x4112, .f32⟩
  | .hbm, ⟨70, _⟩ => ⟨S_, .f32⟩
  | .hbm, ⟨71, _⟩ => ⟨S8x4112, .f32⟩
  | .hbm, ⟨72, _⟩ => ⟨S8x4112x4112, .f32⟩
  | .hbm, ⟨73, _⟩ => ⟨S8x4112x4112, .f32⟩
  | .hbm, ⟨74, _⟩ => ⟨S8x4112x4112, .f32⟩
  | .hbm, ⟨75, _⟩ => ⟨S_, .f32⟩
  | .hbm, ⟨76, _⟩ => ⟨S8x4112x4112, .f32⟩
  | .hbm, ⟨77, _⟩ => ⟨S8x4112x4112, .f32⟩
  | .hbm, ⟨78, _⟩ => ⟨S8x4112x96, .f32⟩
  | .hbm, ⟨79, _⟩ => ⟨S4112x8x96, .f32⟩
  | .hbm, ⟨80, _⟩ => ⟨S8x4112x96, .f32⟩
  | .hbm, ⟨81, _⟩ => ⟨S4112x8x96, .f32⟩
  | .hbm, ⟨82, _⟩ => ⟨S_, .i32⟩
  | .hbm, ⟨83, _⟩ => ⟨S_, .f32⟩
  | .hbm, ⟨84, _⟩ => ⟨S4224x8x128, .f32⟩
  | .hbm, ⟨85, _⟩ => ⟨S4224x1024, .f32⟩
  | .hbm, ⟨86, _⟩ => ⟨S_, .i32⟩
  | .hbm, ⟨87, _⟩ => ⟨S_, .f32⟩
  | .hbm, ⟨88, _⟩ => ⟨S4224x8x128, .f32⟩
  | .hbm, ⟨89, _⟩ => ⟨S4224x1024, .f32⟩
  | .hbm, ⟨90, _⟩ => ⟨S4224x1024, .bf16⟩
  | .hbm, ⟨91, _⟩ => ⟨S_, .i32⟩
  | .hbm, ⟨92, _⟩ => ⟨S_, .f32⟩
  | .hbm, ⟨93, _⟩ => ⟨S4224x8x128, .f32⟩
  | .hbm, ⟨94, _⟩ => ⟨S4224x1024, .f32⟩
  | .hbm, ⟨95, _⟩ => ⟨S4224x1024, .bf16⟩
  | _, _ => ⟨S4112x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_call0_v0 : Ref sig .tc := ⟨.hbm, 12, rfl⟩
abbrev main_call0_v1 : Ref sig .tc := ⟨.hbm, 13, rfl⟩
abbrev main_v6_0 : Ref sig .tc := ⟨.hbm, 14, rfl⟩
abbrev main_call0_cst : Ref sig .tc := ⟨.hbm, 15, rfl⟩
abbrev main_v6_1 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_cst_4 : Ref sig .tc := ⟨.hbm, 28, rfl⟩
abbrev main_v15 : Ref sig .tc := ⟨.hbm, 29, rfl⟩
abbrev main_v16 : Ref sig .tc := ⟨.hbm, 30, rfl⟩
abbrev main_cst_5 : Ref sig .tc := ⟨.hbm, 31, rfl⟩
abbrev main_v17 : Ref sig .tc := ⟨.hbm, 32, rfl⟩
abbrev main_v18 : Ref sig .tc := ⟨.hbm, 33, rfl⟩
abbrev main_cst_6 : Ref sig .tc := ⟨.hbm, 34, rfl⟩
abbrev main_v19 : Ref sig .tc := ⟨.hbm, 35, rfl⟩
abbrev main_cst_7 : Ref sig .tc := ⟨.hbm, 36, rfl⟩
abbrev main_v20 : Ref sig .tc := ⟨.hbm, 37, rfl⟩
abbrev main_cst_8 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_9 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_10 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_11 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_12 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_call1_cst : Ref sig .tc := ⟨.hbm, 75, rfl⟩
abbrev main_call1_v0 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_c : Ref sig .tc := ⟨.hbm, 82, rfl⟩
abbrev main_call2_v0 : Ref sig .tc := ⟨.hbm, 83, rfl⟩
abbrev main_v58 : Ref sig .tc := ⟨.hbm, 84, rfl⟩
abbrev main_v59 : Ref sig .tc := ⟨.hbm, 85, rfl⟩
abbrev main_c_13 : Ref sig .tc := ⟨.hbm, 86, rfl⟩
abbrev main_call3_v0 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_c_14 : Ref sig .tc := ⟨.hbm, 91, rfl⟩
abbrev main_call4_v0 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩

abbrev nD : Nat := 1
abbrev τ : Topo := Topo.v7x

variable {F : FTy → Type} [FloatOps F]
-- ==== Kernel2.lean ====
abbrev S4224x4096 : Shape := ⟨2, ![4224, 4096]⟩
abbrev S4096x1024 : Shape := ⟨2, ![4096, 1024]⟩
abbrev S4224x1024 : Shape := ⟨2, ![4224, 1024]⟩
abbrev S1056x1024 : Shape := ⟨2, ![1056, 1024]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S4224x4096, .f32⟩
  | .hbm, ⟨1, _⟩ => ⟨S4096x1024, .f32⟩
  | .hbm, ⟨2, _⟩ => ⟨S4224x1024, .f32⟩
  | .hbm, ⟨3, _⟩ => ⟨S4096x1024, .bf16⟩
  | .hbm, ⟨4, _⟩ => ⟨S4224x4096, .bf16⟩
  | .hbm, ⟨5, _⟩ => ⟨S4224x4096, .bf16⟩
  | .local _ .vmem, ⟨0, _⟩ => ⟨S1056x1024, .f32⟩
  | .local _ .vmem, ⟨1, _⟩ => ⟨S1056x1024, .f32⟩
  | .local _ .vmem, ⟨2, _⟩ => ⟨S1024x1024, .bf16⟩
  | .local _ .vmem, ⟨3, _⟩ => ⟨S1024x1024, .bf16⟩
  | .local _ .vmem, ⟨4, _⟩ => ⟨S1056x1024, .bf16⟩
  | .local _ .vmem, ⟨5, _⟩ => ⟨S1056x1024, .bf16⟩
  | .local _ .vmem, ⟨6, _⟩ => ⟨S1056x1024, .bf16⟩
  | .local _ .vmem, ⟨7, _⟩ => ⟨S1056x1024, .bf16⟩
  | _, _ => ⟨S4224x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1056x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1056x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference2Ideal.lean ====
abbrev S4224x4096 : Shape := ⟨2, ![4224, 4096]⟩
abbrev S4096x1024 : Shape := ⟨2, ![4096, 1024]⟩
abbrev S4224x1024 : Shape := ⟨2, ![4224, 1024]⟩
abbrev S_ : Shape := ⟨0, ![]⟩
abbrev S1024x4096 : Shape := ⟨2, ![1024, 4096]⟩

abbrev nBuf : Space → Nat
  | .hbm => 24
  | .vmem => 0
  | .smem => 0
  | _ => 0

abbrev bufTy : (tb : Table) → Fin (tcTables nBuf tb) → BufTy
  | .hbm, ⟨0, _⟩ => ⟨S4224x4096, .f32⟩
  | .hbm, ⟨1, _⟩ => ⟨S4096x1024, .f32⟩
  | .hbm, ⟨2, _⟩ => ⟨S4224x1024, .f32⟩
  | .hbm, ⟨3, _⟩ => ⟨S_, .f32⟩
  | .hbm, ⟨4, _⟩ => ⟨S4224x4096, .f32⟩
  | .hbm, ⟨5, _⟩ => ⟨S4224x4096, .f32⟩
  | .hbm, ⟨6, _⟩ => ⟨S_, .f32⟩
  | .hbm, ⟨7, _⟩ => ⟨S4224x4096, .f32⟩
  | .hbm, ⟨8, _⟩ => ⟨S4224x4096, .i1⟩
  | .hbm, ⟨9, _⟩ => ⟨S_, .f32⟩
  | .hbm, ⟨10, _⟩ => ⟨S4224x4096, .f32⟩
  | .hbm, ⟨11, _⟩ => ⟨S4224x4096, .f32⟩
  | .hbm, ⟨12, _⟩ => ⟨S_, .f32⟩
  | .hbm, ⟨13, _⟩ => ⟨S4224x4096, .f32⟩
  | .hbm, ⟨14, _⟩ => ⟨S4224x4096, .f32⟩
  | .hbm, ⟨15, _⟩ => ⟨S4224x1024, .f32⟩
  | .hbm, ⟨16, _⟩ => ⟨S1024x4096, .f32⟩
  | .hbm, ⟨17, _⟩ => ⟨S4096x1024, .f32⟩
  | .hbm, ⟨18, _⟩ => ⟨S4224x4096, .f32⟩
  | .hbm, ⟨19, _⟩ => ⟨S4224x4096, .f32⟩
  | .hbm, ⟨20, _⟩ => ⟨S_, .f32⟩
  | .hbm, ⟨21, _⟩ => ⟨S4224x4096, .f32⟩
  | .hbm, ⟨22, _⟩ => ⟨S4224x4096, .f32⟩
  | .hbm, ⟨23, _⟩ => ⟨S4224x4096, .bf16⟩
  | _, _ => ⟨S4224x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== Kernel3.lean ====
abbrev S4224x4096 : Shape := ⟨2, ![4224, 4096]⟩
abbrev S4096x1024 : Shape := ⟨2, ![4096, 1024]⟩
abbrev S4224x1024 : Shape := ⟨2, ![4224, 1024]⟩
abbrev S1056x1024 : Shape := ⟨2, ![1056, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4224x4096, .f32⟩
  | .hbm, ⟨1, _⟩ => ⟨S4096x1024, .f32⟩
  | .hbm, ⟨2, _⟩ => ⟨S4224x1024, .f32⟩
  | .hbm, ⟨3, _⟩ => ⟨S4224x4096, .bf16⟩
  | .hbm, ⟨4, _⟩ => ⟨S4096x1024, .bf16⟩
  | .local _ .vmem, ⟨0, _⟩ => ⟨S1056x1024, .bf16⟩
  | .local _ .vmem, ⟨1, _⟩ => ⟨S1056x1024, .bf16⟩
  | .local _ .vmem, ⟨2, _⟩ => ⟨S1056x1024, .f32⟩
  | .local _ .vmem, ⟨3, _⟩ => ⟨S1056x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4224x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v16 : BitVec 1 := Scalar.cmpi .eq arg2 c3_i32
  let v17 : BitVec 32 := Scalar.extui v16
  let c0_i32_7 : BitVec 32 := 0#32
  let v18 : BitVec 1 := Scalar.cmpi .ne v17 c0_i32_7
  v18

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1056x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4224x4096 : Shape := ⟨2, ![4224, 4096]⟩
abbrev S4096x1024 : Shape := ⟨2, ![4096, 1024]⟩
abbrev S4224x1024 : Shape := ⟨2, ![4224, 1024]⟩
abbrev S_ : Shape := ⟨0, ![]⟩
abbrev S1024x4096 : Shape := ⟨2, ![1024, 4096]⟩

abbrev nBuf : Space → Nat
  | .hbm => 24
  | .vmem => 0
  | .smem => 0
  | _ => 0

abbrev bufTy : (tb : Table) → Fin (tcTables nBuf tb) → BufTy
  | .hbm, ⟨0, _⟩ => ⟨S4224x4096, .f32⟩
  | .hbm, ⟨1, _⟩ => ⟨S4096x1024, .f32⟩
  | .hbm, ⟨2, _⟩ => ⟨S4224x1024, .f32⟩
  | .hbm, ⟨3, _⟩ => ⟨S_, .f32⟩
  | .hbm, ⟨4, _⟩ => ⟨S4224x4096, .f32⟩
  | .hbm, ⟨5, _⟩ => ⟨S4224x4096, .f32⟩
  | .hbm, ⟨6, _⟩ => ⟨S_, .f32⟩
  | .hbm, ⟨7, _⟩ => ⟨S4224x4096, .f32⟩
  | .hbm, ⟨8, _⟩ => ⟨S4224x4096, .i1⟩
  | .hbm, ⟨9, _⟩ => ⟨S_, .f32⟩
  | .hbm, ⟨10, _⟩ => ⟨S4224x4096, .f32⟩
  | .hbm, ⟨11, _⟩ => ⟨S4224x4096, .f32⟩
  | .hbm, ⟨12, _⟩ => ⟨S_, .f32⟩
  | .hbm, ⟨13, _⟩ => ⟨S4224x4096, .f32⟩
  | .hbm, ⟨14, _⟩ => ⟨S4224x4096, .f32⟩
  | .hbm, ⟨15, _⟩ => ⟨S4224x1024, .f32⟩
  | .hbm, ⟨16, _⟩ => ⟨S1024x4096, .f32⟩
  | .hbm, ⟨17, _⟩ => ⟨S4096x1024, .f32⟩
  | .hbm, ⟨18, _⟩ => ⟨S4224x4096, .f32⟩
  | .hbm, ⟨19, _⟩ => ⟨S4224x4096, .f32⟩
  | .hbm, ⟨20, _⟩ => ⟨S_, .f32⟩
  | .hbm, ⟨21, _⟩ => ⟨S4224x4096, .f32⟩
  | .hbm, ⟨22, _⟩ => ⟨S4224x4096, .f32⟩
  | .hbm, ⟨23, _⟩ => ⟨S4096x1024, .bf16⟩
  | _, _ => ⟨S4224x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== Kernel4.lean ====
abbrev S4224x1024 : Shape := ⟨2, ![4224, 1024]⟩
abbrev S1024x4096 : Shape := ⟨2, ![1024, 4096]⟩
abbrev S4224x4096 : Shape := ⟨2, ![4224, 4096]⟩
abbrev S1024x4224 : Shape := ⟨2, ![1024, 4224]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4224x1024, .f32⟩
  | .hbm, ⟨1, _⟩ => ⟨S1024x4096, .f32⟩
  | .hbm, ⟨2, _⟩ => ⟨S4224x4096, .f32⟩
  | .hbm, ⟨3, _⟩ => ⟨S4224x1024, .bf16⟩
  | .hbm, ⟨4, _⟩ => ⟨S1024x4224, .bf16⟩
  | .hbm, ⟨5, _⟩ => ⟨S4224x4096, .bf16⟩
  | .hbm, ⟨6, _⟩ => ⟨S1024x4096, .bf16⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 3], ![false, false, false]⟩

def k0_cond3 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4224x1024 : Shape := ⟨2, ![4224, 1024]⟩
abbrev S1024x4096 : Shape := ⟨2, ![1024, 4096]⟩
abbrev S4224x4096 : Shape := ⟨2, ![4224, 4096]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1024x4096, .f32⟩
  | .hbm, ⟨2, _⟩ => ⟨S4224x4096, .f32⟩
  | .hbm, ⟨3, _⟩ => ⟨S4224x4096, .f32⟩
  | .hbm, ⟨4, _⟩ => ⟨S4096x1024, .f32⟩
  | .hbm, ⟨5, _⟩ => ⟨S1024x4096, .f32⟩
  | .hbm, ⟨6, _⟩ => ⟨S4224x1024, .f32⟩
  | .hbm, ⟨7, _⟩ => ⟨S1024x4096, .bf16⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S4224x1024 : Shape := ⟨2, ![4224, 1024]⟩
abbrev S1024x4096 : Shape := ⟨2, ![1024, 4096]⟩
abbrev S4224x4096 : Shape := ⟨2, ![4224, 4096]⟩
abbrev S1056x1024 : Shape := ⟨2, ![1056, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4224x1024, .f32⟩
  | .hbm, ⟨1, _⟩ => ⟨S1024x4096, .f32⟩
  | .hbm, ⟨2, _⟩ => ⟨S4224x4096, .f32⟩
  | .hbm, ⟨3, _⟩ => ⟨S4224x4096, .bf16⟩
  | .hbm, ⟨4, _⟩ => ⟨S1024x4096, .bf16⟩
  | .hbm, ⟨5, _⟩ => ⟨S4224x1024, .f32⟩
  | .local _ .vmem, ⟨0, _⟩ => ⟨S1056x1024, .bf16⟩
  | .local _ .vmem, ⟨1, _⟩ => ⟨S1056x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1056x1024, .f32⟩
  | .local _ .vmem, ⟨5, _⟩ => ⟨S1056x1024, .f32⟩
  | .local _ .vmem, ⟨6, _⟩ => ⟨S1056x1024, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1056x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4224x1024 : Shape := ⟨2, ![4224, 1024]⟩
abbrev S1024x4096 : Shape := ⟨2, ![1024, 4096]⟩
abbrev S4224x4096 : Shape := ⟨2, ![4224, 4096]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1024x4096, .f32⟩
  | .hbm, ⟨2, _⟩ => ⟨S4224x4096, .f32⟩
  | .hbm, ⟨3, _⟩ => ⟨S4224x4096, .f32⟩
  | .hbm, ⟨4, _⟩ => ⟨S4096x1024, .f32⟩
  | .hbm, ⟨5, _⟩ => ⟨S1024x4096, .f32⟩
  | .hbm, ⟨6, _⟩ => ⟨S4224x1024, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel6.lean ====
abbrev S4224x1024 : Shape := ⟨2, ![4224, 1024]⟩
abbrev S1024x6656 : Shape := ⟨2, ![1024, 6656]⟩
abbrev S4224x6656 : Shape := ⟨2, ![4224, 6656]⟩
abbrev S1024x4224 : Shape := ⟨2, ![1024, 4224]⟩
abbrev S1024x1408 : Shape := ⟨2, ![1024, 1408]⟩
abbrev S1408x1664 : Shape := ⟨2, ![1408, 1664]⟩
abbrev S1024x1664 : Shape := ⟨2, ![1024, 1664]⟩

abbrev nBuf : Space → Nat
  | .hbm => 7
  | .vmem => 7
  | .smem => 0
  | _ => 0

abbrev bufTy : (tb : Table) → Fin (tcTables nBuf tb) → BufTy
  | .hbm, ⟨0, _⟩ => ⟨S4224x1024, .f32⟩
  | .hbm, ⟨1, _⟩ => ⟨S1024x6656, .f32⟩
  | .hbm, ⟨2, _⟩ => ⟨S4224x6656, .f32⟩
  | .hbm, ⟨3, _⟩ => ⟨S4224x1024, .bf16⟩
  | .hbm, ⟨4, _⟩ => ⟨S1024x4224, .bf16⟩
  | .hbm, ⟨5, _⟩ => ⟨S4224x6656, .bf16⟩
  | .hbm, ⟨6, _⟩ => ⟨S1024x6656, .bf16⟩
  | .local _ .vmem, ⟨0, _⟩ => ⟨S1024x1408, .bf16⟩
  | .local _ .vmem, ⟨1, _⟩ => ⟨S1024x1408, .bf16⟩
  | .local _ .vmem, ⟨2, _⟩ => ⟨S1408x1664, .bf16⟩
  | .local _ .vmem, ⟨3, _⟩ => ⟨S1408x1664, .bf16⟩
  | .local _ .vmem, ⟨4, _⟩ => ⟨S1024x1664, .bf16⟩
  | .local _ .vmem, ⟨5, _⟩ => ⟨S1024x1664, .bf16⟩
  | .local _ .vmem, ⟨6, _⟩ => ⟨S1024x1664, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 3], ![false, false, false]⟩

def k0_cond3 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1664 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4224x1024 : Shape := ⟨2, ![4224, 1024]⟩
abbrev S1024x6656 : Shape := ⟨2, ![1024, 6656]⟩
abbrev S4224x6656 : Shape := ⟨2, ![4224, 6656]⟩
abbrev S6656x1024 : Shape := ⟨2, ![6656, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1024x6656, .f32⟩
  | .hbm, ⟨2, _⟩ => ⟨S4224x6656, .f32⟩
  | .hbm, ⟨3, _⟩ => ⟨S4224x6656, .f32⟩
  | .hbm, ⟨4, _⟩ => ⟨S6656x1024, .f32⟩
  | .hbm, ⟨5, _⟩ => ⟨S1024x6656, .f32⟩
  | .hbm, ⟨6, _⟩ => ⟨S4224x1024, .f32⟩
  | .hbm, ⟨7, _⟩ => ⟨S1024x6656, .bf16⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S4224x1024 : Shape := ⟨2, ![4224, 1024]⟩
abbrev S1024x6656 : Shape := ⟨2, ![1024, 6656]⟩
abbrev S4224x6656 : Shape := ⟨2, ![4224, 6656]⟩
abbrev S1056x1664 : Shape := ⟨2, ![1056, 1664]⟩
abbrev S1024x1664 : Shape := ⟨2, ![1024, 1664]⟩
abbrev S1056x1024 : Shape := ⟨2, ![1056, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4224x1024, .f32⟩
  | .hbm, ⟨1, _⟩ => ⟨S1024x6656, .f32⟩
  | .hbm, ⟨2, _⟩ => ⟨S4224x6656, .f32⟩
  | .hbm, ⟨3, _⟩ => ⟨S4224x6656, .bf16⟩
  | .hbm, ⟨4, _⟩ => ⟨S1024x6656, .bf16⟩
  | .hbm, ⟨5, _⟩ => ⟨S4224x1024, .f32⟩
  | .local _ .vmem, ⟨0, _⟩ => ⟨S1056x1664, .bf16⟩
  | .local _ .vmem, ⟨1, _⟩ => ⟨S1056x1664, .bf16⟩
  | .local _ .vmem, ⟨2, _⟩ => ⟨S1024x1664, .bf16⟩
  | .local _ .vmem, ⟨3, _⟩ => ⟨S1024x1664, .bf16⟩
  | .local _ .vmem, ⟨4, _⟩ => ⟨S1056x1024, .f32⟩
  | .local _ .vmem, ⟨5, _⟩ => ⟨S1056x1024, .f32⟩
  | .local _ .vmem, ⟨6, _⟩ => ⟨S1056x1024, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x1664 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1056x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4224x1024 : Shape := ⟨2, ![4224, 1024]⟩
abbrev S1024x6656 : Shape := ⟨2, ![1024, 6656]⟩
abbrev S4224x6656 : Shape := ⟨2, ![4224, 6656]⟩
abbrev S6656x1024 : Shape := ⟨2, ![6656, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1024x6656, .f32⟩
  | .hbm, ⟨2, _⟩ => ⟨S4224x6656, .f32⟩
  | .hbm, ⟨3, _⟩ => ⟨S4224x6656, .f32⟩
  | .hbm, ⟨4, _⟩ => ⟨S6656x1024, .f32⟩
  | .hbm, ⟨5, _⟩ => ⟨S1024x6656, .f32⟩
  | .hbm, ⟨6, _⟩ => ⟨S4224x1024, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel8.lean ====
abbrev S4224x1024 : Shape := ⟨2, ![4224, 1024]⟩
abbrev S1024 : Shape := ⟨1, ![1024]⟩
abbrev S1x1024 : Shape := ⟨2, ![1, 1024]⟩
abbrev S384x1024 : Shape := ⟨2, ![384, 1024]⟩
abbrev S384 : Shape := ⟨1, ![384]⟩
abbrev S384x1 : Shape := ⟨2, ![384, 1]⟩

abbrev nBuf : Space → Nat
  | .hbm => 7
  | .vmem => 10
  | .smem => 0
  | _ => 0

abbrev bufTy : (tb : Table) → Fin (tcTables nBuf tb) → BufTy
  | .hbm, ⟨0, _⟩ => ⟨S4224x1024, .f32⟩
  | .hbm, ⟨1, _⟩ => ⟨S1024, .f32⟩
  | .hbm, ⟨2, _⟩ => ⟨S4224x1024, .f32⟩
  | .hbm, ⟨3, _⟩ => ⟨S4224x1024, .f32⟩
  | .hbm, ⟨4, _⟩ => ⟨S1x1024, .f32⟩
  | .hbm, ⟨5, _⟩ => ⟨S4224x1024, .f32⟩
  | .hbm, ⟨6, _⟩ => ⟨S1x1024, .f32⟩
  | .local _ .vmem, ⟨0, _⟩ => ⟨S384x1024, .f32⟩
  | .local _ .vmem, ⟨1, _⟩ => ⟨S384x1024, .f32⟩
  | .local _ .vmem, ⟨2, _⟩ => ⟨S1x1024, .f32⟩
  | .local _ .vmem, ⟨3, _⟩ => ⟨S384x1024, .f32⟩
  | .local _ .vmem, ⟨4, _⟩ => ⟨S384x1024, .f32⟩
  | .local _ .vmem, ⟨5, _⟩ => ⟨S384x1024, .f32⟩
  | .local _ .vmem, ⟨6, _⟩ => ⟨S384x1024, .f32⟩
  | .local _ .vmem, ⟨7, _⟩ => ⟨S384x1024, .f32⟩
  | .local _ .vmem, ⟨8, _⟩ => ⟨S384x1024, .f32⟩
  | .local _ .vmem, ⟨9, _⟩ => ⟨S1x1024, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S384x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference8Ideal.lean ====
abbrev S4224x1024 : Shape := ⟨2, ![4224, 1024]⟩
abbrev S1024 : Shape := ⟨1, ![1024]⟩
abbrev S_ : Shape := ⟨0, ![]⟩
abbrev S4224 : Shape := ⟨1, ![4224]⟩
abbrev S4224x1 : Shape := ⟨2, ![4224, 1]⟩
abbrev S1x1024 : Shape := ⟨2, ![1, 1024]⟩

abbrev nBuf : Space → Nat
  | .hbm => 51
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1024, .f32⟩
  | .hbm, ⟨2, _⟩ => ⟨S4224x1024, .f32⟩
  | .hbm, ⟨3, _⟩ => ⟨S4224x1024, .f32⟩
  | .hbm, ⟨4, _⟩ => ⟨S4224x1024, .f32⟩
  | .hbm, ⟨5, _⟩ => ⟨S_, .f32⟩
  | .hbm, ⟨6, _⟩ => ⟨S4224, .f32⟩
  | .hbm, ⟨7, _⟩ => ⟨S4224x1, .f32⟩
  | .hbm, ⟨8, _⟩ => ⟨S_, .f32⟩
  | .hbm, ⟨9, _⟩ => ⟨S4224x1, .f32⟩
  | .hbm, ⟨10, _⟩ => ⟨S4224x1, .f32⟩
  | .hbm, ⟨11, _⟩ => ⟨S_, .f32⟩
  | .hbm, ⟨12, _⟩ => ⟨S4224x1, .f32⟩
  | .hbm, ⟨13, _⟩ => ⟨S4224x1, .f32⟩
  | .hbm, ⟨14, _⟩ => ⟨S4224x1, .f32⟩
  | .hbm, ⟨15, _⟩ => ⟨S4224x1, .f32⟩
  | .hbm, ⟨16, _⟩ => ⟨S_, .f32⟩
  | .hbm, ⟨17, _⟩ => ⟨S4224x1, .f32⟩
  | .hbm, ⟨18, _⟩ => ⟨S4224x1, .f32⟩
  | .hbm, ⟨19, _⟩ => ⟨S4224x1024, .f32⟩
  | .hbm, ⟨20, _⟩ => ⟨S4224x1024, .f32⟩
  | .hbm, ⟨21, _⟩ => ⟨S1x1024, .f32⟩
  | .hbm, ⟨22, _⟩ => ⟨S4224x1024, .f32⟩
  | .hbm, ⟨23, _⟩ => ⟨S4224x1024, .f32⟩
  | .hbm, ⟨24, _⟩ => ⟨S4224x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S4224x1024, .f32⟩
  | .hbm, ⟨29, _⟩ => ⟨S4224x1024, .f32⟩
  | .hbm, ⟨30, _⟩ => ⟨S_, .f32⟩
  | .hbm, ⟨31, _⟩ => ⟨S1024, .f32⟩
  | .hbm, ⟨32, _⟩ => ⟨S4224x1024, .f32⟩
  | .hbm, ⟨33, _⟩ => ⟨S_, .f32⟩
  | .hbm, ⟨34, _⟩ => ⟨S4224, .f32⟩
  | .hbm, ⟨35, _⟩ => ⟨S4224x1, .f32⟩
  | .hbm, ⟨36, _⟩ => ⟨S4224x1024, .f32⟩
  | .hbm, ⟨37, _⟩ => ⟨S4224x1024, .f32⟩
  | .hbm, ⟨38, _⟩ => ⟨S4224x1024, .f32⟩
  | .hbm, ⟨39, _⟩ => ⟨S4224x1, .f32⟩
  | .hbm, ⟨40, _⟩ => ⟨S_, .f32⟩
  | .hbm, ⟨41, _⟩ => ⟨S4224x1, .f32⟩
  | .hbm, ⟨42, _⟩ => ⟨S4224x1, .f32⟩
  | .hbm, ⟨43, _⟩ => ⟨S_, .f32⟩
  | .hbm, ⟨44, _⟩ => ⟨S4224, .f32⟩
  | .hbm, ⟨45, _⟩ => ⟨S4224x1024, .f32⟩
  | .hbm, ⟨46, _⟩ => ⟨S4224x1024, .f32⟩
  | .hbm, ⟨47, _⟩ => ⟨S4224x1024, .f32⟩
  | .hbm, ⟨48, _⟩ => ⟨S4224x1024, .f32⟩
  | .hbm, ⟨49, _⟩ => ⟨S4224x1024, .f32⟩
  | .hbm, ⟨50, _⟩ => ⟨S1x1024, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Kernel9.lean ====
abbrev S4224x6656 : Shape := ⟨2, ![4224, 6656]⟩
abbrev S4224x1024 : Shape := ⟨2, ![4224, 1024]⟩
abbrev S384x1024 : Shape := ⟨2, ![384, 1024]⟩

abbrev nBuf : Space → Nat
  | .hbm => 16
  | .vmem => 26
  | .smem => 0
  | _ => 0

abbrev bufTy : (tb : Table) → Fin (tcTables nBuf tb) → BufTy
  | .hbm, ⟨0, _⟩ => ⟨S4224x6656, .f32⟩
  | .hbm, ⟨1, _⟩ => ⟨S4224x1024, .f32⟩
  | .hbm, ⟨2, _⟩ => ⟨S4224x1024, .f32⟩
  | .hbm, ⟨3, _⟩ => ⟨S4224x1024, .f32⟩
  | .hbm, ⟨4, _⟩ => ⟨S4224x1024, .f32⟩
  | .hbm, ⟨5, _⟩ => ⟨S4224x6656, .bf16⟩
  | .hbm, ⟨6, _⟩ => ⟨S4224x1024, .bf16⟩
  | .hbm, ⟨7, _⟩ => ⟨S4224x1024, .bf16⟩
  | .hbm, ⟨8, _⟩ => ⟨S4224x1024, .bf16⟩
  | .hbm, ⟨9, _⟩ => ⟨S4224x1024, .bf16⟩
  | .hbm, ⟨10, _⟩ => ⟨S4224x1024, .bf16⟩
  | .hbm, ⟨11, _⟩ => ⟨S4224x1024, .bf16⟩
  | .hbm, ⟨12, _⟩ => ⟨S4224x1024, .bf16⟩
  | .hbm, ⟨13, _⟩ => ⟨S4224x1024, .bf16⟩
  | .hbm, ⟨14, _⟩ => ⟨S4224x1024, .bf16⟩
  | .hbm, ⟨15, _⟩ => ⟨S4224x1024, .bf16⟩
  | .local _ .vmem, ⟨0, _⟩ => ⟨S384x1024, .bf16⟩
  | .local _ .vmem, ⟨1, _⟩ => ⟨S384x1024, .bf16⟩
  | .local _ .vmem, ⟨2, _⟩ => ⟨S384x1024, .bf16⟩
  | .local _ .vmem, ⟨3, _⟩ => ⟨S384x1024, .bf16⟩
  | .local _ .vmem, ⟨4, _⟩ => ⟨S384x1024, .bf16⟩
  | .local _ .vmem, ⟨5, _⟩ => ⟨S384x1024, .bf16⟩
  | .local _ .vmem, ⟨6, _⟩ => ⟨S384x1024, .bf16⟩
  | .local _ .vmem, ⟨7, _⟩ => ⟨S384x1024, .bf16⟩
  | .local _ .vmem, ⟨8, _⟩ => ⟨S384x1024, .bf16⟩
  | .local _ .vmem, ⟨9, _⟩ => ⟨S384x1024, .bf16⟩
  | .local _ .vmem, ⟨10, _⟩ => ⟨S384x1024, .bf16⟩
  | .local _ .vmem, ⟨11, _⟩ => ⟨S384x1024, .bf16⟩
  | .local _ .vmem, ⟨12, _⟩ => ⟨S384x1024, .bf16⟩
  | .local _ .vmem, ⟨13, _⟩ => ⟨S384x1024, .bf16⟩
  | .local _ .vmem, ⟨14, _⟩ => ⟨S384x1024, .bf16⟩
  | .local _ .vmem, ⟨15, _⟩ => ⟨S384x1024, .bf16⟩
  | .local _ .vmem, ⟨16, _⟩ => ⟨S384x1024, .bf16⟩
  | .local _ .vmem, ⟨17, _⟩ => ⟨S384x1024, .bf16⟩
  | .local _ .vmem, ⟨18, _⟩ => ⟨S384x1024, .bf16⟩
  | .local _ .vmem, ⟨19, _⟩ => ⟨S384x1024, .bf16⟩
  | .local _ .vmem, ⟨20, _⟩ => ⟨S384x1024, .bf16⟩
  | .local _ .vmem, ⟨21, _⟩ => ⟨S384x1024, .bf16⟩
  | .local _ .vmem, ⟨22, _⟩ => ⟨S384x1024, .bf16⟩
  | .local _ .vmem, ⟨23, _⟩ => ⟨S384x1024, .bf16⟩
  | .local _ .vmem, ⟨24, _⟩ => ⟨S384x1024, .bf16⟩
  | .local _ .vmem, ⟨25, _⟩ => ⟨S384x1024, .bf16⟩
  | _, _ => ⟨S4224x6656, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev main_v5_4 : Ref sig .tc := ⟨.hbm, 14, rfl⟩
abbrev main_v5_5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S384x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S384x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S384x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S384x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S384x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S384x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S384x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference9Ideal.lean ====
abbrev S4224x6656 : Shape := ⟨2, ![4224, 6656]⟩
abbrev S4224x1024 : Shape := ⟨2, ![4224, 1024]⟩
abbrev S_ : Shape := ⟨0, ![]⟩

abbrev nBuf : Space → Nat
  | .hbm => 66
  | .vmem => 0
  | .smem => 0
  | _ => 0

abbrev bufTy : (tb : Table) → Fin (tcTables nBuf tb) → BufTy
  | .hbm, ⟨0, _⟩ => ⟨S4224x6656, .f32⟩
  | .hbm, ⟨1, _⟩ => ⟨S4224x1024, .f32⟩
  | .hbm, ⟨2, _⟩ => ⟨S4224x1024, .f32⟩
  | .hbm, ⟨3, _⟩ => ⟨S4224x1024, .f32⟩
  | .hbm, ⟨4, _⟩ => ⟨S4224x1024, .f32⟩
  | .hbm, ⟨5, _⟩ => ⟨S4224x1024, .f32⟩
  | .hbm, ⟨6, _⟩ => ⟨S4224x1024, .f32⟩
  | .hbm, ⟨7, _⟩ => ⟨S4224x1024, .f32⟩
  | .hbm, ⟨8, _⟩ => ⟨S4224x1024, .f32⟩
  | .hbm, ⟨9, _⟩ => ⟨S4224x1024, .f32⟩
  | .hbm, ⟨10, _⟩ => ⟨S_, .f32⟩
  | .hbm, ⟨11, _⟩ => ⟨S4224x1024, .f32⟩
  | .hbm, ⟨12, _⟩ => ⟨S4224x1024, .f32⟩
  | .hbm, ⟨13, _⟩ => ⟨S_, .f32⟩
  | .hbm, ⟨14, _⟩ => ⟨S4224x1024, .f32⟩
  | .hbm, ⟨15, _⟩ => ⟨S4224x1024, .f32⟩
  | .hbm, ⟨16, _⟩ => ⟨S_, .f32⟩
  | .hbm, ⟨17, _⟩ => ⟨S4224x1024, .f32⟩
  | .hbm, ⟨18, _⟩ => ⟨S4224x1024, .f32⟩
  | .hbm, ⟨19, _⟩ => ⟨S4224x1024, .f32⟩
  | .hbm, ⟨20, _⟩ => ⟨S4224x1024, .f32⟩
  | .hbm, ⟨21, _⟩ => ⟨S4224x1024, .f32⟩
  | .hbm, ⟨22, _⟩ => ⟨S4224x1024, .f32⟩
  | .hbm, ⟨23, _⟩ => ⟨S_, .f32⟩
  | .hbm, ⟨24, _⟩ => ⟨S4224x1024, .f32⟩
  | .hbm, ⟨25, _⟩ => ⟨S4224x1024, .f32⟩
  | .hbm, ⟨26, _⟩ => ⟨S_, .f32⟩
  | .hbm, ⟨27, _⟩ => ⟨S4224x1024, .f32⟩
  | .hbm, ⟨28, _⟩ => ⟨S4224x1024, .f32⟩
  | .hbm, ⟨29, _⟩ => ⟨S_, .f32⟩
  | .hbm, ⟨30, _⟩ => ⟨S4224x1024, .f32⟩
  | .hbm, ⟨31, _⟩ => ⟨S4224x1024, .f32⟩
  | .hbm, ⟨32, _⟩ => ⟨S4224x1024, .f32⟩
  | .hbm, ⟨33, _⟩ => ⟨S4224x1024, .f32⟩
  | .hbm, ⟨34, _⟩ => ⟨S4224x1024, .f32⟩
  | .hbm, ⟨35, _⟩ => ⟨S4224x1024, .f32⟩
  | .hbm, ⟨36, _⟩ => ⟨S4224x1024, .f32⟩
  | .hbm, ⟨37, _⟩ => ⟨S_, .f32⟩
  | .hbm, ⟨38, _⟩ => ⟨S4224x1024, .f32⟩
  | .hbm, ⟨39, _⟩ => ⟨S4224x1024, .f32⟩
  | .hbm, ⟨40, _⟩ => ⟨S_, .f32⟩
  | .hbm, ⟨41, _⟩ => ⟨S4224x1024, .f32⟩
  | .hbm, ⟨42, _⟩ => ⟨S4224x1024, .f32⟩
  | .hbm, ⟨43, _⟩ => ⟨S_, .f32⟩
  | .hbm, ⟨44, _⟩ => ⟨S4224x1024, .f32⟩
  | .hbm, ⟨45, _⟩ => ⟨S4224x1024, .f32⟩
  | .hbm, ⟨46, _⟩ => ⟨S4224x1024, .f32⟩
  | .hbm, ⟨47, _⟩ => ⟨S4224x1024, .f32⟩
  | .hbm, ⟨48, _⟩ => ⟨S4224x1024, .f32⟩
  | .hbm, ⟨49, _⟩ => ⟨S4224x1024, .f32⟩
  | .hbm, ⟨50, _⟩ => ⟨S4224x1024, .f32⟩
  | .hbm, ⟨51, _⟩ => ⟨S4224x1024, .f32⟩
  | .hbm, ⟨52, _⟩ => ⟨S4224x1024, .f32⟩
  | .hbm, ⟨53, _⟩ => ⟨S4224x1024, .f32⟩
  | .hbm, ⟨54, _⟩ => ⟨S4224x1024, .f32⟩
  | .hbm, ⟨55, _⟩ => ⟨S4224x1024, .f32⟩
  | .hbm, ⟨56, _⟩ => ⟨S4224x1024, .f32⟩
  | .hbm, ⟨57, _⟩ => ⟨S4224x1024, .f32⟩
  | .hbm, ⟨58, _⟩ => ⟨S4224x1024, .f32⟩
  | .hbm, ⟨59, _⟩ => ⟨S4224x1024, .f32⟩
  | .hbm, ⟨60, _⟩ => ⟨S4224x1024, .bf16⟩
  | .hbm, ⟨61, _⟩ => ⟨S4224x1024, .bf16⟩
  | .hbm, ⟨62, _⟩ => ⟨S4224x1024, .bf16⟩
  | .hbm, ⟨63, _⟩ => ⟨S4224x1024, .bf16⟩
  | .hbm, ⟨64, _⟩ => ⟨S4224x1024, .bf16⟩
  | .hbm, ⟨65, _⟩ => ⟨S4224x1024, .bf16⟩
  | _, _ => ⟨S4224x6656, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩

abbrev nD : Nat := 1
abbrev τ : Topo := Topo.v7x

variable {F : FTy → Type} [FloatOps F]
-- ==== Kernel10.lean ====
abbrev S4224x1024 : Shape := ⟨2, ![4224, 1024]⟩
abbrev S1024x1024 : Shape := ⟨2, ![1024, 1024]⟩
abbrev S1024x4224 : Shape := ⟨2, ![1024, 4224]⟩
abbrev S1024x1408 : Shape := ⟨2, ![1024, 1408]⟩
abbrev S1408x1024 : Shape := ⟨2, ![1408, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4224x1024, .f32⟩
  | .hbm, ⟨1, _⟩ => ⟨S1024x1024, .f32⟩
  | .hbm, ⟨2, _⟩ => ⟨S4224x1024, .f32⟩
  | .hbm, ⟨3, _⟩ => ⟨S4224x1024, .bf16⟩
  | .hbm, ⟨4, _⟩ => ⟨S1024x4224, .bf16⟩
  | .hbm, ⟨5, _⟩ => ⟨S1024x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1408x1024, .f32⟩
  | .local _ .vmem, ⟨3, _⟩ => ⟨S1408x1024, .f32⟩
  | .local _ .vmem, ⟨4, _⟩ => ⟨S1024x1024, .bf16⟩
  | .local _ .vmem, ⟨5, _⟩ => ⟨S1024x1024, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 3], ![false, false, false]⟩

def k0_cond3 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference10Ideal.lean ====
abbrev S4224x1024 : Shape := ⟨2, ![4224, 1024]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1024x1024, .f32⟩
  | .hbm, ⟨2, _⟩ => ⟨S4224x1024, .f32⟩
  | .hbm, ⟨3, _⟩ => ⟨S4224x1024, .f32⟩
  | .hbm, ⟨4, _⟩ => ⟨S1024x1024, .f32⟩
  | .hbm, ⟨5, _⟩ => ⟨S1024x1024, .f32⟩
  | .hbm, ⟨6, _⟩ => ⟨S4224x1024, .f32⟩
  | .hbm, ⟨7, _⟩ => ⟨S1024x1024, .bf16⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel11.lean ====
abbrev S4224x1024 : Shape := ⟨2, ![4224, 1024]⟩
abbrev S1024x1024 : Shape := ⟨2, ![1024, 1024]⟩
abbrev S1056x1024 : Shape := ⟨2, ![1056, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4224x1024, .f32⟩
  | .hbm, ⟨1, _⟩ => ⟨S1024x1024, .f32⟩
  | .hbm, ⟨2, _⟩ => ⟨S4224x1024, .f32⟩
  | .hbm, ⟨3, _⟩ => ⟨S1024x1024, .bf16⟩
  | .hbm, ⟨4, _⟩ => ⟨S4224x1024, .bf16⟩
  | .local _ .vmem, ⟨0, _⟩ => ⟨S1056x1024, .f32⟩
  | .local _ .vmem, ⟨1, _⟩ => ⟨S1056x1024, .f32⟩
  | .local _ .vmem, ⟨2, _⟩ => ⟨S1024x1024, .bf16⟩
  | .local _ .vmem, ⟨3, _⟩ => ⟨S1056x1024, .bf16⟩
  | .local _ .vmem, ⟨4, _⟩ => ⟨S1056x1024, .bf16⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1056x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4224x1024 : Shape := ⟨2, ![4224, 1024]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1024x1024, .f32⟩
  | .hbm, ⟨2, _⟩ => ⟨S4224x1024, .f32⟩
  | .hbm, ⟨3, _⟩ => ⟨S4224x1024, .f32⟩
  | .hbm, ⟨4, _⟩ => ⟨S1024x1024, .f32⟩
  | .hbm, ⟨5, _⟩ => ⟨S1024x1024, .f32⟩
  | .hbm, ⟨6, _⟩ => ⟨S4224x1024, .f32⟩
  | .hbm, ⟨7, _⟩ => ⟨S4224x1024, .bf16⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel12.lean ====
abbrev S4224x1024 : Shape := ⟨2, ![4224, 1024]⟩
abbrev S1024x4096 : Shape := ⟨2, ![1024, 4096]⟩
abbrev S4224x4096 : Shape := ⟨2, ![4224, 4096]⟩
abbrev S1056x1024 : Shape := ⟨2, ![1056, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4224x1024, .f32⟩
  | .hbm, ⟨1, _⟩ => ⟨S1024x4096, .f32⟩
  | .hbm, ⟨2, _⟩ => ⟨S4224x1024, .bf16⟩
  | .hbm, ⟨3, _⟩ => ⟨S1024x4096, .bf16⟩
  | .hbm, ⟨4, _⟩ => ⟨S4224x4096, .bf16⟩
  | .local _ .vmem, ⟨0, _⟩ => ⟨S1056x1024, .bf16⟩
  | .local _ .vmem, ⟨1, _⟩ => ⟨S1056x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1056x1024, .bf16⟩
  | .local _ .vmem, ⟨5, _⟩ => ⟨S1056x1024, .bf16⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1056x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4224x1024 : Shape := ⟨2, ![4224, 1024]⟩
abbrev S1024x4096 : Shape := ⟨2, ![1024, 4096]⟩
abbrev S4224x4096 : Shape := ⟨2, ![4224, 4096]⟩

abbrev nBuf : Space → Nat
  | .hbm => 4
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1024x4096, .f32⟩
  | .hbm, ⟨2, _⟩ => ⟨S4224x4096, .f32⟩
  | .hbm, ⟨3, _⟩ => ⟨S4224x4096, .bf16⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel13.lean ====
abbrev S4224x1024 : Shape := ⟨2, ![4224, 1024]⟩
abbrev S1024x6656 : Shape := ⟨2, ![1024, 6656]⟩
abbrev S4224x6656 : Shape := ⟨2, ![4224, 6656]⟩
abbrev S1056x1024 : Shape := ⟨2, ![1056, 1024]⟩
abbrev S1024x1664 : Shape := ⟨2, ![1024, 1664]⟩
abbrev S1056x1664 : Shape := ⟨2, ![1056, 1664]⟩

abbrev nBuf : Space → Nat
  | .hbm => 5
  | .vmem => 6
  | .smem => 0
  | _ => 0

abbrev bufTy : (tb : Table) → Fin (tcTables nBuf tb) → BufTy
  | .hbm, ⟨0, _⟩ => ⟨S4224x1024, .f32⟩
  | .hbm, ⟨1, _⟩ => ⟨S1024x6656, .f32⟩
  | .hbm, ⟨2, _⟩ => ⟨S4224x1024, .bf16⟩
  | .hbm, ⟨3, _⟩ => ⟨S1024x6656, .bf16⟩
  | .hbm, ⟨4, _⟩ => ⟨S4224x6656, .bf16⟩
  | .local _ .vmem, ⟨0, _⟩ => ⟨S1056x1024, .bf16⟩
  | .local _ .vmem, ⟨1, _⟩ => ⟨S1056x1024, .bf16⟩
  | .local _ .vmem, ⟨2, _⟩ => ⟨S1024x1664, .bf16⟩
  | .local _ .vmem, ⟨3, _⟩ => ⟨S1024x1664, .bf16⟩
  | .local _ .vmem, ⟨4, _⟩ => ⟨S1056x1664, .bf16⟩
  | .local _ .vmem, ⟨5, _⟩ => ⟨S1056x1664, .bf16⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1056x1664 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4224x1024 : Shape := ⟨2, ![4224, 1024]⟩
abbrev S1024x6656 : Shape := ⟨2, ![1024, 6656]⟩
abbrev S4224x6656 : Shape := ⟨2, ![4224, 6656]⟩

abbrev nBuf : Space → Nat
  | .hbm => 4
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1024x6656, .f32⟩
  | .hbm, ⟨2, _⟩ => ⟨S4224x6656, .f32⟩
  | .hbm, ⟨3, _⟩ => ⟨S4224x6656, .bf16⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel14.lean ====
abbrev S4224x4096 : Shape := ⟨2, ![4224, 4096]⟩
abbrev S4096x1024 : Shape := ⟨2, ![4096, 1024]⟩
abbrev S4224x1024 : Shape := ⟨2, ![4224, 1024]⟩
abbrev S1056x1024 : Shape := ⟨2, ![1056, 1024]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S4224x4096, .f32⟩
  | .hbm, ⟨1, _⟩ => ⟨S4096x1024, .f32⟩
  | .hbm, ⟨2, _⟩ => ⟨S4224x1024, .f32⟩
  | .hbm, ⟨3, _⟩ => ⟨S4224x4096, .bf16⟩
  | .hbm, ⟨4, _⟩ => ⟨S4096x1024, .bf16⟩
  | .hbm, ⟨5, _⟩ => ⟨S4224x1024, .f32⟩
  | .local _ .vmem, ⟨0, _⟩ => ⟨S1056x1024, .bf16⟩
  | .local _ .vmem, ⟨1, _⟩ => ⟨S1056x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1056x1024, .f32⟩
  | .local _ .vmem, ⟨5, _⟩ => ⟨S1056x1024, .f32⟩
  | .local _ .vmem, ⟨6, _⟩ => ⟨S1056x1024, .f32⟩
  | .local _ .vmem, ⟨7, _⟩ => ⟨S1056x1024, .f32⟩
  | .local _ .vmem, ⟨8, _⟩ => ⟨S1056x1024, .f32⟩
  | _, _ => ⟨S4224x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v16 : BitVec 1 := Scalar.cmpi .eq arg2 c3_i32
  let v17 : BitVec 32 := Scalar.extui v16
  let c0_i32_7 : BitVec 32 := 0#32
  let v18 : BitVec 1 := Scalar.cmpi .ne v17 c0_i32_7
  v18

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1056x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1056x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference14Ideal.lean ====
abbrev S4224x4096 : Shape := ⟨2, ![4224, 4096]⟩
abbrev S4096x1024 : Shape := ⟨2, ![4096, 1024]⟩
abbrev S4224x1024 : Shape := ⟨2, ![4224, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4224x4096, .f32⟩
  | .hbm, ⟨1, _⟩ => ⟨S4096x1024, .f32⟩
  | .hbm, ⟨2, _⟩ => ⟨S4224x1024, .f32⟩
  | .hbm, ⟨3, _⟩ => ⟨S_, .f32⟩
  | .hbm, ⟨4, _⟩ => ⟨S4224x4096, .f32⟩
  | .hbm, ⟨5, _⟩ => ⟨S4224x4096, .f32⟩
  | .hbm, ⟨6, _⟩ => ⟨S4224x4096, .f32⟩
  | .hbm, ⟨7, _⟩ => ⟨S4224x1024, .f32⟩
  | .hbm, ⟨8, _⟩ => ⟨S4224x1024, .f32⟩
  | _, _ => ⟨S4224x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩

abbrev nD : Nat := 1
abbrev τ : Topo := Topo.v7x

variable {F : FTy → Type} [FloatOps F]
-- ==== Kernel15.lean ====
abbrev S4224x1024 : Shape := ⟨2, ![4224, 1024]⟩
abbrev S1024x1024 : Shape := ⟨2, ![1024, 1024]⟩
abbrev S1056x1024 : Shape := ⟨2, ![1056, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4224x1024, .f32⟩
  | .hbm, ⟨1, _⟩ => ⟨S1024x1024, .f32⟩
  | .hbm, ⟨2, _⟩ => ⟨S4224x1024, .f32⟩
  | .hbm, ⟨3, _⟩ => ⟨S4224x1024, .bf16⟩
  | .hbm, ⟨4, _⟩ => ⟨S1024x1024, .bf16⟩
  | .hbm, ⟨5, _⟩ => ⟨S4224x1024, .f32⟩
  | .local _ .vmem, ⟨0, _⟩ => ⟨S1056x1024, .bf16⟩
  | .local _ .vmem, ⟨1, _⟩ => ⟨S1056x1024, .bf16⟩
  | .local _ .vmem, ⟨2, _⟩ => ⟨S1024x1024, .bf16⟩
  | .local _ .vmem, ⟨3, _⟩ => ⟨S1056x1024, .f32⟩
  | .local _ .vmem, ⟨4, _⟩ => ⟨S1056x1024, .f32⟩
  | .local _ .vmem, ⟨5, _⟩ => ⟨S1056x1024, .f32⟩
  | .local _ .vmem, ⟨6, _⟩ => ⟨S1056x1024, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1056x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1056x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference15Ideal.lean ====
abbrev S4224x1024 : Shape := ⟨2, ![4224, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1024x1024, .f32⟩
  | .hbm, ⟨2, _⟩ => ⟨S4224x1024, .f32⟩
  | .hbm, ⟨3, _⟩ => ⟨S4224x1024, .f32⟩
  | .hbm, ⟨4, _⟩ => ⟨S4224x1024, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel16.lean ====
abbrev S4224x6656 : Shape := ⟨2, ![4224, 6656]⟩
abbrev S4224x512 : Shape := ⟨2, ![4224, 512]⟩
abbrev S384x512 : Shape := ⟨2, ![384, 512]⟩
abbrev S384x1 : Shape := ⟨2, ![384, 1]⟩

abbrev nBuf : Space → Nat
  | .hbm => 5
  | .vmem => 10
  | .smem => 0
  | _ => 0

abbrev bufTy : (tb : Table) → Fin (tcTables nBuf tb) → BufTy
  | .hbm, ⟨0, _⟩ => ⟨S4224x6656, .f32⟩
  | .hbm, ⟨1, _⟩ => ⟨S4224x512, .f32⟩
  | .hbm, ⟨2, _⟩ => ⟨S4224x6656, .bf16⟩
  | .hbm, ⟨3, _⟩ => ⟨S4224x512, .bf16⟩
  | .hbm, ⟨4, _⟩ => ⟨S4224x512, .bf16⟩
  | .local _ .vmem, ⟨0, _⟩ => ⟨S384x512, .bf16⟩
  | .local _ .vmem, ⟨1, _⟩ => ⟨S384x512, .bf16⟩
  | .local _ .vmem, ⟨2, _⟩ => ⟨S384x512, .bf16⟩
  | .local _ .vmem, ⟨3, _⟩ => ⟨S384x512, .bf16⟩
  | .local _ .vmem, ⟨4, _⟩ => ⟨S384x512, .f32⟩
  | .local _ .vmem, ⟨5, _⟩ => ⟨S384x512, .f32⟩
  | .local _ .vmem, ⟨6, _⟩ => ⟨S384x512, .bf16⟩
  | .local _ .vmem, ⟨7, _⟩ => ⟨S384x512, .bf16⟩
  | .local _ .vmem, ⟨8, _⟩ => ⟨S384x512, .bf16⟩
  | .local _ .vmem, ⟨9, _⟩ => ⟨S384x512, .bf16⟩
  | _, _ => ⟨S4224x6656, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference16Ideal.lean ====
abbrev S4224x6656 : Shape := ⟨2, ![4224, 6656]⟩
abbrev S4224x512 : Shape := ⟨2, ![4224, 512]⟩
abbrev S4112x512 : Shape := ⟨2, ![4112, 512]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S4224x6656, .f32⟩
  | .hbm, ⟨1, _⟩ => ⟨S4224x512, .f32⟩
  | .hbm, ⟨2, _⟩ => ⟨S4112x512, .f32⟩
  | .hbm, ⟨3, _⟩ => ⟨S4112x512, .f32⟩
  | .hbm, ⟨4, _⟩ => ⟨S4112x512, .f32⟩
  | .hbm, ⟨5, _⟩ => ⟨S4112x512, .f32⟩
  | .hbm, ⟨6, _⟩ => ⟨S_, .f32⟩
  | .hbm, ⟨7, _⟩ => ⟨S4112x512, .f32⟩
  | .hbm, ⟨8, _⟩ => ⟨S4112x512, .f32⟩
  | .hbm, ⟨9, _⟩ => ⟨S_, .f32⟩
  | .hbm, ⟨10, _⟩ => ⟨S4112x512, .f32⟩
  | .hbm, ⟨11, _⟩ => ⟨S4112x512, .f32⟩
  | .hbm, ⟨12, _⟩ => ⟨S_, .f32⟩
  | .hbm, ⟨13, _⟩ => ⟨S4112x512, .f32⟩
  | .hbm, ⟨14, _⟩ => ⟨S4112x512, .f32⟩
  | .hbm, ⟨15, _⟩ => ⟨S4112x512, .f32⟩
  | .hbm, ⟨16, _⟩ => ⟨S4112x512, .f32⟩
  | .hbm, ⟨17, _⟩ => ⟨S4112x512, .f32⟩
  | .hbm, ⟨18, _⟩ => ⟨S4112x512, .f32⟩
  | .hbm, ⟨19, _⟩ => ⟨S4112x512, .f32⟩
  | .hbm, ⟨20, _⟩ => ⟨S4112x512, .f32⟩
  | .hbm, ⟨21, _⟩ => ⟨S_, .i32⟩
  | .hbm, ⟨22, _⟩ => ⟨S_, .f32⟩
  | .hbm, ⟨23, _⟩ => ⟨S4224x512, .f32⟩
  | .hbm, ⟨24, _⟩ => ⟨S4224x512, .bf16⟩
  | .hbm, ⟨25, _⟩ => ⟨S_, .i32⟩
  | .hbm, ⟨26, _⟩ => ⟨S_, .f32⟩
  | .hbm, ⟨27, _⟩ => ⟨S4224x512, .f32⟩
  | .hbm, ⟨28, _⟩ => ⟨S4224x512, .bf16⟩
  | _, _ => ⟨S4224x6656, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_c : Ref sig .tc := ⟨.hbm, 21, rfl⟩
abbrev main_call0_v0 : Ref sig .tc := ⟨.hbm, 22, rfl⟩
abbrev main_v16 : Ref sig .tc := ⟨.hbm, 23, rfl⟩
abbrev main_v17 : Ref sig .tc := ⟨.hbm, 24, rfl⟩
abbrev main_c_2 : Ref sig .tc := ⟨.hbm, 25, rfl⟩
abbrev main_call1_v0 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== Kernel17.lean ====
abbrev S4224x512 : Shape := ⟨2, ![4224, 512]⟩
abbrev S512 : Shape := ⟨1, ![512]⟩
abbrev S1x512 : Shape := ⟨2, ![1, 512]⟩
abbrev S384x512 : Shape := ⟨2, ![384, 512]⟩
abbrev S384 : Shape := ⟨1, ![384]⟩
abbrev S384x1 : Shape := ⟨2, ![384, 1]⟩

abbrev nBuf : Space → Nat
  | .hbm => 10
  | .vmem => 10
  | .smem => 0
  | _ => 0

abbrev bufTy : (tb : Table) → Fin (tcTables nBuf tb) → BufTy
  | .hbm, ⟨0, _⟩ => ⟨S4224x512, .f32⟩
  | .hbm, ⟨1, _⟩ => ⟨S512, .f32⟩
  | .hbm, ⟨2, _⟩ => ⟨S512, .f32⟩
  | .hbm, ⟨3, _⟩ => ⟨S4224x512, .f32⟩
  | .hbm, ⟨4, _⟩ => ⟨S4224x512, .bf16⟩
  | .hbm, ⟨5, _⟩ => ⟨S1x512, .f32⟩
  | .hbm, ⟨6, _⟩ => ⟨S1x512, .f32⟩
  | .hbm, ⟨7, _⟩ => ⟨S4224x512, .f32⟩
  | .hbm, ⟨8, _⟩ => ⟨S1x512, .f32⟩
  | .hbm, ⟨9, _⟩ => ⟨S1x512, .f32⟩
  | .local _ .vmem, ⟨0, _⟩ => ⟨S384x512, .f32⟩
  | .local _ .vmem, ⟨1, _⟩ => ⟨S384x512, .f32⟩
  | .local _ .vmem, ⟨2, _⟩ => ⟨S1x512, .f32⟩
  | .local _ .vmem, ⟨3, _⟩ => ⟨S1x512, .f32⟩
  | .local _ .vmem, ⟨4, _⟩ => ⟨S384x512, .bf16⟩
  | .local _ .vmem, ⟨5, _⟩ => ⟨S384x512, .bf16⟩
  | .local _ .vmem, ⟨6, _⟩ => ⟨S384x512, .f32⟩
  | .local _ .vmem, ⟨7, _⟩ => ⟨S384x512, .f32⟩
  | .local _ .vmem, ⟨8, _⟩ => ⟨S1x512, .f32⟩
  | .local _ .vmem, ⟨9, _⟩ => ⟨S1x512, .f32⟩
  | _, _ => ⟨S4224x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S384x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference17Ideal.lean ====
abbrev S4224x512 : Shape := ⟨2, ![4224, 512]⟩
abbrev S512 : Shape := ⟨1, ![512]⟩
abbrev S_ : Shape := ⟨0, ![]⟩
abbrev S4224 : Shape := ⟨1, ![4224]⟩
abbrev S4224x1 : Shape := ⟨2, ![4224, 1]⟩
abbrev S1x512 : Shape := ⟨2, ![1, 512]⟩

abbrev nBuf : Space → Nat
  | .hbm => 95
  | .vmem => 0
  | .smem => 0
  | _ => 0

abbrev bufTy : (tb : Table) → Fin (tcTables nBuf tb) → BufTy
  | .hbm, ⟨0, _⟩ => ⟨S4224x512, .f32⟩
  | .hbm, ⟨1, _⟩ => ⟨S512, .f32⟩
  | .hbm, ⟨2, _⟩ => ⟨S512, .f32⟩
  | .hbm, ⟨3, _⟩ => ⟨S4224x512, .f32⟩
  | .hbm, ⟨4, _⟩ => ⟨S_, .f32⟩
  | .hbm, ⟨5, _⟩ => ⟨S4224, .f32⟩
  | .hbm, ⟨6, _⟩ => ⟨S4224x1, .f32⟩
  | .hbm, ⟨7, _⟩ => ⟨S_, .f32⟩
  | .hbm, ⟨8, _⟩ => ⟨S4224x1, .f32⟩
  | .hbm, ⟨9, _⟩ => ⟨S4224x1, .f32⟩
  | .hbm, ⟨10, _⟩ => ⟨S4224x512, .f32⟩
  | .hbm, ⟨11, _⟩ => ⟨S4224x512, .f32⟩
  | .hbm, ⟨12, _⟩ => ⟨S4224x512, .f32⟩
  | .hbm, ⟨13, _⟩ => ⟨S_, .f32⟩
  | .hbm, ⟨14, _⟩ => ⟨S4224, .f32⟩
  | .hbm, ⟨15, _⟩ => ⟨S4224x1, .f32⟩
  | .hbm, ⟨16, _⟩ => ⟨S_, .f32⟩
  | .hbm, ⟨17, _⟩ => ⟨S4224x1, .f32⟩
  | .hbm, ⟨18, _⟩ => ⟨S4224x1, .f32⟩
  | .hbm, ⟨19, _⟩ => ⟨S_, .f32⟩
  | .hbm, ⟨20, _⟩ => ⟨S4224x1, .f32⟩
  | .hbm, ⟨21, _⟩ => ⟨S4224x1, .f32⟩
  | .hbm, ⟨22, _⟩ => ⟨S4224x1, .f32⟩
  | .hbm, ⟨23, _⟩ => ⟨S4224x1, .f32⟩
  | .hbm, ⟨24, _⟩ => ⟨S_, .f32⟩
  | .hbm, ⟨25, _⟩ => ⟨S4224x1, .f32⟩
  | .hbm, ⟨26, _⟩ => ⟨S4224x1, .f32⟩
  | .hbm, ⟨27, _⟩ => ⟨S4224x512, .f32⟩
  | .hbm, ⟨28, _⟩ => ⟨S4224x512, .f32⟩
  | .hbm, ⟨29, _⟩ => ⟨S1x512, .f32⟩
  | .hbm, ⟨30, _⟩ => ⟨S4224x512, .f32⟩
  | .hbm, ⟨31, _⟩ => ⟨S4224x512, .f32⟩
  | .hbm, ⟨32, _⟩ => ⟨S1x512, .f32⟩
  | .hbm, ⟨33, _⟩ => ⟨S4224x512, .f32⟩
  | .hbm, ⟨34, _⟩ => ⟨S4224x512, .f32⟩
  | .hbm, ⟨35, _⟩ => ⟨S4224x512, .f32⟩
  | .hbm, ⟨36, _⟩ => ⟨S4224x512, .f32⟩
  | .hbm, ⟨37, _⟩ => ⟨S_, .f32⟩
  | .hbm, ⟨38, _⟩ => ⟨S4224x512, .f32⟩
  | .hbm, ⟨39, _⟩ => ⟨S4224x512, .f32⟩
  | .hbm, ⟨40, _⟩ => ⟨S_, .f32⟩
  | .hbm, ⟨41, _⟩ => ⟨S4224x512, .f32⟩
  | .hbm, ⟨42, _⟩ => ⟨S4224x512, .f32⟩
  | .hbm, ⟨43, _⟩ => ⟨S_, .f32⟩
  | .hbm, ⟨44, _⟩ => ⟨S4224x512, .f32⟩
  | .hbm, ⟨45, _⟩ => ⟨S4224x512, .f32⟩
  | .hbm, ⟨46, _⟩ => ⟨S4224x512, .f32⟩
  | .hbm, ⟨47, _⟩ => ⟨S4224x512, .f32⟩
  | .hbm, ⟨48, _⟩ => ⟨S4224x512, .f32⟩
  | .hbm, ⟨49, _⟩ => ⟨S4224x512, .f32⟩
  | .hbm, ⟨50, _⟩ => ⟨S4224x512, .f32⟩
  | .hbm, ⟨51, _⟩ => ⟨S4224x512, .f32⟩
  | .hbm, ⟨52, _⟩ => ⟨S_, .f32⟩
  | .hbm, ⟨53, _⟩ => ⟨S512, .f32⟩
  | .hbm, ⟨54, _⟩ => ⟨S1x512, .f32⟩
  | .hbm, ⟨55, _⟩ => ⟨S_, .f32⟩
  | .hbm, ⟨56, _⟩ => ⟨S512, .f32⟩
  | .hbm, ⟨57, _⟩ => ⟨S4224x512, .f32⟩
  | .hbm, ⟨58, _⟩ => ⟨S_, .f32⟩
  | .hbm, ⟨59, _⟩ => ⟨S512, .f32⟩
  | .hbm, ⟨60, _⟩ => ⟨S1x512, .f32⟩
  | .hbm, ⟨61, _⟩ => ⟨S4224x512, .f32⟩
  | .hbm, ⟨62, _⟩ => ⟨S4224x512, .f32⟩
  | .hbm, ⟨63, _⟩ => ⟨S_, .f32⟩
  | .hbm, ⟨64, _⟩ => ⟨S512, .f32⟩
  | .hbm, ⟨65, _⟩ => ⟨S4224x512, .f32⟩
  | .hbm, ⟨66, _⟩ => ⟨S_, .f32⟩
  | .hbm, ⟨67, _⟩ => ⟨S4224, .f32⟩
  | .hbm, ⟨68, _⟩ => ⟨S4224x1, .f32⟩
  | .hbm, ⟨69, _⟩ => ⟨S4224x512, .f32⟩
  | .hbm, ⟨70, _⟩ => ⟨S4224x512, .f32⟩
  | .hbm, ⟨71, _⟩ => ⟨S4224x1, .f32⟩
  | .hbm, ⟨72, _⟩ => ⟨S_, .f32⟩
  | .hbm, ⟨73, _⟩ => ⟨S4224x1, .f32⟩
  | .hbm, ⟨74, _⟩ => ⟨S4224x1, .f32⟩
  | .hbm, ⟨75, _⟩ => ⟨S_, .f32⟩
  | .hbm, ⟨76, _⟩ => ⟨S4224, .f32⟩
  | .hbm, ⟨77, _⟩ => ⟨S4224x512, .f32⟩
  | .hbm, ⟨78, _⟩ => ⟨S4224x512, .f32⟩
  | .hbm, ⟨79, _⟩ => ⟨S4224x512, .f32⟩
  | .hbm, ⟨80, _⟩ => ⟨S4224x512, .f32⟩
  | .hbm, ⟨81, _⟩ => ⟨S4224x512, .f32⟩
  | .hbm, ⟨82, _⟩ => ⟨S4224x512, .f32⟩
  | .hbm, ⟨83, _⟩ => ⟨S_, .f32⟩
  | .hbm, ⟨84, _⟩ => ⟨S4224, .f32⟩
  | .hbm, ⟨85, _⟩ => ⟨S4224x1, .f32⟩
  | .hbm, ⟨86, _⟩ => ⟨S_, .f32⟩
  | .hbm, ⟨87, _⟩ => ⟨S4224x1, .f32⟩
  | .hbm, ⟨88, _⟩ => ⟨S4224x1, .f32⟩
  | .hbm, ⟨89, _⟩ => ⟨S_, .f32⟩
  | .hbm, ⟨90, _⟩ => ⟨S4224, .f32⟩
  | .hbm, ⟨91, _⟩ => ⟨S4224x512, .f32⟩
  | .hbm, ⟨92, _⟩ => ⟨S4224x512, .f32⟩
  | .hbm, ⟨93, _⟩ => ⟨S1x512, .f32⟩
  | .hbm, ⟨94, _⟩ => ⟨S1x512, .f32⟩
  | _, _ => ⟨S4224x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_v25_2 : Ref sig .tc := ⟨.hbm, 42, rfl⟩
abbrev main_call0_cst_1 : Ref sig .tc := ⟨.hbm, 43, rfl⟩
abbrev main_call0_v6 : Ref sig .tc := ⟨.hbm, 44, rfl⟩
abbrev main_call0_v7 : Ref sig .tc := ⟨.hbm, 45, rfl⟩
abbrev main_v25_1 : Ref sig .tc := ⟨.hbm, 46, rfl⟩
abbrev main_v25_0 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v26 : Ref sig .tc := ⟨.hbm, 51, rfl⟩
abbrev main_cst_5 : Ref sig .tc := ⟨.hbm, 52, rfl⟩
abbrev main_v27 : Ref sig .tc := ⟨.hbm, 53, rfl⟩
abbrev main_v28 : Ref sig .tc := ⟨.hbm, 54, rfl⟩
abbrev main_cst_6 : Ref sig .tc := ⟨.hbm, 55, rfl⟩
abbrev main_v29 : Ref sig .tc := ⟨.hbm, 56, rfl⟩
abbrev main_v30 : Ref sig .tc := ⟨.hbm, 57, rfl⟩
abbrev main_cst_7 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_cst_8 : Ref sig .tc := ⟨.hbm, 63, rfl⟩
abbrev main_v35 : Ref sig .tc := ⟨.hbm, 64, rfl⟩
abbrev main_v36 : Ref sig .tc := ⟨.hbm, 65, rfl⟩
abbrev main_cst_9 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_cst_10 : Ref sig .tc := ⟨.hbm, 72, rfl⟩
abbrev main_v42 : Ref sig .tc := ⟨.hbm, 73, rfl⟩
abbrev main_v43 : Ref sig .tc := ⟨.hbm, 74, rfl⟩
abbrev main_cst_11 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_cst_12 : Ref sig .tc := ⟨.hbm, 83, rfl⟩
abbrev main_v51 : Ref sig .tc := ⟨.hbm, 84, rfl⟩
abbrev main_v52 : Ref sig .tc := ⟨.hbm, 85, rfl⟩
abbrev main_cst_13 : Ref sig .tc := ⟨.hbm, 86, rfl⟩
abbrev main_v53 : Ref sig .tc := ⟨.hbm, 87, rfl⟩
abbrev main_v54 : Ref sig .tc := ⟨.hbm, 88, rfl⟩
abbrev main_cst_14 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩

abbrev nD : Nat := 1
abbrev τ : Topo := Topo.v7x

variable {F : FTy → Type} [FloatOps F]
-- ==== Kernel18.lean ====
abbrev S4224x512 : Shape := ⟨2, ![4224, 512]⟩
abbrev S512x1024 : Shape := ⟨2, ![512, 1024]⟩
abbrev S4224x1024 : Shape := ⟨2, ![4224, 1024]⟩
abbrev S1056x512 : Shape := ⟨2, ![1056, 512]⟩
abbrev S1056x1024 : Shape := ⟨2, ![1056, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4224x512, .f32⟩
  | .hbm, ⟨1, _⟩ => ⟨S512x1024, .f32⟩
  | .hbm, ⟨2, _⟩ => ⟨S4224x512, .bf16⟩
  | .hbm, ⟨3, _⟩ => ⟨S512x1024, .bf16⟩
  | .hbm, ⟨4, _⟩ => ⟨S4224x1024, .bf16⟩
  | .local _ .vmem, ⟨0, _⟩ => ⟨S1056x512, .bf16⟩
  | .local _ .vmem, ⟨1, _⟩ => ⟨S1056x512, .bf16⟩
  | .local _ .vmem, ⟨2, _⟩ => ⟨S512x1024, .bf16⟩
  | .local _ .vmem, ⟨3, _⟩ => ⟨S1056x1024, .bf16⟩
  | .local _ .vmem, ⟨4, _⟩ => ⟨S1056x1024, .bf16⟩
  | _, _ => ⟨S4224x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1056x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S4224x512 : Shape := ⟨2, ![4224, 512]⟩
abbrev S512x1024 : Shape := ⟨2, ![512, 1024]⟩
abbrev S4224x1024 : Shape := ⟨2, ![4224, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4224x512, .f32⟩
  | .hbm, ⟨1, _⟩ => ⟨S512x1024, .f32⟩
  | .hbm, ⟨2, _⟩ => ⟨S4224x1024, .f32⟩
  | .hbm, ⟨3, _⟩ => ⟨S4224x1024, .bf16⟩
  | _, _ => ⟨S4224x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel19.lean ====
abbrev S4224x512 : Shape := ⟨2, ![4224, 512]⟩
abbrev S512x1024 : Shape := ⟨2, ![512, 1024]⟩
abbrev S4224x1024 : Shape := ⟨2, ![4224, 1024]⟩
abbrev S1056x1024 : Shape := ⟨2, ![1056, 1024]⟩
abbrev S1056x512 : Shape := ⟨2, ![1056, 512]⟩

abbrev nBuf : Space → Nat
  | .hbm => 6
  | .vmem => 5
  | .smem => 0
  | _ => 0

abbrev bufTy : (tb : Table) → Fin (tcTables nBuf tb) → BufTy
  | .hbm, ⟨0, _⟩ => ⟨S4224x512, .f32⟩
  | .hbm, ⟨1, _⟩ => ⟨S512x1024, .f32⟩
  | .hbm, ⟨2, _⟩ => ⟨S4224x1024, .f32⟩
  | .hbm, ⟨3, _⟩ => ⟨S4224x1024, .bf16⟩
  | .hbm, ⟨4, _⟩ => ⟨S512x1024, .bf16⟩
  | .hbm, ⟨5, _⟩ => ⟨S4224x512, .bf16⟩
  | .local _ .vmem, ⟨0, _⟩ => ⟨S1056x1024, .bf16⟩
  | .local _ .vmem, ⟨1, _⟩ => ⟨S1056x1024, .bf16⟩
  | .local _ .vmem, ⟨2, _⟩ => ⟨S512x1024, .bf16⟩
  | .local _ .vmem, ⟨3, _⟩ => ⟨S1056x512, .bf16⟩
  | .local _ .vmem, ⟨4, _⟩ => ⟨S1056x512, .bf16⟩
  | _, _ => ⟨S4224x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1056x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S4224x512 : Shape := ⟨2, ![4224, 512]⟩
abbrev S512x1024 : Shape := ⟨2, ![512, 1024]⟩
abbrev S4224x1024 : Shape := ⟨2, ![4224, 1024]⟩
abbrev S1024x512 : Shape := ⟨2, ![1024, 512]⟩

abbrev nBuf : Space → Nat
  | .hbm => 8
  | .vmem => 0
  | .smem => 0
  | _ => 0

abbrev bufTy : (tb : Table) → Fin (tcTables nBuf tb) → BufTy
  | .hbm, ⟨0, _⟩ => ⟨S4224x512, .f32⟩
  | .hbm, ⟨1, _⟩ => ⟨S512x1024, .f32⟩
  | .hbm, ⟨2, _⟩ => ⟨S4224x1024, .f32⟩
  | .hbm, ⟨3, _⟩ => ⟨S4224x1024, .f32⟩
  | .hbm, ⟨4, _⟩ => ⟨S1024x512, .f32⟩
  | .hbm, ⟨5, _⟩ => ⟨S512x1024, .f32⟩
  | .hbm, ⟨6, _⟩ => ⟨S4224x512, .f32⟩
  | .hbm, ⟨7, _⟩ => ⟨S4224x512, .bf16⟩
  | _, _ => ⟨S4224x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel20.lean ====
abbrev S4224x512 : Shape := ⟨2, ![4224, 512]⟩
abbrev S512x1024 : Shape := ⟨2, ![512, 1024]⟩
abbrev S4224x1024 : Shape := ⟨2, ![4224, 1024]⟩
abbrev S1056x512 : Shape := ⟨2, ![1056, 512]⟩
abbrev S1056x1024 : Shape := ⟨2, ![1056, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4224x512, .f32⟩
  | .hbm, ⟨1, _⟩ => ⟨S512x1024, .f32⟩
  | .hbm, ⟨2, _⟩ => ⟨S4224x1024, .f32⟩
  | .hbm, ⟨3, _⟩ => ⟨S4224x512, .bf16⟩
  | .hbm, ⟨4, _⟩ => ⟨S4224x1024, .bf16⟩
  | .hbm, ⟨5, _⟩ => ⟨S512x1024, .bf16⟩
  | .local _ .vmem, ⟨0, _⟩ => ⟨S1056x512, .bf16⟩
  | .local _ .vmem, ⟨1, _⟩ => ⟨S1056x512, .bf16⟩
  | .local _ .vmem, ⟨2, _⟩ => ⟨S1056x1024, .bf16⟩
  | .local _ .vmem, ⟨3, _⟩ => ⟨S1056x1024, .bf16⟩
  | .local _ .vmem, ⟨4, _⟩ => ⟨S512x1024, .bf16⟩
  | .local _ .vmem, ⟨5, _⟩ => ⟨S512x1024, .f32⟩
  | _, _ => ⟨S4224x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1056x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference20Ideal.lean ====
abbrev S4224x512 : Shape := ⟨2, ![4224, 512]⟩
abbrev S512x1024 : Shape := ⟨2, ![512, 1024]⟩
abbrev S4224x1024 : Shape := ⟨2, ![4224, 1024]⟩
abbrev S1024x512 : Shape := ⟨2, ![1024, 512]⟩

abbrev nBuf : Space → Nat
  | .hbm => 8
  | .vmem => 0
  | .smem => 0
  | _ => 0

abbrev bufTy : (tb : Table) → Fin (tcTables nBuf tb) → BufTy
  | .hbm, ⟨0, _⟩ => ⟨S4224x512, .f32⟩
  | .hbm, ⟨1, _⟩ => ⟨S512x1024, .f32⟩
  | .hbm, ⟨2, _⟩ => ⟨S4224x1024, .f32⟩
  | .hbm, ⟨3, _⟩ => ⟨S4224x1024, .f32⟩
  | .hbm, ⟨4, _⟩ => ⟨S1024x512, .f32⟩
  | .hbm, ⟨5, _⟩ => ⟨S512x1024, .f32⟩
  | .hbm, ⟨6, _⟩ => ⟨S4224x512, .f32⟩
  | .hbm, ⟨7, _⟩ => ⟨S512x1024, .bf16⟩
  | _, _ => ⟨S4224x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel21.lean ====
abbrev S4224x1024 : Shape := ⟨2, ![4224, 1024]⟩
abbrev S1024x1024 : Shape := ⟨2, ![1024, 1024]⟩
abbrev S1056x1024 : Shape := ⟨2, ![1056, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4224x1024, .f32⟩
  | .hbm, ⟨1, _⟩ => ⟨S1024x1024, .f32⟩
  | .hbm, ⟨2, _⟩ => ⟨S4224x1024, .bf16⟩
  | .hbm, ⟨3, _⟩ => ⟨S1024x1024, .bf16⟩
  | .hbm, ⟨4, _⟩ => ⟨S4224x1024, .bf16⟩
  | .local _ .vmem, ⟨0, _⟩ => ⟨S1056x1024, .bf16⟩
  | .local _ .vmem, ⟨1, _⟩ => ⟨S1056x1024, .bf16⟩
  | .local _ .vmem, ⟨2, _⟩ => ⟨S1024x1024, .bf16⟩
  | .local _ .vmem, ⟨3, _⟩ => ⟨S1056x1024, .bf16⟩
  | .local _ .vmem, ⟨4, _⟩ => ⟨S1056x1024, .bf16⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1056x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S4224x1024 : Shape := ⟨2, ![4224, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1024x1024, .f32⟩
  | .hbm, ⟨2, _⟩ => ⟨S4224x1024, .f32⟩
  | .hbm, ⟨3, _⟩ => ⟨S4224x1024, .bf16⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel22.lean ====
abbrev S4224x1024 : Shape := ⟨2, ![4224, 1024]⟩
abbrev S1024x1024 : Shape := ⟨2, ![1024, 1024]⟩
abbrev S1056x1024 : Shape := ⟨2, ![1056, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4224x1024, .f32⟩
  | .hbm, ⟨1, _⟩ => ⟨S1024x1024, .f32⟩
  | .hbm, ⟨2, _⟩ => ⟨S4224x1024, .f32⟩
  | .hbm, ⟨3, _⟩ => ⟨S4224x1024, .bf16⟩
  | .hbm, ⟨4, _⟩ => ⟨S1024x1024, .bf16⟩
  | .hbm, ⟨5, _⟩ => ⟨S4224x1024, .bf16⟩
  | .local _ .vmem, ⟨0, _⟩ => ⟨S1056x1024, .bf16⟩
  | .local _ .vmem, ⟨1, _⟩ => ⟨S1056x1024, .bf16⟩
  | .local _ .vmem, ⟨2, _⟩ => ⟨S1024x1024, .bf16⟩
  | .local _ .vmem, ⟨3, _⟩ => ⟨S1056x1024, .bf16⟩
  | .local _ .vmem, ⟨4, _⟩ => ⟨S1056x1024, .bf16⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1056x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference22Ideal.lean ====
abbrev S4224x1024 : Shape := ⟨2, ![4224, 1024]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1024x1024, .f32⟩
  | .hbm, ⟨2, _⟩ => ⟨S4224x1024, .f32⟩
  | .hbm, ⟨3, _⟩ => ⟨S4224x1024, .f32⟩
  | .hbm, ⟨4, _⟩ => ⟨S1024x1024, .f32⟩
  | .hbm, ⟨5, _⟩ => ⟨S1024x1024, .f32⟩
  | .hbm, ⟨6, _⟩ => ⟨S4224x1024, .f32⟩
  | .hbm, ⟨7, _⟩ => ⟨S4224x1024, .bf16⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel23.lean ====
abbrev S4224x1024 : Shape := ⟨2, ![4224, 1024]⟩
abbrev S1024x1024 : Shape := ⟨2, ![1024, 1024]⟩
abbrev S1056x1024 : Shape := ⟨2, ![1056, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4224x1024, .f32⟩
  | .hbm, ⟨1, _⟩ => ⟨S1024x1024, .f32⟩
  | .hbm, ⟨2, _⟩ => ⟨S4224x1024, .f32⟩
  | .hbm, ⟨3, _⟩ => ⟨S4224x1024, .bf16⟩
  | .hbm, ⟨4, _⟩ => ⟨S4224x1024, .bf16⟩
  | .hbm, ⟨5, _⟩ => ⟨S1024x1024, .bf16⟩
  | .local _ .vmem, ⟨0, _⟩ => ⟨S1056x1024, .bf16⟩
  | .local _ .vmem, ⟨1, _⟩ => ⟨S1056x1024, .bf16⟩
  | .local _ .vmem, ⟨2, _⟩ => ⟨S1056x1024, .bf16⟩
  | .local _ .vmem, ⟨3, _⟩ => ⟨S1056x1024, .bf16⟩
  | .local _ .vmem, ⟨4, _⟩ => ⟨S1024x1024, .bf16⟩
  | .local _ .vmem, ⟨5, _⟩ => ⟨S1024x1024, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1056x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference23Ideal.lean ====
abbrev S4224x1024 : Shape := ⟨2, ![4224, 1024]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1024x1024, .f32⟩
  | .hbm, ⟨2, _⟩ => ⟨S4224x1024, .f32⟩
  | .hbm, ⟨3, _⟩ => ⟨S4224x1024, .f32⟩
  | .hbm, ⟨4, _⟩ => ⟨S1024x1024, .f32⟩
  | .hbm, ⟨5, _⟩ => ⟨S1024x1024, .f32⟩
  | .hbm, ⟨6, _⟩ => ⟨S4224x1024, .f32⟩
  | .hbm, ⟨7, _⟩ => ⟨S1024x1024, .bf16⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel24.lean ====
abbrev S4224x512 : Shape := ⟨2, ![4224, 512]⟩
abbrev S512x1024 : Shape := ⟨2, ![512, 1024]⟩
abbrev S4224x1024 : Shape := ⟨2, ![4224, 1024]⟩
abbrev S1056x512 : Shape := ⟨2, ![1056, 512]⟩
abbrev S1056x1024 : Shape := ⟨2, ![1056, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4224x512, .f32⟩
  | .hbm, ⟨1, _⟩ => ⟨S512x1024, .f32⟩
  | .hbm, ⟨2, _⟩ => ⟨S4224x512, .bf16⟩
  | .hbm, ⟨3, _⟩ => ⟨S512x1024, .bf16⟩
  | .hbm, ⟨4, _⟩ => ⟨S4224x1024, .bf16⟩
  | .local _ .vmem, ⟨0, _⟩ => ⟨S1056x512, .bf16⟩
  | .local _ .vmem, ⟨1, _⟩ => ⟨S1056x512, .bf16⟩
  | .local _ .vmem, ⟨2, _⟩ => ⟨S512x1024, .bf16⟩
  | .local _ .vmem, ⟨3, _⟩ => ⟨S1056x1024, .bf16⟩
  | .local _ .vmem, ⟨4, _⟩ => ⟨S1056x1024, .bf16⟩
  | _, _ => ⟨S4224x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1056x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference24Ideal.lean ====
abbrev S4224x512 : Shape := ⟨2, ![4224, 512]⟩
abbrev S512x1024 : Shape := ⟨2, ![512, 1024]⟩
abbrev S4224x1024 : Shape := ⟨2, ![4224, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4224x512, .f32⟩
  | .hbm, ⟨1, _⟩ => ⟨S512x1024, .f32⟩
  | .hbm, ⟨2, _⟩ => ⟨S4224x1024, .f32⟩
  | .hbm, ⟨3, _⟩ => ⟨S4224x1024, .bf16⟩
  | _, _ => ⟨S4224x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel25.lean ====
abbrev S4224x512 : Shape := ⟨2, ![4224, 512]⟩
abbrev S512x1024 : Shape := ⟨2, ![512, 1024]⟩
abbrev S4224x1024 : Shape := ⟨2, ![4224, 1024]⟩
abbrev S1056x1024 : Shape := ⟨2, ![1056, 1024]⟩
abbrev S1056x512 : Shape := ⟨2, ![1056, 512]⟩

abbrev nBuf : Space → Nat
  | .hbm => 6
  | .vmem => 5
  | .smem => 0
  | _ => 0

abbrev bufTy : (tb : Table) → Fin (tcTables nBuf tb) → BufTy
  | .hbm, ⟨0, _⟩ => ⟨S4224x512, .f32⟩
  | .hbm, ⟨1, _⟩ => ⟨S512x1024, .f32⟩
  | .hbm, ⟨2, _⟩ => ⟨S4224x1024, .f32⟩
  | .hbm, ⟨3, _⟩ => ⟨S4224x1024, .bf16⟩
  | .hbm, ⟨4, _⟩ => ⟨S512x1024, .bf16⟩
  | .hbm, ⟨5, _⟩ => ⟨S4224x512, .bf16⟩
  | .local _ .vmem, ⟨0, _⟩ => ⟨S1056x1024, .bf16⟩
  | .local _ .vmem, ⟨1, _⟩ => ⟨S1056x1024, .bf16⟩
  | .local _ .vmem, ⟨2, _⟩ => ⟨S512x1024, .bf16⟩
  | .local _ .vmem, ⟨3, _⟩ => ⟨S1056x512, .bf16⟩
  | .local _ .vmem, ⟨4, _⟩ => ⟨S1056x512, .bf16⟩
  | _, _ => ⟨S4224x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1056x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference25Ideal.lean ====
abbrev S4224x512 : Shape := ⟨2, ![4224, 512]⟩
abbrev S512x1024 : Shape := ⟨2, ![512, 1024]⟩
abbrev S4224x1024 : Shape := ⟨2, ![4224, 1024]⟩
abbrev S1024x512 : Shape := ⟨2, ![1024, 512]⟩

abbrev nBuf : Space → Nat
  | .hbm => 8
  | .vmem => 0
  | .smem => 0
  | _ => 0

abbrev bufTy : (tb : Table) → Fin (tcTables nBuf tb) → BufTy
  | .hbm, ⟨0, _⟩ => ⟨S4224x512, .f32⟩
  | .hbm, ⟨1, _⟩ => ⟨S512x1024, .f32⟩
  | .hbm, ⟨2, _⟩ => ⟨S4224x1024, .f32⟩
  | .hbm, ⟨3, _⟩ => ⟨S4224x1024, .f32⟩
  | .hbm, ⟨4, _⟩ => ⟨S1024x512, .f32⟩
  | .hbm, ⟨5, _⟩ => ⟨S512x1024, .f32⟩
  | .hbm, ⟨6, _⟩ => ⟨S4224x512, .f32⟩
  | .hbm, ⟨7, _⟩ => ⟨S4224x512, .bf16⟩
  | _, _ => ⟨S4224x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel26.lean ====
abbrev S4224x512 : Shape := ⟨2, ![4224, 512]⟩
abbrev S512x1024 : Shape := ⟨2, ![512, 1024]⟩
abbrev S4224x1024 : Shape := ⟨2, ![4224, 1024]⟩
abbrev S1056x512 : Shape := ⟨2, ![1056, 512]⟩
abbrev S1056x1024 : Shape := ⟨2, ![1056, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4224x512, .f32⟩
  | .hbm, ⟨1, _⟩ => ⟨S512x1024, .f32⟩
  | .hbm, ⟨2, _⟩ => ⟨S4224x1024, .f32⟩
  | .hbm, ⟨3, _⟩ => ⟨S4224x512, .bf16⟩
  | .hbm, ⟨4, _⟩ => ⟨S4224x1024, .bf16⟩
  | .hbm, ⟨5, _⟩ => ⟨S512x1024, .bf16⟩
  | .local _ .vmem, ⟨0, _⟩ => ⟨S1056x512, .bf16⟩
  | .local _ .vmem, ⟨1, _⟩ => ⟨S1056x512, .bf16⟩
  | .local _ .vmem, ⟨2, _⟩ => ⟨S1056x1024, .bf16⟩
  | .local _ .vmem, ⟨3, _⟩ => ⟨S1056x1024, .bf16⟩
  | .local _ .vmem, ⟨4, _⟩ => ⟨S512x1024, .bf16⟩
  | .local _ .vmem, ⟨5, _⟩ => ⟨S512x1024, .f32⟩
  | _, _ => ⟨S4224x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1056x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference26Ideal.lean ====
abbrev S4224x512 : Shape := ⟨2, ![4224, 512]⟩
abbrev S512x1024 : Shape := ⟨2, ![512, 1024]⟩
abbrev S4224x1024 : Shape := ⟨2, ![4224, 1024]⟩
abbrev S1024x512 : Shape := ⟨2, ![1024, 512]⟩

abbrev nBuf : Space → Nat
  | .hbm => 8
  | .vmem => 0
  | .smem => 0
  | _ => 0

abbrev bufTy : (tb : Table) → Fin (tcTables nBuf tb) → BufTy
  | .hbm, ⟨0, _⟩ => ⟨S4224x512, .f32⟩
  | .hbm, ⟨1, _⟩ => ⟨S512x1024, .f32⟩
  | .hbm, ⟨2, _⟩ => ⟨S4224x1024, .f32⟩
  | .hbm, ⟨3, _⟩ => ⟨S4224x1024, .f32⟩
  | .hbm, ⟨4, _⟩ => ⟨S1024x512, .f32⟩
  | .hbm, ⟨5, _⟩ => ⟨S512x1024, .f32⟩
  | .hbm, ⟨6, _⟩ => ⟨S4224x512, .f32⟩
  | .hbm, ⟨7, _⟩ => ⟨S512x1024, .bf16⟩
  | _, _ => ⟨S4224x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.Model.lean ====
module
public import proofs.«01_k».proof.Proof.Gen.KernelIdeal.Frame
public import proofs.«01_k».proof.Proof.Gen.KernelIdeal.Skeleton
public import Idealize.ShloMosaic.Lib.VecWindow
public import Idealize.ShloMosaic.Lib.ValueIdxCore
public import Idealize.ShloMosaic.Lib.Pipeline.Value
/-! What one step of the kernel does to its scratch memory, written over the contents: a block of keys meets a block of
queries, and the four products of the pair go to the accumulators. -/
@[expose] public section
set_option maxRecDepth 16384
noncomputable section
namespace Cert.KernelIdeal.Own
open Idealize.ShloMosaic Idealize.ShloMosaic.TcCoe Idealize.ShloMosaic.Tactic
open Idealize.ShloMosaic.ValueIdx
open Cert.KernelIdeal.Gen Cert.KernelIdeal
variable {F : FTy → Type} [FloatOps F]

/-- Block `b` of 384 rows. -/
def rowB {α : Type} (G : S4224x128.Idx → α) (b : ℕ) : S384x128.Idx → α :=
  fun x => G (ix2 ⟨(384 * b + (x 0).val) % 4224, Nat.mod_lt _ (by decide)⟩ (x 1))

/-- Block `b` of the saved logarithms. -/
def lseB {α : Type} (G : S1x11x1x384.Idx → α) (b : ℕ) : S1x1x1x384.Idx → α :=
  fun x => G (ix4 (x 0) ⟨b % 11, Nat.mod_lt _ (by decide)⟩ (x 2) (x 3))

/-- Block `b` of the row sums. -/
def delB {α : Type} (G : S11x1x384.Idx → α) (b : ℕ) : S1x1x384.Idx → α :=
  fun x => G (ix3 ⟨b % 11, Nat.mod_lt _ (by decide)⟩ (x 1) (x 2))

/-- Block `b` of the transposed gradient of the queries. -/
def dqB {α : Type} (G : S11x128x384.Idx → α) (b : ℕ) : S1x128x384.Idx → α :=
  fun x => G (ix3 ⟨b % 11, Nat.mod_lt _ (by decide)⟩ (x 1) (x 2))

/-- The position of an index within its block. -/
def inB (y : S11x128x384.Idx) : S1x128x384.Idx := ix3 0 (y 1) (y 2)

/-- What a point reads: the block of keys and of values, the transposed keys, the queries, the incoming gradient,
the saved logarithms and the row sums of all blocks. -/
structure Env (F : FTy → Type) where
  kb : FVec F S384x128 .bf16
  vb : FVec F S384x128 .bf16
  kt : FVec F S128x384 .bf16
  Q : S4224x128.Idx → F .bf16
  G : S4224x128.Idx → F .bf16
  L : S1x11x1x384.Idx → F .f32
  R : S11x1x384.Idx → F .f32

/-- Which keys (rows) a block of queries (columns) may see: no later ones, and no padding. -/
def mask (a b : BitVec 32) : IVec S384x384 1 :=
  andi (cmpi .sle (addi (broadcast S384x384 (Scalar.muli a 384#32)) (iota .tc S384x384 32 [0] iota_S384x384_d0_w32))
      (addi (broadcast S384x384 (Scalar.muli b 384#32)) (iota .tc S384x384 32 [1] iota_S384x384_d1_w32)))
    (cmpi .sge (addi (broadcast S384x384 (Scalar.muli a 384#32)) (iota .tc S384x384 32 [0] iota_S384x384_d0_w32))
      (broadcast S384x384 112#32))

/-- The probabilities of a pair of blocks from the scores and the saved logarithms. -/
def probs (kb q : FVec F S384x128 .bf16) (l : FVec F S1x1x1x384 .f32) : FVec F S384x384 .f32 :=
  exp (subf (matmul dot_S384x128_S384x128_S384x384_1_1_0_0_n_n none kb (shapeCast S384x128 q shapeCasts_S384x128_S384x128)
      (constant S384x384 .f32 0x00000000#32))
    (broadcastTo S384x384 (shapeCast S1x384 l shapeCasts_S1x1x1x384_S1x384) broadcasts_S1x384_S384x384))

/-- The probabilities, masked where a word names the block of keys. -/
def probsM : Option (BitVec 32) → BitVec 32 → FVec F S384x384 .f32 → FVec F S384x384 .f32
  | none, _, p => p
  | some a, b, p => select (mask a b) p (broadcast S384x384 (Scalar.ofBits .f32 0x00000000#32))

/-- What the pair adds to the gradient of the values. -/
def stepV (p : FVec F S384x384 .f32) (g : FVec F S384x128 .bf16) : FVec F S384x128 .f32 :=
  matmul dot_S384x384_S384x128_S384x128_1_0_0_1_n_n none (truncf .bf16 p bitsLt_bf16_f32)
    (shapeCast S384x128 g shapeCasts_S384x128_S384x128) (constant S384x128 .f32 0x00000000#32)

/-- The gradient of the pair's scores. -/
def stepS (vb : FVec F S384x128 .bf16) (p : FVec F S384x384 .f32) (g : FVec F S384x128 .bf16) (r : FVec F S1x1x384 .f32) :
    FVec F S384x384 .bf16 :=
  truncf .bf16 (mulf p (subf (matmul dot_S384x128_S384x128_S384x384_1_1_0_0_n_n none vb
      (shapeCast S384x128 g shapeCasts_S384x128_S384x128) (constant S384x384 .f32 0x00000000#32))
    (broadcastTo S384x384 (shapeCast S1x384 r shapeCasts_S1x1x384_S1x384) broadcasts_S1x384_S384x384))) bitsLt_bf16_f32

/-- What the pair adds to the gradient of the keys. -/
def stepK (s : FVec F S384x384 .bf16) (q : FVec F S384x128 .bf16) : FVec F S384x128 .f32 :=
  matmul dot_S384x384_S384x128_S384x128_1_0_0_1_n_n none s (shapeCast S384x128 q shapeCasts_S384x128_S384x128)
    (constant S384x128 .f32 0x00000000#32)

/-- The block of the queries' gradient after the pair. -/
def stepD (kt : FVec F S128x384 .bf16) (s : FVec F S384x384 .bf16) (old : FVec F S1x128x384 .f32) : FVec F S1x128x384 .f32 :=
  shapeCast S1x128x384 (addf (shapeCast S128x384 old shapeCasts_S1x128x384_S128x384)
    (matmul dot_S128x384_S384x384_S128x384_1_0_0_1_n_n none kt s (constant S128x384 .f32 0x00000000#32)))
    shapeCasts_S128x384_S1x128x384

namespace Env
variable (e : Env F) (m : Option (BitVec 32)) (b : ℕ)
def p : FVec F S384x384 .f32 := probsM m (BitVec.ofNat 32 b) (probs e.kb (rowB e.Q b) (lseB e.L b))
def v : FVec F S384x128 .f32 := stepV (e.p m b) (rowB e.G b)
def s : FVec F S384x384 .bf16 := stepS e.vb (e.p m b) (rowB e.G b) (delB e.R b)
def k : FVec F S384x128 .f32 := stepK (e.s m b) (rowB e.Q b)
def d (old : FVec F S1x128x384 .f32) : FVec F S1x128x384 .f32 := stepD e.kt (e.s m b) old

/-- The queries' gradient after the pairs with the blocks `[lo, hi)`. -/
def dq (lo hi : ℕ) (D : S11x128x384.Idx → F .f32) : S11x128x384.Idx → F .f32 :=
  fun y => if lo ≤ (y 0).val ∧ (y 0).val < hi then e.d m (y 0).val (dqB D (y 0).val) (inB y) else D y
end Env

/-- A sum of three terms, the first two first. -/
def tri (f : ℕ → FVec F S384x128 .f32) (b : ℕ) : FVec F S384x128 .f32 := addf (addf (f b) (f (b + 1))) (f (b + 2))

/-- The accumulator after `n` triples from block `lo` on. -/
def acc3 (f : ℕ → FVec F S384x128 .f32) (lo : ℕ) : ℕ → FVec F S384x128 .f32 → FVec F S384x128 .f32
  | 0, z => z
  | n + 1, z => addf (acc3 f lo n z) (tri f (lo + 3 * n))

/-- A step taken `n` times. -/
def rep {α : Type} (g : α → α) : ℕ → α → α
  | 0, z => z
  | n + 1, z => g (rep g n z)

/-- The queries' gradient after `n` triples from block `lo` on. -/
def Env.dq3 (e : Env F) (m : Option (BitVec 32)) (lo : ℕ) : ℕ → (S11x128x384.Idx → F .f32) → S11x128x384.Idx → F .f32
  | 0, D => D
  | n + 1, D => e.dq m (lo + 3 * n) (lo + 3 * n + 3) (e.dq3 m lo n D)

/-- The row sums after the first `n` blocks. -/
def delN (G O : S4224x128.Idx → F .bf16) : ℕ → (S11x1x384.Idx → F .f32) → S11x1x384.Idx → F .f32
  | 0, R => R
  | n + 1, R => fun y => if (y 0).val = n then k0_pay146 (rowB G n) (rowB O n) (ix3 0 (y 1) (y 2)) else delN G O n R y

/-- The gradient of the queries after the first `n` blocks are written back. -/
def outN (D : S11x128x384.Idx → F .f32) : ℕ → (S4224x128.Idx → F .f32) → S4224x128.Idx → F .f32
  | 0, O => O
  | n + 1, O => fun y => if h : 384 * n ≤ (y 0).val ∧ (y 0).val < 384 * n + 384 then
      k0_pay1 (dqB D n) (ix2 ⟨(y 0).val - 384 * n, by omega⟩ (y 1)) else outN D n O y

/-! ### Windows -/

theorem window_row {α : Type} (G : S4224x128.Idx → α) (b : ℕ) (inb) (hb : b < 11) :
    VecWindow.window G ![384 * b, 0] S384x128.size inb = rowB G b := by
  funext x
  have h0 := (x 0).isLt
  change (x 0).val < 384 at h0
  refine congrArg G (funext fun a => Fin.ext ?_)
  match a with
  | ⟨0, _⟩ => show 384 * b + 1 * (x 0).val = (384 * b + (x 0).val) % 4224; omega
  | ⟨1, _⟩ => show 0 + 1 * (x 1).val = (x 1).val; omega

theorem window_lse {α : Type} (G : S1x11x1x384.Idx → α) (b : ℕ) (inb) (hb : b < 11) :
    VecWindow.window G ![0, b, 0, 0] S1x1x1x384.size inb = lseB G b := by
  funext x
  have h1 := (x 1).isLt
  change (x 1).val < 1 at h1
  refine congrArg G (funext fun a => Fin.ext ?_)
  match a with
  | ⟨0, _⟩ => show 0 + 1 * (x 0).val = (x 0).val; omega
  | ⟨1, _⟩ => show b + 1 * (x 1).val = b % 11; omega
  | ⟨2, _⟩ => show 0 + 1 * (x 2).val = (x 2).val; omega
  | ⟨3, _⟩ => show 0 + 1 * (x 3).val = (x 3).val; omega

theorem window_del {α : Type} (G : S11x1x384.Idx → α) (b : ℕ) (inb) (hb : b < 11) :
    VecWindow.window G ![b, 0, 0] S1x1x384.size inb = delB G b := by
  funext x
  have h0 := (x 0).isLt
  change (x 0).val < 1 at h0
  refine congrArg G (funext fun a => Fin.ext ?_)
  match a with
  | ⟨0, _⟩ => show b + 1 * (x 0).val = b % 11; omega
  | ⟨1, _⟩ => show 0 + 1 * (x 1).val = (x 1).val; omega
  | ⟨2, _⟩ => show 0 + 1 * (x 2).val = (x 2).val; omega

theorem window_dq {α : Type} (G : S11x128x384.Idx → α) (b : ℕ) (inb) (hb : b < 11) :
    VecWindow.window G ![b, 0, 0] S1x128x384.size inb = dqB G b := by
  funext x
  have h0 := (x 0).isLt
  change (x 0).val < 1 at h0
  refine congrArg G (funext fun a => Fin.ext ?_)
  match a with
  | ⟨0, _⟩ => show b + 1 * (x 0).val = b % 11; omega
  | ⟨1, _⟩ => show 0 + 1 * (x 1).val = (x 1).val; omega
  | ⟨2, _⟩ => show 0 + 1 * (x 2).val = (x 2).val; omega

theorem put_dq {α : Type} (D : S11x128x384.Idx → α) (b : ℕ) (w : S1x128x384.Idx → α) :
    VecWindow.put D ![b, 0, 0] S1x128x384.size w = fun y => if (y 0).val = b then w (inB y) else D y := by
  funext y
  have h1 := (y 1).isLt
  have h2 := (y 2).isLt
  change (y 1).val < 128 at h1
  change (y 2).val < 384 at h2
  by_cases h : (y 0).val = b
  · have hm : ∀ a, (![b, 0, 0] : Fin 3 → ℕ) a ≤ (y a).val ∧ (y a).val < (![b, 0, 0] : Fin 3 → ℕ) a + S1x128x384.size a := by
      intro a
      match a with
      | ⟨0, _⟩ => show b ≤ (y 0).val ∧ (y 0).val < b + 1; omega
      | ⟨1, _⟩ => show 0 ≤ (y 1).val ∧ (y 1).val < 0 + 128; omega
      | ⟨2, _⟩ => show 0 ≤ (y 2).val ∧ (y 2).val < 0 + 384; omega
    rw [if_pos h]
    refine (dif_pos hm).trans (congrArg w (funext fun a => Fin.ext ?_))
    match a with
    | ⟨0, _⟩ => show (y 0).val - b = 0; omega
    | ⟨1, _⟩ => show (y 1).val - 0 = (y 1).val; omega
    | ⟨2, _⟩ => show (y 2).val - 0 = (y 2).val; omega
  · rw [if_neg h]
    refine dif_neg fun hm => h ?_
    have : b ≤ (y 0).val ∧ (y 0).val < b + 1 := hm 0
    omega

section Reads
variable {sig' : RefSig} {κ : Kind} {sp : Space} {e : EltTy} {Val : EltTy → Type}

theorem readRow (v : View sig' κ sp S4224x128 e) (f : v.ty.Contents Val) (off : Fin 2 → ℕ) (inb) (b : ℕ) (hb : b < 11)
    (h : off = ![384 * b, 0]) :
    v.readAt Val (Rect.unit (s := S4224x128) off S384x128.size inb).toLoadRect f = rowB (v.read Val f) b := by
  subst h; exact (View.readAt_unit v f inb rfl inb).trans (window_row _ b _ hb)

theorem readLse (v : View sig' κ sp S1x11x1x384 e) (f : v.ty.Contents Val) (off : Fin 4 → ℕ) (inb) (b : ℕ) (hb : b < 11)
    (h : off = ![0, b, 0, 0]) :
    v.readAt Val (Rect.unit (s := S1x11x1x384) off S1x1x1x384.size inb).toLoadRect f = lseB (v.read Val f) b := by
  subst h; exact (View.readAt_unit v f inb rfl inb).trans (window_lse _ b _ hb)

theorem readDel (v : View sig' κ sp S11x1x384 e) (f : v.ty.Contents Val) (off : Fin 3 → ℕ) (inb) (b : ℕ) (hb : b < 11)
    (h : off = ![b, 0, 0]) :
    v.readAt Val (Rect.unit (s := S11x1x384) off S1x1x384.size inb).toLoadRect f = delB (v.read Val f) b := by
  subst h; exact (View.readAt_unit v f inb rfl inb).trans (window_del _ b _ hb)

theorem readDq (v : View sig' κ sp S11x128x384 e) (f : v.ty.Contents Val) (off : Fin 3 → ℕ) (inb) (b : ℕ) (hb : b < 11)
    (h : off = ![b, 0, 0]) :
    v.readAt Val (Rect.unit (s := S11x128x384) off S1x128x384.size inb).toLoadRect f = dqB (v.read Val f) b := by
  subst h; exact (View.readAt_unit v f inb rfl inb).trans (window_dq _ b _ hb)

theorem writeDq (v : View sig' κ sp S11x128x384 e) (f : v.ty.Contents Val) (off : Fin 3 → ℕ) (inb) (w) (L) (b : ℕ)
    (h : off = ![b, 0, 0]) :
    v.read Val (v.writes Val f (⟨Rect.unit (s := S11x128x384) off S1x128x384.size inb, w⟩ :: L))
      = fun y => if (y 0).val = b then w (inB y) else v.read Val (v.writes Val f L) y := by
  subst h; exact (View.read_writes_cons_put v f inb w L rfl).trans (put_dq _ b w)
theorem writeDel (v : View sig' κ sp S11x1x384 e) (f : v.ty.Contents Val) (off : Fin 3 → ℕ) (inb) (w) (L) (b : ℕ)
    (h : off = ![b, 0, 0]) :
    v.read Val (v.writes Val f (⟨Rect.unit (s := S11x1x384) off S1x1x384.size inb, w⟩ :: L))
      = fun y => if (y 0).val = b then w (ix3 0 (y 1) (y 2)) else v.read Val (v.writes Val f L) y := by
  subst h
  funext y
  have h1 := (y 1).isLt
  have h2 := (y 2).isLt
  change (y 1).val < 1 at h1
  change (y 2).val < 384 at h2
  by_cases h : (y 0).val = b
  · rw [if_pos h]
    refine View.read_writes_cons_unit_of_mem v f inb w L y _ rfl fun a => ?_
    match a with
    | ⟨0, _⟩ => exact h
    | ⟨1, _⟩ => show (y 1).val = 0 + (y 1).val; omega
    | ⟨2, _⟩ => show (y 2).val = 0 + (y 2).val; omega
  · rw [if_neg h]
    refine View.read_writes_cons_unit_of_not_mem v f inb w L y rfl 0 ?_
    show (y 0).val < b ∨ b + 1 ≤ (y 0).val
    omega

theorem writeOut (v : View sig' κ sp S4224x128 e) (f : v.ty.Contents Val) (off : Fin 2 → ℕ) (inb) (w) (L) (b : ℕ)
    (h : off = ![384 * b, 0]) :
    v.read Val (v.writes Val f (⟨Rect.unit (s := S4224x128) off S384x128.size inb, w⟩ :: L))
      = fun y => if h : 384 * b ≤ (y 0).val ∧ (y 0).val < 384 * b + 384 then
          w (ix2 ⟨(y 0).val - 384 * b, by omega⟩ (y 1)) else v.read Val (v.writes Val f L) y := by
  subst h
  funext y
  have h1 := (y 1).isLt
  change (y 1).val < 128 at h1
  by_cases h : 384 * b ≤ (y 0).val ∧ (y 0).val < 384 * b + 384
  · rw [dif_pos h]
    refine View.read_writes_cons_unit_of_mem v f inb w L y _ rfl fun a => ?_
    match a with
    | ⟨0, _⟩ => show (y 0).val = 384 * b + ((y 0).val - 384 * b); omega
    | ⟨1, _⟩ => show (y 1).val = 0 + (y 1).val; omega
  · rw [dif_neg h]
    refine View.read_writes_cons_unit_of_not_mem v f inb w L y rfl 0 ?_
    show (y 0).val < 384 * b ∨ 384 * b + 384 ≤ (y 0).val
    omega
end Reads

/-! ### A pair of blocks, from what was read -/

/-- The four blocks read for the pair with block `b` are those of the environment. -/
structure Env.At (e : Env F) (b : ℕ) (q g : FVec F S384x128 .bf16) (l : FVec F S1x1x1x384 .f32) (r : FVec F S1x1x384 .f32) : Prop where
  hq : q = rowB e.Q b
  hg : g = rowB e.G b
  hl : l = lseB e.L b
  hr : r = delB e.R b

namespace Env.At
variable {e : Env F} {b : ℕ} {q g : FVec F S384x128 .bf16} {l : FVec F S1x1x1x384 .f32} {r : FVec F S1x1x384 .f32}
theorem v (h : e.At b q g l r) (m : Option (BitVec 32)) {w : BitVec 32} (hw : w = BitVec.ofNat 32 b) :
    stepV (probsM m w (probs e.kb q l)) g = e.v m b := by
  obtain ⟨rfl, rfl, rfl, rfl⟩ := h; subst hw; rfl
theorem k (h : e.At b q g l r) (m : Option (BitVec 32)) {w : BitVec 32} (hw : w = BitVec.ofNat 32 b) :
    stepK (stepS e.vb (probsM m w (probs e.kb q l)) g r) q = e.k m b := by
  obtain ⟨rfl, rfl, rfl, rfl⟩ := h; subst hw; rfl
theorem d (h : e.At b q g l r) (m : Option (BitVec 32)) {w : BitVec 32} (hw : w = BitVec.ofNat 32 b)
    {o o' : FVec F S1x128x384 .f32} (ho : o = o') :
    stepD e.kt (stepS e.vb (probsM m w (probs e.kb q l)) g r) o = e.d m b o' := by
  obtain ⟨rfl, rfl, rfl, rfl⟩ := h; subst hw ho; rfl
end Env.At

theorem dq_two (e : Env F) (m : Option (BitVec 32)) (b : ℕ) (D : S11x128x384.Idx → F .f32) (w w' : S1x128x384.Idx → F .f32)
    (h : w = e.d m b (dqB D b)) (h' : w' = e.d m (b + 1) (dqB D (b + 1))) :
    (fun y => if (y 0).val = b + 1 then w' (inB y) else if (y 0).val = b then w (inB y) else D y) = e.dq m b (b + 2) D := by
  subst h h'
  funext y
  unfold Env.dq
  by_cases h1 : (y 0).val = b + 1
  · rw [if_pos h1, if_pos (by omega), h1]
  · by_cases h0 : (y 0).val = b
    · rw [if_neg h1, if_pos h0, if_pos (by omega), h0]
    · rw [if_neg h1, if_neg h0, if_neg (by omega)]

theorem dq_one (e : Env F) (m : Option (BitVec 32)) (b : ℕ) (D : S11x128x384.Idx → F .f32) (w : S1x128x384.Idx → F .f32)
    (h : w = e.d m b (dqB D b)) :
    (fun y => if (y 0).val = b then w (inB y) else D y) = e.dq m b (b + 1) D := by
  subst h
  funext y
  unfold Env.dq
  by_cases h0 : (y 0).val = b
  · rw [if_pos h0, if_pos (by omega), h0]
  · rw [if_neg h0, if_neg (by omega)]

theorem dq_three (e : Env F) (m : Option (BitVec 32)) (b : ℕ) (D : S11x128x384.Idx → F .f32) (w w' w'' : S1x128x384.Idx → F .f32)
    (h : w = e.d m b (dqB D b)) (h' : w' = e.d m (b + 1) (dqB D (b + 1))) (h'' : w'' = e.d m (b + 2) (dqB D (b + 2))) :
    (fun y => if (y 0).val = b + 2 then w'' (inB y) else if (y 0).val = b + 1 then w' (inB y) else if (y 0).val = b then w (inB y) else D y)
      = e.dq m b (b + 3) D := by
  subst h h' h''
  funext y
  unfold Env.dq
  by_cases h2 : (y 0).val = b + 2
  · rw [if_pos h2, if_pos (by omega), h2]
  · by_cases h1 : (y 0).val = b + 1
    · rw [if_neg h2, if_pos h1, if_pos (by omega), h1]
    · by_cases h0 : (y 0).val = b
      · rw [if_neg h2, if_neg h1, if_pos h0, if_pos (by omega), h0]
      · rw [if_neg h2, if_neg h1, if_neg h0, if_neg (by omega)]
end Cert.KernelIdeal.Own
-- ==== Proof.Trips.lean ====
module
public import proofs.«01_k».proof.Proof.Model
/-! One trip of every loop of the kernel, and the loops by their invariants. -/
@[expose] public section
set_option maxRecDepth 16384
noncomputable section
namespace Cert.KernelIdeal.Own
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen Cert.KernelIdeal
variable {F : FTy → Type} [FloatOps F]
local notation "𝕄G" => MT nD τ sig Unit (Elt F) ℕ (UR sig nD τ) ℕ

theorem off11_eq : ∀ (i : grid0.Coords) (k : Fin (k0_t3_loop i).trips) (r : Fin 3),
    k0_off11 i k (BitVec.ofNat 32 r.val) = ![384 * ((i 1).val + 1 + 3 * k.val + r.val), 0] := by decide +kernel
theorem off12_eq : ∀ (i : grid0.Coords) (k : Fin (k0_t3_loop i).trips) (r : Fin 3),
    k0_off12 i k (BitVec.ofNat 32 r.val) = ![0, (i 1).val + 1 + 3 * k.val + r.val, 0, 0] := by decide +kernel
theorem off13_eq : ∀ (i : grid0.Coords) (k : Fin (k0_t3_loop i).trips) (r : Fin 3),
    k0_off13 i k (BitVec.ofNat 32 r.val) = ![(i 1).val + 1 + 3 * k.val + r.val, 0, 0] := by decide +kernel
theorem off14_eq : ∀ (i : grid0.Coords) (k : Fin (k0_t3_loop i).trips) (r : Fin 3),
    k0_off14 i k (BitVec.ofNat 32 r.val) = ![(i 1).val + 1 + 3 * k.val + r.val, 0, 0] := by decide +kernel
theorem blk3_lt : ∀ (i : grid0.Coords) (k : Fin (k0_t3_loop i).trips), (i 1).val + 1 + 3 * k.val + 2 < 11 := by decide +kernel
instance closedOff11_0 (i : grid0.Coords) (k : Fin (k0_t3_loop i).trips) : ClosedOff (k0_off11 i k (BitVec.ofNat 32 0)) :=
  ⟨![384 * ((i 1).val + 1 + 3 * k.val + 0), 0], off11_eq i k 0⟩
instance closedOff11_1 (i : grid0.Coords) (k : Fin (k0_t3_loop i).trips) : ClosedOff (k0_off11 i k (BitVec.ofNat 32 1)) :=
  ⟨![384 * ((i 1).val + 1 + 3 * k.val + 1), 0], off11_eq i k 1⟩
instance closedOff11_2 (i : grid0.Coords) (k : Fin (k0_t3_loop i).trips) : ClosedOff (k0_off11 i k (BitVec.ofNat 32 2)) :=
  ⟨![384 * ((i 1).val + 1 + 3 * k.val + 2), 0], off11_eq i k 2⟩
instance closedOff12_0 (i : grid0.Coords) (k : Fin (k0_t3_loop i).trips) : ClosedOff (k0_off12 i k (BitVec.ofNat 32 0)) :=
  ⟨![0, (i 1).val + 1 + 3 * k.val + 0, 0, 0], off12_eq i k 0⟩
instance closedOff12_1 (i : grid0.Coords) (k : Fin (k0_t3_loop i).trips) : ClosedOff (k0_off12 i k (BitVec.ofNat 32 1)) :=
  ⟨![0, (i 1).val + 1 + 3 * k.val + 1, 0, 0], off12_eq i k 1⟩
instance closedOff12_2 (i : grid0.Coords) (k : Fin (k0_t3_loop i).trips) : ClosedOff (k0_off12 i k (BitVec.ofNat 32 2)) :=
  ⟨![0, (i 1).val + 1 + 3 * k.val + 2, 0, 0], off12_eq i k 2⟩
instance closedOff13_0 (i : grid0.Coords) (k : Fin (k0_t3_loop i).trips) : ClosedOff (k0_off13 i k (BitVec.ofNat 32 0)) :=
  ⟨![(i 1).val + 1 + 3 * k.val + 0, 0, 0], off13_eq i k 0⟩
instance closedOff13_1 (i : grid0.Coords) (k : Fin (k0_t3_loop i).trips) : ClosedOff (k0_off13 i k (BitVec.ofNat 32 1)) :=
  ⟨![(i 1).val + 1 + 3 * k.val + 1, 0, 0], off13_eq i k 1⟩
instance closedOff13_2 (i : grid0.Coords) (k : Fin (k0_t3_loop i).trips) : ClosedOff (k0_off13 i k (BitVec.ofNat 32 2)) :=
  ⟨![(i 1).val + 1 + 3 * k.val + 2, 0, 0], off13_eq i k 2⟩
instance closedOff14_0 (i : grid0.Coords) (k : Fin (k0_t3_loop i).trips) : ClosedOff (k0_off14 i k (BitVec.ofNat 32 0)) :=
  ⟨![(i 1).val + 1 + 3 * k.val + 0, 0, 0], off14_eq i k 0⟩
instance closedOff14_1 (i : grid0.Coords) (k : Fin (k0_t3_loop i).trips) : ClosedOff (k0_off14 i k (BitVec.ofNat 32 1)) :=
  ⟨![(i 1).val + 1 + 3 * k.val + 1, 0, 0], off14_eq i k 1⟩
instance closedOff14_2 (i : grid0.Coords) (k : Fin (k0_t3_loop i).trips) : ClosedOff (k0_off14 i k (BitVec.ofNat 32 2)) :=
  ⟨![(i 1).val + 1 + 3 * k.val + 2, 0, 0], off14_eq i k 2⟩

theorem word2 : ∀ (k : Fin k0_t2_loop.trips) (r : Fin 3),
    Scalar.addi (Scalar.addi 0#32 (Scalar.muli 3#32 (Scf.iv 0#32 1#32 k))) (BitVec.ofNat 32 r.val) = BitVec.ofNat 32 (0 + 3 * k.val + r.val) := by
  decide +kernel
theorem blk2_lt : ∀ (k : Fin k0_t2_loop.trips), 0 + 3 * k.val + 2 < 11 := by decide +kernel

variable (c : Dev nD) (i : grid0.Coords) (arg2 : Memref sig .tc .vmem S4224x128 .bf16) (harg2 : arg2.IsWhole)
    (arg3 : Memref sig .tc .vmem S384x128 .bf16) (harg3 : arg3.IsWhole)
    (arg4 : Memref sig .tc .vmem S384x128 .bf16) (harg4 : arg4.IsWhole)
    (arg5 : Memref sig .tc .vmem S4224x128 .bf16) (harg5 : arg5.IsWhole)
    (arg6 : Memref sig .tc .vmem S1x11x1x384 .f32) (harg6 : arg6.IsWhole)
    (arg7 : Memref sig .tc .vmem S4224x128 .bf16) (harg7 : arg7.IsWhole)
    (arg8 : Memref sig .tc .vmem S4224x128 .f32) (harg8 : arg8.IsWhole)
    (arg9 : Memref sig .tc .vmem S384x128 .bf16) (harg9 : arg9.IsWhole)
    (arg10 : Memref sig .tc .vmem S384x128 .bf16) (harg10 : arg10.IsWhole)
    (arg11 : Memref sig .tc .vmem S11x1x384 .f32) (harg11 : arg11.IsWhole)
    (arg12 : Memref sig .tc .vmem S11x128x384 .f32) (harg12 : arg12.IsWhole)
    (arg13 : Memref sig .tc .vmem S384x128 .f32) (harg13 : arg13.IsWhole)
    (arg14 : Memref sig .tc .vmem S384x128 .f32) (harg14 : arg14.IsWhole)

/-- The memory of the loops over the blocks of queries: what they read, and what the three accumulators hold. -/
abbrev Acc (X2 : BufTy.Contents (Elt F) arg2.view.ty) (X6 : BufTy.Contents (Elt F) arg6.view.ty) (X7 : BufTy.Contents (Elt F) arg7.view.ty) (X11 : BufTy.Contents (Elt F) arg11.view.ty) (D : S11x128x384.Idx → F .f32) (K V : FVec F S384x128 .f32) : sProp 𝕄G :=
  iprop((arg2.view.loc (c : Thread nD τ) ↦[arg2.view.set]{fullShare} X2) ∗ (arg6.view.loc (c : Thread nD τ) ↦[arg6.view.set]{fullShare} X6) ∗ (arg7.view.loc (c : Thread nD τ) ↦[arg7.view.set]{fullShare} X7) ∗ (arg11.view.loc (c : Thread nD τ) ↦[arg11.view.set]{fullShare} X11) ∗ (∃ f, (arg12.view.loc (c : Thread nD τ) ↦[arg12.view.set]{fullShare} f) ∗ ⌜arg12.view.read (Elt F) f = D⌝) ∗ (∃ f, (arg13.view.loc (c : Thread nD τ) ↦[arg13.view.set]{fullShare} f) ∗ ⌜arg13.view.read (Elt F) f = K⌝)
    ∗ (∃ f, (arg14.view.loc (c : Thread nD τ) ↦[arg14.view.set]{fullShare} f) ∗ ⌜arg14.view.read (Elt F) f = V⌝))

/-- The environment a point's memory gives. -/
abbrev envOf (v4 v6 : FVec F S384x128 .bf16) (v9 : FVec F S128x384 .bf16) (X2 : BufTy.Contents (Elt F) arg2.view.ty) (X6 : BufTy.Contents (Elt F) arg6.view.ty) (X7 : BufTy.Contents (Elt F) arg7.view.ty) (X11 : BufTy.Contents (Elt F) arg11.view.ty) : Env F :=
  ⟨v4, v6, v9, arg2.view.read (Elt F) X2, arg7.view.read (Elt F) X7, arg6.view.read (Elt F) X6, arg11.view.read (Elt F) X11⟩

theorem at_reads (v4 v6 : FVec F S384x128 .bf16) (v9 : FVec F S128x384 .bf16) (X2 : BufTy.Contents (Elt F) arg2.view.ty) (X6 : BufTy.Contents (Elt F) arg6.view.ty) (X7 : BufTy.Contents (Elt F) arg7.view.ty) (X11 : BufTy.Contents (Elt F) arg11.view.ty)
    (b : ℕ) (hb : b < 11) (o2 : Fin 2 → ℕ) (o6 : Fin 4 → ℕ) (o11 : Fin 3 → ℕ) (i2 i7 i6 i11)
    (h2 : o2 = ![384 * b, 0]) (h6 : o6 = ![0, b, 0, 0]) (h11 : o11 = ![b, 0, 0]) :
    (envOf arg2 arg6 arg7 arg11 v4 v6 v9 X2 X6 X7 X11).At b
      (arg2.view.readAt (Elt F) (Rect.unit (s := S4224x128) o2 S384x128.size i2).toLoadRect X2)
      (arg7.view.readAt (Elt F) (Rect.unit (s := S4224x128) o2 S384x128.size i7).toLoadRect X7)
      (arg6.view.readAt (Elt F) (Rect.unit (s := S1x11x1x384) o6 S1x1x1x384.size i6).toLoadRect X6)
      (arg11.view.readAt (Elt F) (Rect.unit (s := S11x1x384) o11 S1x1x384.size i11).toLoadRect X11) :=
  ⟨readRow _ _ _ _ b hb h2, readRow _ _ _ _ b hb h2, readLse _ _ _ _ b hb h6, readDel _ _ _ _ b hb h11⟩
theorem offs3_0 : ∀ (k : Fin k0_t2_loop.trips), k0_off3 k 0#32 = ![384 * (0 + 3 * k.val + 0), 0] := by decide +kernel
theorem offs3_1 : ∀ (k : Fin k0_t2_loop.trips), k0_off3 k 1#32 = ![384 * (0 + 3 * k.val + 1), 0] := by decide +kernel
theorem offs3_2 : ∀ (k : Fin k0_t2_loop.trips), k0_off3 k 2#32 = ![384 * (0 + 3 * k.val + 2), 0] := by decide +kernel
theorem offs4_0 : ∀ (k : Fin k0_t2_loop.trips), k0_off4 k 0#32 = ![0, 0 + 3 * k.val + 0, 0, 0] := by decide +kernel
theorem offs4_1 : ∀ (k : Fin k0_t2_loop.trips), k0_off4 k 1#32 = ![0, 0 + 3 * k.val + 1, 0, 0] := by decide +kernel
theorem offs4_2 : ∀ (k : Fin k0_t2_loop.trips), k0_off4 k 2#32 = ![0, 0 + 3 * k.val + 2, 0, 0] := by decide +kernel
theorem offs5_0 : ∀ (k : Fin k0_t2_loop.trips), k0_off5 k 0#32 = ![0 + 3 * k.val + 0, 0, 0] := by decide +kernel
theorem offs5_1 : ∀ (k : Fin k0_t2_loop.trips), k0_off5 k 1#32 = ![0 + 3 * k.val + 1, 0, 0] := by decide +kernel
theorem offs5_2 : ∀ (k : Fin k0_t2_loop.trips), k0_off5 k 2#32 = ![0 + 3 * k.val + 2, 0, 0] := by decide +kernel
theorem offs6_0 : ∀ (k : Fin k0_t2_loop.trips), k0_off6 k 0#32 = ![0 + 3 * k.val + 0, 0, 0] := by decide +kernel
theorem offs6_1 : ∀ (k : Fin k0_t2_loop.trips), k0_off6 k 1#32 = ![0 + 3 * k.val + 1, 0, 0] := by decide +kernel
theorem offs6_2 : ∀ (k : Fin k0_t2_loop.trips), k0_off6 k 2#32 = ![0 + 3 * k.val + 2, 0, 0] := by decide +kernel
open Idealize.ShloMosaic.ValueIdx

set_option maxHeartbeats 4000000 in
/-- A block of row sums. -/
theorem trip1 (h1 : k0_cond1 i = 1#1) (X5 : BufTy.Contents (Elt F) arg5.view.ty) (X7 : BufTy.Contents (Elt F) arg7.view.ty) (f11 : BufTy.Contents (Elt F) arg11.view.ty) (k : Fin k0_t1_loop.trips) (E : Set ℕ) :
    (iprop((arg5.view.loc (c : Thread nD τ) ↦[arg5.view.set]{fullShare} X5) ∗ (arg7.view.loc (c : Thread nD τ) ↦[arg7.view.set]{fullShare} X7) ∗ (arg11.view.loc (c : Thread nD τ) ↦[arg11.view.set]{fullShare} f11)) : sProp 𝕄G)
    ⊢ wp frame (wpE (defs₀ (F := F)) Variants.none (c : Thread nD τ) none) E
        (k0_t1_body (F := F) i arg2 harg2 arg3 harg3 arg4 harg4 arg5 harg5 arg6 harg6 arg7 harg7 arg8 harg8 arg9 harg9 arg10 harg10 arg11 harg11 arg12 harg12 arg13 harg13 arg14 harg14 h1 k PUnit.unit)
        (fun _ => iprop((arg5.view.loc (c : Thread nD τ) ↦[arg5.view.set]{fullShare} X5) ∗ (arg7.view.loc (c : Thread nD τ) ↦[arg7.view.set]{fullShare} X7) ∗ (∃ f, (arg11.view.loc (c : Thread nD τ) ↦[arg11.view.set]{fullShare} f) ∗ ⌜arg11.view.read (Elt F) f = fun y => if (y 0).val = k.val then
          k0_pay146 (rowB (arg7.view.read (Elt F) X7) k.val) (rowB (arg5.view.read (Elt F) X5) k.val) (ix3 0 (y 1) (y 2)) else arg11.view.read (Elt F) f11 y⌝))) := by
  have hk : k.val < 11 := lt_of_lt_of_le k.isLt k0_t1_abs.2.1
  have e7 := readRow arg7.view X7 (k0_off1 k) (k0_off1_inb i k h1) k.val hk (k0_off1_eq k)
  have e5 := readRow arg5.view X5 (k0_off1 k) (k0_off1_inb i k h1) k.val hk (k0_off1_eq k)
  unfold k0_t1_body
  iintro ⟨HR5, HR7, HW11⟩
  sl_exec
  sl_step
  isplitl [HR5]; · iexact HR5
  isplitl [HR7]; · iexact HR7
  iexists _; isplitl [HW11]; · iexact HW11
  ipureintro
  rw [writeDel _ _ _ _ _ _ k.val (k0_off2_eq k), View.writes_nil]

set_option warn.classDefReducibility false in
/-- The row sums, block by block. -/
@[sl_loop] def loop1 (E : Set ℕ) (h1 : k0_cond1 i = 1#1) (X5 : BufTy.Contents (Elt F) arg5.view.ty) (X7 : BufTy.Contents (Elt F) arg7.view.ty) (G11 : BufTy.Contents (Elt F) arg11.view.ty) :
    LoopInv (M := 𝕄G) frame (wpE (defs₀ (F := F)) Variants.none (c : Thread nD τ) none) E
      k0_t1_loop.lb k0_t1_loop.ub k0_t1_loop.st (k0_t1_ok i h1) () (k0_t1_body (F := F) i arg2 harg2 arg3 harg3 arg4 harg4 arg5 harg5 arg6 harg6 arg7 harg7 arg8 harg8 arg9 harg9 arg10 harg10 arg11 harg11 arg12 harg12 arg13 harg13 arg14 harg14 h1) where
  inv k _ := iprop((arg5.view.loc (c : Thread nD τ) ↦[arg5.view.set]{fullShare} X5) ∗ (arg7.view.loc (c : Thread nD τ) ↦[arg7.view.set]{fullShare} X7) ∗ (∃ f, (arg11.view.loc (c : Thread nD τ) ↦[arg11.view.set]{fullShare} f) ∗ ⌜arg11.view.read (Elt F) f = delN (arg7.view.read (Elt F) X7) (arg5.view.read (Elt F) X5) k (arg11.view.read (Elt F) G11)⌝))
  step k acc := by
    iintro ⟨HR5, HR7, ⟨%f11, HW11, %h11⟩⟩
    rw [show delN (arg7.view.read (Elt F) X7) (arg5.view.read (Elt F) X5) (k.val + 1) (arg11.view.read (Elt F) G11) = (fun y => if (y 0).val = k.val then
          k0_pay146 (rowB (arg7.view.read (Elt F) X7) k.val) (rowB (arg5.view.read (Elt F) X5) k.val) (ix3 0 (y 1) (y 2)) else arg11.view.read (Elt F) f11 y) from by rw [h11]; rfl]
    iapply (trip1 c i arg2 harg2 arg3 harg3 arg4 harg4 arg5 harg5 arg6 harg6 arg7 harg7 arg8 harg8 arg9 harg9 arg10 harg10 arg11 harg11 arg12 harg12 arg13 harg13 arg14 harg14 h1 X5 X7 f11 k E)
    isplitl [HR5]; · iexact HR5
    isplitl [HR7]; · iexact HR7
    iexact HW11

set_option maxHeartbeats 4000000 in
/-- A block of the queries' gradient written back. -/
theorem trip9 (h4 : k0_cond4 i = 1#1) (X12 : BufTy.Contents (Elt F) arg12.view.ty) (f8 : BufTy.Contents (Elt F) arg8.view.ty) (k : Fin k0_t9_loop.trips) (E : Set ℕ) :
    (iprop((arg12.view.loc (c : Thread nD τ) ↦[arg12.view.set]{fullShare} X12) ∗ (arg8.view.loc (c : Thread nD τ) ↦[arg8.view.set]{fullShare} f8)) : sProp 𝕄G)
    ⊢ wp frame (wpE (defs₀ (F := F)) Variants.none (c : Thread nD τ) none) E
        (k0_t9_body (F := F) i arg2 harg2 arg3 harg3 arg4 harg4 arg5 harg5 arg6 harg6 arg7 harg7 arg8 harg8 arg9 harg9 arg10 harg10 arg11 harg11 arg12 harg12 arg13 harg13 arg14 harg14 h4 k PUnit.unit)
        (fun _ => iprop((arg12.view.loc (c : Thread nD τ) ↦[arg12.view.set]{fullShare} X12) ∗ (∃ f, (arg8.view.loc (c : Thread nD τ) ↦[arg8.view.set]{fullShare} f) ∗ ⌜arg8.view.read (Elt F) f = fun y => if h : 384 * k.val ≤ (y 0).val ∧ (y 0).val < 384 * k.val + 384 then
          k0_pay1 (dqB (arg12.view.read (Elt F) X12) k.val) (ix2 ⟨(y 0).val - 384 * k.val, by omega⟩ (y 1)) else arg8.view.read (Elt F) f8 y⌝))) := by
  have hk : k.val < 11 := lt_of_lt_of_le k.isLt k0_t9_abs.2.1
  have e := readDq arg12.view X12 (k0_off19 k) (k0_off19_inb i k h4) k.val hk (k0_off19_eq k)
  unfold k0_t9_body
  iintro ⟨HR12, HW8⟩
  sl_exec
  sl_step
  isplitl [HR12]; · iexact HR12
  iexists _; isplitl [HW8]; · iexact HW8
  ipureintro
  rw [writeOut _ _ _ _ _ _ k.val (k0_off20_eq k), View.writes_nil]

set_option warn.classDefReducibility false in
/-- The queries' gradient written back, block by block. -/
@[sl_loop] def loop9 (E : Set ℕ) (h4 : k0_cond4 i = 1#1) (X12 : BufTy.Contents (Elt F) arg12.view.ty) (G8 : BufTy.Contents (Elt F) arg8.view.ty) :
    LoopInv (M := 𝕄G) frame (wpE (defs₀ (F := F)) Variants.none (c : Thread nD τ) none) E
      k0_t9_loop.lb k0_t9_loop.ub k0_t9_loop.st (k0_t9_ok i h4) () (k0_t9_body (F := F) i arg2 harg2 arg3 harg3 arg4 harg4 arg5 harg5 arg6 harg6 arg7 harg7 arg8 harg8 arg9 harg9 arg10 harg10 arg11 harg11 arg12 harg12 arg13 harg13 arg14 harg14 h4) where
  inv k _ := iprop((arg12.view.loc (c : Thread nD τ) ↦[arg12.view.set]{fullShare} X12) ∗ (∃ f, (arg8.view.loc (c : Thread nD τ) ↦[arg8.view.set]{fullShare} f) ∗ ⌜arg8.view.read (Elt F) f = outN (arg12.view.read (Elt F) X12) k (arg8.view.read (Elt F) G8)⌝))
  step k acc := by
    iintro ⟨HR12, ⟨%f8, HW8, %h8⟩⟩
    rw [show outN (arg12.view.read (Elt F) X12) (k.val + 1) (arg8.view.read (Elt F) G8) = (fun y => if h : 384 * k.val ≤ (y 0).val ∧ (y 0).val < 384 * k.val + 384 then
          k0_pay1 (dqB (arg12.view.read (Elt F) X12) k.val) (ix2 ⟨(y 0).val - 384 * k.val, by omega⟩ (y 1)) else arg8.view.read (Elt F) f8 y) from by rw [h8]; rfl]
    iapply (trip9 c i arg2 harg2 arg3 harg3 arg4 harg4 arg5 harg5 arg6 harg6 arg7 harg7 arg8 harg8 arg9 harg9 arg10 harg10 arg11 harg11 arg12 harg12 arg13 harg13 arg14 harg14 h4 X12 f8 k E)
    isplitl [HR12]; · iexact HR12
    iexact HW8

theorem none4 : ∀ i : grid0.Coords, (k0_t4_loop i).trips = 0 := by decide +kernel

set_option warn.classDefReducibility false in
/-- A loop that takes no trip. -/
@[sl_loop] def loop4 (E : Set ℕ) (v4 v6 : FVec F S384x128 .bf16) (v9 : FVec F S128x384 .bf16) (h3 : k0_cond3 i = 1#1) (v92 v93 v110 v117 c3 : BitVec 32) :
    LoopInv (M := 𝕄G) frame (wpE (defs₀ (F := F)) Variants.none (c : Thread nD τ) none) E
      (k0_t4_loop i).lb (k0_t4_loop i).ub (k0_t4_loop i).st (k0_t4_ok i h3) () (k0_t4_body (F := F) i arg2 harg2 arg3 harg3 arg4 harg4 arg5 harg5 arg6 harg6 arg7 harg7 arg8 harg8 arg9 harg9 arg10 harg10 arg11 harg11 arg12 harg12 arg13 harg13 arg14 harg14 v4 v6 v9 h3 v92 v93 v110 v117 c3) where
  inv _ _ := iprop(emp)
  step k acc := absurd k.isLt (Nat.not_lt.mpr (le_of_eq_of_le (none4 i) (Nat.zero_le _)))

theorem none6 : ∀ i : grid0.Coords, (k0_t6_loop i).trips = 0 := by decide +kernel

set_option warn.classDefReducibility false in
/-- A loop that takes no trip. -/
@[sl_loop] def loop6 (E : Set ℕ) (v4 v6 : FVec F S384x128 .bf16) (v9 : FVec F S128x384 .bf16) (h3 : k0_cond3 i = 1#1) (v92 v93 v110 c3 v139 : BitVec 32) :
    LoopInv (M := 𝕄G) frame (wpE (defs₀ (F := F)) Variants.none (c : Thread nD τ) none) E
      (k0_t6_loop i).lb (k0_t6_loop i).ub (k0_t6_loop i).st (k0_t6_ok i h3) () (k0_t6_body (F := F) i arg2 harg2 arg3 harg3 arg4 harg4 arg5 harg5 arg6 harg6 arg7 harg7 arg8 harg8 arg9 harg9 arg10 harg10 arg11 harg11 arg12 harg12 arg13 harg13 arg14 harg14 v4 v6 v9 h3 v92 v93 v110 c3 v139) where
  inv _ _ := iprop(emp)
  step k acc := absurd k.isLt (Nat.not_lt.mpr (le_of_eq_of_le (none6 i) (Nat.zero_le _)))

theorem none8 : ∀ i : grid0.Coords, (k0_t8_loop i).trips = 0 := by decide +kernel

set_option warn.classDefReducibility false in
/-- A loop that takes no trip. -/
@[sl_loop] def loop8 (E : Set ℕ) (v3 v5 : Vec F S384x128 .bf16) (h3 : k0_cond3 i = 1#1) (v154 : BitVec 32) :
    LoopInv (M := 𝕄G) frame (wpE (defs₀ (F := F)) Variants.none (c : Thread nD τ) none) E
      (k0_t8_loop i).lb (k0_t8_loop i).ub (k0_t8_loop i).st (k0_t8_ok i h3) () (k0_t8_body (F := F) i arg2 harg2 arg3 harg3 arg4 harg4 arg5 harg5 arg6 harg6 arg7 harg7 arg8 harg8 arg9 harg9 arg10 harg10 arg11 harg11 arg12 harg12 arg13 harg13 arg14 harg14 v3 v5 h3 v154) where
  inv _ _ := iprop(emp)
  step k acc := absurd k.isLt (Nat.not_lt.mpr (le_of_eq_of_le (none8 i) (Nat.zero_le _)))
end Cert.KernelIdeal.Own
-- ==== Proof.Results.lean ====
module
public import proofs.«01_k».proof.Proof.Trips
/-! What one point of the grid leaves. -/
@[expose] public section
set_option maxRecDepth 16384
noncomputable section
namespace Cert.KernelIdeal.Own
open Idealize.ShloMosaic Idealize.ShloMosaic.TcCoe Idealize.ShloMosaic.ValueIdx
open Cert.KernelIdeal.Gen Cert.KernelIdeal
variable {F : FTy → Type} [FloatOps F]

/-- The environment of a point, from the blocks of keys and values. -/
def envAt (K V : FVec F S384x128 .bf16) (Q G : S4224x128.Idx → F .bf16) (L : S1x11x1x384.Idx → F .f32) (R : S11x1x384.Idx → F .f32) : Env F :=
  ⟨k0_pay147 K, k0_pay148 V, k0_pay149 K, Q, G, L, R⟩

/-- The row sums of all the blocks. -/
def delAll (G O : S4224x128.Idx → F .bf16) : S11x1x384.Idx → F .f32 := fun y =>
  k0_pay146 (rowB G (y 0).val) (rowB O (y 0).val) (ix3 0 (y 1) (y 2))

theorem delN_lt (G O : S4224x128.Idx → F .bf16) (R : S11x1x384.Idx → F .f32) (n : ℕ) (y : S11x1x384.Idx) (h : (y 0).val < n) :
    delN G O n R y = delAll G O y := by
  induction n with
  | zero => omega
  | succ n ih =>
    unfold delN
    by_cases hn : (y 0).val = n
    · rw [if_pos hn]; unfold delAll; rw [hn]
    · rw [if_neg hn]; exact ih (by omega)

theorem delN_all (G O : S4224x128.Idx → F .bf16) (R : S11x1x384.Idx → F .f32) : delN G O 11 R = delAll G O :=
  funext fun y => delN_lt G O R 11 y (y 0).isLt

/-- The gradient of the queries, all the blocks written back. -/
def outAll (D : S11x128x384.Idx → F .f32) : S4224x128.Idx → F .f32 := fun y =>
  k0_pay1 (dqB D ((y 0).val / 384)) (ix2 ⟨(y 0).val % 384, Nat.mod_lt _ (by decide)⟩ (y 1))

theorem outN_lt (D : S11x128x384.Idx → F .f32) (O : S4224x128.Idx → F .f32) (n : ℕ) (y : S4224x128.Idx) (h : (y 0).val < 384 * n) :
    outN D n O y = outAll D y := by
  induction n with
  | zero => omega
  | succ n ih =>
    unfold outN
    by_cases hn : 384 * n ≤ (y 0).val ∧ (y 0).val < 384 * n + 384
    · rw [dif_pos hn]; unfold outAll
      have h1 : (y 0).val / 384 = n := by omega
      have h2 : (⟨(y 0).val - 384 * n, by omega⟩ : Fin 384) = ⟨(y 0).val % 384, Nat.mod_lt _ (by decide)⟩ := Fin.ext (by show (y 0).val - 384 * n = (y 0).val % 384; omega)
      rw [h1]
      exact congrArg (fun z => k0_pay1 (dqB D n) (ix2 z (y 1))) h2
    · rw [dif_neg hn]; exact ih (by omega)

theorem outN_all (D : S11x128x384.Idx → F .f32) (O : S4224x128.Idx → F .f32) : outN D 11 O = outAll D :=
  funext fun y => outN_lt D O 11 y (y 0).isLt

/-- The sum over the blocks of queries at the first block of keys. -/
def foldA (f : ℕ → FVec F S384x128 .f32) (z : FVec F S384x128 .f32) : FVec F S384x128 .f32 :=
  addf (acc3 f 0 3 z) (addf (f 9) (f 10))

/-- The queries' gradient after the first block of keys. -/
def Env.dqA (e : Env F) (a : BitVec 32) (D : S11x128x384.Idx → F .f32) : S11x128x384.Idx → F .f32 :=
  e.dq (some a) 9 11 (e.dq3 (some a) 0 3 D)

/-- The sum over the blocks of queries at a later block of keys: the diagonal, then triples, then the rest. -/
def foldB (i : grid0.Coords) (fm f : ℕ → FVec F S384x128 .f32) (z : FVec F S384x128 .f32) : FVec F S384x128 .f32 :=
  rep (fun z => addf z (f 10)) (Scf.trips (k0_t7_loop i).lb (k0_t7_loop i).ub (k0_t7_loop i).st)
    (rep (fun z => addf z (addf (f 9) (f 10))) (Scf.trips (k0_t5_loop i).lb (k0_t5_loop i).ub (k0_t5_loop i).st)
      (acc3 f ((i 1).val + 1) (Scf.trips (k0_t3_loop i).lb (k0_t3_loop i).ub (k0_t3_loop i).st) (addf z (fm (i 1).val))))

/-- The queries' gradient after a later block of keys. -/
def Env.dqC (e : Env F) (i : grid0.Coords) (a : BitVec 32) (D : S11x128x384.Idx → F .f32) : S11x128x384.Idx → F .f32 :=
  rep (e.dq none 10 11) (Scf.trips (k0_t7_loop i).lb (k0_t7_loop i).ub (k0_t7_loop i).st)
    (rep (e.dq none 9 11) (Scf.trips (k0_t5_loop i).lb (k0_t5_loop i).ub (k0_t5_loop i).st)
      (e.dq3 none ((i 1).val + 1) (Scf.trips (k0_t3_loop i).lb (k0_t3_loop i).ub (k0_t3_loop i).st)
        (e.dq (some a) (i 1).val ((i 1).val + 1) D)))

theorem full12 {sig' : RefSig} {κ : Kind} {sp : Space} (v : View sig' κ sp S11x128x384 .f32) (f : v.ty.Contents (Elt F)) (w : S11x128x384.Idx → Elt F .f32) :
    v.read (Elt F) (v.writes (Elt F) f [⟨Rect.unit (s := S11x128x384) ![0, 0, 0] S11x128x384.size inb_S11x128x384_S11x128x384_0_0_0, w⟩]) = w :=
  View.read_writes_full v f _ w []
theorem full13 {sig' : RefSig} {κ : Kind} {sp : Space} {e : EltTy} (v : View sig' κ sp S384x128 e) (f : v.ty.Contents (Elt F)) (w : S384x128.Idx → Elt F e) (L) :
    v.read (Elt F) (v.writes (Elt F) f (⟨Rect.unit (s := S384x128) ![0, 0] S384x128.size inb_S384x128_S384x128_0_0, w⟩ :: L)) = w :=
  View.read_writes_full v f _ w L
theorem load13 {sig' : RefSig} {κ : Kind} {sp : Space} {e : EltTy} (v : View sig' κ sp S384x128 e) (f : v.ty.Contents (Elt F)) (w : S384x128.Idx → Elt F e) (L) :
    v.readAt (Elt F) (Rect.unit (s := S384x128) ![0, 0] S384x128.size inb_S384x128_S384x128_0_0).toLoadRect
      (v.writes (Elt F) f (⟨Rect.unit (s := S384x128) ![0, 0] S384x128.size inb_S384x128_S384x128_0_0, w⟩ :: L)) = w :=
  View.readAt_writes_full v f _ _ w L

theorem trips1 : Scf.trips k0_t1_loop.lb k0_t1_loop.ub k0_t1_loop.st = 11 := by decide +kernel
theorem trips2 : Scf.trips k0_t2_loop.lb k0_t2_loop.ub k0_t2_loop.st = 3 := by decide +kernel
theorem trips9 : Scf.trips k0_t9_loop.lb k0_t9_loop.ub k0_t9_loop.st = 11 := by decide +kernel
end Cert.KernelIdeal.Own
-- ==== Proof.Trip2.lean ====
module
public import proofs.«01_k».proof.Proof.Trips
/-! One trip of a loop over blocks of queries, and the loop by its invariant. -/
@[expose] public section
set_option maxRecDepth 16384
noncomputable section
namespace Cert.KernelIdeal.Own
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen Cert.KernelIdeal
variable {F : FTy → Type} [FloatOps F]
local notation "𝕄G" => MT nD τ sig Unit (Elt F) ℕ (UR sig nD τ) ℕ
variable (c : Dev nD) (i : grid0.Coords) (arg2 : Memref sig .tc .vmem S4224x128 .bf16) (harg2 : arg2.IsWhole)
    (arg3 : Memref sig .tc .vmem S384x128 .bf16) (harg3 : arg3.IsWhole)
    (arg4 : Memref sig .tc .vmem S384x128 .bf16) (harg4 : arg4.IsWhole)
    (arg5 : Memref sig .tc .vmem S4224x128 .bf16) (harg5 : arg5.IsWhole)
    (arg6 : Memref sig .tc .vmem S1x11x1x384 .f32) (harg6 : arg6.IsWhole)
    (arg7 : Memref sig .tc .vmem S4224x128 .bf16) (harg7 : arg7.IsWhole)
    (arg8 : Memref sig .tc .vmem S4224x128 .f32) (harg8 : arg8.IsWhole)
    (arg9 : Memref sig .tc .vmem S384x128 .bf16) (harg9 : arg9.IsWhole)
    (arg10 : Memref sig .tc .vmem S384x128 .bf16) (harg10 : arg10.IsWhole)
    (arg11 : Memref sig .tc .vmem S11x1x384 .f32) (harg11 : arg11.IsWhole)
    (arg12 : Memref sig .tc .vmem S11x128x384 .f32) (harg12 : arg12.IsWhole)
    (arg13 : Memref sig .tc .vmem S384x128 .f32) (harg13 : arg13.IsWhole)
    (arg14 : Memref sig .tc .vmem S384x128 .f32) (harg14 : arg14.IsWhole)

set_option maxHeartbeats 8000000 in
/-- Three masked blocks together. -/
theorem trip2 (arg1 : BitVec 32) (v4 v6 : FVec F S384x128 .bf16) (v9 : FVec F S128x384 .bf16) (h2 : k0_cond2 i = 1#1)
    (X2 : BufTy.Contents (Elt F) arg2.view.ty) (X6 : BufTy.Contents (Elt F) arg6.view.ty) (X7 : BufTy.Contents (Elt F) arg7.view.ty) (X11 : BufTy.Contents (Elt F) arg11.view.ty) (f12 : BufTy.Contents (Elt F) arg12.view.ty) (f13 : BufTy.Contents (Elt F) arg13.view.ty) (f14 : BufTy.Contents (Elt F) arg14.view.ty) (k : Fin k0_t2_loop.trips) (E : Set ℕ) :
    (iprop((arg2.view.loc (c : Thread nD τ) ↦[arg2.view.set]{fullShare} X2) ∗ (arg6.view.loc (c : Thread nD τ) ↦[arg6.view.set]{fullShare} X6) ∗ (arg7.view.loc (c : Thread nD τ) ↦[arg7.view.set]{fullShare} X7) ∗ (arg11.view.loc (c : Thread nD τ) ↦[arg11.view.set]{fullShare} X11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14)) : sProp 𝕄G)
    ⊢ wp frame (wpE (defs₀ (F := F)) Variants.none (c : Thread nD τ) none) E
        (k0_t2_body (F := F) i arg2 harg2 arg3 harg3 arg4 harg4 arg5 harg5 arg6 harg6 arg7 harg7 arg8 harg8 arg9 harg9 arg10 harg10 arg11 harg11 arg12 harg12 arg13 harg13 arg14 harg14 arg1 v4 v6 v9 h2 k PUnit.unit)
        (fun _ => Acc (F := F) c arg2 arg6 arg7 arg11 arg12 arg13 arg14 X2 X6 X7 X11
          ((envOf arg2 arg6 arg7 arg11 v4 v6 v9 X2 X6 X7 X11).dq (some arg1) (0 + 3 * k.val) (0 + 3 * k.val + 3) (arg12.view.read (Elt F) f12)) (addf (arg13.view.read (Elt F) f13) (tri ((envOf arg2 arg6 arg7 arg11 v4 v6 v9 X2 X6 X7 X11).k (some arg1)) (0 + 3 * k.val))) (addf (arg14.view.read (Elt F) f14) (tri ((envOf arg2 arg6 arg7 arg11 v4 v6 v9 X2 X6 X7 X11).v (some arg1)) (0 + 3 * k.val)))) := by
  have h0 := at_reads (F := F) arg2 arg6 arg7 arg11 v4 v6 v9 X2 X6 X7 X11 (0 + 3 * k.val) (by have := blk2_lt k; omega)
    (k0_off3 k (BitVec.ofNat 32 0)) (k0_off4 k (BitVec.ofNat 32 0)) (k0_off5 k (BitVec.ofNat 32 0))
    (k0_off3_inb i k h2 0) (k0_off3_inb i k h2 0) (k0_off4_inb i k h2 0) (k0_off5_inb i k h2 0)
    (offs3_0 k) (offs4_0 k) (offs5_0 k)
  have h1 := at_reads (F := F) arg2 arg6 arg7 arg11 v4 v6 v9 X2 X6 X7 X11 (0 + 3 * k.val + 1) (by have := blk2_lt k; omega)
    (k0_off3 k (BitVec.ofNat 32 1)) (k0_off4 k (BitVec.ofNat 32 1)) (k0_off5 k (BitVec.ofNat 32 1))
    (k0_off3_inb i k h2 1) (k0_off3_inb i k h2 1) (k0_off4_inb i k h2 1) (k0_off5_inb i k h2 1)
    (offs3_1 k) (offs4_1 k) (offs5_1 k)
  have h2 := at_reads (F := F) arg2 arg6 arg7 arg11 v4 v6 v9 X2 X6 X7 X11 (0 + 3 * k.val + 2) (by have := blk2_lt k; omega)
    (k0_off3 k (BitVec.ofNat 32 2)) (k0_off4 k (BitVec.ofNat 32 2)) (k0_off5 k (BitVec.ofNat 32 2))
    (k0_off3_inb i k h2 2) (k0_off3_inb i k h2 2) (k0_off4_inb i k h2 2) (k0_off5_inb i k h2 2)
    (offs3_2 k) (offs4_2 k) (offs5_2 k)
  unfold k0_t2_body
  iintro ⟨HR2, HR6, HR7, HR11, HW12, HW13, HW14⟩
  sl_exec
  sl_step
  isplitl [HR2]; · iexact HR2
  isplitl [HR6]; · iexact HR6
  isplitl [HR7]; · iexact HR7
  isplitl [HR11]; · iexact HR11
  isplitl [HW12]
  · iexists _; isplitl [HW12]; · iexact HW12
    ipureintro
    rw [writeDq _ _ _ _ _ _ (0 + 3 * k.val + 2) (offs6_2 k), writeDq _ _ _ _ _ _ (0 + 3 * k.val + 1) (offs6_1 k), writeDq _ _ _ _ _ _ (0 + 3 * k.val) (offs6_0 k), View.writes_nil]
    exact dq_three _ (some arg1) (0 + 3 * k.val) _ _ _ _ (h0.d (some arg1) (word2 k 0) (readDq _ _ _ _ (0 + 3 * k.val) (by have := blk2_lt k; omega) (offs6_0 k))) (h1.d (some arg1) (word2 k 1) (readDq _ _ _ _ (0 + 3 * k.val + 1) (by have := blk2_lt k; omega) (offs6_1 k))) (h2.d (some arg1) (word2 k 2) (readDq _ _ _ _ (0 + 3 * k.val + 2) (by have := blk2_lt k; omega) (offs6_2 k)))
  isplitl [HW13]
  · iexists _; isplitl [HW13]; · iexact HW13
    ipureintro
    rw [View.read_writes_full]
    exact (shapeCast_self _ _).trans (congrArg₂ addf (View.readAt_full _ _ _) (congrArg₂ addf (congrArg₂ addf (h0.k (some arg1) (word2 k 0)) (h1.k (some arg1) (word2 k 1))) (h2.k (some arg1) (word2 k 2))))
  iexists _; isplitl [HW14]; · iexact HW14
  ipureintro
  rw [View.read_writes_full]
  exact (shapeCast_self _ _).trans (congrArg₂ addf (View.readAt_full _ _ _) (congrArg₂ addf (congrArg₂ addf (h0.v (some arg1) (word2 k 0)) (h1.v (some arg1) (word2 k 1))) (h2.v (some arg1) (word2 k 2))))

set_option warn.classDefReducibility false in
/-- The loop by its invariant: before trip `k` the accumulators hold what the trips before it left. -/
@[sl_loop] def loop2 (E : Set ℕ) (arg1 : BitVec 32) (v4 v6 : FVec F S384x128 .bf16) (v9 : FVec F S128x384 .bf16) (h2 : k0_cond2 i = 1#1) (X2 : BufTy.Contents (Elt F) arg2.view.ty) (X6 : BufTy.Contents (Elt F) arg6.view.ty) (X7 : BufTy.Contents (Elt F) arg7.view.ty) (X11 : BufTy.Contents (Elt F) arg11.view.ty) (G12 : BufTy.Contents (Elt F) arg12.view.ty) (G13 : BufTy.Contents (Elt F) arg13.view.ty) (G14 : BufTy.Contents (Elt F) arg14.view.ty) :
    LoopInv (M := 𝕄G) frame (wpE (defs₀ (F := F)) Variants.none (c : Thread nD τ) none) E
      k0_t2_loop.lb k0_t2_loop.ub k0_t2_loop.st (k0_t2_ok i h2) ()
      (k0_t2_body (F := F) i arg2 harg2 arg3 harg3 arg4 harg4 arg5 harg5 arg6 harg6 arg7 harg7 arg8 harg8 arg9 harg9 arg10 harg10 arg11 harg11 arg12 harg12 arg13 harg13 arg14 harg14 arg1 v4 v6 v9 h2) where
  inv k _ := Acc (F := F) c arg2 arg6 arg7 arg11 arg12 arg13 arg14 X2 X6 X7 X11
    ((envOf arg2 arg6 arg7 arg11 v4 v6 v9 X2 X6 X7 X11).dq3 (some arg1) 0 k (arg12.view.read (Elt F) G12)) (acc3 ((envOf arg2 arg6 arg7 arg11 v4 v6 v9 X2 X6 X7 X11).k (some arg1)) 0 k (arg13.view.read (Elt F) G13)) (acc3 ((envOf arg2 arg6 arg7 arg11 v4 v6 v9 X2 X6 X7 X11).v (some arg1)) 0 k (arg14.view.read (Elt F) G14))
  step k acc := by
    iintro ⟨HR2, HR6, HR7, HR11, ⟨%f12, HW12, %h12⟩, ⟨%f13, HW13, %h13⟩, ⟨%f14, HW14, %h14⟩⟩
    rw [show ((envOf arg2 arg6 arg7 arg11 v4 v6 v9 X2 X6 X7 X11).dq3 (some arg1) 0 (k.val + 1) (arg12.view.read (Elt F) G12)) = (envOf arg2 arg6 arg7 arg11 v4 v6 v9 X2 X6 X7 X11).dq (some arg1) (0 + 3 * k.val) (0 + 3 * k.val + 3) (arg12.view.read (Elt F) f12) from by rw [h12]; rfl,
      show (acc3 ((envOf arg2 arg6 arg7 arg11 v4 v6 v9 X2 X6 X7 X11).k (some arg1)) 0 (k.val + 1) (arg13.view.read (Elt F) G13)) = addf (arg13.view.read (Elt F) f13) (tri ((envOf arg2 arg6 arg7 arg11 v4 v6 v9 X2 X6 X7 X11).k (some arg1)) (0 + 3 * k.val)) from by rw [h13]; rfl,
      show (acc3 ((envOf arg2 arg6 arg7 arg11 v4 v6 v9 X2 X6 X7 X11).v (some arg1)) 0 (k.val + 1) (arg14.view.read (Elt F) G14)) = addf (arg14.view.read (Elt F) f14) (tri ((envOf arg2 arg6 arg7 arg11 v4 v6 v9 X2 X6 X7 X11).v (some arg1)) (0 + 3 * k.val)) from by rw [h14]; rfl]
    iapply (trip2 c i arg2 harg2 arg3 harg3 arg4 harg4 arg5 harg5 arg6 harg6 arg7 harg7 arg8 harg8 arg9 harg9 arg10 harg10 arg11 harg11 arg12 harg12 arg13 harg13 arg14 harg14 arg1 v4 v6 v9 h2 X2 X6 X7 X11 f12 f13 f14 k E)
    isplitl [HR2]; · iexact HR2
    isplitl [HR6]; · iexact HR6
    isplitl [HR7]; · iexact HR7
    isplitl [HR11]; · iexact HR11
    isplitl [HW12]; · iexact HW12
    isplitl [HW13]; · iexact HW13
    iexact HW14
end Cert.KernelIdeal.Own
-- ==== Proof.Trip3.lean ====
module
public import proofs.«01_k».proof.Proof.Trips
/-! One trip of a loop over blocks of queries, and the loop by its invariant. -/
@[expose] public section
set_option maxRecDepth 16384
noncomputable section
namespace Cert.KernelIdeal.Own
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen Cert.KernelIdeal
variable {F : FTy → Type} [FloatOps F]
local notation "𝕄G" => MT nD τ sig Unit (Elt F) ℕ (UR sig nD τ) ℕ
variable (c : Dev nD) (i : grid0.Coords) (arg2 : Memref sig .tc .vmem S4224x128 .bf16) (harg2 : arg2.IsWhole)
    (arg3 : Memref sig .tc .vmem S384x128 .bf16) (harg3 : arg3.IsWhole)
    (arg4 : Memref sig .tc .vmem S384x128 .bf16) (harg4 : arg4.IsWhole)
    (arg5 : Memref sig .tc .vmem S4224x128 .bf16) (harg5 : arg5.IsWhole)
    (arg6 : Memref sig .tc .vmem S1x11x1x384 .f32) (harg6 : arg6.IsWhole)
    (arg7 : Memref sig .tc .vmem S4224x128 .bf16) (harg7 : arg7.IsWhole)
    (arg8 : Memref sig .tc .vmem S4224x128 .f32) (harg8 : arg8.IsWhole)
    (arg9 : Memref sig .tc .vmem S384x128 .bf16) (harg9 : arg9.IsWhole)
    (arg10 : Memref sig .tc .vmem S384x128 .bf16) (harg10 : arg10.IsWhole)
    (arg11 : Memref sig .tc .vmem S11x1x384 .f32) (harg11 : arg11.IsWhole)
    (arg12 : Memref sig .tc .vmem S11x128x384 .f32) (harg12 : arg12.IsWhole)
    (arg13 : Memref sig .tc .vmem S384x128 .f32) (harg13 : arg13.IsWhole)
    (arg14 : Memref sig .tc .vmem S384x128 .f32) (harg14 : arg14.IsWhole)

set_option maxHeartbeats 8000000 in
/-- Three blocks together. -/
theorem trip3 (v4 v6 : FVec F S384x128 .bf16) (v9 : FVec F S128x384 .bf16) (h3 : k0_cond3 i = 1#1) (v92 v93 v110 c3 : BitVec 32)
    (X2 : BufTy.Contents (Elt F) arg2.view.ty) (X6 : BufTy.Contents (Elt F) arg6.view.ty) (X7 : BufTy.Contents (Elt F) arg7.view.ty) (X11 : BufTy.Contents (Elt F) arg11.view.ty) (f12 : BufTy.Contents (Elt F) arg12.view.ty) (f13 : BufTy.Contents (Elt F) arg13.view.ty) (f14 : BufTy.Contents (Elt F) arg14.view.ty) (k : Fin (k0_t3_loop i).trips) (E : Set ℕ) :
    (iprop((arg2.view.loc (c : Thread nD τ) ↦[arg2.view.set]{fullShare} X2) ∗ (arg6.view.loc (c : Thread nD τ) ↦[arg6.view.set]{fullShare} X6) ∗ (arg7.view.loc (c : Thread nD τ) ↦[arg7.view.set]{fullShare} X7) ∗ (arg11.view.loc (c : Thread nD τ) ↦[arg11.view.set]{fullShare} X11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14)) : sProp 𝕄G)
    ⊢ wp frame (wpE (defs₀ (F := F)) Variants.none (c : Thread nD τ) none) E
        (k0_t3_body (F := F) i arg2 harg2 arg3 harg3 arg4 harg4 arg5 harg5 arg6 harg6 arg7 harg7 arg8 harg8 arg9 harg9 arg10 harg10 arg11 harg11 arg12 harg12 arg13 harg13 arg14 harg14 v4 v6 v9 h3 v92 v93 v110 c3 k PUnit.unit)
        (fun _ => Acc (F := F) c arg2 arg6 arg7 arg11 arg12 arg13 arg14 X2 X6 X7 X11
          ((envOf arg2 arg6 arg7 arg11 v4 v6 v9 X2 X6 X7 X11).dq none ((i 1).val + 1 + 3 * k.val) ((i 1).val + 1 + 3 * k.val + 3) (arg12.view.read (Elt F) f12)) (addf (arg13.view.read (Elt F) f13) (tri ((envOf arg2 arg6 arg7 arg11 v4 v6 v9 X2 X6 X7 X11).k none) ((i 1).val + 1 + 3 * k.val))) (addf (arg14.view.read (Elt F) f14) (tri ((envOf arg2 arg6 arg7 arg11 v4 v6 v9 X2 X6 X7 X11).v none) ((i 1).val + 1 + 3 * k.val)))) := by
  have h0 := at_reads (F := F) arg2 arg6 arg7 arg11 v4 v6 v9 X2 X6 X7 X11 ((i 1).val + 1 + 3 * k.val) (by have := blk3_lt i k; omega)
    (k0_off11 i k (BitVec.ofNat 32 0)) (k0_off12 i k (BitVec.ofNat 32 0)) (k0_off13 i k (BitVec.ofNat 32 0))
    (k0_off11_inb i k h3 0) (k0_off11_inb i k h3 0) (k0_off12_inb i k h3 0) (k0_off13_inb i k h3 0) (off11_eq i k 0) (off12_eq i k 0) (off13_eq i k 0)
  have h1 := at_reads (F := F) arg2 arg6 arg7 arg11 v4 v6 v9 X2 X6 X7 X11 ((i 1).val + 1 + 3 * k.val + 1) (by have := blk3_lt i k; omega)
    (k0_off11 i k (BitVec.ofNat 32 1)) (k0_off12 i k (BitVec.ofNat 32 1)) (k0_off13 i k (BitVec.ofNat 32 1))
    (k0_off11_inb i k h3 1) (k0_off11_inb i k h3 1) (k0_off12_inb i k h3 1) (k0_off13_inb i k h3 1) (off11_eq i k 1) (off12_eq i k 1) (off13_eq i k 1)
  have h2 := at_reads (F := F) arg2 arg6 arg7 arg11 v4 v6 v9 X2 X6 X7 X11 ((i 1).val + 1 + 3 * k.val + 2) (by have := blk3_lt i k; omega)
    (k0_off11 i k (BitVec.ofNat 32 2)) (k0_off12 i k (BitVec.ofNat 32 2)) (k0_off13 i k (BitVec.ofNat 32 2))
    (k0_off11_inb i k h3 2) (k0_off11_inb i k h3 2) (k0_off12_inb i k h3 2) (k0_off13_inb i k h3 2) (off11_eq i k 2) (off12_eq i k 2) (off13_eq i k 2)
  unfold k0_t3_body
  iintro ⟨HR2, HR6, HR7, HR11, HW12, HW13, HW14⟩
  sl_exec
  sl_step
  isplitl [HR2]; · iexact HR2
  isplitl [HR6]; · iexact HR6
  isplitl [HR7]; · iexact HR7
  isplitl [HR11]; · iexact HR11
  isplitl [HW12]
  · iexists _; isplitl [HW12]; · iexact HW12
    ipureintro
    rw [writeDq _ _ _ _ _ _ ((i 1).val + 1 + 3 * k.val + 2) (show k0_off14 i k 2#32 = _ from off14_eq i k 2), writeDq _ _ _ _ _ _ ((i 1).val + 1 + 3 * k.val + 1) (show k0_off14 i k 1#32 = _ from off14_eq i k 1), writeDq _ _ _ _ _ _ ((i 1).val + 1 + 3 * k.val) (show k0_off14 i k 0#32 = _ from off14_eq i k 0), View.writes_nil]
    refine dq_three _ none ((i 1).val + 1 + 3 * k.val) _ _ _ _ ?_ ?_ ?_
    · refine Eq.trans ?_ (h0.d none rfl (readDq arg12.view f12 (k0_off14 i k 0#32) (k0_off14_inb i k h3 0) ((i 1).val + 1 + 3 * k.val) (by have := blk3_lt i k; omega) (show k0_off14 i k 0#32 = _ from off14_eq i k 0)))
      unfold k0_pay49 stepD
      refine congrArg (fun z => shapeCast _ z _) (congrArg₂ addf ?_ ?_)
      · rfl
      refine congrArg₂ (fun a b => matmul _ _ _ a b) ?_ ?_
      · rfl
      · rfl
    · exact (h1.d none rfl (readDq arg12.view f12 (k0_off14 i k 1#32) (k0_off14_inb i k h3 1) ((i 1).val + 1 + 3 * k.val + 1) (by have := blk3_lt i k; omega) (show k0_off14 i k 1#32 = _ from off14_eq i k 1)))
    · exact (h2.d none rfl (readDq arg12.view f12 (k0_off14 i k 2#32) (k0_off14_inb i k h3 2) ((i 1).val + 1 + 3 * k.val + 2) (by have := blk3_lt i k; omega) (show k0_off14 i k 2#32 = _ from off14_eq i k 2)))
  isplitl [HW13]
  · iexists _; isplitl [HW13]; · iexact HW13
    ipureintro
    rw [View.read_writes_full]
    exact (shapeCast_self _ _).trans (congrArg₂ addf (View.readAt_full _ _ _) (congrArg₂ addf (congrArg₂ addf (h0.k none rfl) (h1.k none rfl)) (h2.k none rfl)))
  iexists _; isplitl [HW14]; · iexact HW14
  ipureintro
  rw [View.read_writes_full]
  exact (shapeCast_self _ _).trans (congrArg₂ addf (View.readAt_full _ _ _) (congrArg₂ addf (congrArg₂ addf (h0.v none rfl) (h1.v none rfl)) (h2.v none rfl)))

set_option warn.classDefReducibility false in
/-- The loop by its invariant: before trip `k` the accumulators hold what the trips before it left. -/
@[sl_loop] def loop3 (E : Set ℕ) (v4 v6 : FVec F S384x128 .bf16) (v9 : FVec F S128x384 .bf16) (h3 : k0_cond3 i = 1#1) (v92 v93 v110 c3 : BitVec 32) (X2 : BufTy.Contents (Elt F) arg2.view.ty) (X6 : BufTy.Contents (Elt F) arg6.view.ty) (X7 : BufTy.Contents (Elt F) arg7.view.ty) (X11 : BufTy.Contents (Elt F) arg11.view.ty) (G12 : BufTy.Contents (Elt F) arg12.view.ty) (G13 : BufTy.Contents (Elt F) arg13.view.ty) (G14 : BufTy.Contents (Elt F) arg14.view.ty) :
    LoopInv (M := 𝕄G) frame (wpE (defs₀ (F := F)) Variants.none (c : Thread nD τ) none) E
      (k0_t3_loop i).lb (k0_t3_loop i).ub (k0_t3_loop i).st (k0_t3_ok i h3) ()
      (k0_t3_body (F := F) i arg2 harg2 arg3 harg3 arg4 harg4 arg5 harg5 arg6 harg6 arg7 harg7 arg8 harg8 arg9 harg9 arg10 harg10 arg11 harg11 arg12 harg12 arg13 harg13 arg14 harg14 v4 v6 v9 h3 v92 v93 v110 c3) where
  inv k _ := Acc (F := F) c arg2 arg6 arg7 arg11 arg12 arg13 arg14 X2 X6 X7 X11
    ((envOf arg2 arg6 arg7 arg11 v4 v6 v9 X2 X6 X7 X11).dq3 none ((i 1).val + 1) k (arg12.view.read (Elt F) G12)) (acc3 ((envOf arg2 arg6 arg7 arg11 v4 v6 v9 X2 X6 X7 X11).k none) ((i 1).val + 1) k (arg13.view.read (Elt F) G13)) (acc3 ((envOf arg2 arg6 arg7 arg11 v4 v6 v9 X2 X6 X7 X11).v none) ((i 1).val + 1) k (arg14.view.read (Elt F) G14))
  step k acc := by
    iintro ⟨HR2, HR6, HR7, HR11, ⟨%f12, HW12, %h12⟩, ⟨%f13, HW13, %h13⟩, ⟨%f14, HW14, %h14⟩⟩
    rw [show ((envOf arg2 arg6 arg7 arg11 v4 v6 v9 X2 X6 X7 X11).dq3 none ((i 1).val + 1) (k.val + 1) (arg12.view.read (Elt F) G12)) = (envOf arg2 arg6 arg7 arg11 v4 v6 v9 X2 X6 X7 X11).dq none ((i 1).val + 1 + 3 * k.val) ((i 1).val + 1 + 3 * k.val + 3) (arg12.view.read (Elt F) f12) from by rw [h12]; rfl,
      show (acc3 ((envOf arg2 arg6 arg7 arg11 v4 v6 v9 X2 X6 X7 X11).k none) ((i 1).val + 1) (k.val + 1) (arg13.view.read (Elt F) G13)) = addf (arg13.view.read (Elt F) f13) (tri ((envOf arg2 arg6 arg7 arg11 v4 v6 v9 X2 X6 X7 X11).k none) ((i 1).val + 1 + 3 * k.val)) from by rw [h13]; rfl,
      show (acc3 ((envOf arg2 arg6 arg7 arg11 v4 v6 v9 X2 X6 X7 X11).v none) ((i 1).val + 1) (k.val + 1) (arg14.view.read (Elt F) G14)) = addf (arg14.view.read (Elt F) f14) (tri ((envOf arg2 arg6 arg7 arg11 v4 v6 v9 X2 X6 X7 X11).v none) ((i 1).val + 1 + 3 * k.val)) from by rw [h14]; rfl]
    iapply (trip3 c i arg2 harg2 arg3 harg3 arg4 harg4 arg5 harg5 arg6 harg6 arg7 harg7 arg8 harg8 arg9 harg9 arg10 harg10 arg11 harg11 arg12 harg12 arg13 harg13 arg14 harg14 v4 v6 v9 h3 v92 v93 v110 c3 X2 X6 X7 X11 f12 f13 f14 k E)
    isplitl [HR2]; · iexact HR2
    isplitl [HR6]; · iexact HR6
    isplitl [HR7]; · iexact HR7
    isplitl [HR11]; · iexact HR11
    isplitl [HW12]; · iexact HW12
    isplitl [HW13]; · iexact HW13
    iexact HW14
end Cert.KernelIdeal.Own
-- ==== Proof.Trip5.lean ====
module
public import proofs.«01_k».proof.Proof.Trips
/-! One trip of a loop over blocks of queries, and the loop by its invariant. -/
@[expose] public section
set_option maxRecDepth 16384
noncomputable section
namespace Cert.KernelIdeal.Own
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen Cert.KernelIdeal
variable {F : FTy → Type} [FloatOps F]
local notation "𝕄G" => MT nD τ sig Unit (Elt F) ℕ (UR sig nD τ) ℕ
variable (c : Dev nD) (i : grid0.Coords) (arg2 : Memref sig .tc .vmem S4224x128 .bf16) (harg2 : arg2.IsWhole)
    (arg3 : Memref sig .tc .vmem S384x128 .bf16) (harg3 : arg3.IsWhole)
    (arg4 : Memref sig .tc .vmem S384x128 .bf16) (harg4 : arg4.IsWhole)
    (arg5 : Memref sig .tc .vmem S4224x128 .bf16) (harg5 : arg5.IsWhole)
    (arg6 : Memref sig .tc .vmem S1x11x1x384 .f32) (harg6 : arg6.IsWhole)
    (arg7 : Memref sig .tc .vmem S4224x128 .bf16) (harg7 : arg7.IsWhole)
    (arg8 : Memref sig .tc .vmem S4224x128 .f32) (harg8 : arg8.IsWhole)
    (arg9 : Memref sig .tc .vmem S384x128 .bf16) (harg9 : arg9.IsWhole)
    (arg10 : Memref sig .tc .vmem S384x128 .bf16) (harg10 : arg10.IsWhole)
    (arg11 : Memref sig .tc .vmem S11x1x384 .f32) (harg11 : arg11.IsWhole)
    (arg12 : Memref sig .tc .vmem S11x128x384 .f32) (harg12 : arg12.IsWhole)
    (arg13 : Memref sig .tc .vmem S384x128 .f32) (harg13 : arg13.IsWhole)
    (arg14 : Memref sig .tc .vmem S384x128 .f32) (harg14 : arg14.IsWhole)

set_option maxHeartbeats 8000000 in
/-- The last two blocks together. -/
theorem trip5 (v4 v6 : FVec F S384x128 .bf16) (v9 : FVec F S128x384 .bf16) (h3 : k0_cond3 i = 1#1) (v92 v93 v110 c3 : BitVec 32)
    (X2 : BufTy.Contents (Elt F) arg2.view.ty) (X6 : BufTy.Contents (Elt F) arg6.view.ty) (X7 : BufTy.Contents (Elt F) arg7.view.ty) (X11 : BufTy.Contents (Elt F) arg11.view.ty) (f12 : BufTy.Contents (Elt F) arg12.view.ty) (f13 : BufTy.Contents (Elt F) arg13.view.ty) (f14 : BufTy.Contents (Elt F) arg14.view.ty) (k : Fin (k0_t5_loop i).trips) (E : Set ℕ) :
    (iprop((arg2.view.loc (c : Thread nD τ) ↦[arg2.view.set]{fullShare} X2) ∗ (arg6.view.loc (c : Thread nD τ) ↦[arg6.view.set]{fullShare} X6) ∗ (arg7.view.loc (c : Thread nD τ) ↦[arg7.view.set]{fullShare} X7) ∗ (arg11.view.loc (c : Thread nD τ) ↦[arg11.view.set]{fullShare} X11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14)) : sProp 𝕄G)
    ⊢ wp frame (wpE (defs₀ (F := F)) Variants.none (c : Thread nD τ) none) E
        (k0_t5_body (F := F) i arg2 harg2 arg3 harg3 arg4 harg4 arg5 harg5 arg6 harg6 arg7 harg7 arg8 harg8 arg9 harg9 arg10 harg10 arg11 harg11 arg12 harg12 arg13 harg13 arg14 harg14 v4 v6 v9 h3 v92 v93 v110 c3 k PUnit.unit)
        (fun _ => Acc (F := F) c arg2 arg6 arg7 arg11 arg12 arg13 arg14 X2 X6 X7 X11
          ((envOf arg2 arg6 arg7 arg11 v4 v6 v9 X2 X6 X7 X11).dq none 9 11 (arg12.view.read (Elt F) f12)) (addf (arg13.view.read (Elt F) f13) (addf ((envOf arg2 arg6 arg7 arg11 v4 v6 v9 X2 X6 X7 X11).k none 9) ((envOf arg2 arg6 arg7 arg11 v4 v6 v9 X2 X6 X7 X11).k none 10))) (addf (arg14.view.read (Elt F) f14) (addf ((envOf arg2 arg6 arg7 arg11 v4 v6 v9 X2 X6 X7 X11).v none 9) ((envOf arg2 arg6 arg7 arg11 v4 v6 v9 X2 X6 X7 X11).v none 10)))) := by
  have h0 := at_reads (F := F) arg2 arg6 arg7 arg11 v4 v6 v9 X2 X6 X7 X11 9 (by decide) ![3456, 0] ![0, 9, 0, 0] ![9, 0, 0]
    inb_S4224x128_S384x128_3456_0 inb_S4224x128_S384x128_3456_0 inb_S1x11x1x384_S1x1x1x384_0_9_0_0 inb_S11x1x384_S1x1x384_9_0_0 rfl rfl rfl
  have h1 := at_reads (F := F) arg2 arg6 arg7 arg11 v4 v6 v9 X2 X6 X7 X11 10 (by decide) ![3840, 0] ![0, 10, 0, 0] ![10, 0, 0]
    inb_S4224x128_S384x128_3840_0 inb_S4224x128_S384x128_3840_0 inb_S1x11x1x384_S1x1x1x384_0_10_0_0 inb_S11x1x384_S1x1x384_10_0_0 rfl rfl rfl
  unfold k0_t5_body
  iintro ⟨HR2, HR6, HR7, HR11, HW12, HW13, HW14⟩
  sl_exec
  sl_step
  isplitl [HR2]; · iexact HR2
  isplitl [HR6]; · iexact HR6
  isplitl [HR7]; · iexact HR7
  isplitl [HR11]; · iexact HR11
  isplitl [HW12]
  · iexists _; isplitl [HW12]; · iexact HW12
    ipureintro
    rw [writeDq _ _ _ _ _ _ 10 rfl, writeDq _ _ _ _ _ _ 9 rfl, View.writes_nil]
    exact dq_two _ none (9) _ _ _ (h0.d none rfl (readDq _ _ _ _ 9 (by decide) rfl)) (h1.d none rfl (readDq _ _ _ _ 10 (by decide) rfl))
  isplitl [HW13]
  · iexists _; isplitl [HW13]; · iexact HW13
    ipureintro
    rw [View.read_writes_full]
    exact (shapeCast_self _ _).trans (congrArg₂ addf (View.readAt_full _ _ _) (congrArg₂ addf (h0.k none rfl) (h1.k none rfl)))
  iexists _; isplitl [HW14]; · iexact HW14
  ipureintro
  rw [View.read_writes_full]
  exact (shapeCast_self _ _).trans (congrArg₂ addf (View.readAt_full _ _ _) (congrArg₂ addf (h0.v none rfl) (h1.v none rfl)))

set_option warn.classDefReducibility false in
/-- The loop by its invariant: before trip `k` the accumulators hold what the trips before it left. -/
@[sl_loop] def loop5 (E : Set ℕ) (v4 v6 : FVec F S384x128 .bf16) (v9 : FVec F S128x384 .bf16) (h3 : k0_cond3 i = 1#1) (v92 v93 v110 c3 : BitVec 32) (X2 : BufTy.Contents (Elt F) arg2.view.ty) (X6 : BufTy.Contents (Elt F) arg6.view.ty) (X7 : BufTy.Contents (Elt F) arg7.view.ty) (X11 : BufTy.Contents (Elt F) arg11.view.ty) (G12 : BufTy.Contents (Elt F) arg12.view.ty) (G13 : BufTy.Contents (Elt F) arg13.view.ty) (G14 : BufTy.Contents (Elt F) arg14.view.ty) :
    LoopInv (M := 𝕄G) frame (wpE (defs₀ (F := F)) Variants.none (c : Thread nD τ) none) E
      (k0_t5_loop i).lb (k0_t5_loop i).ub (k0_t5_loop i).st (k0_t5_ok i h3) ()
      (k0_t5_body (F := F) i arg2 harg2 arg3 harg3 arg4 harg4 arg5 harg5 arg6 harg6 arg7 harg7 arg8 harg8 arg9 harg9 arg10 harg10 arg11 harg11 arg12 harg12 arg13 harg13 arg14 harg14 v4 v6 v9 h3 v92 v93 v110 c3) where
  inv k _ := Acc (F := F) c arg2 arg6 arg7 arg11 arg12 arg13 arg14 X2 X6 X7 X11
    (rep ((envOf arg2 arg6 arg7 arg11 v4 v6 v9 X2 X6 X7 X11).dq none 9 11) k (arg12.view.read (Elt F) G12)) (rep (fun z => addf z (addf ((envOf arg2 arg6 arg7 arg11 v4 v6 v9 X2 X6 X7 X11).k none 9) ((envOf arg2 arg6 arg7 arg11 v4 v6 v9 X2 X6 X7 X11).k none 10))) k (arg13.view.read (Elt F) G13)) (rep (fun z => addf z (addf ((envOf arg2 arg6 arg7 arg11 v4 v6 v9 X2 X6 X7 X11).v none 9) ((envOf arg2 arg6 arg7 arg11 v4 v6 v9 X2 X6 X7 X11).v none 10))) k (arg14.view.read (Elt F) G14))
  step k acc := by
    iintro ⟨HR2, HR6, HR7, HR11, ⟨%f12, HW12, %h12⟩, ⟨%f13, HW13, %h13⟩, ⟨%f14, HW14, %h14⟩⟩
    rw [show (rep ((envOf arg2 arg6 arg7 arg11 v4 v6 v9 X2 X6 X7 X11).dq none 9 11) (k.val + 1) (arg12.view.read (Elt F) G12)) = (envOf arg2 arg6 arg7 arg11 v4 v6 v9 X2 X6 X7 X11).dq none 9 11 (arg12.view.read (Elt F) f12) from by rw [h12]; rfl,
      show (rep (fun z => addf z (addf ((envOf arg2 arg6 arg7 arg11 v4 v6 v9 X2 X6 X7 X11).k none 9) ((envOf arg2 arg6 arg7 arg11 v4 v6 v9 X2 X6 X7 X11).k none 10))) (k.val + 1) (arg13.view.read (Elt F) G13)) = addf (arg13.view.read (Elt F) f13) (addf ((envOf arg2 arg6 arg7 arg11 v4 v6 v9 X2 X6 X7 X11).k none 9) ((envOf arg2 arg6 arg7 arg11 v4 v6 v9 X2 X6 X7 X11).k none 10)) from by rw [h13]; rfl,
      show (rep (fun z => addf z (addf ((envOf arg2 arg6 arg7 arg11 v4 v6 v9 X2 X6 X7 X11).v none 9) ((envOf arg2 arg6 arg7 arg11 v4 v6 v9 X2 X6 X7 X11).v none 10))) (k.val + 1) (arg14.view.read (Elt F) G14)) = addf (arg14.view.read (Elt F) f14) (addf ((envOf arg2 arg6 arg7 arg11 v4 v6 v9 X2 X6 X7 X11).v none 9) ((envOf arg2 arg6 arg7 arg11 v4 v6 v9 X2 X6 X7 X11).v none 10)) from by rw [h14]; rfl]
    iapply (trip5 c i arg2 harg2 arg3 harg3 arg4 harg4 arg5 harg5 arg6 harg6 arg7 harg7 arg8 harg8 arg9 harg9 arg10 harg10 arg11 harg11 arg12 harg12 arg13 harg13 arg14 harg14 v4 v6 v9 h3 v92 v93 v110 c3 X2 X6 X7 X11 f12 f13 f14 k E)
    isplitl [HR2]; · iexact HR2
    isplitl [HR6]; · iexact HR6
    isplitl [HR7]; · iexact HR7
    isplitl [HR11]; · iexact HR11
    isplitl [HW12]; · iexact HW12
    isplitl [HW13]; · iexact HW13
    iexact HW14
end Cert.KernelIdeal.Own
-- ==== Proof.Trip7.lean ====
module
public import proofs.«01_k».proof.Proof.Trips
/-! One trip of a loop over blocks of queries, and the loop by its invariant. -/
@[expose] public section
set_option maxRecDepth 16384
noncomputable section
namespace Cert.KernelIdeal.Own
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen Cert.KernelIdeal
variable {F : FTy → Type} [FloatOps F]
local notation "𝕄G" => MT nD τ sig Unit (Elt F) ℕ (UR sig nD τ) ℕ
variable (c : Dev nD) (i : grid0.Coords) (arg2 : Memref sig .tc .vmem S4224x128 .bf16) (harg2 : arg2.IsWhole)
    (arg3 : Memref sig .tc .vmem S384x128 .bf16) (harg3 : arg3.IsWhole)
    (arg4 : Memref sig .tc .vmem S384x128 .bf16) (harg4 : arg4.IsWhole)
    (arg5 : Memref sig .tc .vmem S4224x128 .bf16) (harg5 : arg5.IsWhole)
    (arg6 : Memref sig .tc .vmem S1x11x1x384 .f32) (harg6 : arg6.IsWhole)
    (arg7 : Memref sig .tc .vmem S4224x128 .bf16) (harg7 : arg7.IsWhole)
    (arg8 : Memref sig .tc .vmem S4224x128 .f32) (harg8 : arg8.IsWhole)
    (arg9 : Memref sig .tc .vmem S384x128 .bf16) (harg9 : arg9.IsWhole)
    (arg10 : Memref sig .tc .vmem S384x128 .bf16) (harg10 : arg10.IsWhole)
    (arg11 : Memref sig .tc .vmem S11x1x384 .f32) (harg11 : arg11.IsWhole)
    (arg12 : Memref sig .tc .vmem S11x128x384 .f32) (harg12 : arg12.IsWhole)
    (arg13 : Memref sig .tc .vmem S384x128 .f32) (harg13 : arg13.IsWhole)
    (arg14 : Memref sig .tc .vmem S384x128 .f32) (harg14 : arg14.IsWhole)

set_option maxHeartbeats 8000000 in
/-- The last block alone. -/
theorem trip7 (v3 v5 : FVec F S384x128 .bf16) (h3 : k0_cond3 i = 1#1)
    (X2 : BufTy.Contents (Elt F) arg2.view.ty) (X6 : BufTy.Contents (Elt F) arg6.view.ty) (X7 : BufTy.Contents (Elt F) arg7.view.ty) (X11 : BufTy.Contents (Elt F) arg11.view.ty) (f12 : BufTy.Contents (Elt F) arg12.view.ty) (f13 : BufTy.Contents (Elt F) arg13.view.ty) (f14 : BufTy.Contents (Elt F) arg14.view.ty) (k : Fin (k0_t7_loop i).trips) (E : Set ℕ) :
    (iprop((arg2.view.loc (c : Thread nD τ) ↦[arg2.view.set]{fullShare} X2) ∗ (arg6.view.loc (c : Thread nD τ) ↦[arg6.view.set]{fullShare} X6) ∗ (arg7.view.loc (c : Thread nD τ) ↦[arg7.view.set]{fullShare} X7) ∗ (arg11.view.loc (c : Thread nD τ) ↦[arg11.view.set]{fullShare} X11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14)) : sProp 𝕄G)
    ⊢ wp frame (wpE (defs₀ (F := F)) Variants.none (c : Thread nD τ) none) E
        (k0_t7_body (F := F) i arg2 harg2 arg3 harg3 arg4 harg4 arg5 harg5 arg6 harg6 arg7 harg7 arg8 harg8 arg9 harg9 arg10 harg10 arg11 harg11 arg12 harg12 arg13 harg13 arg14 harg14 v3 v5 h3 k PUnit.unit)
        (fun _ => Acc (F := F) c arg2 arg6 arg7 arg11 arg12 arg13 arg14 X2 X6 X7 X11
          ((envOf arg2 arg6 arg7 arg11 (k0_pay147 v3) (k0_pay148 v5) (k0_pay149 v3) X2 X6 X7 X11).dq none 10 11 (arg12.view.read (Elt F) f12)) (addf (arg13.view.read (Elt F) f13) ((envOf arg2 arg6 arg7 arg11 (k0_pay147 v3) (k0_pay148 v5) (k0_pay149 v3) X2 X6 X7 X11).k none 10)) (addf (arg14.view.read (Elt F) f14) ((envOf arg2 arg6 arg7 arg11 (k0_pay147 v3) (k0_pay148 v5) (k0_pay149 v3) X2 X6 X7 X11).v none 10))) := by
  have h0 := at_reads (F := F) arg2 arg6 arg7 arg11 (k0_pay147 v3) (k0_pay148 v5) (k0_pay149 v3) X2 X6 X7 X11 10 (by decide) ![3840, 0] ![0, 10, 0, 0] ![10, 0, 0]
    inb_S4224x128_S384x128_3840_0 inb_S4224x128_S384x128_3840_0 inb_S1x11x1x384_S1x1x1x384_0_10_0_0 inb_S11x1x384_S1x1x384_10_0_0 rfl rfl rfl
  unfold k0_t7_body
  iintro ⟨HR2, HR6, HR7, HR11, HW12, HW13, HW14⟩
  sl_exec
  sl_step
  isplitl [HR2]; · iexact HR2
  isplitl [HR6]; · iexact HR6
  isplitl [HR7]; · iexact HR7
  isplitl [HR11]; · iexact HR11
  isplitl [HW12]
  · iexists _; isplitl [HW12]; · iexact HW12
    ipureintro
    rw [writeDq _ _ _ _ _ _ 10 rfl, View.writes_nil]
    exact dq_one _ none (10) _ _ (h0.d none rfl (readDq _ _ _ _ 10 (by decide) rfl))
  isplitl [HW13]
  · iexists _; isplitl [HW13]; · iexact HW13
    ipureintro
    rw [View.read_writes_full]
    exact (shapeCast_self _ _).trans (congrArg₂ addf (View.readAt_full _ _ _) (h0.k none rfl))
  iexists _; isplitl [HW14]; · iexact HW14
  ipureintro
  rw [View.read_writes_full]
  exact (shapeCast_self _ _).trans (congrArg₂ addf (View.readAt_full _ _ _) (h0.v none rfl))

set_option warn.classDefReducibility false in
/-- The loop by its invariant: before trip `k` the accumulators hold what the trips before it left. -/
@[sl_loop] def loop7 (E : Set ℕ) (v3 v5 : FVec F S384x128 .bf16) (h3 : k0_cond3 i = 1#1) (X2 : BufTy.Contents (Elt F) arg2.view.ty) (X6 : BufTy.Contents (Elt F) arg6.view.ty) (X7 : BufTy.Contents (Elt F) arg7.view.ty) (X11 : BufTy.Contents (Elt F) arg11.view.ty) (G12 : BufTy.Contents (Elt F) arg12.view.ty) (G13 : BufTy.Contents (Elt F) arg13.view.ty) (G14 : BufTy.Contents (Elt F) arg14.view.ty) :
    LoopInv (M := 𝕄G) frame (wpE (defs₀ (F := F)) Variants.none (c : Thread nD τ) none) E
      (k0_t7_loop i).lb (k0_t7_loop i).ub (k0_t7_loop i).st (k0_t7_ok i h3) ()
      (k0_t7_body (F := F) i arg2 harg2 arg3 harg3 arg4 harg4 arg5 harg5 arg6 harg6 arg7 harg7 arg8 harg8 arg9 harg9 arg10 harg10 arg11 harg11 arg12 harg12 arg13 harg13 arg14 harg14 v3 v5 h3) where
  inv k _ := Acc (F := F) c arg2 arg6 arg7 arg11 arg12 arg13 arg14 X2 X6 X7 X11
    (rep ((envOf arg2 arg6 arg7 arg11 (k0_pay147 v3) (k0_pay148 v5) (k0_pay149 v3) X2 X6 X7 X11).dq none 10 11) k (arg12.view.read (Elt F) G12)) (rep (fun z => addf z ((envOf arg2 arg6 arg7 arg11 (k0_pay147 v3) (k0_pay148 v5) (k0_pay149 v3) X2 X6 X7 X11).k none 10)) k (arg13.view.read (Elt F) G13)) (rep (fun z => addf z ((envOf arg2 arg6 arg7 arg11 (k0_pay147 v3) (k0_pay148 v5) (k0_pay149 v3) X2 X6 X7 X11).v none 10)) k (arg14.view.read (Elt F) G14))
  step k acc := by
    iintro ⟨HR2, HR6, HR7, HR11, ⟨%f12, HW12, %h12⟩, ⟨%f13, HW13, %h13⟩, ⟨%f14, HW14, %h14⟩⟩
    rw [show (rep ((envOf arg2 arg6 arg7 arg11 (k0_pay147 v3) (k0_pay148 v5) (k0_pay149 v3) X2 X6 X7 X11).dq none 10 11) (k.val + 1) (arg12.view.read (Elt F) G12)) = (envOf arg2 arg6 arg7 arg11 (k0_pay147 v3) (k0_pay148 v5) (k0_pay149 v3) X2 X6 X7 X11).dq none 10 11 (arg12.view.read (Elt F) f12) from by rw [h12]; rfl,
      show (rep (fun z => addf z ((envOf arg2 arg6 arg7 arg11 (k0_pay147 v3) (k0_pay148 v5) (k0_pay149 v3) X2 X6 X7 X11).k none 10)) (k.val + 1) (arg13.view.read (Elt F) G13)) = addf (arg13.view.read (Elt F) f13) ((envOf arg2 arg6 arg7 arg11 (k0_pay147 v3) (k0_pay148 v5) (k0_pay149 v3) X2 X6 X7 X11).k none 10) from by rw [h13]; rfl,
      show (rep (fun z => addf z ((envOf arg2 arg6 arg7 arg11 (k0_pay147 v3) (k0_pay148 v5) (k0_pay149 v3) X2 X6 X7 X11).v none 10)) (k.val + 1) (arg14.view.read (Elt F) G14)) = addf (arg14.view.read (Elt F) f14) ((envOf arg2 arg6 arg7 arg11 (k0_pay147 v3) (k0_pay148 v5) (k0_pay149 v3) X2 X6 X7 X11).v none 10) from by rw [h14]; rfl]
    iapply (trip7 c i arg2 harg2 arg3 harg3 arg4 harg4 arg5 harg5 arg6 harg6 arg7 harg7 arg8 harg8 arg9 harg9 arg10 harg10 arg11 harg11 arg12 harg12 arg13 harg13 arg14 harg14 v3 v5 h3 X2 X6 X7 X11 f12 f13 f14 k E)
    isplitl [HR2]; · iexact HR2
    isplitl [HR6]; · iexact HR6
    isplitl [HR7]; · iexact HR7
    isplitl [HR11]; · iexact HR11
    isplitl [HW12]; · iexact HW12
    isplitl [HW13]; · iexact HW13
    iexact HW14
end Cert.KernelIdeal.Own
-- ==== Proof.RunA.lean ====
module
public import proofs.«01_k».proof.Proof.Results
public import proofs.«01_k».proof.Proof.Trip2
public import proofs.«01_k».proof.Proof.Trip3
public import proofs.«01_k».proof.Proof.Trip5
public import proofs.«01_k».proof.Proof.Trip7
/-! The point of the first block of keys. -/
@[expose] public section
set_option maxRecDepth 16384
noncomputable section
namespace Cert.KernelIdeal.Own
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen Cert.KernelIdeal
variable {F : FTy → Type} [FloatOps F]
local notation "𝕄G" => MT nD τ sig Unit (Elt F) ℕ (UR sig nD τ) ℕ
open Idealize.ShloMosaic.ValueIdx
variable (c : Dev nD) (i : grid0.Coords) (arg2 : Memref sig .tc .vmem S4224x128 .bf16) (harg2 : arg2.IsWhole)
    (arg3 : Memref sig .tc .vmem S384x128 .bf16) (harg3 : arg3.IsWhole)
    (arg4 : Memref sig .tc .vmem S384x128 .bf16) (harg4 : arg4.IsWhole)
    (arg5 : Memref sig .tc .vmem S4224x128 .bf16) (harg5 : arg5.IsWhole)
    (arg6 : Memref sig .tc .vmem S1x11x1x384 .f32) (harg6 : arg6.IsWhole)
    (arg7 : Memref sig .tc .vmem S4224x128 .bf16) (harg7 : arg7.IsWhole)
    (arg8 : Memref sig .tc .vmem S4224x128 .f32) (harg8 : arg8.IsWhole)
    (arg9 : Memref sig .tc .vmem S384x128 .bf16) (harg9 : arg9.IsWhole)
    (arg10 : Memref sig .tc .vmem S384x128 .bf16) (harg10 : arg10.IsWhole)
    (arg11 : Memref sig .tc .vmem S11x1x384 .f32) (harg11 : arg11.IsWhole)
    (arg12 : Memref sig .tc .vmem S11x128x384 .f32) (harg12 : arg12.IsWhole)
    (arg13 : Memref sig .tc .vmem S384x128 .f32) (harg13 : arg13.IsWhole)
    (arg14 : Memref sig .tc .vmem S384x128 .f32) (harg14 : arg14.IsWhole)

set_option maxHeartbeats 1000000 in
/-- The point of the first block of keys. -/
theorem runA (h1 : k0_cond1 i = 1#1) (h2 : k0_cond2 i = 1#1) (h3 : ¬k0_cond3 i = 1#1) (h4 : ¬k0_cond4 i = 1#1) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (E : Set ℕ) (K : PUnit → sProp 𝕄G) :
    (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14)
      ∗ (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (∃ f, (arg9.view.loc (c : Thread nD τ) ↦[arg9.view.set]{fullShare} f) ∗ ⌜arg9.view.read (Elt F) f = k0_pay160 (foldA ((envAt (arg3.view.read (Elt F) f3) (arg4.view.read (Elt F) f4) (arg2.view.read (Elt F) f2) (arg7.view.read (Elt F) f7) (arg6.view.read (Elt F) f6) (delAll (arg7.view.read (Elt F) f7) (arg5.view.read (Elt F) f5))).k (some (BitVec.ofNat 32 (i 1).val))) (k0_pay150 (F := F)))⌝) ∗ (∃ f, (arg10.view.loc (c : Thread nD τ) ↦[arg10.view.set]{fullShare} f) ∗ ⌜arg10.view.read (Elt F) f = k0_pay161 (foldA ((envAt (arg3.view.read (Elt F) f3) (arg4.view.read (Elt F) f4) (arg2.view.read (Elt F) f2) (arg7.view.read (Elt F) f7) (arg6.view.read (Elt F) f6) (delAll (arg7.view.read (Elt F) f7) (arg5.view.read (Elt F) f5))).v (some (BitVec.ofNat 32 (i 1).val))) (k0_pay151 (F := F)))⌝) ∗ (∃ f, (arg11.view.loc (c : Thread nD τ) ↦[arg11.view.set]{fullShare} f) ∗ ⌜arg11.view.read (Elt F) f = delAll (arg7.view.read (Elt F) f7) (arg5.view.read (Elt F) f5)⌝) ∗ (∃ f, (arg12.view.loc (c : Thread nD τ) ↦[arg12.view.set]{fullShare} f) ∗ ⌜arg12.view.read (Elt F) f = (envAt (arg3.view.read (Elt F) f3) (arg4.view.read (Elt F) f4) (arg2.view.read (Elt F) f2) (arg7.view.read (Elt F) f7) (arg6.view.read (Elt F) f6) (delAll (arg7.view.read (Elt F) f7) (arg5.view.read (Elt F) f5))).dqA (BitVec.ofNat 32 (i 1).val) (k0_pay145 (F := F))⌝) ∗ (∃ f, (arg13.view.loc (c : Thread nD τ) ↦[arg13.view.set]{fullShare} f)) ∗ (∃ f, (arg14.view.loc (c : Thread nD τ) ↦[arg14.view.set]{fullShare} f))) -∗ K ⟨⟩)) : sProp 𝕄G)
    ⊢ wp frame (wpE (defs₀ (F := F)) Variants.none (c : Thread nD τ) none) E (cc0_attn_bwd i arg2 harg2 arg3 harg3 arg4 harg4 arg5 harg5 arg6 harg6 arg7 harg7 arg8 harg8 arg9 harg9 arg10 harg10 arg11 harg11 arg12 harg12 arg13 harg13 arg14 harg14) K := by
  have e3 : arg3.view.readAt (Elt F) (Rect.unit (s := S384x128) ![0, 0] S384x128.size inb_S384x128_S384x128_0_0).toLoadRect f3 = arg3.view.read (Elt F) f3 := View.readAt_full _ _ _
  have e4 : arg4.view.readAt (Elt F) (Rect.unit (s := S384x128) ![0, 0] S384x128.size inb_S384x128_S384x128_0_0).toLoadRect f4 = arg4.view.read (Elt F) f4 := View.readAt_full _ _ _
  simp only [cc0_attn_bwd_eq_skeleton]; unfold cc0_attn_bwd_skel
  iintro ⟨H2, H3, H4, H5, H6, H7, H8, H9, H10, H11, H12, H13, H14, Hk⟩
  sl_exec (disch := first | sl_exact h1 | sl_exact h2 | sl_exact h3 | sl_exact h4)
  sl_step
  rw [trips1, delN_all] at hL3
  rw [trips2] at hL9 hL11 hL13
  replace hL9 := hL9.trans (congrArg (Env.dq3 _ _ 0 3) (full12 arg12.view _ (k0_pay145 (F := F))))
  replace hL11 := hL11.trans (congrArg (acc3 _ 0 3) (full13 arg13.view _ (k0_pay150 (F := F)) []))
  replace hL13 := hL13.trans (congrArg (acc3 _ 0 3) (full13 arg14.view _ (k0_pay151 (F := F)) []))
  have he : envOf arg2 arg6 arg7 arg11 (k0_pay147 (arg3.view.read (Elt F) f3)) (k0_pay148 (arg4.view.read (Elt F) f4)) (k0_pay149 (arg3.view.read (Elt F) f3)) f2 f6 f7 fL0 = (envAt (arg3.view.read (Elt F) f3) (arg4.view.read (Elt F) f4) (arg2.view.read (Elt F) f2) (arg7.view.read (Elt F) f7) (arg6.view.read (Elt F) f6) (delAll (arg7.view.read (Elt F) f7) (arg5.view.read (Elt F) f5))) := by
    unfold envOf envAt; rw [hL3]
  rw [he] at hL9 hL11 hL13
  have h9 := at_reads (F := F) arg2 arg6 arg7 arg11 (k0_pay147 (arg3.view.read (Elt F) f3)) (k0_pay148 (arg4.view.read (Elt F) f4)) (k0_pay149 (arg3.view.read (Elt F) f3)) f2 f6 f7 fL0 9 (by decide) ![3456, 0] ![0, 9, 0, 0] ![9, 0, 0] inb_S4224x128_S384x128_3456_0 inb_S4224x128_S384x128_3456_0 inb_S1x11x1x384_S1x1x1x384_0_9_0_0 inb_S11x1x384_S1x1x384_9_0_0 rfl rfl rfl
  have h10 := at_reads (F := F) arg2 arg6 arg7 arg11 (k0_pay147 (arg3.view.read (Elt F) f3)) (k0_pay148 (arg4.view.read (Elt F) f4)) (k0_pay149 (arg3.view.read (Elt F) f3)) f2 f6 f7 fL0 10 (by decide) ![3840, 0] ![0, 10, 0, 0] ![10, 0, 0] inb_S4224x128_S384x128_3840_0 inb_S4224x128_S384x128_3840_0 inb_S1x11x1x384_S1x1x1x384_0_10_0_0 inb_S11x1x384_S1x1x384_10_0_0 rfl rfl rfl
  rw [he] at h9 h10
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · iexists _; isplitl [H9]; · iexact H9
    ipureintro
    rw [View.read_writes_full]
    refine congrArg k0_pay160 ((load13 arg13.view _ _ _).trans ?_)
    have k9 := h9.k (some (BitVec.ofNat 32 (i 1).val)) (w := 9#32) rfl
    have k10 := h10.k (some (BitVec.ofNat 32 (i 1).val)) (w := 10#32) rfl
    refine (shapeCast_self _ _).trans (congrArg₂ addf ((View.readAt_full _ _ _).trans hL11) (congrArg₂ addf ?_ ?_))
    · refine Eq.trans ?_ k9
      clear k9 k10 h9 h10 hL3 hL9 hL11 hL13 he
      rfl
    · refine Eq.trans ?_ k10
      clear k9 k10 h9 h10 hL3 hL9 hL11 hL13 he
      rfl
  isplitl [H10]
  · iexists _; isplitl [H10]; · iexact H10
    ipureintro
    rw [View.read_writes_full]
    refine congrArg k0_pay161 ((load13 arg14.view _ _ _).trans ?_)
    have k9 := h9.v (some (BitVec.ofNat 32 (i 1).val)) (w := 9#32) rfl
    have k10 := h10.v (some (BitVec.ofNat 32 (i 1).val)) (w := 10#32) rfl
    refine (shapeCast_self _ _).trans (congrArg₂ addf ((View.readAt_full _ _ _).trans hL13) (congrArg₂ addf ?_ ?_))
    · refine Eq.trans ?_ k9
      clear k9 k10 h9 h10 hL3 hL9 hL11 hL13 he
      rfl
    · refine Eq.trans ?_ k10
      clear k9 k10 h9 h10 hL3 hL9 hL11 hL13 he
      rfl
  isplitl [H11]
  · iexists _; isplitl [H11]; · iexact H11
    ipureintro
    exact hL3
  isplitl [H12]
  · iexists _; isplitl [H12]; · iexact H12
    ipureintro
    rw [writeDq _ _ _ _ _ _ 10 rfl, writeDq _ _ _ _ _ _ 9 rfl, View.writes_nil]
    unfold Env.dqA
    rw [← hL9]
    exact dq_two _ (some (BitVec.ofNat 32 (i 1).val)) 9 _ _ _ (h9.d (some (BitVec.ofNat 32 (i 1).val)) rfl (readDq _ _ _ _ 9 (by decide) rfl)) (h10.d (some (BitVec.ofNat 32 (i 1).val)) rfl (readDq _ _ _ _ 10 (by decide) rfl))
  isplitl [H13]; · iexists _; iexact H13
  iexists _; iexact H14

end Cert.KernelIdeal.Own
-- ==== Proof.RunB.lean ====
module
public import proofs.«01_k».proof.Proof.RunA
/-! A point of a later block of keys. -/
@[expose] public section
set_option maxRecDepth 16384
noncomputable section
namespace Cert.KernelIdeal.Own
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen Cert.KernelIdeal
variable {F : FTy → Type} [FloatOps F]
local notation "𝕄G" => MT nD τ sig Unit (Elt F) ℕ (UR sig nD τ) ℕ
open Idealize.ShloMosaic.ValueIdx
variable (c : Dev nD) (i : grid0.Coords) (arg2 : Memref sig .tc .vmem S4224x128 .bf16) (harg2 : arg2.IsWhole)
    (arg3 : Memref sig .tc .vmem S384x128 .bf16) (harg3 : arg3.IsWhole)
    (arg4 : Memref sig .tc .vmem S384x128 .bf16) (harg4 : arg4.IsWhole)
    (arg5 : Memref sig .tc .vmem S4224x128 .bf16) (harg5 : arg5.IsWhole)
    (arg6 : Memref sig .tc .vmem S1x11x1x384 .f32) (harg6 : arg6.IsWhole)
    (arg7 : Memref sig .tc .vmem S4224x128 .bf16) (harg7 : arg7.IsWhole)
    (arg8 : Memref sig .tc .vmem S4224x128 .f32) (harg8 : arg8.IsWhole)
    (arg9 : Memref sig .tc .vmem S384x128 .bf16) (harg9 : arg9.IsWhole)
    (arg10 : Memref sig .tc .vmem S384x128 .bf16) (harg10 : arg10.IsWhole)
    (arg11 : Memref sig .tc .vmem S11x1x384 .f32) (harg11 : arg11.IsWhole)
    (arg12 : Memref sig .tc .vmem S11x128x384 .f32) (harg12 : arg12.IsWhole)
    (arg13 : Memref sig .tc .vmem S384x128 .f32) (harg13 : arg13.IsWhole)
    (arg14 : Memref sig .tc .vmem S384x128 .f32) (harg14 : arg14.IsWhole)

set_option maxHeartbeats 1000000 in
/-- A point of a later block of keys. -/
theorem runB (h1 : ¬k0_cond1 i = 1#1) (h2 : ¬k0_cond2 i = 1#1) (h3 : k0_cond3 i = 1#1) (h4 : ¬k0_cond4 i = 1#1) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (E : Set ℕ) (K : PUnit → sProp 𝕄G) :
    (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14)
      ∗ (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (∃ f, (arg9.view.loc (c : Thread nD τ) ↦[arg9.view.set]{fullShare} f) ∗ ⌜arg9.view.read (Elt F) f = k0_pay160 (foldB i ((envAt (arg3.view.read (Elt F) f3) (arg4.view.read (Elt F) f4) (arg2.view.read (Elt F) f2) (arg7.view.read (Elt F) f7) (arg6.view.read (Elt F) f6) (arg11.view.read (Elt F) f11)).k (some (BitVec.ofNat 32 (i 1).val))) ((envAt (arg3.view.read (Elt F) f3) (arg4.view.read (Elt F) f4) (arg2.view.read (Elt F) f2) (arg7.view.read (Elt F) f7) (arg6.view.read (Elt F) f6) (arg11.view.read (Elt F) f11)).k none) (k0_pay150 (F := F)))⌝) ∗ (∃ f, (arg10.view.loc (c : Thread nD τ) ↦[arg10.view.set]{fullShare} f) ∗ ⌜arg10.view.read (Elt F) f = k0_pay161 (foldB i ((envAt (arg3.view.read (Elt F) f3) (arg4.view.read (Elt F) f4) (arg2.view.read (Elt F) f2) (arg7.view.read (Elt F) f7) (arg6.view.read (Elt F) f6) (arg11.view.read (Elt F) f11)).v (some (BitVec.ofNat 32 (i 1).val))) ((envAt (arg3.view.read (Elt F) f3) (arg4.view.read (Elt F) f4) (arg2.view.read (Elt F) f2) (arg7.view.read (Elt F) f7) (arg6.view.read (Elt F) f6) (arg11.view.read (Elt F) f11)).v none) (k0_pay151 (F := F)))⌝) ∗ (arg11.view.loc (c : Thread nD τ) ↦[arg11.view.set]{fullShare} f11) ∗ (∃ f, (arg12.view.loc (c : Thread nD τ) ↦[arg12.view.set]{fullShare} f) ∗ ⌜arg12.view.read (Elt F) f = (envAt (arg3.view.read (Elt F) f3) (arg4.view.read (Elt F) f4) (arg2.view.read (Elt F) f2) (arg7.view.read (Elt F) f7) (arg6.view.read (Elt F) f6) (arg11.view.read (Elt F) f11)).dqC i (BitVec.ofNat 32 (i 1).val) (arg12.view.read (Elt F) f12)⌝) ∗ (∃ f, (arg13.view.loc (c : Thread nD τ) ↦[arg13.view.set]{fullShare} f)) ∗ (∃ f, (arg14.view.loc (c : Thread nD τ) ↦[arg14.view.set]{fullShare} f))) -∗ K ⟨⟩)) : sProp 𝕄G)
    ⊢ wp frame (wpE (defs₀ (F := F)) Variants.none (c : Thread nD τ) none) E (cc0_attn_bwd i arg2 harg2 arg3 harg3 arg4 harg4 arg5 harg5 arg6 harg6 arg7 harg7 arg8 harg8 arg9 harg9 arg10 harg10 arg11 harg11 arg12 harg12 arg13 harg13 arg14 harg14) K := by
  have e3 : arg3.view.readAt (Elt F) (Rect.unit (s := S384x128) ![0, 0] S384x128.size inb_S384x128_S384x128_0_0).toLoadRect f3 = arg3.view.read (Elt F) f3 := View.readAt_full _ _ _
  have e4 : arg4.view.readAt (Elt F) (Rect.unit (s := S384x128) ![0, 0] S384x128.size inb_S384x128_S384x128_0_0).toLoadRect f4 = arg4.view.read (Elt F) f4 := View.readAt_full _ _ _
  simp only [cc0_attn_bwd_eq_skeleton]; unfold cc0_attn_bwd_skel
  iintro ⟨H2, H3, H4, H5, H6, H7, H8, H9, H10, H11, H12, H13, H14, Hk⟩
  have hd := at_reads (F := F) arg2 arg6 arg7 arg11 (k0_pay147 (arg3.view.read (Elt F) f3)) (k0_pay148 (arg4.view.read (Elt F) f4)) (k0_pay149 (arg3.view.read (Elt F) f3)) f2 f6 f7 f11 (i 1).val (i 1).isLt
    (k0_off7 i) (k0_off8 i) (k0_off9 i) (k0_off7_inb i h3) (k0_off7_inb i h3) (k0_off8_inb i h3) (k0_off9_inb i h3) (k0_off7_eq i) (k0_off8_eq i) (k0_off9_eq i)
  sl_exec (disch := first | sl_exact h1 | sl_exact h2 | sl_exact h3 | sl_exact h4)
  sl_step
  replace hL5 := hL5.trans (congrArg (Env.dq3 _ none _ _) ((writeDq arg12.view _ _ _ _ _ (i 1).val (k0_off10_eq i)).trans
    (dq_one _ (some (BitVec.ofNat 32 (i 1).val)) (i 1).val _ _ (hd.d (some (BitVec.ofNat 32 (i 1).val)) rfl (readDq _ _ _ _ (i 1).val (i 1).isLt (k0_off10_eq i))))))
  replace hL7 := hL7.trans (congrArg (acc3 _ _ _) ((full13 arg13.view _ _ _).trans
    ((shapeCast_self _ _).trans (congrArg₂ addf (load13 arg13.view _ _ _) (hd.k (some (BitVec.ofNat 32 (i 1).val)) rfl)))))
  replace hL9 := hL9.trans (congrArg (acc3 _ _ _) ((full13 arg14.view _ _ _).trans
    ((shapeCast_self _ _).trans (congrArg₂ addf (load13 arg14.view _ _ _) (hd.v (some (BitVec.ofNat 32 (i 1).val)) rfl)))))
  rw [View.writes_nil] at hL5
  have he : envOf arg2 arg6 arg7 arg11 (k0_pay147 (arg3.view.read (Elt F) f3)) (k0_pay148 (arg4.view.read (Elt F) f4)) (k0_pay149 (arg3.view.read (Elt F) f3)) f2 f6 f7 f11 = (envAt (arg3.view.read (Elt F) f3) (arg4.view.read (Elt F) f4) (arg2.view.read (Elt F) f2) (arg7.view.read (Elt F) f7) (arg6.view.read (Elt F) f6) (arg11.view.read (Elt F) f11)) := rfl
  rw [he] at hL5 hL7 hL9 hL15 hL17 hL19 hL25 hL27 hL29
  have hD : arg12.view.read (Elt F) fL6 = (envAt (arg3.view.read (Elt F) f3) (arg4.view.read (Elt F) f4) (arg2.view.read (Elt F) f2) (arg7.view.read (Elt F) f7) (arg6.view.read (Elt F) f6) (arg11.view.read (Elt F) f11)).dqC i (BitVec.ofNat 32 (i 1).val) (arg12.view.read (Elt F) f12) := by
    unfold Env.dqC
    rw [← hL5, ← hL15, ← hL25]
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · iexists _; isplitl [H9]; · iexact H9
    ipureintro
    refine (full13 arg9.view _ _ _).trans (congrArg k0_pay160 ((View.readAt_full _ _ _).trans ?_))
    unfold foldB
    rw [← hL7, ← hL17, ← hL27]
  isplitl [H10]
  · iexists _; isplitl [H10]; · iexact H10
    ipureintro
    refine (full13 arg10.view _ _ _).trans (congrArg k0_pay161 ((View.readAt_full _ _ _).trans ?_))
    unfold foldB
    rw [← hL9, ← hL19, ← hL29]
  isplitl [H11]; · iexact H11
  isplitl [H12]
  · iexists _; isplitl [H12]; · iexact H12
    ipureintro
    exact hD
  isplitl [H13]; · iexists _; iexact H13
  iexists _; iexact H14

end Cert.KernelIdeal.Own
-- ==== Proof.RunC.lean ====
module
public import proofs.«01_k».proof.Proof.RunB
/-! The point of the last block of keys. -/
@[expose] public section
set_option maxRecDepth 16384
noncomputable section
namespace Cert.KernelIdeal.Own
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen Cert.KernelIdeal
variable {F : FTy → Type} [FloatOps F]
local notation "𝕄G" => MT nD τ sig Unit (Elt F) ℕ (UR sig nD τ) ℕ
open Idealize.ShloMosaic.ValueIdx
variable (c : Dev nD) (i : grid0.Coords) (arg2 : Memref sig .tc .vmem S4224x128 .bf16) (harg2 : arg2.IsWhole)
    (arg3 : Memref sig .tc .vmem S384x128 .bf16) (harg3 : arg3.IsWhole)
    (arg4 : Memref sig .tc .vmem S384x128 .bf16) (harg4 : arg4.IsWhole)
    (arg5 : Memref sig .tc .vmem S4224x128 .bf16) (harg5 : arg5.IsWhole)
    (arg6 : Memref sig .tc .vmem S1x11x1x384 .f32) (harg6 : arg6.IsWhole)
    (arg7 : Memref sig .tc .vmem S4224x128 .bf16) (harg7 : arg7.IsWhole)
    (arg8 : Memref sig .tc .vmem S4224x128 .f32) (harg8 : arg8.IsWhole)
    (arg9 : Memref sig .tc .vmem S384x128 .bf16) (harg9 : arg9.IsWhole)
    (arg10 : Memref sig .tc .vmem S384x128 .bf16) (harg10 : arg10.IsWhole)
    (arg11 : Memref sig .tc .vmem S11x1x384 .f32) (harg11 : arg11.IsWhole)
    (arg12 : Memref sig .tc .vmem S11x128x384 .f32) (harg12 : arg12.IsWhole)
    (arg13 : Memref sig .tc .vmem S384x128 .f32) (harg13 : arg13.IsWhole)
    (arg14 : Memref sig .tc .vmem S384x128 .f32) (harg14 : arg14.IsWhole)

set_option maxHeartbeats 1000000 in
/-- The point of the last block of keys. -/
theorem runC (h1 : ¬k0_cond1 i = 1#1) (h2 : ¬k0_cond2 i = 1#1) (h3 : k0_cond3 i = 1#1) (h4 : k0_cond4 i = 1#1) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (E : Set ℕ) (K : PUnit → sProp 𝕄G) :
    (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14)
      ∗ (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (∃ f, (arg8.view.loc (c : Thread nD τ) ↦[arg8.view.set]{fullShare} f) ∗ ⌜arg8.view.read (Elt F) f = outAll ((envAt (arg3.view.read (Elt F) f3) (arg4.view.read (Elt F) f4) (arg2.view.read (Elt F) f2) (arg7.view.read (Elt F) f7) (arg6.view.read (Elt F) f6) (arg11.view.read (Elt F) f11)).dqC i (BitVec.ofNat 32 (i 1).val) (arg12.view.read (Elt F) f12))⌝) ∗ (∃ f, (arg9.view.loc (c : Thread nD τ) ↦[arg9.view.set]{fullShare} f) ∗ ⌜arg9.view.read (Elt F) f = k0_pay160 (foldB i ((envAt (arg3.view.read (Elt F) f3) (arg4.view.read (Elt F) f4) (arg2.view.read (Elt F) f2) (arg7.view.read (Elt F) f7) (arg6.view.read (Elt F) f6) (arg11.view.read (Elt F) f11)).k (some (BitVec.ofNat 32 (i 1).val))) ((envAt (arg3.view.read (Elt F) f3) (arg4.view.read (Elt F) f4) (arg2.view.read (Elt F) f2) (arg7.view.read (Elt F) f7) (arg6.view.read (Elt F) f6) (arg11.view.read (Elt F) f11)).k none) (k0_pay150 (F := F)))⌝) ∗ (∃ f, (arg10.view.loc (c : Thread nD τ) ↦[arg10.view.set]{fullShare} f) ∗ ⌜arg10.view.read (Elt F) f = k0_pay161 (foldB i ((envAt (arg3.view.read (Elt F) f3) (arg4.view.read (Elt F) f4) (arg2.view.read (Elt F) f2) (arg7.view.read (Elt F) f7) (arg6.view.read (Elt F) f6) (arg11.view.read (Elt F) f11)).v (some (BitVec.ofNat 32 (i 1).val))) ((envAt (arg3.view.read (Elt F) f3) (arg4.view.read (Elt F) f4) (arg2.view.read (Elt F) f2) (arg7.view.read (Elt F) f7) (arg6.view.read (Elt F) f6) (arg11.view.read (Elt F) f11)).v none) (k0_pay151 (F := F)))⌝) ∗ (arg11.view.loc (c : Thread nD τ) ↦[arg11.view.set]{fullShare} f11) ∗ (∃ f, (arg12.view.loc (c : Thread nD τ) ↦[arg12.view.set]{fullShare} f) ∗ ⌜arg12.view.read (Elt F) f = (envAt (arg3.view.read (Elt F) f3) (arg4.view.read (Elt F) f4) (arg2.view.read (Elt F) f2) (arg7.view.read (Elt F) f7) (arg6.view.read (Elt F) f6) (arg11.view.read (Elt F) f11)).dqC i (BitVec.ofNat 32 (i 1).val) (arg12.view.read (Elt F) f12)⌝) ∗ (∃ f, (arg13.view.loc (c : Thread nD τ) ↦[arg13.view.set]{fullShare} f)) ∗ (∃ f, (arg14.view.loc (c : Thread nD τ) ↦[arg14.view.set]{fullShare} f))) -∗ K ⟨⟩)) : sProp 𝕄G)
    ⊢ wp frame (wpE (defs₀ (F := F)) Variants.none (c : Thread nD τ) none) E (cc0_attn_bwd i arg2 harg2 arg3 harg3 arg4 harg4 arg5 harg5 arg6 harg6 arg7 harg7 arg8 harg8 arg9 harg9 arg10 harg10 arg11 harg11 arg12 harg12 arg13 harg13 arg14 harg14) K := by
  have e3 : arg3.view.readAt (Elt F) (Rect.unit (s := S384x128) ![0, 0] S384x128.size inb_S384x128_S384x128_0_0).toLoadRect f3 = arg3.view.read (Elt F) f3 := View.readAt_full _ _ _
  have e4 : arg4.view.readAt (Elt F) (Rect.unit (s := S384x128) ![0, 0] S384x128.size inb_S384x128_S384x128_0_0).toLoadRect f4 = arg4.view.read (Elt F) f4 := View.readAt_full _ _ _
  simp only [cc0_attn_bwd_eq_skeleton]; unfold cc0_attn_bwd_skel
  iintro ⟨H2, H3, H4, H5, H6, H7, H8, H9, H10, H11, H12, H13, H14, Hk⟩
  have hd := at_reads (F := F) arg2 arg6 arg7 arg11 (k0_pay147 (arg3.view.read (Elt F) f3)) (k0_pay148 (arg4.view.read (Elt F) f4)) (k0_pay149 (arg3.view.read (Elt F) f3)) f2 f6 f7 f11 (i 1).val (i 1).isLt
    (k0_off7 i) (k0_off8 i) (k0_off9 i) (k0_off7_inb i h3) (k0_off7_inb i h3) (k0_off8_inb i h3) (k0_off9_inb i h3) (k0_off7_eq i) (k0_off8_eq i) (k0_off9_eq i)
  sl_exec (disch := first | sl_exact h1 | sl_exact h2 | sl_exact h3 | sl_exact h4)
  sl_step
  replace hL5 := hL5.trans (congrArg (Env.dq3 _ none _ _) ((writeDq arg12.view _ _ _ _ _ (i 1).val (k0_off10_eq i)).trans
    (dq_one _ (some (BitVec.ofNat 32 (i 1).val)) (i 1).val _ _ (hd.d (some (BitVec.ofNat 32 (i 1).val)) rfl (readDq _ _ _ _ (i 1).val (i 1).isLt (k0_off10_eq i))))))
  replace hL7 := hL7.trans (congrArg (acc3 _ _ _) ((full13 arg13.view _ _ _).trans
    ((shapeCast_self _ _).trans (congrArg₂ addf (load13 arg13.view _ _ _) (hd.k (some (BitVec.ofNat 32 (i 1).val)) rfl)))))
  replace hL9 := hL9.trans (congrArg (acc3 _ _ _) ((full13 arg14.view _ _ _).trans
    ((shapeCast_self _ _).trans (congrArg₂ addf (load13 arg14.view _ _ _) (hd.v (some (BitVec.ofNat 32 (i 1).val)) rfl)))))
  rw [View.writes_nil] at hL5
  have he : envOf arg2 arg6 arg7 arg11 (k0_pay147 (arg3.view.read (Elt F) f3)) (k0_pay148 (arg4.view.read (Elt F) f4)) (k0_pay149 (arg3.view.read (Elt F) f3)) f2 f6 f7 f11 = (envAt (arg3.view.read (Elt F) f3) (arg4.view.read (Elt F) f4) (arg2.view.read (Elt F) f2) (arg7.view.read (Elt F) f7) (arg6.view.read (Elt F) f6) (arg11.view.read (Elt F) f11)) := rfl
  rw [he] at hL5 hL7 hL9 hL15 hL17 hL19 hL25 hL27 hL29
  have hD : arg12.view.read (Elt F) fL6 = (envAt (arg3.view.read (Elt F) f3) (arg4.view.read (Elt F) f4) (arg2.view.read (Elt F) f2) (arg7.view.read (Elt F) f7) (arg6.view.read (Elt F) f6) (arg11.view.read (Elt F) f11)).dqC i (BitVec.ofNat 32 (i 1).val) (arg12.view.read (Elt F) f12) := by
    unfold Env.dqC
    rw [← hL5, ← hL15, ← hL25]
  iapply Hk
  isplitl [H2]; · iexact H2
  isplitl [H3]; · iexact H3
  isplitl [H4]; · iexact H4
  isplitl [H5]; · iexact H5
  isplitl [H6]; · iexact H6
  isplitl [H7]; · iexact H7
  isplitl [H8]
  · iexists _; isplitl [H8]; · iexact H8
    ipureintro
    rw [hL32, trips9, outN_all, hD]
  isplitl [H9]
  · iexists _; isplitl [H9]; · iexact H9
    ipureintro
    refine (full13 arg9.view _ _ _).trans (congrArg k0_pay160 ((View.readAt_full _ _ _).trans ?_))
    unfold foldB
    rw [← hL7, ← hL17, ← hL27]
  isplitl [H10]
  · iexists _; isplitl [H10]; · iexact H10
    ipureintro
    refine (full13 arg10.view _ _ _).trans (congrArg k0_pay161 ((View.readAt_full _ _ _).trans ?_))
    unfold foldB
    rw [← hL9, ← hL19, ← hL29]
  isplitl [H11]; · iexact H11
  isplitl [H12]
  · iexists _; isplitl [H12]; · iexact H12
    ipureintro
    exact hD
  isplitl [H13]; · iexists _; iexact H13
  iexists _; iexact H14

end Cert.KernelIdeal.Own
-- ==== Proof.Points.lean ====
module
public import proofs.«01_k».proof.Proof.RunC
public import Idealize.ShloMosaic.Lib.Claim
/-! What every point of the kernel leaves, the body at a point, and the run. -/
@[expose] public section
set_option maxRecDepth 16384
noncomputable section
namespace Cert.KernelIdeal.Own
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.KernelIdeal
variable {F : FTy → Type} [FloatOps F]
local notation "𝕄G" => MT nD τ sig Unit (Elt F) ℕ (UR sig nD τ) ℕ
variable (m : (ℓ : Loc nD τ sig) → Buf (Elt F) ℓ) (ρ : Dev nD → PrngReg)

theorem c1 : ∀ t : Fin cfg0.N, k0_cond1 (grid0.coords t) = 1#1 ↔ t.val % 11 = 0 := by decide +kernel
theorem c2 : ∀ t : Fin cfg0.N, k0_cond2 (grid0.coords t) = 1#1 ↔ t.val % 11 = 0 := by decide +kernel
theorem c3 : ∀ t : Fin cfg0.N, k0_cond3 (grid0.coords t) = 1#1 ↔ ¬t.val % 11 = 0 := by decide +kernel
theorem c4 : ∀ t : Fin cfg0.N, k0_cond4 (grid0.coords t) = 1#1 ↔ t.val % 11 = 10 := by decide +kernel
theorem idle6 : ∀ t : Fin cfg0.N, ¬t.val % 11 = 10 → cfg0.idle 6 (grid0.coords t) = true := by decide +kernel
theorem live6 : ∀ t : Fin cfg0.N, t.val % 11 = 10 → cfg0.idle 6 (grid0.coords t) = false := by decide +kernel
theorem noFlush6 (t : Fin cfg0.N) (h : ¬t.val % 11 = 10) : (cfg0.win 6).flush t = false := by
  have := (flush0_6 t).not.mpr h
  simpa using this

abbrev scM0 : Memref sig .tc .vmem S11x1x384 .f32 := Memref.whole cc0_scratch0
abbrev scM1 : Memref sig .tc .vmem S11x128x384 .f32 := Memref.whole cc0_scratch1
abbrev scM2 : Memref sig .tc .vmem S384x128 .f32 := Memref.whole cc0_scratch2
abbrev scM3 : Memref sig .tc .vmem S384x128 .f32 := Memref.whole cc0_scratch3

/-! ### The blocks a point reads -/
abbrev bQ (c : Dev nD) (t : Fin cfg0.N) : S4224x128.Idx → F .bf16 := iblk m c 0 t
abbrev bK (c : Dev nD) (t : Fin cfg0.N) : S384x128.Idx → F .bf16 := iblk m c 1 t
abbrev bV (c : Dev nD) (t : Fin cfg0.N) : S384x128.Idx → F .bf16 := iblk m c 2 t
abbrev bO (c : Dev nD) (t : Fin cfg0.N) : S4224x128.Idx → F .bf16 := iblk m c 3 t
abbrev bL (c : Dev nD) (t : Fin cfg0.N) : S1x11x1x384.Idx → F .f32 := iblk m c 4 t
abbrev bG (c : Dev nD) (t : Fin cfg0.N) : S4224x128.Idx → F .bf16 := iblk m c 5 t

/-- The environment of point `t` at row sums `R`. -/
def envT (c : Dev nD) (t : Fin cfg0.N) (R : S11x1x384.Idx → F .f32) : Env F :=
  envAt (bK m c t) (bV m c t) (bQ m c t) (bG m c t) (bL m c t) R

/-- The position of point `t`'s block of keys, as a word. -/
abbrev jw (t : Fin cfg0.N) : BitVec 32 := BitVec.ofNat 32 (grid0.coords t 1).val

/-- The row sums after point `t`. -/
def delT (c : Dev nD) (t : Fin cfg0.N) (R : S11x1x384.Idx → F .f32) : S11x1x384.Idx → F .f32 :=
  if t.val % 11 = 0 then delAll (bG m c t) (bO m c t) else R

/-- The queries' gradient after point `t`. -/
def dqT (c : Dev nD) (t : Fin cfg0.N) (R : S11x1x384.Idx → F .f32) (D : S11x128x384.Idx → F .f32) : S11x128x384.Idx → F .f32 :=
  if t.val % 11 = 0 then (envT m c t (delAll (bG m c t) (bO m c t))).dqA (jw t) (k0_pay145 (F := F))
  else (envT m c t R).dqC (grid0.coords t) (jw t) D

/-- What the carried buffers hold before point `n`: the row sums and the queries' gradient. -/
def carry (c : Dev nD) : (n : ℕ) → n ≤ cfg0.N → (S11x1x384.Idx → F .f32) × (S11x128x384.Idx → F .f32)
  | 0, _ => (fun _ => Scalar.ofBits .f32 0x00000000#32, fun _ => Scalar.ofBits .f32 0x00000000#32)
  | n + 1, h => (delT m c ⟨n, h⟩ (carry c n (Nat.le_of_lt h)).1, dqT m c ⟨n, h⟩ (carry c n (Nat.le_of_lt h)).1 (carry c n (Nat.le_of_lt h)).2)

/-- What point `t` leaves in the keys' gradient. -/
def dkT (c : Dev nD) (t : Fin cfg0.N) (R : S11x1x384.Idx → F .f32) : S384x128.Idx → F .bf16 :=
  if t.val % 11 = 0 then k0_pay160 (foldA ((envT m c t R).k (some (jw t))) (k0_pay150 (F := F)))
  else k0_pay160 (foldB (grid0.coords t) ((envT m c t R).k (some (jw t))) ((envT m c t R).k none) (k0_pay150 (F := F)))

/-- What point `t` leaves in the values' gradient. -/
def dvT (c : Dev nD) (t : Fin cfg0.N) (R : S11x1x384.Idx → F .f32) : S384x128.Idx → F .bf16 :=
  if t.val % 11 = 0 then k0_pay161 (foldA ((envT m c t R).v (some (jw t))) (k0_pay151 (F := F)))
  else k0_pay161 (foldB (grid0.coords t) ((envT m c t R).v (some (jw t))) ((envT m c t R).v none) (k0_pay151 (F := F)))

/-! ### The invariant between points and the pipeline's data -/

/-- The scratch buffers, the carried two at named contents, and the generator register. -/
def PhiB (c : Dev nD) (R : S11x1x384.Idx → F .f32) (D : S11x128x384.Idx → F .f32) : sProp 𝕄G :=
  iprop(iprop(owns (c : Thread nD τ) scM0 fullShare R ∗ owns (c : Thread nD τ) scM1 fullShare D
    ∗ (∃ d, owns (c : Thread nD τ) scM2 fullShare d) ∗ (∃ d, owns (c : Thread nD τ) scM3 fullShare d)) ∗ (∃ r, prngReg c r))

def PhiS (c : Dev nD) : (n : ℕ) → n ≤ cfg0.N → sProp 𝕄G
  | 0, _ => Pipeline.ΦA spec0 c
  | n + 1, hn => PhiB c (carry m c (n + 1) hn).1 (carry m c (n + 1) hn).2

theorem PhiA0_eq (c : Dev nD) :
    (Pipeline.ΦA spec0 c : sProp 𝕄G)
      = iprop(iprop((∃ d, owns (c : Thread nD τ) scM0 fullShare d) ∗ (∃ d, owns (c : Thread nD τ) scM1 fullShare d)
        ∗ (∃ d, owns (c : Thread nD τ) scM2 fullShare d) ∗ (∃ d, owns (c : Thread nD τ) scM3 fullShare d)) ∗ (∃ r, prngReg c r)) := by
  unfold Pipeline.ΦA; rw [scopedRest0_eq]; simp only [scM0, scM1, scM2, scM3, owns_whole]; try rfl

theorem PhiS_pos (c : Dev nD) (n : ℕ) (h : n ≤ cfg0.N) (hz : n ≠ 0) : PhiS m c n h = PhiB c (carry m c n h).1 (carry m c n h).2 := by
  cases n with
  | zero => exact absurd rfl hz
  | succ n => rfl

theorem PhiB_out (c : Dev nD) (R D) : (PhiB c R D : sProp 𝕄G) ⊢ Pipeline.ΦA spec0 c := by
  rw [PhiA0_eq]; unfold PhiB
  iintro ⟨⟨H0, H1, H2, H3⟩, Hg⟩
  isplitl [H0 H1 H2 H3]
  · isplitl [H0]; · iexists _; iexact H0
    isplitl [H1]; · iexists _; iexact H1
    isplitl [H2]; · iexact H2
    iexact H3
  iexact Hg

theorem PhiS_out (c : Dev nD) (n : ℕ) (h : n ≤ cfg0.N) : PhiS m c n h ⊢ Pipeline.ΦA spec0 c := by
  cases n with
  | zero => exact Idealize.SL.BI.Entails.refl _
  | succ n => exact PhiB_out c _ _

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAll (carry m c (t.val + 1) t.isLt).2
    | ⟨7, _⟩ => dkT m c t (carry m c (t.val + 1) t.isLt).1
    | ⟨8, _⟩ => dvT m c t (carry m c (t.val + 1) t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outAll (carry m c (t.val + 1) t.isLt).2 := by dsimp only [dats]
theorem after0_7 (c : Dev nD) (t : Fin cfg0.N) : (dats m 0 c).after 7 t = dkT m c t (carry m c (t.val + 1) t.isLt).1 := by dsimp only [dats]
theorem after0_8 (c : Dev nD) (t : Fin cfg0.N) : (dats m 0 c).after 8 t = dvT m c t (carry m c (t.val + 1) t.isLt).1 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

def bodyPre (c : Dev nD) (t : Fin cfg0.N) : sProp 𝕄G :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d)))

def bodyPost (c : Dev nD) (t : Fin cfg0.N) : sProp 𝕄G :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 4000000 in
theorem bodyA (c : Dev nD) (t : Fin cfg0.N) (h0 : t.val % 11 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiB c (carry m c (t.val + 1) t.isLt).1 (carry m c (t.val + 1) t.isLt).2 from rfl]
  have h10 : ¬t.val % 11 = 10 := by omega
  rw [show (dats m 0 c).leavesExact 0 t = owns (c : Thread nD τ) (win0_0.stage (cfg0.slots t 0)) fullShare ((dats m 0 c).after 0 t) from by
    unfold Dat.leavesExact; rw [show cfg0.idle 0 (grid0.coords t) = false from rfl], after0_0]
  rw [show (dats m 0 c).leavesExact 1 t = owns (c : Thread nD τ) (win0_1.stage (cfg0.slots t 1)) fullShare ((dats m 0 c).after 1 t) from by
    unfold Dat.leavesExact; rw [show cfg0.idle 1 (grid0.coords t) = false from rfl], after0_1]
  rw [show (dats m 0 c).leavesExact 2 t = owns (c : Thread nD τ) (win0_2.stage (cfg0.slots t 2)) fullShare ((dats m 0 c).after 2 t) from by
    unfold Dat.leavesExact; rw [show cfg0.idle 2 (grid0.coords t) = false from rfl], after0_2]
  rw [show (dats m 0 c).leavesExact 3 t = owns (c : Thread nD τ) (win0_3.stage (cfg0.slots t 3)) fullShare ((dats m 0 c).after 3 t) from by
    unfold Dat.leavesExact; rw [show cfg0.idle 3 (grid0.coords t) = false from rfl], after0_3]
  rw [show (dats m 0 c).leavesExact 4 t = owns (c : Thread nD τ) (win0_4.stage (cfg0.slots t 4)) fullShare ((dats m 0 c).after 4 t) from by
    unfold Dat.leavesExact; rw [show cfg0.idle 4 (grid0.coords t) = false from rfl], after0_4]
  rw [show (dats m 0 c).leavesExact 5 t = owns (c : Thread nD τ) (win0_5.stage (cfg0.slots t 5)) fullShare ((dats m 0 c).after 5 t) from by
    unfold Dat.leavesExact; rw [show cfg0.idle 5 (grid0.coords t) = false from rfl], after0_5]
  rw [Dat.leavesExact_idle (dats m 0 c) 6 t (idle6 t h10) (noFlush6 t h10)]
  rw [show (dats m 0 c).leavesExact 7 t = owns (c : Thread nD τ) (win0_7.stage (cfg0.slots t 7)) fullShare ((dats m 0 c).after 7 t) from by
    unfold Dat.leavesExact; rw [show cfg0.idle 7 (grid0.coords t) = false from rfl], after0_7]
  rw [show (dats m 0 c).leavesExact 8 t = owns (c : Thread nD τ) (win0_8.stage (cfg0.slots t 8)) fullShare ((dats m 0 c).after 8 t) from by
    unfold Dat.leavesExact; rw [show cfg0.idle 8 (grid0.coords t) = false from rfl], after0_8]
  have hd : (carry m c (t.val + 1) t.isLt).1 = delAll (bG m c t) (bO m c t) := if_pos h0
  have hq : (carry m c (t.val + 1) t.isLt).2 = (envT m c t (delAll (bG m c t) (bO m c t))).dqA (jw t) (k0_pay145 (F := F)) := if_pos h0
  rw [hq, hd, show dkT m c t (delAll (bG m c t) (bO m c t)) = _ from if_pos h0, show dvT m c t (delAll (bG m c t) (bO m c t)) = _ from if_pos h0]
  rw [PhiS_castSucc m c t]
  refine (BIClass.sep_mono (PhiS_out m c _ _) .rfl).trans ?_
  rw [PhiA0_eq]
  iintro ⟨⟨⟨⟨%R0, H11⟩, ⟨%D0, H12⟩, ⟨%d13, H13⟩, ⟨%d14, H14⟩⟩, Hg⟩, Ho, ⟨%d0, H2⟩, ⟨%d1, H3⟩, ⟨%d2, H4⟩, ⟨%d3, H5⟩, ⟨%d4, H6⟩, ⟨%d5, H7⟩, ⟨%d6, H8⟩, ⟨%d7, H9⟩, ⟨%d8, H10⟩⟩
  unfold owns
  icases H2 with ⟨%f2, %e2, H2⟩
  icases H3 with ⟨%f3, %e3, H3⟩
  icases H4 with ⟨%f4, %e4, H4⟩
  icases H5 with ⟨%f5, %e5, H5⟩
  icases H6 with ⟨%f6, %e6, H6⟩
  icases H7 with ⟨%f7, %e7, H7⟩
  icases H8 with ⟨%f8, %e8, H8⟩
  icases H9 with ⟨%f9, %e9, H9⟩
  icases H10 with ⟨%f10, %e10, H10⟩
  icases H11 with ⟨%f11, %e11, H11⟩
  icases H12 with ⟨%f12, %e12, H12⟩
  icases H13 with ⟨%f13, %e13, H13⟩
  icases H14 with ⟨%f14, %e14, H14⟩
  iapply (runA c (grid0.coords t) _ _ _ _ _ _ _ _ _ _ _ _ _ _ _ _ _ _ _ _ _ _ _ _ _ _ ((c1 t).mpr h0) ((c2 t).mpr h0) (fun h => (c3 t).mp h h0) (fun h => h10 ((c4 t).mp h)) f2 f3 f4 f5 f6 f7 f8 f9 f10 f11 f12 f13 f14 Set.univ _)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iintro ⟨H2, H3, H4, H5, H6, H7, H8, ⟨%g9, H9, %r9⟩, ⟨%g10, H10, %r10⟩, ⟨%g11, H11, %r11⟩, ⟨%g12, H12, %r12⟩, ⟨%g13, H13⟩, ⟨%g14, H14⟩⟩
  unfold PhiB; unfold owns
  isplitl [H11 H12 H13 H14 Hg]
  · isplitl [H11 H12 H13 H14]
    · isplitl [H11]
      · iexists _; isplitr
        swap; · iexact H11
        ipureintro; exact r11.trans (congrArg₂ delAll e7 e5)
      isplitl [H12]
      · iexists _; isplitr
        swap; · iexact H12
        ipureintro; rw [r12, e3, e4, e2, e7, e6, e5]; rfl
      isplitl [H13]
      · iexists _; iexists _; isplitr
        swap; · iexact H13
        ipureintro; rfl
      iexists _; iexists _; isplitr
      swap; · iexact H14
      ipureintro; rfl
    iexact Hg
  isplitl [Ho]; · iexact Ho
  isplitl [H2]
  · iexists _; isplitr
    swap; · iexact H2
    ipureintro; exact e2
  isplitl [H3]
  · iexists _; isplitr
    swap; · iexact H3
    ipureintro; exact e3
  isplitl [H4]
  · iexists _; isplitr
    swap; · iexact H4
    ipureintro; exact e4
  isplitl [H5]
  · iexists _; isplitr
    swap; · iexact H5
    ipureintro; exact e5
  isplitl [H6]
  · iexists _; isplitr
    swap; · iexact H6
    ipureintro; exact e6
  isplitl [H7]
  · iexists _; isplitr
    swap; · iexact H7
    ipureintro; exact e7
  isplitl [H8]
  · iexists d6; iexists _; isplitr
    swap; · iexact H8
    ipureintro; exact e8
  isplitl [H9]
  · iexists _; isplitr
    swap; · iexact H9
    ipureintro; rw [r9, e3, e4, e2, e7, e6, e5]; rfl
  iexists _; isplitr
  swap; · iexact H10
  ipureintro; rw [r10, e3, e4, e2, e7, e6, e5]; rfl

set_option maxHeartbeats 4000000 in
theorem bodyB (c : Dev nD) (t : Fin cfg0.N) (h0 : ¬t.val % 11 = 0) (h10 : ¬t.val % 11 = 10) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiB c (carry m c (t.val + 1) t.isLt).1 (carry m c (t.val + 1) t.isLt).2 from rfl]
  rw [show (dats m 0 c).leavesExact 0 t = owns (c : Thread nD τ) (win0_0.stage (cfg0.slots t 0)) fullShare ((dats m 0 c).after 0 t) from by
    unfold Dat.leavesExact; rw [show cfg0.idle 0 (grid0.coords t) = false from rfl], after0_0]
  rw [show (dats m 0 c).leavesExact 1 t = owns (c : Thread nD τ) (win0_1.stage (cfg0.slots t 1)) fullShare ((dats m 0 c).after 1 t) from by
    unfold Dat.leavesExact; rw [show cfg0.idle 1 (grid0.coords t) = false from rfl], after0_1]
  rw [show (dats m 0 c).leavesExact 2 t = owns (c : Thread nD τ) (win0_2.stage (cfg0.slots t 2)) fullShare ((dats m 0 c).after 2 t) from by
    unfold Dat.leavesExact; rw [show cfg0.idle 2 (grid0.coords t) = false from rfl], after0_2]
  rw [show (dats m 0 c).leavesExact 3 t = owns (c : Thread nD τ) (win0_3.stage (cfg0.slots t 3)) fullShare ((dats m 0 c).after 3 t) from by
    unfold Dat.leavesExact; rw [show cfg0.idle 3 (grid0.coords t) = false from rfl], after0_3]
  rw [show (dats m 0 c).leavesExact 4 t = owns (c : Thread nD τ) (win0_4.stage (cfg0.slots t 4)) fullShare ((dats m 0 c).after 4 t) from by
    unfold Dat.leavesExact; rw [show cfg0.idle 4 (grid0.coords t) = false from rfl], after0_4]
  rw [show (dats m 0 c).leavesExact 5 t = owns (c : Thread nD τ) (win0_5.stage (cfg0.slots t 5)) fullShare ((dats m 0 c).after 5 t) from by
    unfold Dat.leavesExact; rw [show cfg0.idle 5 (grid0.coords t) = false from rfl], after0_5]
  rw [Dat.leavesExact_idle (dats m 0 c) 6 t (idle6 t h10) (noFlush6 t h10)]
  rw [show (dats m 0 c).leavesExact 7 t = owns (c : Thread nD τ) (win0_7.stage (cfg0.slots t 7)) fullShare ((dats m 0 c).after 7 t) from by
    unfold Dat.leavesExact; rw [show cfg0.idle 7 (grid0.coords t) = false from rfl], after0_7]
  rw [show (dats m 0 c).leavesExact 8 t = owns (c : Thread nD τ) (win0_8.stage (cfg0.slots t 8)) fullShare ((dats m 0 c).after 8 t) from by
    unfold Dat.leavesExact; rw [show cfg0.idle 8 (grid0.coords t) = false from rfl], after0_8]
  have hd : (carry m c (t.val + 1) t.isLt).1 = (carry m c t.val (Nat.le_of_lt t.isLt)).1 := if_neg h0
  have hq : (carry m c (t.val + 1) t.isLt).2 = (envT m c t (carry m c t.val (Nat.le_of_lt t.isLt)).1).dqC (grid0.coords t) (jw t) (carry m c t.val (Nat.le_of_lt t.isLt)).2 := if_neg h0
  rw [hq, hd, show dkT m c t (carry m c t.val (Nat.le_of_lt t.isLt)).1 = _ from if_neg h0, show dvT m c t (carry m c t.val (Nat.le_of_lt t.isLt)).1 = _ from if_neg h0]
  rw [PhiS_castSucc m c t, PhiS_pos m c _ _ (fun h => h0 (by rw [h]))]
  generalize (carry m c t.val (Nat.le_of_lt t.isLt)).1 = R0
  generalize (carry m c t.val (Nat.le_of_lt t.isLt)).2 = D0
  unfold PhiB
  iintro ⟨⟨⟨H11, H12, ⟨%d13, H13⟩, ⟨%d14, H14⟩⟩, Hg⟩, Ho, ⟨%d0, H2⟩, ⟨%d1, H3⟩, ⟨%d2, H4⟩, ⟨%d3, H5⟩, ⟨%d4, H6⟩, ⟨%d5, H7⟩, ⟨%d6, H8⟩, ⟨%d7, H9⟩, ⟨%d8, H10⟩⟩
  unfold owns
  icases H2 with ⟨%f2, %e2, H2⟩
  icases H3 with ⟨%f3, %e3, H3⟩
  icases H4 with ⟨%f4, %e4, H4⟩
  icases H5 with ⟨%f5, %e5, H5⟩
  icases H6 with ⟨%f6, %e6, H6⟩
  icases H7 with ⟨%f7, %e7, H7⟩
  icases H8 with ⟨%f8, %e8, H8⟩
  icases H9 with ⟨%f9, %e9, H9⟩
  icases H10 with ⟨%f10, %e10, H10⟩
  icases H11 with ⟨%f11, %e11, H11⟩
  icases H12 with ⟨%f12, %e12, H12⟩
  icases H13 with ⟨%f13, %e13, H13⟩
  icases H14 with ⟨%f14, %e14, H14⟩
  iapply (runB c (grid0.coords t) _ _ _ _ _ _ _ _ _ _ _ _ _ _ _ _ _ _ _ _ _ _ _ _ _ _ (fun h => h0 ((c1 t).mp h)) (fun h => h0 ((c2 t).mp h)) ((c3 t).mpr h0) (fun h => h10 ((c4 t).mp h)) f2 f3 f4 f5 f6 f7 f8 f9 f10 f11 f12 f13 f14 Set.univ _)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iintro ⟨H2, H3, H4, H5, H6, H7, H8, ⟨%g9, H9, %r9⟩, ⟨%g10, H10, %r10⟩, H11, ⟨%g12, H12, %r12⟩, ⟨%g13, H13⟩, ⟨%g14, H14⟩⟩
  isplitl [H11 H12 H13 H14 Hg]
  · isplitl [H11 H12 H13 H14]
    · isplitl [H11]
      · iexists _; isplitr
        swap; · iexact H11
        ipureintro; exact e11
      isplitl [H12]
      · iexists _; isplitr
        swap; · iexact H12
        ipureintro; rw [r12, e3, e4, e2, e7, e6, e11, e12]; rfl
      isplitl [H13]
      · iexists _; iexists _; isplitr
        swap; · iexact H13
        ipureintro; rfl
      iexists _; iexists _; isplitr
      swap; · iexact H14
      ipureintro; rfl
    iexact Hg
  isplitl [Ho]; · iexact Ho
  isplitl [H2]
  · iexists _; isplitr
    swap; · iexact H2
    ipureintro; exact e2
  isplitl [H3]
  · iexists _; isplitr
    swap; · iexact H3
    ipureintro; exact e3
  isplitl [H4]
  · iexists _; isplitr
    swap; · iexact H4
    ipureintro; exact e4
  isplitl [H5]
  · iexists _; isplitr
    swap; · iexact H5
    ipureintro; exact e5
  isplitl [H6]
  · iexists _; isplitr
    swap; · iexact H6
    ipureintro; exact e6
  isplitl [H7]
  · iexists _; isplitr
    swap; · iexact H7
    ipureintro; exact e7
  isplitl [H8]
  · iexists d6; iexists _; isplitr
    swap; · iexact H8
    ipureintro; exact e8
  isplitl [H9]
  · iexists _; isplitr
    swap; · iexact H9
    ipureintro; rw [r9, e3, e4, e2, e7, e6, e11]; rfl
  iexists _; isplitr
  swap; · iexact H10
  ipureintro; rw [r10, e3, e4, e2, e7, e6, e11]; rfl

set_option maxHeartbeats 4000000 in
theorem bodyC (c : Dev nD) (t : Fin cfg0.N) (h0 : ¬t.val % 11 = 0) (h10 : t.val % 11 = 10) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiB c (carry m c (t.val + 1) t.isLt).1 (carry m c (t.val + 1) t.isLt).2 from rfl]
  rw [show (dats m 0 c).leavesExact 0 t = owns (c : Thread nD τ) (win0_0.stage (cfg0.slots t 0)) fullShare ((dats m 0 c).after 0 t) from by
    unfold Dat.leavesExact; rw [show cfg0.idle 0 (grid0.coords t) = false from rfl], after0_0]
  rw [show (dats m 0 c).leavesExact 1 t = owns (c : Thread nD τ) (win0_1.stage (cfg0.slots t 1)) fullShare ((dats m 0 c).after 1 t) from by
    unfold Dat.leavesExact; rw [show cfg0.idle 1 (grid0.coords t) = false from rfl], after0_1]
  rw [show (dats m 0 c).leavesExact 2 t = owns (c : Thread nD τ) (win0_2.stage (cfg0.slots t 2)) fullShare ((dats m 0 c).after 2 t) from by
    unfold Dat.leavesExact; rw [show cfg0.idle 2 (grid0.coords t) = false from rfl], after0_2]
  rw [show (dats m 0 c).leavesExact 3 t = owns (c : Thread nD τ) (win0_3.stage (cfg0.slots t 3)) fullShare ((dats m 0 c).after 3 t) from by
    unfold Dat.leavesExact; rw [show cfg0.idle 3 (grid0.coords t) = false from rfl], after0_3]
  rw [show (dats m 0 c).leavesExact 4 t = owns (c : Thread nD τ) (win0_4.stage (cfg0.slots t 4)) fullShare ((dats m 0 c).after 4 t) from by
    unfold Dat.leavesExact; rw [show cfg0.idle 4 (grid0.coords t) = false from rfl], after0_4]
  rw [show (dats m 0 c).leavesExact 5 t = owns (c : Thread nD τ) (win0_5.stage (cfg0.slots t 5)) fullShare ((dats m 0 c).after 5 t) from by
    unfold Dat.leavesExact; rw [show cfg0.idle 5 (grid0.coords t) = false from rfl], after0_5]
  rw [show (dats m 0 c).leavesExact 6 t = owns (c : Thread nD τ) (win0_6.stage (cfg0.slots t 6)) fullShare ((dats m 0 c).after 6 t) from by
    unfold Dat.leavesExact; rw [show cfg0.idle 6 (grid0.coords t) = false from live6 t h10], after0_6]
  rw [show (dats m 0 c).leavesExact 7 t = owns (c : Thread nD τ) (win0_7.stage (cfg0.slots t 7)) fullShare ((dats m 0 c).after 7 t) from by
    unfold Dat.leavesExact; rw [show cfg0.idle 7 (grid0.coords t) = false from rfl], after0_7]
  rw [show (dats m 0 c).leavesExact 8 t = owns (c : Thread nD τ) (win0_8.stage (cfg0.slots t 8)) fullShare ((dats m 0 c).after 8 t) from by
    unfold Dat.leavesExact; rw [show cfg0.idle 8 (grid0.coords t) = false from rfl], after0_8]
  have hd : (carry m c (t.val + 1) t.isLt).1 = (carry m c t.val (Nat.le_of_lt t.isLt)).1 := if_neg h0
  have hq : (carry m c (t.val + 1) t.isLt).2 = (envT m c t (carry m c t.val (Nat.le_of_lt t.isLt)).1).dqC (grid0.coords t) (jw t) (carry m c t.val (Nat.le_of_lt t.isLt)).2 := if_neg h0
  rw [hq, hd, show dkT m c t (carry m c t.val (Nat.le_of_lt t.isLt)).1 = _ from if_neg h0, show dvT m c t (carry m c t.val (Nat.le_of_lt t.isLt)).1 = _ from if_neg h0]
  rw [PhiS_castSucc m c t, PhiS_pos m c _ _ (fun h => h0 (by rw [h]))]
  generalize (carry m c t.val (Nat.le_of_lt t.isLt)).1 = R0
  generalize (carry m c t.val (Nat.le_of_lt t.isLt)).2 = D0
  unfold PhiB
  iintro ⟨⟨⟨H11, H12, ⟨%d13, H13⟩, ⟨%d14, H14⟩⟩, Hg⟩, Ho, ⟨%d0, H2⟩, ⟨%d1, H3⟩, ⟨%d2, H4⟩, ⟨%d3, H5⟩, ⟨%d4, H6⟩, ⟨%d5, H7⟩, ⟨%d6, H8⟩, ⟨%d7, H9⟩, ⟨%d8, H10⟩⟩
  unfold owns
  icases H2 with ⟨%f2, %e2, H2⟩
  icases H3 with ⟨%f3, %e3, H3⟩
  icases H4 with ⟨%f4, %e4, H4⟩
  icases H5 with ⟨%f5, %e5, H5⟩
  icases H6 with ⟨%f6, %e6, H6⟩
  icases H7 with ⟨%f7, %e7, H7⟩
  icases H8 with ⟨%f8, %e8, H8⟩
  icases H9 with ⟨%f9, %e9, H9⟩
  icases H10 with ⟨%f10, %e10, H10⟩
  icases H11 with ⟨%f11, %e11, H11⟩
  icases H12 with ⟨%f12, %e12, H12⟩
  icases H13 with ⟨%f13, %e13, H13⟩
  icases H14 with ⟨%f14, %e14, H14⟩
  iapply (runC c (grid0.coords t) _ _ _ _ _ _ _ _ _ _ _ _ _ _ _ _ _ _ _ _ _ _ _ _ _ _ (fun h => h0 ((c1 t).mp h)) (fun h => h0 ((c2 t).mp h)) ((c3 t).mpr h0) ((c4 t).mpr h10) f2 f3 f4 f5 f6 f7 f8 f9 f10 f11 f12 f13 f14 Set.univ _)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iintro ⟨H2, H3, H4, H5, H6, H7, ⟨%g8, H8, %r8⟩, ⟨%g9, H9, %r9⟩, ⟨%g10, H10, %r10⟩, H11, ⟨%g12, H12, %r12⟩, ⟨%g13, H13⟩, ⟨%g14, H14⟩⟩
  isplitl [H11 H12 H13 H14 Hg]
  · isplitl [H11 H12 H13 H14]
    · isplitl [H11]
      · iexists _; isplitr
        swap; · iexact H11
        ipureintro; exact e11
      isplitl [H12]
      · iexists _; isplitr
        swap; · iexact H12
        ipureintro; rw [r12, e3, e4, e2, e7, e6, e11, e12]; rfl
      isplitl [H13]
      · iexists _; iexists _; isplitr
        swap; · iexact H13
        ipureintro; rfl
      iexists _; iexists _; isplitr
      swap; · iexact H14
      ipureintro; rfl
    iexact Hg
  isplitl [Ho]; · iexact Ho
  isplitl [H2]
  · iexists _; isplitr
    swap; · iexact H2
    ipureintro; exact e2
  isplitl [H3]
  · iexists _; isplitr
    swap; · iexact H3
    ipureintro; exact e3
  isplitl [H4]
  · iexists _; isplitr
    swap; · iexact H4
    ipureintro; exact e4
  isplitl [H5]
  · iexists _; isplitr
    swap; · iexact H5
    ipureintro; exact e5
  isplitl [H6]
  · iexists _; isplitr
    swap; · iexact H6
    ipureintro; exact e6
  isplitl [H7]
  · iexists _; isplitr
    swap; · iexact H7
    ipureintro; exact e7
  isplitl [H8]
  · iexists _; isplitr
    swap; · iexact H8
    ipureintro; rw [r8, e3, e4, e2, e7, e6, e11, e12]; rfl
  isplitl [H9]
  · iexists _; isplitr
    swap; · iexact H9
    ipureintro; rw [r9, e3, e4, e2, e7, e6, e11]; rfl
  iexists _; isplitr
  swap; · iexact H10
  ipureintro; rw [r10, e3, e4, e2, e7, e6, e11]; rfl

theorem sound_body (c : Dev nD) (t : Fin cfg0.N) :
    bodyPre m c t ⊢ wp frame (wpE (defs₀ (F := F)) Variants.none c none) Set.univ (bodyAt0 t) (fun _ => bodyPost m c t) := by
  by_cases h0 : t.val % 11 = 0
  · exact bodyA m c t h0
  · by_cases h10 : t.val % 11 = 10
    · exact bodyC m c t h0 h10
    · exact bodyB m c t h0 h10

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl]
  exact PhiS_out m c _ _

set_option backward.isDefEq.respectTransparency.types false in
/-- The run: every array at what the pipeline's data say, and every semaphore at zero. -/
theorem run_quiet : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The arguments end as they were. -/
theorem kept : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  Idealize.ShloMosaic.θ_run_and (frame_of m ρ (dats m) (A_eq m) ((θ_run defs _ _).mono (fun _ h => h.1) (run_quiet m ρ)))
    ((θ_run defs _ _).mono (fun _ h => h.2) (run_quiet m ρ))
end Cert.KernelIdeal.Own
-- ==== Proof.Blocks.lean ====
module
public import proofs.«01_k».proof.Proof.Results
public import Idealize.ShloMosaic.Lib.MatmulPlain
public import Idealize.ShloMosaic.Lib.ValueIdx
public import Idealize.ShloMosaic.Lib.ValueIdxCoords
public import Idealize.ShloMosaic.Lib.ValueLayout
public import Idealize.ShloMosaic.PureOps.Ideal.Laws
/-! The step of the kernel over the reals: what a pair of blocks computes, element by element. -/
@[expose] public section
set_option maxRecDepth 16384
noncomputable section
namespace Cert.KernelIdeal.Own
open Idealize.ShloMosaic Idealize.ShloMosaic.TcCoe Idealize.ShloMosaic.Tactic
open Idealize.ShloMosaic.ValueIdx
open Cert.KernelIdeal.Gen Cert.KernelIdeal

/-- The matrix `X` holds the real numbers `f r c`. -/
def Has2 {a b : ℕ} (X : (⟨2, ![a, b]⟩ : Shape).Idx → EReal) (f : ℕ → ℕ → ℝ) : Prop :=
  ∀ (r : Fin a) (c : Fin b), X (ix2 r c) = ((f r.val c.val : ℝ) : EReal)

theorem coe_sum_range (n : ℕ) (f : ℕ → ℝ) : ((∑ k ∈ Finset.range n, f k : ℝ) : EReal) = ∑ k : Fin n, ((f k.val : ℝ) : EReal) := by
  rw [Finset.sum_range]
  exact map_sum (⟨⟨Real.toEReal, EReal.coe_zero⟩, EReal.coe_add⟩ : ℝ →+ EReal) _ _

theorem const_zero {s : Shape} (i : s.Idx) : (constant s .f32 0x00000000#32 : FVec Ideal s .f32) i = 0 := by
  rw [constant_apply]; exact Ideal.ofBits_zero_f32

theorem Has2.mulT {A : FVec Ideal S384x128 .bf16} {B : FVec Ideal S384x128 .bf16} {f g : ℕ → ℕ → ℝ} (hA : Has2 A f) (hB : Has2 B g) :
    Has2 (matmul dot_S384x128_S384x128_S384x384_1_1_0_0_n_n none A B (constant S384x384 .f32 0x00000000#32) : FVec Ideal S384x384 .f32)
      (fun r c => ∑ k ∈ Finset.range 128, f r k * g c k) := fun r c => by
  refine (Ideal.matmul_transposedRhs_apply none A B _ r c).trans ?_
  rw [const_zero, zero_add, coe_sum_range]
  exact Finset.sum_congr rfl fun k _ => by rw [hA, hB, EReal.coe_mul]

theorem Has2.mulP {A : FVec Ideal S384x384 .bf16} {B : FVec Ideal S384x128 .bf16} {f g : ℕ → ℕ → ℝ} (hA : Has2 A f) (hB : Has2 B g) :
    Has2 (matmul dot_S384x384_S384x128_S384x128_1_0_0_1_n_n none A B (constant S384x128 .f32 0x00000000#32) : FVec Ideal S384x128 .f32)
      (fun r c => ∑ k ∈ Finset.range 384, f r k * g k c) := fun r c => by
  refine (Ideal.matmul_plain_apply none A B _ r c).trans ?_
  rw [const_zero, zero_add, coe_sum_range]
  exact Finset.sum_congr rfl fun k _ => by rw [hA, hB, EReal.coe_mul]

theorem Has2.mulD {A : FVec Ideal S128x384 .bf16} {B : FVec Ideal S384x384 .bf16} {f g : ℕ → ℕ → ℝ} (hA : Has2 A f) (hB : Has2 B g) :
    Has2 (matmul dot_S128x384_S384x384_S128x384_1_0_0_1_n_n none A B (constant S128x384 .f32 0x00000000#32) : FVec Ideal S128x384 .f32)
      (fun r c => ∑ k ∈ Finset.range 384, f r k * g k c) := fun r c => by
  refine (Ideal.matmul_plain_apply none A B _ r c).trans ?_
  rw [const_zero, zero_add, coe_sum_range]
  exact Finset.sum_congr rfl fun k _ => by rw [hA, hB, EReal.coe_mul]

theorem Has2.add {a b : ℕ} {X Y : FVec Ideal ⟨2, ![a, b]⟩ .f32} {f g : ℕ → ℕ → ℝ} (hX : Has2 X f) (hY : Has2 Y g) :
    Has2 (addf X Y) (fun r c => f r c + g r c) := fun r c => by
  rw [EReal.coe_add, ← hX, ← hY]; rfl

theorem Has2.cast {a b : ℕ} {X : (⟨2, ![a, b]⟩ : Shape).Idx → EReal} {f : ℕ → ℕ → ℝ} (hX : Has2 X f)
    (h : (⟨2, ![a, b]⟩ : Shape).ShapeCasts ⟨2, ![a, b]⟩) : Has2 (shapeCast ⟨2, ![a, b]⟩ X h) f := fun r c =>
  (shapeCast_apply X h _ _ rfl).trans (hX r c)

theorem Has2.congr {a b : ℕ} {X : (⟨2, ![a, b]⟩ : Shape).Idx → EReal} {f g : ℕ → ℕ → ℝ} (hX : Has2 X f)
    (h : ∀ r, r < a → ∀ c, c < b → f r c = g r c) : Has2 X g := fun r c => by rw [hX, h _ r.isLt _ c.isLt]

theorem has2_zero {a b : ℕ} : Has2 (a := a) (b := b) (fun _ => 0) (fun _ _ => 0) := fun _ _ => rfl

/-! ### The mask -/

theorem sle_ofNat {a b : ℕ} (ha : a < 8192) (hb : b < 8192) : (BitVec.ofNat 32 a).sle (BitVec.ofNat 32 b) = decide (a ≤ b) := by
  rw [BitVec.sle_eq_decide]
  refine decide_eq_decide.2 ?_
  rw [BitVec.toInt_eq_toNat_of_lt (by rw [BitVec.toNat_ofNat]; omega), BitVec.toInt_eq_toNat_of_lt (by rw [BitVec.toNat_ofNat]; omega),
    BitVec.toNat_ofNat, BitVec.toNat_ofNat]
  omega

theorem mask_apply (j b : ℕ) (hj : j < 11) (hb : b < 11) (r y : Fin 384) :
    mask (BitVec.ofNat 32 j) (BitVec.ofNat 32 b) (ix2 r y)
      = if 384 * j + r.val ≤ 384 * b + y.val ∧ 112 ≤ 384 * j + r.val then 1#1 else 0#1 := by
  have hr := r.isLt
  have hy := y.isLt
  have e0 : ∀ a x : ℕ, BitVec.ofNat 32 a * 384#32 + BitVec.ofNat 32 x = BitVec.ofNat 32 (384 * a + x) := fun a x => by
    rw [BitVec.ofNat_add, BitVec.ofNat_mul, BitVec.mul_comm]
  have i0 : iota .tc S384x384 32 [0] iota_S384x384_d0_w32 (ix2 r y) = BitVec.ofNat 32 r.val := iota_single_apply _ _ _ 0 _ _
  have i1 : iota .tc S384x384 32 [1] iota_S384x384_d1_w32 (ix2 r y) = BitVec.ofNat 32 y.val := iota_single_apply _ _ _ 1 _ _
  show IntOp.andi (IntOp.cmpi .sle (IntOp.addi (Scalar.muli (BitVec.ofNat 32 j) 384#32) (iota .tc S384x384 32 [0] iota_S384x384_d0_w32 (ix2 r y)))
      (IntOp.addi (Scalar.muli (BitVec.ofNat 32 b) 384#32) (iota .tc S384x384 32 [1] iota_S384x384_d1_w32 (ix2 r y))))
    (IntOp.cmpi .sge (IntOp.addi (Scalar.muli (BitVec.ofNat 32 j) 384#32) (iota .tc S384x384 32 [0] iota_S384x384_d0_w32 (ix2 r y))) 112#32) = _
  rw [i0, i1]
  show BitVec.ofBool ((BitVec.ofNat 32 j * 384#32 + BitVec.ofNat 32 r.val).sle (BitVec.ofNat 32 b * 384#32 + BitVec.ofNat 32 y.val))
    &&& BitVec.ofBool ((BitVec.ofNat 32 112).sle (BitVec.ofNat 32 j * 384#32 + BitVec.ofNat 32 r.val)) = _
  rw [e0, e0, sle_ofNat (by omega) (by omega), sle_ofNat (by omega) (by omega)]
  by_cases h1 : 384 * j + r.val ≤ 384 * b + y.val <;> by_cases h2 : 112 ≤ 384 * j + r.val <;> simp [h1, h2]

/-! ### A head's arrays, padded, and what is computed of them -/

/-- The real numbers of one head: keys, values, queries, incoming gradient, saved logarithms and row sums, each by its row
in the padded arrays. -/
structure Head where
  k : ℕ → ℕ → ℝ
  v : ℕ → ℕ → ℝ
  q : ℕ → ℕ → ℝ
  g : ℕ → ℕ → ℝ
  l : ℕ → ℝ
  d : ℕ → ℝ

namespace Head
variable (H : Head)
/-- The probability with which query `Y` looks at key `R`. -/
def p (R Y : ℕ) : ℝ := if R ≤ Y ∧ 112 ≤ R then Real.exp (∑ c ∈ Finset.range 128, H.k R c * H.q Y c - H.l Y) else 0
/-- The gradient of that score. -/
def s (R Y : ℕ) : ℝ := H.p R Y * (∑ c ∈ Finset.range 128, H.v R c * H.g Y c - H.d Y)
end Head

/-- What a point reads is the head's, at key block `j`. -/
structure Env.Reads (e : Env Ideal) (H : Head) (j : ℕ) : Prop where
  kb : Has2 e.kb fun r c => H.k (384 * j + r) c
  vb : Has2 e.vb fun r c => H.v (384 * j + r) c
  kt : Has2 e.kt fun c r => H.k (384 * j + r) c
  Q : Has2 e.Q H.q
  G : Has2 e.G H.g
  L : ∀ (b : Fin 11) (y : Fin 384), e.L (ix4 0 b 0 y) = ((H.l (384 * b.val + y.val) : ℝ) : EReal)
  R : ∀ (b : Fin 11) (y : Fin 384), e.R (ix3 b 0 y) = ((H.d (384 * b.val + y.val) : ℝ) : EReal)

theorem Has2.row {G : S4224x128.Idx → EReal} {f : ℕ → ℕ → ℝ} (h : Has2 G f) (b : ℕ) (hb : b < 11) :
    Has2 (rowB G b) fun r c => f (384 * b + r) c := fun r c => by
  have hr := r.isLt
  refine (h ⟨(384 * b + r.val) % 4224, Nat.mod_lt _ (by decide)⟩ c).trans ?_
  show ((f ((384 * b + r.val) % 4224) c.val : ℝ) : EReal) = _
  rw [Nat.mod_eq_of_lt (by omega)]

theorem probs_apply {kb q : FVec Ideal S384x128 .bf16} {l : FVec Ideal S1x1x1x384 .f32} {f g : ℕ → ℕ → ℝ} {u : ℕ → ℝ}
    (hk : Has2 kb f) (hq : Has2 q g) (hl : ∀ y : Fin 384, l (ix4 0 0 0 y) = ((u y.val : ℝ) : EReal)) :
    Has2 (probs kb q l) fun r y => Real.exp (∑ c ∈ Finset.range 128, f r c * g y c - u y) := fun r y => by
  have h1 := hk.mulT (hq.cast shapeCasts_S384x128_S384x128) r y
  have h2 : (broadcastTo S384x384 (shapeCast S1x384 l shapeCasts_S1x1x1x384_S1x384) broadcasts_S1x384_S384x384 : FVec Ideal S384x384 .f32) (ix2 r y)
      = ((u y.val : ℝ) : EReal) := by
    refine (broadcastTo_apply _ _ (ix2 r y) (ix2 (0 : Fin 1) y) fun a => ?_).trans
      ((shapeCast_apply l _ _ (ix4 (0 : Fin 1) (0 : Fin 1) (0 : Fin 1) y) ?_).trans (hl y))
    · match a with
      | ⟨0, _⟩ => rfl
      | ⟨1, _⟩ => rfl
    · rw [Shape.rowMajor_val_four, Shape.rowMajor_val_two]; rfl
  refine (congrArg₂ (fun a b : EReal => Ideal.exp (a - b)) h1 h2).trans ?_
  rw [← EReal.coe_sub]
  exact Ideal.exp_coe _

namespace Env.Reads
variable {e : Env Ideal} {H : Head} {j : ℕ}

theorem p (h : e.Reads H j) (m : Option (BitVec 32)) (b : ℕ) (hj : j < 11) (hb : b < 11)
    (hm : m = some (BitVec.ofNat 32 j) ∨ (m = none ∧ 1 ≤ j ∧ j < b)) :
    Has2 (e.p m b) fun r y => H.p (384 * j + r) (384 * b + y) := by
  have hl : ∀ y : Fin 384, lseB e.L b (ix4 0 0 0 y) = ((H.l (384 * b + y.val) : ℝ) : EReal) := fun y => by
    refine (h.L ⟨b % 11, Nat.mod_lt _ (by decide)⟩ y).trans ?_
    show ((H.l (384 * (b % 11) + y.val) : ℝ) : EReal) = _
    rw [Nat.mod_eq_of_lt hb]
  have hp := probs_apply (u := fun y => H.l (384 * b + y)) h.kb (h.Q.row b hb) hl
  rcases hm with rfl | ⟨rfl, h1, h2⟩
  · intro r y
    show (if mask (BitVec.ofNat 32 j) (BitVec.ofNat 32 b) (ix2 r y) = 1 then probs e.kb (rowB e.Q b) (lseB e.L b) (ix2 r y)
      else (Scalar.ofBits .f32 0x00000000#32 : Ideal .f32)) = _
    rw [mask_apply j b hj hb, hp r y]
    dsimp only
    unfold Head.p
    by_cases hc : 384 * j + r.val ≤ 384 * b + y.val ∧ 112 ≤ 384 * j + r.val
    · rw [if_pos hc, if_pos hc]; exact if_pos rfl
    · rw [if_neg hc, if_neg hc, if_neg (by decide)]; exact Ideal.ofBits_zero_f32
  · exact hp.congr fun r hr y hy => by
      unfold Head.p
      rw [if_pos ⟨by omega, by omega⟩]

theorem v (h : e.Reads H j) (m : Option (BitVec 32)) (b : ℕ) (hj : j < 11) (hb : b < 11)
    (hm : m = some (BitVec.ofNat 32 j) ∨ (m = none ∧ 1 ≤ j ∧ j < b)) :
    Has2 (e.v m b) fun r c => ∑ y ∈ Finset.range 384, H.p (384 * j + r) (384 * b + y) * H.g (384 * b + y) c :=
  Has2.mulP (A := truncf .bf16 (e.p m b) bitsLt_bf16_f32) (h.p m b hj hb hm) ((h.G.row b hb).cast _)

theorem s (h : e.Reads H j) (m : Option (BitVec 32)) (b : ℕ) (hj : j < 11) (hb : b < 11)
    (hm : m = some (BitVec.ofNat 32 j) ∨ (m = none ∧ 1 ≤ j ∧ j < b)) :
    Has2 (e.s m b) fun r y => H.s (384 * j + r) (384 * b + y) := fun r y => by
  have hp := h.p m b hj hb hm r y
  have h1 := h.vb.mulT ((h.G.row b hb).cast shapeCasts_S384x128_S384x128) r y
  have h2 : (broadcastTo S384x384 (shapeCast S1x384 (delB e.R b) shapeCasts_S1x1x384_S1x384) broadcasts_S1x384_S384x384 : FVec Ideal S384x384 .f32) (ix2 r y)
      = ((H.d (384 * b + y.val) : ℝ) : EReal) := by
    refine (broadcastTo_apply _ _ (ix2 r y) (ix2 (0 : Fin 1) y) fun a => ?_).trans
      ((shapeCast_apply (delB e.R b) _ _ (ix3 (0 : Fin 1) (0 : Fin 1) y) ?_).trans
        ((h.R ⟨b % 11, Nat.mod_lt _ (by decide)⟩ y).trans ?_))
    · match a with
      | ⟨0, _⟩ => rfl
      | ⟨1, _⟩ => rfl
    · rw [Shape.rowMajor_val_three, Shape.rowMajor_val_two]; rfl
    · show ((H.d (384 * (b % 11) + y.val) : ℝ) : EReal) = _
      rw [Nat.mod_eq_of_lt hb]
  show truncf .bf16 (mulf (e.p m b) (subf _ _)) bitsLt_bf16_f32 (ix2 r y) = _
  rw [truncf_apply, mulf_apply, subf_apply, hp, h1, h2, ← EReal.coe_sub, ← EReal.coe_mul]
  rfl

theorem kk (h : e.Reads H j) (m : Option (BitVec 32)) (b : ℕ) (hj : j < 11) (hb : b < 11)
    (hm : m = some (BitVec.ofNat 32 j) ∨ (m = none ∧ 1 ≤ j ∧ j < b)) :
    Has2 (e.k m b) fun r c => ∑ y ∈ Finset.range 384, H.s (384 * j + r) (384 * b + y) * H.q (384 * b + y) c :=
  Has2.mulP (h.s m b hj hb hm) ((h.Q.row b hb).cast _)

theorem d (h : e.Reads H j) (m : Option (BitVec 32)) (b : ℕ) (hj : j < 11) (hb : b < 11)
    (hm : m = some (BitVec.ofNat 32 j) ∨ (m = none ∧ 1 ≤ j ∧ j < b)) (old : FVec Ideal S1x128x384 .f32) (f : ℕ → ℕ → ℝ)
    (ho : ∀ (c : Fin 128) (y : Fin 384), old (ix3 0 c y) = ((f c.val y.val : ℝ) : EReal)) (c : Fin 128) (y : Fin 384) :
    e.d m b old (ix3 0 c y) = ((f c.val y.val + ∑ r ∈ Finset.range 384, H.k (384 * j + r) c.val * H.s (384 * j + r) (384 * b + y.val) : ℝ) : EReal) := by
  have h1 := Has2.mulD h.kt (h.s m b hj hb hm) c y
  unfold Env.d stepD
  rw [EReal.coe_add, ← h1, ← ho]
  refine (shapeCast_ab_1ab_apply _ _ 0 c y).trans ?_
  rw [addf_apply]
  exact congrArg₂ (· + ·) (shapeCast_1ab_ab_apply old _ c y) rfl
end Env.Reads
end Cert.KernelIdeal.Own
-- ==== Proof.Att.lean ====
module
public import proofs.«01_k».proof.Proof.Blocks
/-! The attention of one step over the real numbers, its gradient, and the padded heads that hold the same numbers. -/
@[expose] public section
noncomputable section
namespace Cert.KernelIdeal.Own
open Finset

/-- What the step's attention reads, as real numbers: token, head, lane. `M h y` is any shift of the scores of row `y`. -/
structure Att where
  q : ℕ → ℕ → ℕ → ℝ
  k : ℕ → ℕ → ℕ → ℝ
  v : ℕ → ℕ → ℕ → ℝ
  g : ℕ → ℕ → ℕ → ℝ
  M : ℕ → ℕ → ℝ

namespace Att
variable (A : Att)

/-- The score of key `r` in row `y`. -/
def S (h y r : ℕ) : ℝ := ∑ c ∈ range 96, A.q y h c * A.k r h c
/-- Its weight before the row is divided by its sum. -/
def e (h y r : ℕ) : ℝ := if r ≤ y then Real.exp (A.S h y r - A.M h y) else 0
/-- The sum of a row's weights. -/
def l (h y : ℕ) : ℝ := ∑ r ∈ range 4112, A.e h y r
/-- The row's weights. -/
def P (h y r : ℕ) : ℝ := A.e h y r / A.l h y
/-- The attention's output. -/
def o (h y x : ℕ) : ℝ := ∑ r ∈ range 4112, A.v r h x * A.P h y r
/-- The gradient with respect to a weight. -/
def dP (h y r : ℕ) : ℝ := ∑ c ∈ range 64, A.g y h c * A.v r h c
/-- The gradient with respect to a score, as the quotient's rule gives it. -/
def ds (h y r : ℕ) : ℝ :=
  if r ≤ y then (A.dP h y r / A.l h y + -(∑ r' ∈ range 4112, A.dP h y r' * (1 / (A.l h y * A.l h y)) * A.e h y r')) * A.e h y r else 0
def dq (y h x : ℕ) : ℝ := ∑ r ∈ range 4112, A.ds h y r * A.k r h x
def dk (r h x : ℕ) : ℝ := ∑ y ∈ range 4112, A.ds h y r * A.q y h x
def dv (r h x : ℕ) : ℝ := ∑ y ∈ range 4112, A.g y h x * A.P h y r

theorem e_nonneg (h y r : ℕ) : 0 ≤ A.e h y r := by
  unfold e; split
  · exact (Real.exp_pos _).le
  · exact le_rfl

theorem l_pos (h : ℕ) {y : ℕ} (hy : y < 4112) : 0 < A.l h y := by
  refine Finset.sum_pos' (fun r _ => A.e_nonneg h y r) ⟨y, mem_range.mpr hy, ?_⟩
  unfold e
  rw [if_pos le_rfl]
  exact Real.exp_pos _

/-- The sum over the weights' gradients is the product of the output with its gradient. -/
theorem sum_dP (h y : ℕ) : ∑ r ∈ range 4112, A.P h y r * A.dP h y r = ∑ x ∈ range 64, A.g y h x * A.o h y x := by
  simp only [dP, o, mul_sum]
  rw [sum_comm]
  exact sum_congr rfl fun x _ => sum_congr rfl fun r _ => by ring

theorem ds_eq (h : ℕ) {y : ℕ} (hy : y < 4112) (r : ℕ) :
    A.ds h y r = if r ≤ y then A.P h y r * (A.dP h y r - ∑ x ∈ range 64, A.g y h x * A.o h y x) else 0 := by
  unfold ds
  split
  · rw [← A.sum_dP]
    have hl := (A.l_pos h hy).ne'
    have e1 : ∑ r' ∈ range 4112, A.dP h y r' * (1 / (A.l h y * A.l h y)) * A.e h y r'
        = (∑ r' ∈ range 4112, A.P h y r' * A.dP h y r') / A.l h y := by
      rw [sum_div]
      refine sum_congr rfl fun r' _ => ?_
      unfold P
      field_simp
    rw [e1]
    unfold P
    field_simp
    ring
  · rfl

/-- An array of tokens behind 112 rows of zeros and before lanes of zeros. -/
def padded (n : ℕ) (f : ℕ → ℕ → ℕ → ℝ) (h Y x : ℕ) : ℝ := if 112 ≤ Y ∧ x < n then f (Y - 112) h x else 0

/-- Head `h` as the blocks hold it. -/
def head (h : ℕ) : Head where
  q := padded 96 A.q h
  k := padded 96 A.k h
  v := padded 64 A.v h
  g := padded 64 A.g h
  l Y := if 112 ≤ Y then A.M h (Y - 112) + Real.log (A.l h (Y - 112)) else 0
  d Y := ∑ x ∈ range 128, padded 64 A.g h Y x * padded 64 (fun y h x => A.o h y x) h Y x

theorem sum_lanes {n : ℕ} (hn : n ≤ 128) (f : ℕ → ℝ) : ∑ x ∈ range 128, (if x < n then f x else 0) = ∑ x ∈ range n, f x := by
  rw [← Finset.sum_filter]
  congr 1
  ext x
  simp only [mem_filter, mem_range]
  omega

theorem sum_rows (f : ℕ → ℝ) : ∑ Y ∈ range 4224, (if 112 ≤ Y then f (Y - 112) else 0) = ∑ y ∈ range 4112, f y := by
  rw [show 4224 = 112 + 4112 from rfl, Finset.sum_range_add]
  rw [Finset.sum_eq_zero (fun Y hY => if_neg (by have := mem_range.mp hY; omega)), zero_add]
  exact sum_congr rfl fun y _ => by rw [if_pos (by omega), show 112 + y - 112 = y by omega]

theorem padded_mul {n : ℕ} (hn : n ≤ 128) (f g : ℕ → ℕ → ℕ → ℝ) (h : ℕ) {R Y : ℕ} (hR : 112 ≤ R) (hY : 112 ≤ Y) :
    ∑ c ∈ range 128, padded n f h R c * padded n g h Y c = ∑ c ∈ range n, f (R - 112) h c * g (Y - 112) h c := by
  rw [← sum_lanes hn]
  refine sum_congr rfl fun c _ => ?_
  unfold padded
  by_cases hc : c < n <;> simp [hR, hY, hc]

theorem head_p (h : ℕ) (R : ℕ) {Y : ℕ} (hY : Y < 4224) :
    (A.head h).p R Y = if 112 ≤ R ∧ R ≤ Y then A.P h (Y - 112) (R - 112) else 0 := by
  unfold Head.p
  by_cases hR : R ≤ Y ∧ 112 ≤ R
  · rw [if_pos hR, if_pos ⟨hR.2, hR.1⟩]
    have hY' : 112 ≤ Y := by omega
    have e1 : ∑ c ∈ range 128, (A.head h).k R c * (A.head h).q Y c = A.S h (Y - 112) (R - 112) := by
      refine (padded_mul (by norm_num) A.k A.q h hR.2 hY').trans ?_
      exact sum_congr rfl fun c _ => mul_comm _ _
    have e2 : (A.head h).l Y = A.M h (Y - 112) + Real.log (A.l h (Y - 112)) := if_pos hY'
    have hl := A.l_pos h (y := Y - 112) (by omega)
    rw [e1, e2, P, e, if_pos (by omega), ← sub_sub, Real.exp_sub, Real.exp_log hl]
  · rw [if_neg hR, if_neg (fun h' => hR ⟨h'.2, h'.1⟩)]

theorem head_d (h : ℕ) {Y : ℕ} (hY : 112 ≤ Y) : (A.head h).d Y = ∑ x ∈ range 64, A.g (Y - 112) h x * A.o h (Y - 112) x :=
  padded_mul (by norm_num) A.g (fun y h x => A.o h y x) h hY hY

theorem head_s (h : ℕ) (R : ℕ) {Y : ℕ} (hY : Y < 4224) :
    (A.head h).s R Y = if 112 ≤ R ∧ R ≤ Y then A.ds h (Y - 112) (R - 112) else 0 := by
  unfold Head.s
  rw [A.head_p h R hY]
  by_cases hR : 112 ≤ R ∧ R ≤ Y
  · rw [if_pos hR, if_pos hR, A.ds_eq h (by omega), if_pos (by omega), A.head_d h (by omega)]
    congr 2
    refine (padded_mul (by norm_num) A.v A.g h hR.1 (by omega)).trans ?_
    exact sum_congr rfl fun c _ => mul_comm _ _
  · rw [if_neg hR, if_neg hR, zero_mul]

theorem ds_above (h : ℕ) {y r : ℕ} (hr : y < r) : A.ds h y r = 0 := if_neg (by omega)

theorem P_above (h : ℕ) {y r : ℕ} (hr : y < r) : A.P h y r = 0 := by
  unfold P e
  rw [if_neg (by omega), zero_div]

theorem head_dq (h : ℕ) {Y : ℕ} (hY : Y < 4224) (x : ℕ) :
    ∑ R ∈ range 4224, (A.head h).k R x * (A.head h).s R Y = padded 96 A.dq h Y x := by
  unfold padded
  by_cases hx : 112 ≤ Y ∧ x < 96
  · rw [if_pos hx]
    unfold dq
    rw [← sum_rows]
    refine sum_congr rfl fun R _ => ?_
    rw [A.head_s h R hY]
    by_cases hR : 112 ≤ R
    · rw [if_pos hR]
      have e1 : (A.head h).k R x = A.k (R - 112) h x := if_pos ⟨hR, hx.2⟩
      rw [e1, mul_comm]
      congr 1
      by_cases hRY : R ≤ Y
      · exact if_pos ⟨hR, hRY⟩
      · rw [if_neg (fun h' => hRY h'.2), A.ds_above h (by omega)]
    · rw [if_neg hR, if_neg (fun h' => hR h'.1), mul_zero]
  · rw [if_neg hx]
    refine sum_eq_zero fun R _ => ?_
    rw [A.head_s h R hY]
    by_cases hY' : 112 ≤ Y
    · rw [show (A.head h).k R x = 0 from if_neg (fun h' => hx ⟨hY', h'.2⟩), zero_mul]
    · rw [if_neg (fun h' => hY' (by omega)), mul_zero]

theorem head_dk (h R : ℕ) (x : ℕ) :
    ∑ Y ∈ range 4224, (A.head h).s R Y * (A.head h).q Y x = padded 96 A.dk h R x := by
  unfold padded
  by_cases hx : 112 ≤ R ∧ x < 96
  · rw [if_pos hx]
    unfold dk
    rw [← sum_rows]
    refine sum_congr rfl fun Y hY => ?_
    rw [A.head_s h R (mem_range.mp hY)]
    by_cases hY' : 112 ≤ Y
    · rw [if_pos hY', show (A.head h).q Y x = A.q (Y - 112) h x from if_pos ⟨hY', hx.2⟩]
      congr 1
      by_cases hRY : R ≤ Y
      · exact if_pos ⟨hx.1, hRY⟩
      · rw [if_neg (fun h' => hRY h'.2), A.ds_above h (by omega)]
    · rw [if_neg hY', if_neg (fun h' => hY' (by omega)), zero_mul]
  · rw [if_neg hx]
    refine sum_eq_zero fun Y hY => ?_
    rw [A.head_s h R (mem_range.mp hY)]
    by_cases hR : 112 ≤ R
    · rw [show (A.head h).q Y x = 0 from if_neg (fun h' => hx ⟨hR, h'.2⟩), mul_zero]
    · rw [if_neg (fun h' => hR h'.1), zero_mul]

theorem head_dv (h R : ℕ) (x : ℕ) :
    ∑ Y ∈ range 4224, (A.head h).p R Y * (A.head h).g Y x = padded 64 A.dv h R x := by
  unfold padded
  by_cases hx : 112 ≤ R ∧ x < 64
  · rw [if_pos hx]
    unfold dv
    rw [← sum_rows]
    refine sum_congr rfl fun Y hY => ?_
    rw [A.head_p h R (mem_range.mp hY)]
    by_cases hY' : 112 ≤ Y
    · rw [if_pos hY', show (A.head h).g Y x = A.g (Y - 112) h x from if_pos ⟨hY', hx.2⟩, mul_comm]
      congr 1
      by_cases hRY : R ≤ Y
      · exact if_pos ⟨hx.1, hRY⟩
      · rw [if_neg (fun h' => hRY h'.2), A.P_above h (by omega)]
    · rw [if_neg hY', if_neg (fun h' => hY' (by omega)), zero_mul]
  · rw [if_neg hx]
    refine sum_eq_zero fun Y hY => ?_
    rw [A.head_p h R (mem_range.mp hY)]
    by_cases hR : 112 ≤ R
    · rw [show (A.head h).g Y x = 0 from if_neg (fun h' => hx ⟨hR, h'.2⟩), mul_zero]
    · rw [if_neg (fun h' => hR h'.1), zero_mul]

end Att
end Cert.KernelIdeal.Own
-- ==== Proof.Ref.lean ====
module
public import proofs.«01_k».proof.Proof.Att
public import proofs.«01_k».proof.Proof.Gen.ReferenceIdeal.Read
public import Idealize.ShloMosaic.Lib.KernelVsHost
public import Idealize.ShloMosaic.Lib.IdealHost
/-! What the reference computes, over the real numbers, operation by operation. -/
@[expose] public section
set_option maxRecDepth 16384
noncomputable section
namespace Cert.ReferenceIdeal.Own
open Idealize.ShloMosaic Idealize.ShloMosaic.TcCoe
open Idealize.ShloMosaic.ValueIdx
open Cert.ReferenceIdeal.Gen Cert.ReferenceIdeal Cert.ReferenceIdeal.Read
open Cert.KernelIdeal.Own (Att coe_sum_range sle_ofNat)

/-- The array holds the real numbers `f`. -/
def Real3 {a b c : ℕ} (X : (⟨3, ![a, b, c]⟩ : Shape).Idx → EReal) (f : ℕ → ℕ → ℕ → ℝ) : Prop :=
  ∀ i j k, X (ix3 i j k) = ((f i.val j.val k.val : ℝ) : EReal)

theorem ext1 {a : ℕ} {i : (⟨1, ![a]⟩ : Shape).Idx} {x : Fin a} (h0 : i 0 = x) : i = ix1 x := by
  funext t; match t with | ⟨0, _⟩ => exact h0
theorem ext2 {a b : ℕ} {i : (⟨2, ![a, b]⟩ : Shape).Idx} {x : Fin a} {y : Fin b} (h0 : i 0 = x) (h1 : i 1 = y) : i = ix2 x y := by
  funext t; match t with | ⟨0, _⟩ => exact h0 | ⟨1, _⟩ => exact h1
theorem ext3 {a b c : ℕ} {i : (⟨3, ![a, b, c]⟩ : Shape).Idx} {x : Fin a} {y : Fin b} {z : Fin c} (h0 : i 0 = x) (h1 : i 1 = y)
    (h2 : i 2 = z) : i = ix3 x y z := by
  funext t; match t with | ⟨0, _⟩ => exact h0 | ⟨1, _⟩ => exact h1 | ⟨2, _⟩ => exact h2

theorem ninf : (FloatOps.ofBits .f32 0xFF800000#32 : Ideal .f32) = (⊥ : EReal) := by
  show Ideal.ofBits .f32 0xFF800000#32 = ⊥
  simp [Ideal.ofBits, Ideal.ieee]
theorem pinf : (FloatOps.ofBits .f32 0x7F800000#32 : Ideal .f32) = (⊤ : EReal) := by
  show Ideal.ofBits .f32 0x7F800000#32 = ⊤
  simp [Ideal.ofBits, Ideal.ieee]
theorem zero : (FloatOps.ofBits .f32 0x00000000#32 : Ideal .f32) = (0 : EReal) := Ideal.ofBits_zero_f32
theorem one : (FloatOps.ofBits .f32 0x3F800000#32 : Ideal .f32) = ((1 : ℝ) : EReal) := by
  show Ideal.ofBits .f32 0x3F800000#32 = ((1 : ℝ) : EReal)
  exact Ideal.ofBits_one_f32.trans EReal.coe_one.symm

theorem div_real {x y : ℝ} (hy : y ≠ 0) : (FloatOps.hostDivf (x : EReal) (y : EReal) : Ideal .f32) = ((x / y : ℝ) : EReal) := by
  show Ideal.div (x : EReal) (y : EReal) = _
  rw [Ideal.div_coe hy, ← EReal.coe_mul, mul_one_div]

abbrev A96 := (⟨S4112x8x96, .f32⟩ : BufTy).Contents (Elt Ideal)
abbrev A64 := (⟨S4112x8x64, .f32⟩ : BufTy).Contents (Elt Ideal)

/-- The four arrays hold the numbers of `A`, and `A.M` is the greatest score of each row. -/
structure Reads (A : Att) (x0 x1 : A96) (x2 x3 : A64) : Prop where
  q : Real3 (val_main_v1 (F := Ideal) x0) A.q
  k : Real3 x1 A.k
  v : Real3 x2 A.v
  g : Real3 x3 A.g
  M : ∀ h y, val_main_v7 (F := Ideal) x0 x1 (ix2 h y) = ((A.M h.val y.val : ℝ) : EReal)

variable {A : Att} {x0 x1 : A96} {x2 x3 : A64}

theorem scores (hq : Real3 (val_main_v1 (F := Ideal) x0) A.q) (hk : Real3 x1 A.k) : Real3 (val_main_v2 (F := Ideal) x0 x1) A.S :=
  fun h y r => by
    rw [val_main_v2_apply]
    unfold Att.S
    rw [coe_sum_range]
    refine Finset.sum_congr rfl fun c _ => ?_
    rw [show lidx_main_v2 (ix3 h y r) c = ix3 y h c from ext3 rfl rfl rfl,
      show ridx_main_v2 (ix3 h y r) c = ix3 r h c from ext3 rfl rfl rfl, hq, hk, EReal.coe_mul]

theorem seen (h : Fin 8) (y r : Fin 4112) : val_main_v5 (F := Ideal) (ix3 h y r) = if r.val ≤ y.val then 1#1 else 0#1 := by
  have hr := r.isLt
  have hy := y.isLt
  rw [val_main_v5_apply, val_main_v3_apply, val_main_v4_apply]
  show BitVec.ofBool ((BitVec.ofNat 32 r.val).sle (BitVec.ofNat 32 y.val)) = _
  rw [sle_ofNat (by omega) (by omega)]
  by_cases e : r.val ≤ y.val <;> simp [e]

theorem masked (hq : Real3 (val_main_v1 (F := Ideal) x0) A.q) (hk : Real3 x1 A.k) (h : Fin 8) (y r : Fin 4112) :
    val_main_v6_0 (F := Ideal) x0 x1 (ix3 h y r) = if r.val ≤ y.val then ((A.S h.val y.val r.val : ℝ) : EReal) else ⊥ := by
  rw [val_main_v6_0_apply, seen, scores hq hk]
  by_cases e : r.val ≤ y.val
  · rw [if_pos e, if_pos e, select_one]
  · rw [if_neg e, if_neg e, select_zero, val_main_call0_v1_apply, val_main_call0_v0_apply, val_main_cst_0_apply]
    exact ninf

theorem weights (H : Reads A x0 x1 x2 x3) : Real3 (val_main_v27 (F := Ideal) x0 x1) A.e := fun h y r => by
  rw [val_main_v27_apply, val_main_v26_apply, masked H.q H.k, val_main_v25_apply, val_main_v24_apply, val_main_v14_apply,
    val_main_v13_apply, val_main_cst_3_apply, ninf,
    show idx_main_v24 (idx_main_v25 (ix3 h y r)) = ix2 h y from ext2 rfl rfl, H.M]
  show Ideal.exp ((if r.val ≤ y.val then ((A.S h.val y.val r.val : ℝ) : EReal) else ⊥) - max (⊥ : EReal) ((A.M h.val y.val : ℝ) : EReal)) = _
  rw [bot_sup_eq]
  unfold Att.e
  by_cases e : r.val ≤ y.val
  · rw [if_pos e, if_pos e, ← EReal.coe_sub, Ideal.exp_coe]
  · rw [if_neg e, if_neg e, EReal.bot_sub, Ideal.exp_bot]; rfl

theorem rows (H : Reads A x0 x1 x2 x3) (h : Fin 8) (y : Fin 4112) :
    val_main_v28 (F := Ideal) x0 x1 (ix2 h y) = ((A.l h.val y.val : ℝ) : EReal) := by
  rw [val_main_v28_apply, val_main_cst_9_apply, zero, zero_add]
  unfold Att.l
  rw [coe_sum_range]
  refine Finset.sum_congr rfl fun r _ => ?_
  rw [show idx_main_v28 (ix2 h y) r = ix3 h y r from ext3 rfl rfl rfl, weights H]

theorem rows1 (H : Reads A x0 x1 x2 x3) (h : Fin 8) (y : Fin 4112) (z : Fin 1) :
    val_main_v29 (F := Ideal) x0 x1 (ix3 h y z) = ((A.l h.val y.val : ℝ) : EReal) := by
  rw [val_main_v29_apply, show idx_main_v29 (ix3 h y z) = ix2 h y from ext2 rfl rfl, rows H]

theorem shares (H : Reads A x0 x1 x2 x3) : Real3 (val_main_v31 (F := Ideal) x0 x1) A.P := fun h y r => by
  rw [val_main_v31_apply, weights H, val_main_v30_apply, show idx_main_v30 (ix3 h y r) = ix3 h y 0 from ext3 rfl rfl rfl, rows1 H]
  exact div_real (A.l_pos _ y.isLt).ne'

theorem output (H : Reads A x0 x1 x2 x3) : Real3 (val_main_v35 (F := Ideal) x0 x1 x2) fun h x y => A.o h y x := fun h x y => by
  rw [val_main_v35_apply]
  unfold Att.o
  rw [coe_sum_range]
  refine Finset.sum_congr rfl fun r _ => ?_
  rw [show lidx_main_v35 (ix3 h x y) r = ix3 r h x from ext3 rfl rfl rfl,
    show ridx_main_v35 (ix3 h x y) r = ix3 h y r from ext3 rfl rfl rfl, H.v, shares H, EReal.coe_mul]

theorem turned (H : Reads A x0 x1 x2 x3) : Real3 (val_main_v37 (F := Ideal) x3) fun h x y => A.g y h x := fun h x y => by
  rw [val_main_v37_apply, show idx_main_v37 (ix3 h x y) = ix3 y h x from ext3 rfl rfl rfl, H.g]

theorem gradP (H : Reads A x0 x1 x2 x3) : Real3 (val_main_v38 (F := Ideal) x2 x3) A.dP := fun h y r => by
  rw [val_main_v38_apply]
  unfold Att.dP
  rw [coe_sum_range]
  refine Finset.sum_congr rfl fun x _ => ?_
  rw [show lidx_main_v38 (ix3 h y r) x = ix3 h x y from ext3 rfl rfl rfl,
    show ridx_main_v38 (ix3 h y r) x = ix3 r h x from ext3 rfl rfl rfl, turned H, H.v, EReal.coe_mul]

theorem inverse (H : Reads A x0 x1 x2 x3) (h : Fin 8) (y : Fin 4112) (z : Fin 1) :
    val_main_v34 (F := Ideal) x0 x1 (ix3 h y z) = ((1 / (A.l h.val y.val * A.l h.val y.val) : ℝ) : EReal) := by
  rw [val_main_v34_apply, val_main_v33_apply, val_main_cst_10_apply, val_main_v32_apply, rows1 H, one]
  have e : (FloatOps.mulf ((A.l h.val y.val : ℝ) : EReal) ((A.l h.val y.val : ℝ) : EReal) : Ideal .f32)
      = ((A.l h.val y.val * A.l h.val y.val : ℝ) : EReal) := (EReal.coe_mul _ _).symm
  rw [e]
  have := (A.l_pos h.val y.isLt).ne'
  exact div_real (mul_ne_zero this this)

/-- The sum that the quotient's rule takes over each row. -/
def rowSum (A : Att) (h y : ℕ) : ℝ := ∑ r' ∈ Finset.range 4112, A.dP h y r' * (1 / (A.l h y * A.l h y)) * A.e h y r'

theorem summed (H : Reads A x0 x1 x2 x3) (h : Fin 8) (y : Fin 4112) :
    val_main_v44 (F := Ideal) x0 x1 x2 x3 (ix2 h y) = ((rowSum A h.val y.val : ℝ) : EReal) := by
  rw [val_main_v44_apply, val_main_cst_11_apply, zero, zero_add]
  unfold rowSum
  rw [coe_sum_range]
  refine Finset.sum_congr rfl fun r _ => ?_
  rw [show idx_main_v44 (ix2 h y) r = ix3 h y r from ext3 rfl rfl rfl, val_main_v43_apply, val_main_v42_apply, gradP H, weights H,
    val_main_v41_apply, show idx_main_v41 (ix3 h y r) = ix3 h y 0 from ext3 rfl rfl rfl, inverse H, EReal.coe_mul, EReal.coe_mul]
  rfl

theorem negated (H : Reads A x0 x1 x2 x3) (h : Fin 8) (y : Fin 4112) :
    val_main_v49 (F := Ideal) x0 x1 x2 x3 (ix2 h y) = ((-rowSum A h.val y.val : ℝ) : EReal) := by
  have hh := h.isLt
  have hy := y.isLt
  rw [val_main_v49_apply, val_main_cst_12_apply, zero, zero_add, Fin.sum_univ_one, val_main_v46_apply, val_main_v45_apply,
    show idx_main_v45 (idx_main_v49 (ix2 h y) 0) = ix2 h y from
      ext2 (Fin.ext (by show ((h.val * 4112 + y.val) * 1 + 0) / 4112 = h.val; omega))
        (Fin.ext (by show ((h.val * 4112 + y.val) * 1 + 0) % 4112 = y.val; omega)), summed H]
  rfl

theorem gradS (H : Reads A x0 x1 x2 x3) : Real3 (val_main_v53 (F := Ideal) x0 x1 x2 x3) A.ds := fun h y r => by
  rw [val_main_v53_apply, seen]
  unfold Att.ds
  by_cases e : r.val ≤ y.val
  · rw [if_pos e, if_pos e, select_one, val_main_v52_apply, val_main_v51_apply, val_main_v48_apply, val_main_v50_apply, gradP H, weights H,
      show idx_main_v50 (ix3 h y r) = ix2 h y from ext2 rfl rfl, negated H, val_main_v47_apply,
      show idx_main_v47 (ix3 h y r) = ix3 h y 0 from ext3 rfl rfl rfl, rows1 H, div_real (A.l_pos _ y.isLt).ne']
    rfl
  · rw [if_neg e, if_neg e, select_zero, val_main_call1_v0_apply, val_main_call1_cst_apply, zero]
    rfl

theorem gradQ (H : Reads A x0 x1 x2 x3) : Real3 (val_main_v57 (F := Ideal) x0 x1 x2 x3) A.dq := fun y h x => by
  rw [val_main_v57_apply, show idx_main_v57 (ix3 y h x) = ix3 h y x from ext3 rfl rfl rfl, val_main_v56_apply]
  unfold Att.dq
  rw [coe_sum_range]
  refine Finset.sum_congr rfl fun r _ => ?_
  rw [show lidx_main_v56 (ix3 h y x) r = ix3 h y r from ext3 rfl rfl rfl,
    show ridx_main_v56 (ix3 h y x) r = ix3 r h x from ext3 rfl rfl rfl, gradS H, H.k, EReal.coe_mul]

theorem gradK (H : Reads A x0 x1 x2 x3) : Real3 (val_main_v55 (F := Ideal) x0 x1 x2 x3) A.dk := fun r h x => by
  rw [val_main_v55_apply, show idx_main_v55 (ix3 r h x) = ix3 h r x from ext3 rfl rfl rfl, val_main_v54_apply]
  unfold Att.dk
  rw [coe_sum_range]
  refine Finset.sum_congr rfl fun y _ => ?_
  rw [show lidx_main_v54 (ix3 h r x) y = ix3 h y r from ext3 rfl rfl rfl,
    show ridx_main_v54 (ix3 h r x) y = ix3 y h x from ext3 rfl rfl rfl, gradS H, H.q, EReal.coe_mul]

theorem gradV (H : Reads A x0 x1 x2 x3) : Real3 (val_main_v40 (F := Ideal) x0 x1 x3) A.dv := fun r h x => by
  rw [val_main_v40_apply, show idx_main_v40 (ix3 r h x) = ix3 h x r from ext3 rfl rfl rfl, val_main_v39_apply]
  unfold Att.dv
  rw [coe_sum_range]
  refine Finset.sum_congr rfl fun y _ => ?_
  rw [show lidx_main_v39 (ix3 h x r) y = ix3 h x y from ext3 rfl rfl rfl,
    show ridx_main_v39 (ix3 h x r) y = ix3 h y r from ext3 rfl rfl rfl, turned H, shares H, EReal.coe_mul]

end Cert.ReferenceIdeal.Own
-- ==== Proof.Args.lean ====
module
public import proofs.«01_k».proof.Proof.Ref
public import proofs.«01_k».proof.Proof.Gen.Pre_finite
public import proofs.«01_k».proof.Pre_finite
/-! Arrays of finite numbers are arrays of real numbers, and so is the greatest score of every row. -/
@[expose] public section
set_option maxRecDepth 16384
noncomputable section
namespace Cert.ReferenceIdeal.Own
open Idealize.ShloMosaic Idealize.ShloMosaic.TcCoe
open Idealize.ShloMosaic.ValueIdx
open Cert.ReferenceIdeal.Gen Cert.ReferenceIdeal Cert.ReferenceIdeal.Read
open Cert.KernelIdeal.Own (Att coe_sum_range sle_ofNat)

/-- The real numbers that an array holds. -/
def nums {a b c : ℕ} (X : (⟨3, ![a, b, c]⟩ : Shape).Idx → EReal) (i j k : ℕ) : ℝ :=
  if h : i < a ∧ j < b ∧ k < c then (X (ix3 ⟨i, h.1⟩ ⟨j, h.2.1⟩ ⟨k, h.2.2⟩)).toReal else 0

theorem nums_real3 {a b c : ℕ} {X : (⟨3, ![a, b, c]⟩ : Shape).Idx → EReal} (h : ∀ i, X i ≠ ⊤ ∧ X i ≠ ⊥) : Real3 X (nums X) := fun i j k => by
  unfold nums
  rw [dif_pos ⟨i.isLt, j.isLt, k.isLt⟩]
  exact (EReal.coe_toReal (h _).1 (h _).2).symm

theorem real_of_abs (x : EReal) (h : max x (-x) < ⊤) : x ≠ ⊤ ∧ x ≠ ⊥ :=
  ⟨fun e => by rw [e] at h; simp at h, fun e => by rw [e] at h; simp at h⟩

/-- What the precondition says of one array. -/
theorem real_of_finite {s : Shape} {u : Shape} (x : FVec Ideal s .f32) (dims) (b : u.BroadcastsInDim s dims)
    (h : cmpf .olt (Host.absf x) (broadcastInDim s dims b (constant u .f32 0x7F800000#32 : FVec Ideal u .f32)) = fun _ => 1#1) (i : s.Idx) :
    x i ≠ ⊤ ∧ x i ≠ ⊥ := by
  have e := congrFun h i
  have e' : BitVec.ofBool (decide (max (x i) (-(x i)) < (FloatOps.ofBits .f32 0x7F800000#32 : Ideal .f32))) = 1#1 := e
  rw [pinf] at e'
  refine real_of_abs _ ?_
  by_contra hn
  rw [decide_eq_false hn] at e'
  exact absurd e' (by decide)

theorem fold_real {n : ℕ} (f : Fin n → EReal) (k : Fin n) (hk : f k ≠ ⊥) (hf : ∀ i, f i ≠ ⊤) :
    (Finset.univ : Finset (Fin n)).fold max ⊥ f ≠ ⊤ ∧ (Finset.univ : Finset (Fin n)).fold max ⊥ f ≠ ⊥ := by
  constructor
  · refine ne_of_lt ?_
    rw [Finset.fold_max_lt]
    exact ⟨bot_lt_top, fun i _ => lt_top_iff_ne_top.mpr (hf i)⟩
  · refine ne_of_gt (lt_of_lt_of_le (bot_lt_iff_ne_bot.mpr hk) ?_)
    rw [Finset.le_fold_max]
    exact Or.inr ⟨k, Finset.mem_univ _, le_rfl⟩

theorem red2 : S8x4112x4112.Reduces [2] S8x4112 := by decide

theorem greatest {A : Att} {x0 x1 : A96} (hq : Real3 (val_main_v1 (F := Ideal) x0) A.q) (hk : Real3 x1 A.k) (h : Fin 8) (y : Fin 4112) :
    val_main_v7 (F := Ideal) x0 x1 (ix2 h y) ≠ ⊤ ∧ val_main_v7 (F := Ideal) x0 x1 (ix2 h y) ≠ ⊥ := by
  unfold val_main_v7
  rw [Host.reduce_eq_fold_single (FloatOps.maximumf : Ideal .f32 → Ideal .f32 → Ideal .f32) _ _ reducesTo_S8x4112x4112_S8x4112_d2 red2]
  have e0 : (val_main_cst_1 (F := Ideal)) (Shape.Idx.first h_S_) = (⊥ : EReal) := ninf
  rw [e0]
  have em : ∀ r : Fin 4112, (val_main_v6_0 (F := Ideal) x0 x1 ∘ red2.lift (ix2 h y)) r
      = if r.val ≤ y.val then ((A.S h.val y.val r.val : ℝ) : EReal) else ⊥ := fun r => by
    rw [← masked hq hk h y r]
    exact congrArg (val_main_v6_0 (F := Ideal) x0 x1) (ext3 rfl rfl rfl)
  refine fold_real _ y ?_ fun r => ?_
  · exact fun e => EReal.coe_ne_bot _ (((em y).trans (if_pos le_rfl)).symm.trans e)
  · intro e
    have e' := (em r).symm.trans e
    revert e'
    split
    · exact EReal.coe_ne_top _
    · exact bot_ne_top

/-- Four arrays of finite numbers hold the numbers of some `A`. -/
theorem exists_reads {x0 x1 : A96} {x2 x3 : A64} (h0 : ∀ i, x0 i ≠ ⊤ ∧ x0 i ≠ ⊥) (h1 : ∀ i, x1 i ≠ ⊤ ∧ x1 i ≠ ⊥)
    (h2 : ∀ i, x2 i ≠ ⊤ ∧ x2 i ≠ ⊥) (h3 : ∀ i, x3 i ≠ ⊤ ∧ x3 i ≠ ⊥) : ∃ A, Reads A x0 x1 x2 x3 := by
  have hs : ∃ s : ℝ, (FloatOps.ofBits .f32 0x3DD105EC#32 : Ideal .f32) = ((s : ℝ) : EReal) := by
    refine ⟨(Ideal.ofBits .f32 0x3DD105EC#32).toReal, (EReal.coe_toReal ?_ ?_).symm⟩ <;>
      simp [Ideal.ofBits, Ideal.ieee, -EReal.coe_mul]
  obtain ⟨s, hs⟩ := hs
  have hq : ∀ i, val_main_v1 (F := Ideal) x0 i ≠ ⊤ ∧ val_main_v1 (F := Ideal) x0 i ≠ ⊥ := fun i => by
    have e : val_main_v1 (F := Ideal) x0 i = (((x0 i).toReal * s : ℝ) : EReal) := by
      rw [val_main_v1_apply, val_main_v0_apply, val_main_cst_apply, hs, EReal.coe_mul, EReal.coe_toReal (h0 i).1 (h0 i).2]
      rfl
    rw [e]
    exact ⟨EReal.coe_ne_top _, EReal.coe_ne_bot _⟩
  let A0 : Att := ⟨nums (val_main_v1 (F := Ideal) x0), nums x1, nums x2, nums x3, fun _ _ => 0⟩
  have q0 : Real3 (val_main_v1 (F := Ideal) x0) A0.q := nums_real3 hq
  have k0 : Real3 x1 A0.k := nums_real3 h1
  refine ⟨{ A0 with M := fun h y => if e : h < 8 ∧ y < 4112 then (val_main_v7 (F := Ideal) x0 x1 (ix2 ⟨h, e.1⟩ ⟨y, e.2⟩)).toReal else 0 },
    q0, k0, nums_real3 h2, nums_real3 h3, fun h y => ?_⟩
  dsimp only
  rw [dif_pos ⟨h.isLt, y.isLt⟩]
  exact (EReal.coe_toReal (greatest q0 k0 h y).1 (greatest q0 k0 h y).2).symm

end Cert.ReferenceIdeal.Own
-- ==== Proof.Layout.lean ====
module
public import proofs.«01_k».proof.Proof.Ref
/-! The layout of the attention calls: zeros in front of the tokens and behind the lanes of every head. -/
@[expose] public section
set_option maxRecDepth 16384
noncomputable section
namespace Cert.ReferenceIdeal.Own
open Idealize.ShloMosaic Idealize.ShloMosaic.TcCoe
open Idealize.ShloMosaic.ValueIdx
open Cert.ReferenceIdeal.Gen Cert.ReferenceIdeal Cert.ReferenceIdeal.Read
open Cert.KernelIdeal.Own (Att coe_sum_range)
open Cert.KernelIdeal.Own.Att (padded)

theorem zero_int (i : S_.Idx) : (sitofp .f32 (constantI S_ 32 0#32) : FVec Ideal S_ .f32) i = (0 : EReal) := by
  show (((BitVec.toInt 0#32 : ℤ) : ℝ) : EReal) = 0
  simp

/-- An array of tokens, heads and lanes, laid out: row `Y`, lane `x` of head `h`. -/
theorem laid {n w : ℕ} {X : (⟨3, ![4112, 8, n]⟩ : Shape).Idx → EReal} {f : ℕ → ℕ → ℕ → ℝ} (hX : Real3 X f) (hn : n ≤ 128)
    (z : FVec Ideal S_ .f32) (hz : ∀ i, z i = (0 : EReal)) (hp : (⟨3, ![4112, 8, n]⟩ : Shape).Pads ![112, 0, 0] ![0, 0, w] ![0, 0, 0] S4224x8x128)
    (hu : 0 < S_.numel) (hc : S4224x8x128.ShapeCasts S4224x1024) (Y : Fin 4224) (C : Fin 1024) :
    shapeCast S4224x1024 (pad S4224x8x128 ![112, 0, 0] ![0, 0, w] ![0, 0, 0] X z hp hu) hc (ix2 Y C)
      = ((padded n f (C.val / 128) Y.val (C.val % 128) : ℝ) : EReal) := by
  have hY := Y.isLt
  have hC := C.isLt
  rw [shapeCast_apply _ hc (ix2 Y C) (ix3 Y ⟨C.val / 128, by omega⟩ ⟨C.val % 128, by omega⟩) (by
    rw [Shape.rowMajor_val_three, Shape.rowMajor_val_two]
    show (Y.val * 8 + C.val / 128) * 128 + C.val % 128 = Y.val * 1024 + C.val
    omega)]
  unfold padded
  by_cases h : 112 ≤ Y.val ∧ C.val % 128 < n
  · rw [if_pos h, pad_apply_of_inside _ _ _ _ _ hp hu _ (ix3 ⟨Y.val - 112, by omega⟩ ⟨C.val / 128, by omega⟩ ⟨C.val % 128, h.2⟩) (fun a => by
      match a with
      | ⟨0, _⟩ => show Y.val = 112 + (Y.val - 112) * 1; omega
      | ⟨1, _⟩ => show C.val / 128 = 0 + C.val / 128 * 1; omega
      | ⟨2, _⟩ => show C.val % 128 = 0 + C.val % 128 * 1; omega), hX]
  · rw [if_neg h]
    by_cases h0 : 112 ≤ Y.val
    · refine (pad_apply_of_not_inside _ _ _ _ _ hp hu _ (2 : Fin 3) fun hin => h ⟨h0, ?_⟩).trans (hz _)
      have a2 : (C.val % 128 - 0) / 1 < n := hin.2.2
      omega
    · refine (pad_apply_of_not_inside _ _ _ _ _ hp hu _ (0 : Fin 3) fun hin => h0 ?_).trans (hz _)
      exact hin.1

variable {A : Att} {x0 x1 : A96} {x2 x3 : A64}

theorem resultQ (H : Reads A x0 x1 x2 x3) (Y : Fin 4224) (C : Fin 1024) :
    val_main_v59 (F := Ideal) x0 x1 x2 x3 (ix2 Y C) = ((padded 96 A.dq (C.val / 128) Y.val (C.val % 128) : ℝ) : EReal) :=
  laid (gradQ H) (by norm_num) _ zero_int pads_S4112x8x96_S4224x8x128_11200_000_0320 _ _ Y C

theorem resultK (H : Reads A x0 x1 x2 x3) (Y : Fin 4224) (C : Fin 1024) :
    val_main_v62 (F := Ideal) x0 x1 x2 x3 (ix2 Y C) = ((padded 96 A.dk (C.val / 128) Y.val (C.val % 128) : ℝ) : EReal) :=
  laid (gradK H) (by norm_num) _ zero_int pads_S4112x8x96_S4224x8x128_11200_000_0320 _ _ Y C

theorem resultV (H : Reads A x0 x1 x2 x3) (Y : Fin 4224) (C : Fin 1024) :
    val_main_v65 (F := Ideal) x0 x1 x3 (ix2 Y C) = ((padded 64 A.dv (C.val / 128) Y.val (C.val % 128) : ℝ) : EReal) :=
  laid (gradV H) (by norm_num) _ zero_int pads_S4112x8x64_S4224x8x128_11200_000_0640 _ _ Y C

end Cert.ReferenceIdeal.Own
-- ==== Proof.Folds.lean ====
module
public import proofs.«01_k».proof.Proof.Blocks
/-! The loops over the blocks of queries, over the reals: the sums they add up. -/
@[expose] public section
set_option maxRecDepth 16384
noncomputable section
namespace Cert.KernelIdeal.Own
open Idealize.ShloMosaic Idealize.ShloMosaic.TcCoe Idealize.ShloMosaic.Tactic
open Idealize.ShloMosaic.ValueIdx
open Cert.KernelIdeal.Gen Cert.KernelIdeal

theorem trips3 : ∀ t : Fin cfg0.N, Scf.trips (k0_t3_loop (grid0.coords t)).lb (k0_t3_loop (grid0.coords t)).ub (k0_t3_loop (grid0.coords t)).st
    = (10 - t.val % 11) / 3 := by decide +kernel
theorem trips5 : ∀ t : Fin cfg0.N, Scf.trips (k0_t5_loop (grid0.coords t)).lb (k0_t5_loop (grid0.coords t)).ub (k0_t5_loop (grid0.coords t)).st
    = (10 - t.val % 11) % 3 / 2 := by decide +kernel
theorem trips7 : ∀ t : Fin cfg0.N, Scf.trips (k0_t7_loop (grid0.coords t)).lb (k0_t7_loop (grid0.coords t)).ub (k0_t7_loop (grid0.coords t)).st
    = (10 - t.val % 11) % 3 % 2 := by decide +kernel
theorem coords1 : ∀ t : Fin cfg0.N, (grid0.coords t 1).val = t.val % 11 := by decide +kernel
theorem coords0 : ∀ t : Fin cfg0.N, (grid0.coords t 0).val = t.val / 11 := by decide +kernel

variable {f fm : ℕ → FVec Ideal S384x128 .f32} {g : ℕ → ℕ → ℕ → ℝ} {z : FVec Ideal S384x128 .f32} {g0 : ℕ → ℕ → ℝ}

theorem acc3_has (lo n : ℕ) (hz : Has2 z g0) (hf : ∀ b, lo ≤ b → b < lo + 3 * n → Has2 (f b) (g b)) :
    Has2 (acc3 f lo n z) fun r c => g0 r c + ∑ b ∈ Finset.range (3 * n), g (lo + b) r c := by
  induction n with
  | zero => exact hz.congr fun _ _ _ _ => by simp
  | succ n ih =>
    have h := (ih fun b h1 h2 => hf b h1 (by omega)).add
      (((hf (lo + 3 * n) (by omega) (by omega)).add (hf (lo + 3 * n + 1) (by omega) (by omega))).add (hf (lo + 3 * n + 2) (by omega) (by omega)))
    refine Has2.congr h fun r _ c _ => ?_
    rw [show 3 * (n + 1) = 3 * n + 1 + 1 + 1 by omega, Finset.sum_range_succ, Finset.sum_range_succ, Finset.sum_range_succ]
    simp only [add_assoc]

theorem foldA_has (hz : Has2 z fun _ _ => 0) (hf : ∀ b, b < 11 → Has2 (f b) (g b)) :
    Has2 (foldA f z) fun r c => ∑ b ∈ Finset.range 11, g b r c := by
  refine ((acc3_has 0 3 hz fun b _ h2 => hf b (by omega)).add ((hf 9 (by omega)).add (hf 10 (by omega)))).congr fun r _ c _ => ?_
  simp only [Finset.sum_range_succ, Finset.sum_range_zero, zero_add, Nat.reduceMul, add_assoc]

theorem rep_has (u : FVec Ideal S384x128 .f32) (w : ℕ → ℕ → ℝ) (n : ℕ) (hz : Has2 z g0) (hu : 0 < n → Has2 u w) :
    Has2 (rep (fun z => addf z u) n z) fun r c => g0 r c + n * w r c := by
  induction n with
  | zero => exact hz.congr fun _ _ _ _ => by simp
  | succ n ih =>
    refine Has2.congr ((ih fun _ => hu (Nat.succ_pos _)).add (hu (Nat.succ_pos _))) fun r _ c _ => ?_
    push_cast; ring

theorem foldB_has (t : Fin cfg0.N) (h0 : ¬t.val % 11 = 0) (hz : Has2 z fun _ _ => 0)
    (hm : Has2 (fm (t.val % 11)) (g (t.val % 11))) (hf : ∀ b, t.val % 11 < b → b < 11 → Has2 (f b) (g b))
    (hlow : ∀ b, b < t.val % 11 → ∀ r, r < 384 → ∀ c, g b r c = 0) :
    Has2 (foldB (grid0.coords t) fm f z) fun r c => ∑ b ∈ Finset.range 11, g b r c := by
  unfold foldB
  rw [trips3, trips5, trips7, coords1]
  have hj : t.val % 11 < 11 := Nat.mod_lt _ (by decide)
  generalize t.val % 11 = j at *
  have h1 := acc3_has (f := f) (g := g) (j + 1) ((10 - j) / 3) (hz.add hm) fun b h1 h2 => hf b (by omega) (by omega)
  have h2 := rep_has (addf (f 9) (f 10)) (fun r c => g 9 r c + g 10 r c) ((10 - j) % 3 / 2) h1
    fun hn => (hf 9 (by omega) (by omega)).add (hf 10 (by omega) (by omega))
  have h3 := rep_has (f 10) (g 10) ((10 - j) % 3 % 2) h2 fun hn => hf 10 (by omega) (by omega)
  refine Has2.congr h3 fun r hr c _ => ?_
  have hlow' := fun b hb => hlow b hb r hr c
  obtain rfl | rfl | rfl | rfl | rfl | rfl | rfl | rfl | rfl | rfl : j = 1 ∨ j = 2 ∨ j = 3 ∨ j = 4 ∨ j = 5 ∨ j = 6 ∨ j = 7 ∨ j = 8 ∨ j = 9 ∨ j = 10 := by omega
  all_goals
    simp (discharger := omega) only [Finset.sum_range_succ, Finset.sum_range_zero, Nat.reduceMul, Nat.reduceAdd, Nat.reduceSub, Nat.reduceDiv, Nat.reduceMod, Nat.cast_zero, Nat.cast_one, hlow']
    ring

/-! ### The queries' gradient -/

/-- The blocks of the transposed gradient hold the real numbers `f b c y`. -/
def Has3 (D : S11x128x384.Idx → EReal) (f : ℕ → ℕ → ℕ → ℝ) : Prop :=
  ∀ (b : Fin 11) (c : Fin 128) (y : Fin 384), D (ix3 b c y) = ((f b.val c.val y.val : ℝ) : EReal)

theorem Has3.congr {D : S11x128x384.Idx → EReal} {f g : ℕ → ℕ → ℕ → ℝ} (h : Has3 D f) (e : ∀ b, b < 11 → ∀ c y, y < 384 → f b c y = g b c y) : Has3 D g :=
  fun b c y => by rw [h, e _ b.isLt _ _ y.isLt]

/-- What a block of keys adds to the gradient of block `b` of queries. -/
def Head.t (H : Head) (j b c y : ℕ) : ℝ := ∑ r ∈ Finset.range 384, H.k (384 * j + r) c * H.s (384 * j + r) (384 * b + y)

theorem Head.t_low (H : Head) (j b c y : ℕ) (h : b < j) (hy : y < 384) : H.t j b c y = 0 :=
  Finset.sum_eq_zero fun r _ => by
    unfold Head.s Head.p
    rw [if_neg (by omega), zero_mul, mul_zero]

variable {e : Env Ideal} {H : Head} {j : ℕ} {D : S11x128x384.Idx → EReal} {u : ℕ → ℕ → ℕ → ℝ}

theorem dq_has (h : e.Reads H j) (hj : j < 11) (m : Option (BitVec 32)) (lo hi : ℕ)
    (hm : ∀ b, lo ≤ b → b < hi → b < 11 → m = some (BitVec.ofNat 32 j) ∨ (m = none ∧ 1 ≤ j ∧ j < b)) (hD : Has3 D u) :
    Has3 (e.dq m lo hi D) fun b c y => if lo ≤ b ∧ b < hi then u b c y + H.t j b c y else u b c y := fun b c y => by
  show (if lo ≤ b.val ∧ b.val < hi then e.d m b.val (dqB D b.val) (inB (ix3 b c y)) else D (ix3 b c y)) = _
  dsimp only
  by_cases hc : lo ≤ b.val ∧ b.val < hi
  · rw [if_pos hc, if_pos hc]
    refine h.d m b.val hj b.isLt (hm b.val hc.1 hc.2 b.isLt) (dqB D b.val) (u b.val) (fun c y => ?_) c y
    refine (hD ⟨b.val % 11, Nat.mod_lt _ (by decide)⟩ c y).trans ?_
    show ((u (b.val % 11) c.val y.val : ℝ) : EReal) = _
    rw [Nat.mod_eq_of_lt b.isLt]
  · rw [if_neg hc, if_neg hc]; exact hD b c y

theorem dq3_has (h : e.Reads H j) (hj : j < 11) (m : Option (BitVec 32)) (lo n : ℕ)
    (hm : ∀ b, lo ≤ b → b < lo + 3 * n → b < 11 → m = some (BitVec.ofNat 32 j) ∨ (m = none ∧ 1 ≤ j ∧ j < b)) (hD : Has3 D u) :
    Has3 (e.dq3 m lo n D) fun b c y => if lo ≤ b ∧ b < lo + 3 * n then u b c y + H.t j b c y else u b c y := by
  induction n with
  | zero => exact hD.congr fun b _ c y _ => by rw [if_neg (by omega)]
  | succ n ih =>
    refine Has3.congr (dq_has h hj m (lo + 3 * n) (lo + 3 * n + 3) (fun b h1 h2 => hm b (by omega) (by omega)) (ih fun b h1 h2 => hm b h1 (by omega)))
      fun b _ c y _ => ?_
    split_ifs <;> first | rfl | omega

theorem dqA_has (h : e.Reads H 0) (hD : Has3 D u) :
    Has3 (e.dqA (BitVec.ofNat 32 0) D) fun b c y => u b c y + H.t 0 b c y := by
  refine Has3.congr (dq_has h (by omega) _ 9 11 (fun _ _ _ _ => .inl rfl) (dq3_has h (by omega) _ 0 3 (fun _ _ _ _ => .inl rfl) hD)) fun b hb c y _ => ?_
  split_ifs <;> first | rfl | omega

theorem rep_dq_has (h : e.Reads H j) (hj : j < 11) (lo : ℕ) (n : ℕ) (hn : n < 2) (hlo : 0 < n → 1 ≤ j ∧ j < lo) (hD : Has3 D u) :
    Has3 (rep (e.dq none lo 11) n D) fun b c y => if n = 1 ∧ lo ≤ b then u b c y + H.t j b c y else u b c y := by
  obtain rfl | rfl : n = 0 ∨ n = 1 := by omega
  · exact hD.congr fun b _ c y _ => by rw [if_neg (by omega)]
  · have := hlo (by omega)
    refine Has3.congr (dq_has h hj none lo 11 (fun b h1 _ _ => .inr ⟨rfl, by omega, by omega⟩) hD) fun b hb c y _ => ?_
    split_ifs <;> first | rfl | omega

theorem dqC_has (t : Fin cfg0.N) (h0 : ¬t.val % 11 = 0) (h : e.Reads H (t.val % 11)) (hD : Has3 D u) :
    Has3 (e.dqC (grid0.coords t) (BitVec.ofNat 32 (t.val % 11)) D) fun b c y => u b c y + H.t (t.val % 11) b c y := by
  unfold Env.dqC
  rw [trips3, trips5, trips7, coords1]
  have hj : t.val % 11 < 11 := Nat.mod_lt _ (by decide)
  generalize t.val % 11 = j at *
  have h1 := dq_has h hj (some (BitVec.ofNat 32 j)) j (j + 1) (fun _ _ _ _ => .inl rfl) hD
  have h2 := dq3_has h hj none (j + 1) ((10 - j) / 3) (fun b _ _ _ => .inr ⟨rfl, by omega, by omega⟩) h1
  have h3 := rep_dq_has h hj 9 ((10 - j) % 3 / 2) (by omega) (by omega) h2
  have h4 := rep_dq_has h hj 10 ((10 - j) % 3 % 2) (by omega) (by omega) h3
  refine Has3.congr h4 fun b hb c y hy => ?_
  by_cases hbj : b < j
  · simp only [Head.t_low H j b c y hbj hy, add_zero, ite_self]
  · split_ifs <;> first | rfl | omega
end Cert.KernelIdeal.Own
-- ==== Proof.Carry.lean ====
module
public import proofs.«01_k».proof.Proof.Folds
public import proofs.«01_k».proof.Proof.Points
/-! What the points leave, over the reals, when the blocks that they read hold real numbers. -/
@[expose] public section
set_option maxRecDepth 16384
noncomputable section
namespace Cert.KernelIdeal.Own
open Idealize.ShloMosaic Idealize.ShloMosaic.TcCoe Idealize.ShloMosaic.Tactic
open Idealize.ShloMosaic.ValueIdx
open Cert.KernelIdeal.Gen Cert.KernelIdeal

/-- The row sums of one block. -/
theorem pay146_apply {A B : FVec Ideal S384x128 .bf16} {f g : ℕ → ℕ → ℝ} (hA : Has2 A f) (hB : Has2 B g) (y : Fin 384) :
    (k0_pay146 (F := Ideal) A B (ix3 0 0 y) : EReal) = ((∑ x ∈ Finset.range 128, f y.val x * g y.val x : ℝ) : EReal) := by
  unfold k0_pay146
  dsimp only
  refine (shapeCast_apply _ _ (ix3 (0 : Fin 1) (0 : Fin 1) y) (ix2 (0 : Fin 1) y) ?_).trans ?_
  · rw [Shape.rowMajor_val_three, Shape.rowMajor_val_two]; rfl
  refine (shapeCast_a_1a_apply _ _ 0 y).trans ?_
  refine (Ideal.multiReduction_add_single _ _ _ _ _ (ix1 y)).trans ?_
  rw [coe_sum_range]
  refine Finset.sum_congr rfl fun x _ => ?_
  have e : (reduces_S128x384_S384 : S128x384.Reduces [0] S384).lift (ix1 y) x = ix2 x y := by
    funext a
    match a with
    | ⟨0, _⟩ => rfl
    | ⟨1, _⟩ => rfl
  rw [e]
  refine (transpose_ix2_apply _ _ x y).trans ?_
  rw [EReal.coe_mul]
  exact congrArg₂ (· * ·) ((hA.cast shapeCasts_S384x128_S384x128) y x) ((hB.cast shapeCasts_S384x128_S384x128) y x)

variable (m : (ℓ : Loc nD τ sig) → Buf (Elt Ideal) ℓ) (c : Dev nD)

/-- The blocks that the points read hold the real numbers of the heads. -/
structure Holds (HH : ℕ → Head) (oo : ℕ → ℕ → ℕ → ℝ) : Prop where
  Q : ∀ t, Has2 (bQ m c t) (HH (t.val / 11)).q
  K : ∀ t, Has2 (bK m c t) fun r x => (HH (t.val / 11)).k (384 * (t.val % 11) + r) x
  V : ∀ t, Has2 (bV m c t) fun r x => (HH (t.val / 11)).v (384 * (t.val % 11) + r) x
  O : ∀ t, Has2 (bO m c t) (oo (t.val / 11))
  G : ∀ t, Has2 (bG m c t) (HH (t.val / 11)).g
  L : ∀ t (b : Fin 11) (y : Fin 384), bL m c t (ix4 0 b 0 y) = (((HH (t.val / 11)).l (384 * b.val + y.val) : ℝ) : EReal)
  d : ∀ h Y, (HH h).d Y = ∑ x ∈ Finset.range 128, (HH h).g Y x * oo h Y x

variable {m c} {HH : ℕ → Head} {oo : ℕ → ℕ → ℕ → ℝ}

/-- The row sums are the head's. -/
def HasD (R : S11x1x384.Idx → EReal) (d : ℕ → ℝ) : Prop :=
  ∀ (b : Fin 11) (y : Fin 384), R (ix3 b 0 y) = ((d (384 * b.val + y.val) : ℝ) : EReal)

theorem delAll_has {G O : S4224x128.Idx → EReal} {f g : ℕ → ℕ → ℝ} (hG : Has2 G f) (hO : Has2 O g) :
    HasD (delAll (F := Ideal) G O) fun Y => ∑ x ∈ Finset.range 128, f Y x * g Y x := fun b y =>
  pay146_apply (hG.row b.val b.isLt) (hO.row b.val b.isLt) y

theorem envAt_reads {K V : FVec Ideal S384x128 .bf16} {Q G : S4224x128.Idx → EReal} {L : S1x11x1x384.Idx → EReal} {R : S11x1x384.Idx → EReal}
    {H : Head} {j : ℕ} (hK : Has2 K fun r x => H.k (384 * j + r) x) (hV : Has2 V fun r x => H.v (384 * j + r) x) (hQ : Has2 Q H.q) (hG : Has2 G H.g)
    (hL : ∀ (b : Fin 11) (y : Fin 384), L (ix4 0 b 0 y) = ((H.l (384 * b.val + y.val) : ℝ) : EReal)) (hR : HasD R H.d) :
    (envAt (F := Ideal) K V Q G L R).Reads H j where
  kb := hK.cast shapeCasts_S384x128_S384x128
  vb := hV.cast shapeCasts_S384x128_S384x128
  kt := fun x r => (transpose_ix2_apply _ _ x r).trans (hK.cast shapeCasts_S384x128_S384x128 r x)
  Q := hQ
  G := hG
  L := hL
  R := hR

theorem Holds.delAll (h : Holds m c HH oo) (t : Fin cfg0.N) : HasD (delAll (bG m c t) (bO m c t)) (HH (t.val / 11)).d := by
  have e : (HH (t.val / 11)).d = fun Y => ∑ x ∈ Finset.range 128, (HH (t.val / 11)).g Y x * oo (t.val / 11) Y x := funext fun Y => h.d _ Y
  rw [e]
  exact delAll_has (h.G t) (h.O t)

theorem Holds.reads (h : Holds m c HH oo) (t : Fin cfg0.N) {R : S11x1x384.Idx → EReal} (hR : HasD R (HH (t.val / 11)).d) :
    (envT m c t R).Reads (HH (t.val / 11)) (t.val % 11) :=
  envAt_reads (h.K t) (h.V t) (h.Q t) (h.G t) (h.L t) hR

theorem has_pay150 : Has2 (k0_pay150 (F := Ideal)) fun _ _ => 0 := fun _ _ => Ideal.ofBits_zero_f32
theorem has_pay151 : Has2 (k0_pay151 (F := Ideal)) fun _ _ => 0 := fun _ _ => Ideal.ofBits_zero_f32
theorem has_pay145 : Has3 (k0_pay145 (F := Ideal)) fun _ _ _ => 0 := fun _ _ _ => Ideal.ofBits_zero_f32

theorem jw_eq (t : Fin cfg0.N) : jw t = BitVec.ofNat 32 (t.val % 11) := by unfold jw; rw [coords1]

theorem Holds.step0 (h : Holds m c HH oo) (t : Fin cfg0.N) (h0 : t.val % 11 = 0) (R : S11x1x384.Idx → EReal) (D : S11x128x384.Idx → EReal) :
    HasD (delT m c t R) (HH (t.val / 11)).d ∧ Has3 (dqT m c t R D) ((HH (t.val / 11)).t 0) := by
  have hD := h.delAll t
  have hr := h.reads t hD
  unfold delT dqT
  rw [if_pos h0, if_pos h0, jw_eq, h0]
  rw [h0] at hr
  exact ⟨hD, (dqA_has hr has_pay145).congr fun b _ x y _ => zero_add _⟩

theorem Holds.stepP (h : Holds m c HH oo) (t : Fin cfg0.N) (h0 : ¬t.val % 11 = 0) {R : S11x1x384.Idx → EReal} {D : S11x128x384.Idx → EReal}
    {u : ℕ → ℕ → ℕ → ℝ} (hR : HasD R (HH (t.val / 11)).d) (hD : Has3 D u) :
    HasD (delT m c t R) (HH (t.val / 11)).d ∧ Has3 (dqT m c t R D) fun b x y => u b x y + (HH (t.val / 11)).t (t.val % 11) b x y := by
  have hr := h.reads t hR
  unfold delT dqT
  rw [if_neg h0, if_neg h0, jw_eq]
  exact ⟨hR, dqC_has t h0 hr hD⟩

theorem carry_fst (n : ℕ) (hn : n < cfg0.N) :
    (Own.carry m c (n + 1) hn).1 = delT m c ⟨n, hn⟩ (Own.carry m c n (Nat.le_of_lt hn)).1 := rfl
theorem carry_snd (n : ℕ) (hn : n < cfg0.N) :
    (Own.carry m c (n + 1) hn).2 = dqT m c ⟨n, hn⟩ (Own.carry m c n (Nat.le_of_lt hn)).1 (Own.carry m c n (Nat.le_of_lt hn)).2 := rfl

/-- What is carried out of point `n`. -/
theorem Holds.carry (h : Holds m c HH oo) (n : ℕ) (hn : n < cfg0.N) :
    HasD (Own.carry m c (n + 1) hn).1 (HH (n / 11)).d
    ∧ Has3 (Own.carry m c (n + 1) hn).2 fun b x y => ∑ j ∈ Finset.range (n % 11 + 1), (HH (n / 11)).t j b x y := by
  rw [carry_fst, carry_snd]
  by_cases h0 : n % 11 = 0
  · obtain ⟨a, b⟩ := h.step0 ⟨n, hn⟩ h0 (Own.carry m c n (Nat.le_of_lt hn)).1 (Own.carry m c n (Nat.le_of_lt hn)).2
    exact ⟨a, b.congr fun b _ x y _ => by rw [h0, Finset.sum_range_one]⟩
  · cases n with
    | zero => exact absurd rfl h0
    | succ n =>
      obtain ⟨i1, i2⟩ := Holds.carry h n (Nat.lt_of_succ_lt hn)
      have e1 : (n + 1) / 11 = n / 11 := by omega
      have e2 : (n + 1) % 11 = n % 11 + 1 := by omega
      rw [← e1] at i1 i2
      obtain ⟨a, b⟩ := h.stepP ⟨n + 1, hn⟩ h0 i1 i2
      exact ⟨a, b.congr fun b _ x y _ => by dsimp only; rw [e2, Finset.sum_range_succ _ (n % 11 + 1)]⟩

theorem sum_blocks (f : ℕ → ℝ) (n : ℕ) : ∑ b ∈ Finset.range n, ∑ y ∈ Finset.range 384, f (384 * b + y) = ∑ Y ∈ Finset.range (384 * n), f Y := by
  induction n with
  | zero => rfl
  | succ n ih => rw [Finset.sum_range_succ, ih, Nat.mul_succ, Finset.sum_range_add]

theorem Holds.dk (h : Holds m c HH oo) (t : Fin cfg0.N) :
    Has2 (dkT m c t (Own.carry m c (t.val + 1) t.isLt).1) fun r x => ∑ Y ∈ Finset.range 4224,
      (HH (t.val / 11)).s (384 * (t.val % 11) + r) Y * (HH (t.val / 11)).q Y x := by
  have hr := h.reads t (h.carry t.val t.isLt).1
  have hj : t.val % 11 < 11 := Nat.mod_lt _ (by decide)
  generalize (Own.carry m c (t.val + 1) t.isLt).1 = R at *
  have key : Has2 (dkT m c t R) fun r x => ∑ b ∈ Finset.range 11, ∑ y ∈ Finset.range 384,
      (HH (t.val / 11)).s (384 * (t.val % 11) + r) (384 * b + y) * (HH (t.val / 11)).q (384 * b + y) x := by
    unfold dkT
    rw [jw_eq]
    by_cases h0 : t.val % 11 = 0
    · rw [if_pos h0]
      exact foldA_has has_pay150 fun b hb => hr.kk _ b hj hb (.inl rfl)
    · rw [if_neg h0]
      refine foldB_has (g := fun b r x => ∑ y ∈ Finset.range 384,
        (HH (t.val / 11)).s (384 * (t.val % 11) + r) (384 * b + y) * (HH (t.val / 11)).q (384 * b + y) x) t h0 has_pay150 (hr.kk _ _ hj hj (.inl rfl))
        (fun b h1 h2 => hr.kk none b hj h2 (.inr ⟨rfl, by omega, h1⟩)) fun b hb r hr x => ?_
      refine Finset.sum_eq_zero fun y hy => ?_
      have := Finset.mem_range.1 hy
      unfold Head.s Head.p
      rw [if_neg (by omega), zero_mul, zero_mul]
  exact key.congr fun r _ x _ => sum_blocks (fun Y => (HH (t.val / 11)).s (384 * (t.val % 11) + r) Y * (HH (t.val / 11)).q Y x) 11

theorem Holds.dv (h : Holds m c HH oo) (t : Fin cfg0.N) :
    Has2 (dvT m c t (Own.carry m c (t.val + 1) t.isLt).1) fun r x => ∑ Y ∈ Finset.range 4224,
      (HH (t.val / 11)).p (384 * (t.val % 11) + r) Y * (HH (t.val / 11)).g Y x := by
  have hr := h.reads t (h.carry t.val t.isLt).1
  have hj : t.val % 11 < 11 := Nat.mod_lt _ (by decide)
  generalize (Own.carry m c (t.val + 1) t.isLt).1 = R at *
  have key : Has2 (dvT m c t R) fun r x => ∑ b ∈ Finset.range 11, ∑ y ∈ Finset.range 384,
      (HH (t.val / 11)).p (384 * (t.val % 11) + r) (384 * b + y) * (HH (t.val / 11)).g (384 * b + y) x := by
    unfold dvT
    rw [jw_eq]
    by_cases h0 : t.val % 11 = 0
    · rw [if_pos h0]
      exact foldA_has has_pay151 fun b hb => hr.v _ b hj hb (.inl rfl)
    · rw [if_neg h0]
      refine foldB_has (g := fun b r x => ∑ y ∈ Finset.range 384,
        (HH (t.val / 11)).p (384 * (t.val % 11) + r) (384 * b + y) * (HH (t.val / 11)).g (384 * b + y) x) t h0 has_pay151 (hr.v _ _ hj hj (.inl rfl))
        (fun b h1 h2 => hr.v none b hj h2 (.inr ⟨rfl, by omega, h1⟩)) fun b hb r hr x => ?_
      refine Finset.sum_eq_zero fun y hy => ?_
      have := Finset.mem_range.1 hy
      unfold Head.p
      rw [if_neg (by omega), zero_mul]
  exact key.congr fun r _ x _ => sum_blocks (fun Y => (HH (t.val / 11)).p (384 * (t.val % 11) + r) Y * (HH (t.val / 11)).g Y x) 11

theorem Holds.dq (h : Holds m c HH oo) (t : Fin cfg0.N) (ht : t.val % 11 = 10) :
    Has2 (outAll (Own.carry m c (t.val + 1) t.isLt).2) fun Y x => ∑ R ∈ Finset.range 4224,
      (HH (t.val / 11)).k R x * (HH (t.val / 11)).s R Y := fun Y x => by
  have hD := (h.carry t.val t.isLt).2
  generalize (Own.carry m c (t.val + 1) t.isLt).2 = D at *
  rw [ht] at hD
  have hY := Y.isLt
  show k0_pay1 (F := Ideal) (dqB D (Y.val / 384)) (ix2 ⟨Y.val % 384, Nat.mod_lt _ (by decide)⟩ x) = _
  unfold k0_pay1
  dsimp only
  refine (transpose_ix2_apply _ _ (⟨Y.val % 384, Nat.mod_lt _ (by decide)⟩ : Fin 384) x).trans ?_
  refine (shapeCast_1ab_ab_apply _ _ x (⟨Y.val % 384, Nat.mod_lt _ (by decide)⟩ : Fin 384)).trans ?_
  refine (hD ⟨Y.val / 384 % 11, Nat.mod_lt _ (by decide)⟩ x ⟨Y.val % 384, Nat.mod_lt _ (by decide)⟩).trans ?_
  have e : 384 * (Y.val / 384 % 11) + Y.val % 384 = Y.val := by omega
  unfold Head.t
  dsimp only
  rw [e]
  exact congrArg _ (sum_blocks (fun R => (HH (t.val / 11)).k R x.val * (HH (t.val / 11)).s R Y.val) 11)
end Cert.KernelIdeal.Own
-- ==== Proof.Entry.lean ====
module
public import proofs.«01_k».proof.Proof.Layout
public import proofs.«01_k».proof.Proof.Carry
public import Idealize.ShloMosaic.Lib.Claim
public import Idealize.ShloMosaic.Lib.StableHlo.RunRead
/-! What the call finds in its operands, which the host operations before it compute. -/
@[expose] public section
set_option maxRecDepth 16384
noncomputable section
namespace Cert.KernelIdeal.Own
open Idealize.ShloMosaic Idealize.ShloMosaic.TcCoe
open Idealize.ShloMosaic.ValueIdx
open Cert.KernelIdeal.Gen Cert.KernelIdeal

/-- The weights before a row is divided by its sum, each row's scores shifted by `M`. -/
def expOf (M : FVec Ideal S8x4112 .f32) (x0 x1 : FVec Ideal S4112x8x96 .f32) : FVec Ideal S8x4112x4112 .f32 :=
  Host.exp (subf (Cert.ReferenceIdeal.Read.val_main_v6_0 (F := Ideal) x0 x1)
    (broadcastInDim S8x4112x4112 ![0, 1, 2] bcast_S8x4112x1_S8x4112x4112_0_1_2 (broadcastInDim S8x4112x1 ![0, 1] bcast_S8x4112_S8x4112x1_0_1 M)))
/-- Their sums. -/
def sumOf (M : FVec Ideal S8x4112 .f32) (x0 x1 : FVec Ideal S4112x8x96 .f32) : FVec Ideal S8x4112x1 .f32 :=
  broadcastInDim S8x4112x1 ![0, 1] bcast_S8x4112_S8x4112x1_0_1
    (Host.reduceAdd (expOf M x0 x1) (constant S_ .f32 0x00000000#32) reducesTo_S8x4112x4112_S8x4112_d2 h_S_)
/-- The output. -/
def outOf (M : FVec Ideal S8x4112 .f32) (x0 x1 : FVec Ideal S4112x8x96 .f32) (x2 : FVec Ideal S4112x8x64 .f32) : FVec Ideal S4112x8x64 .f32 :=
  transpose S4112x8x64 [2, 0, 1] (Host.dotGeneral dot_S4112x8x64_S8x4112x4112_S8x64x4112_0_2_2_1_1_0 none x2
    (Host.divf (expOf M x0 x1) (broadcastInDim S8x4112x4112 ![0, 1, 2] bcast_S8x4112x1_S8x4112x4112_0_1_2 (sumOf M x0 x1))))
    transposes_S8x64x4112_S4112x8x64_2_0_1
/-- The logarithms of the rows' sums, without the shift. -/
def lseOf (M : FVec Ideal S8x4112 .f32) (x0 x1 : FVec Ideal S4112x8x96 .f32) : FVec Ideal S8x4112x1 .f32 :=
  addf (broadcastInDim S8x4112x1 ![0, 1] bcast_S8x4112_S8x4112x1_0_1 M) (Host.log (sumOf M x0 x1))

variable (m : (ℓ : Loc nD τ sig) → Buf (Elt Ideal) ℓ) (c : Dev nD)

abbrev arg0 : FVec Ideal S4112x8x96 .f32 := m ((c : Thread nD τ).loc main_arg0)
abbrev arg1 : FVec Ideal S4112x8x96 .f32 := m ((c : Thread nD τ).loc main_arg1)
abbrev arg2 : FVec Ideal S4112x8x64 .f32 := m ((c : Thread nD τ).loc main_arg2)
abbrev arg3 : FVec Ideal S4112x8x64 .f32 := m ((c : Thread nD τ).loc main_arg3)
/-- The greatest score of every row. -/
abbrev top : FVec Ideal S8x4112 .f32 := Cert.ReferenceIdeal.Read.val_main_v7 (F := Ideal) (arg0 m c) (arg1 m c)

/-- The integer zero as a float. -/
abbrev z : FVec Ideal S_ .f32 := sitofp .f32 (constantI S_ 32 0#32)
/-- The layout of the queries and keys. -/
abbrev lay96 (X : FVec Ideal S4112x8x96 .f32) : FVec Ideal S4224x1024 .f32 :=
  shapeCast S4224x1024 (pad S4224x8x128 ![112, 0, 0] ![0, 0, 32] ![0, 0, 0] X z pads_S4112x8x96_S4224x8x128_11200_000_0320 h_S_)
    shapeCasts_S4224x8x128_S4224x1024
/-- The layout of the values, the output and its gradient. -/
abbrev lay64 (X : FVec Ideal S4112x8x64 .f32) : FVec Ideal S4224x1024 .f32 :=
  shapeCast S4224x1024 (pad S4224x8x128 ![112, 0, 0] ![0, 0, 64] ![0, 0, 0] X z pads_S4112x8x64_S4224x8x128_11200_000_0640 h_S_)
    shapeCasts_S4224x8x128_S4224x1024

theorem entry_q : V (F := Ideal) m c main_v25 = truncf .bf16 (lay96 (Cert.ReferenceIdeal.Read.val_main_v1 (F := Ideal) (arg0 m c))) bitsLt_bf16_f32 := by
  unfold_abbrev_sides
  simp only [hostOps0, hostOps0_1, hostOps0_2, hostOps0_3, hostOps0_4, hostOps0_5, hostOps0_6, hostOps0_7, hostOps0_8, hostOps0_9, hostOps0_10, hostOps0_11, hostOps0_12, hostOps0_13, hostOps0_14,
    List.flatten_cons, List.flatten_nil, List.append_nil, List.cons_append, List.nil_append, StableHlo.TRef.binary, StableHlo.TRef.nullary, StableHlo.TRef.ternary,
    StableHlo.TRef.unary, StableHlo.TRef.toBuf, StableHlo.TRef.ofBuf, cast_eq]
  after_reads_simp
  rfl
theorem entry_k : V (F := Ideal) m c main_v28 = truncf .bf16 (lay96 (arg1 m c)) bitsLt_bf16_f32 := by
  unfold_abbrev_sides
  simp only [hostOps0, hostOps0_1, hostOps0_2, hostOps0_3, hostOps0_4, hostOps0_5, hostOps0_6, hostOps0_7, hostOps0_8, hostOps0_9, hostOps0_10, hostOps0_11, hostOps0_12, hostOps0_13, hostOps0_14,
    List.flatten_cons, List.flatten_nil, List.append_nil, List.cons_append, List.nil_append, StableHlo.TRef.binary, StableHlo.TRef.nullary, StableHlo.TRef.ternary,
    StableHlo.TRef.unary, StableHlo.TRef.toBuf, StableHlo.TRef.ofBuf, cast_eq]
  after_reads_simp
  rfl
theorem entry_v : V (F := Ideal) m c main_v31 = truncf .bf16 (lay64 (arg2 m c)) bitsLt_bf16_f32 := by
  unfold_abbrev_sides
  simp only [hostOps0, hostOps0_1, hostOps0_2, hostOps0_3, hostOps0_4, hostOps0_5, hostOps0_6, hostOps0_7, hostOps0_8, hostOps0_9, hostOps0_10, hostOps0_11, hostOps0_12, hostOps0_13, hostOps0_14,
    List.flatten_cons, List.flatten_nil, List.append_nil, List.cons_append, List.nil_append, StableHlo.TRef.binary, StableHlo.TRef.nullary, StableHlo.TRef.ternary,
    StableHlo.TRef.unary, StableHlo.TRef.toBuf, StableHlo.TRef.ofBuf, cast_eq]
  after_reads_simp
  rfl
theorem entry_g : V (F := Ideal) m c main_v37 = truncf .bf16 (lay64 (arg3 m c)) bitsLt_bf16_f32 := by
  unfold_abbrev_sides
  simp only [hostOps0, hostOps0_1, hostOps0_2, hostOps0_3, hostOps0_4, hostOps0_5, hostOps0_6, hostOps0_7, hostOps0_8, hostOps0_9, hostOps0_10, hostOps0_11, hostOps0_12, hostOps0_13, hostOps0_14,
    List.flatten_cons, List.flatten_nil, List.append_nil, List.cons_append, List.nil_append, StableHlo.TRef.binary, StableHlo.TRef.nullary, StableHlo.TRef.ternary,
    StableHlo.TRef.unary, StableHlo.TRef.toBuf, StableHlo.TRef.ofBuf, cast_eq]
  after_reads_simp
  rfl
theorem entry_o : V (F := Ideal) m c main_v34 = truncf .bf16 (lay64 (outOf (top m c) (arg0 m c) (arg1 m c) (arg2 m c))) bitsLt_bf16_f32 := by
  unfold_abbrev_sides
  simp only [hostOps0, hostOps0_1, hostOps0_2, hostOps0_3, hostOps0_4, hostOps0_5, hostOps0_6, hostOps0_7, hostOps0_8, hostOps0_9, hostOps0_10, hostOps0_11, hostOps0_12, hostOps0_13, hostOps0_14,
    List.flatten_cons, List.flatten_nil, List.append_nil, List.cons_append, List.nil_append, StableHlo.TRef.binary, StableHlo.TRef.nullary, StableHlo.TRef.ternary,
    StableHlo.TRef.unary, StableHlo.TRef.toBuf, StableHlo.TRef.ofBuf, cast_eq]
  after_reads_simp
  rfl
theorem entry_l : V (F := Ideal) m c main_v22
    = shapeCast S8x11x1x384 (pad S8x4224 ![0, 112] ![0, 0] ![0, 0]
        (shapeCast S8x4112 (lseOf (top m c) (arg0 m c) (arg1 m c)) shapeCasts_S8x4112x1_S8x4112) z pads_S8x4112_S8x4224_000_11200 h_S_)
        shapeCasts_S8x4224_S8x11x1x384 := by
  unfold_abbrev_sides
  simp only [hostOps0, hostOps0_1, hostOps0_2, hostOps0_3, hostOps0_4, hostOps0_5, hostOps0_6, hostOps0_7, hostOps0_8, hostOps0_9, hostOps0_10, hostOps0_11, hostOps0_12, hostOps0_13, hostOps0_14,
    List.flatten_cons, List.flatten_nil, List.append_nil, List.cons_append, List.nil_append, StableHlo.TRef.binary, StableHlo.TRef.nullary, StableHlo.TRef.ternary,
    StableHlo.TRef.unary, StableHlo.TRef.toBuf, StableHlo.TRef.ofBuf, cast_eq]
  after_reads_simp
  rfl

open Cert.ReferenceIdeal.Own (Reads Real3 ext1 ext2 ext3)
open Cert.ReferenceIdeal.Read

theorem top_eq (x0 x1 : FVec Ideal S4112x8x96 .f32) : val_main_v14 (F := Ideal) x0 x1 = val_main_v7 (F := Ideal) x0 x1 := by
  funext i
  rw [val_main_v14_apply, val_main_v13_apply, val_main_cst_3_apply, Cert.ReferenceIdeal.Own.ninf]
  exact bot_sup_eq _

variable {A : Att} {x0 x1 : FVec Ideal S4112x8x96 .f32} {x2 x3 : FVec Ideal S4112x8x64 .f32}

theorem outOf_real (H : Reads A x0 x1 x2 x3) : Real3 (outOf (val_main_v7 (F := Ideal) x0 x1) x0 x1 x2) fun y h x => A.o h y x := fun y h x => by
  have e : outOf (val_main_v14 (F := Ideal) x0 x1) x0 x1 x2 = val_main_v36 (F := Ideal) x0 x1 x2 := rfl
  rw [← top_eq, e, val_main_v36_apply, show idx_main_v36 (ix3 y h x) = ix3 h x y from ext3 rfl rfl rfl, Cert.ReferenceIdeal.Own.output H]

theorem add_log {s : Shape} (a b : FVec Ideal s .f32) (i : s.Idx) : (addf a (Host.log b)) i = (a i : EReal) + Ideal.log (b i) := rfl

theorem lseOf_real (H : Reads A x0 x1 x2 x3) (h : Fin 8) (y : Fin 4112) (w : Fin 1) :
    lseOf (val_main_v7 (F := Ideal) x0 x1) x0 x1 (ix3 h y w) = ((A.M h.val y.val + Real.log (A.l h.val y.val) : ℝ) : EReal) := by
  have e : sumOf (val_main_v14 (F := Ideal) x0 x1) x0 x1 = val_main_v29 (F := Ideal) x0 x1 := rfl
  have e' : broadcastInDim S8x4112x1 ![0, 1] bcast_S8x4112_S8x4112x1_0_1 (val_main_v14 (F := Ideal) x0 x1) = val_main_v24 (F := Ideal) x0 x1 := rfl
  unfold lseOf
  rw [add_log, ← top_eq, e, e', Cert.ReferenceIdeal.Own.rows1 H, val_main_v24_apply,
    show idx_main_v24 (ix3 h y w) = ix2 h y from ext2 rfl rfl, top_eq, H.M, Ideal.log_coe,
    if_neg (not_le.mpr (A.l_pos h.val y.isLt)), EReal.coe_add]

theorem entry_lse_real (H : Reads A (arg0 m c) (arg1 m c) x2 x3) (h : Fin 8) (b : Fin 11) (w : Fin 1) (y : Fin 384) :
    V (F := Ideal) m c main_v22 (ix4 h b w y) = (((A.head h.val).l (384 * b.val + y.val) : ℝ) : EReal) := by
  have hb := b.isLt
  have hy := y.isLt
  have hw := w.isLt
  rw [entry_l]
  rw [shapeCast_apply _ shapeCasts_S8x4224_S8x11x1x384 (ix4 h b w y) (ix2 h ⟨384 * b.val + y.val, by omega⟩) (by
    rw [Shape.rowMajor_val_two, Shape.rowMajor_val_four]
    show h.val * 4224 + (384 * b.val + y.val) = ((h.val * 11 + b.val) * 1 + w.val) * 384 + y.val
    omega)]
  by_cases h0 : 112 ≤ 384 * b.val + y.val
  · rw [pad_apply_of_inside _ _ _ _ _ pads_S8x4112_S8x4224_000_11200 h_S_ _ (ix2 h ⟨384 * b.val + y.val - 112, by omega⟩) (fun a => by
      match a with
      | ⟨0, _⟩ => show h.val = 0 + h.val * 1; omega
      | ⟨1, _⟩ => show 384 * b.val + y.val = 112 + (384 * b.val + y.val - 112) * 1; omega)]
    rw [shapeCast_apply _ shapeCasts_S8x4112x1_S8x4112 _ (ix3 h ⟨384 * b.val + y.val - 112, by omega⟩ 0) (by
      rw [Shape.rowMajor_val_two, Shape.rowMajor_val_three]
      show (h.val * 4112 + (384 * b.val + y.val - 112)) * 1 + 0 = h.val * 4112 + (384 * b.val + y.val - 112)
      omega), lseOf_real H]
    refine congrArg _ (Eq.symm ?_)
    exact if_pos h0
  · refine (pad_apply_of_not_inside _ _ _ _ _ pads_S8x4112_S8x4224_000_11200 h_S_ _ (1 : Fin 2) fun hin => h0 ?_).trans ?_
    · exact hin.1
    · refine (Cert.ReferenceIdeal.Own.zero_int _).trans ?_
      refine (congrArg (fun r : ℝ => (r : EReal)) (Eq.symm ?_) : ((0 : ℝ) : EReal) = _)
      exact if_neg h0

end Cert.KernelIdeal.Own
-- ==== Proof.Final.lean ====
module
public import proofs.«01_k».proof.Proof.Entry
public import Idealize.ShloMosaic.Lib.Pipeline.ValueKit
/-! The arrays the call leaves. -/
@[expose] public section
set_option maxRecDepth 16384
noncomputable section
namespace Cert.KernelIdeal.Own
open Idealize.ShloMosaic Idealize.ShloMosaic.TcCoe
open Idealize.ShloMosaic.ValueIdx (ix3 ix4)
open Idealize.ShloMosaic.Pipeline (Dat)
open Cert.KernelIdeal.Gen Cert.KernelIdeal
open Att (padded)
open Cert.ReferenceIdeal.Own (Reads Real3 ext1 ext2 ext3)

/-- Which block of its array each operand and each result is at a point. -/
theorem places : ∀ t : Fin cfg0.N,
    win0_0.index t = ![0, t.val / 11] ∧ win0_1.index t = ![t.val % 11, t.val / 11] ∧ win0_2.index t = ![t.val % 11, t.val / 11]
    ∧ win0_3.index t = ![0, t.val / 11] ∧ win0_4.index t = ![t.val / 11, 0, 0, 0] ∧ win0_5.index t = ![0, t.val / 11]
    ∧ win0_6.index t = ![0, t.val / 11] ∧ win0_7.index t = ![t.val % 11, t.val / 11] ∧ win0_8.index t = ![t.val % 11, t.val / 11] :=
  (by decide +kernel : ∀ t : Fin grid0.N,
    win0_0.index t = ![0, t.val / 11] ∧ win0_1.index t = ![t.val % 11, t.val / 11] ∧ win0_2.index t = ![t.val % 11, t.val / 11]
    ∧ win0_3.index t = ![0, t.val / 11] ∧ win0_4.index t = ![t.val / 11, 0, 0, 0] ∧ win0_5.index t = ![0, t.val / 11]
    ∧ win0_6.index t = ![0, t.val / 11] ∧ win0_7.index t = ![t.val % 11, t.val / 11] ∧ win0_8.index t = ![t.val % 11, t.val / 11])

variable (m : (ℓ : Loc nD τ sig) → Buf (Elt Ideal) ℓ) (c : Dev nD)

theorem pt_lt (t : Fin cfg0.N) : t.val < 88 := t.isLt

/-- The place of a whole-height block's entry. -/
def at1 (t : Fin cfg0.N) (x : Fin 128) : Fin 1024 := ⟨t.val / 11 * 128 + x.val, by have := pt_lt t; have := x.isLt; omega⟩
/-- The place of a key block's row. -/
def at0 (t : Fin cfg0.N) (r : Fin 384) : Fin 4224 := ⟨t.val % 11 * 384 + r.val, by have := r.isLt; omega⟩

theorem at1_div (t : Fin cfg0.N) (x : Fin 128) : (at1 t x).val / 128 = t.val / 11 := by
  have := x.isLt; show (t.val / 11 * 128 + x.val) / 128 = _; omega
theorem at1_mod (t : Fin cfg0.N) (x : Fin 128) : (at1 t x).val % 128 = x.val := by
  have := x.isLt; show (t.val / 11 * 128 + x.val) % 128 = _; omega

theorem pair {a b : ℕ} {i : (⟨2, ![a, b]⟩ : Shape).Idx} {x : Fin a} {y : Fin b} (h0 : (i 0).val = x.val) (h1 : (i 1).val = y.val) :
    i = ValueIdx.ix2 x y := ext2 (Fin.ext h0) (Fin.ext h1)

theorem emb0 (t : Fin cfg0.N) (r : Fin 4224) (x : Fin 128) :
    ((cfg0.win 0).blk t).view.emb (ValueIdx.ix2 r x : S4224x128.Idx) = (ValueIdx.ix2 r (at1 t x) : S4224x1024.Idx) := by
  refine pair ?_ ?_ <;> blk_simp [(places t).1] <;> simp [at0, at1]
theorem emb1 (t : Fin cfg0.N) (r : Fin 384) (x : Fin 128) :
    ((cfg0.win 1).blk t).view.emb (ValueIdx.ix2 r x : S384x128.Idx) = (ValueIdx.ix2 (at0 t r) (at1 t x) : S4224x1024.Idx) := by
  refine pair ?_ ?_ <;> blk_simp [(places t).2.1] <;> simp [at0, at1]
theorem emb2 (t : Fin cfg0.N) (r : Fin 384) (x : Fin 128) :
    ((cfg0.win 2).blk t).view.emb (ValueIdx.ix2 r x : S384x128.Idx) = (ValueIdx.ix2 (at0 t r) (at1 t x) : S4224x1024.Idx) := by
  refine pair ?_ ?_ <;> blk_simp [(places t).2.2.1] <;> simp [at0, at1]
theorem emb3 (t : Fin cfg0.N) (r : Fin 4224) (x : Fin 128) :
    ((cfg0.win 3).blk t).view.emb (ValueIdx.ix2 r x : S4224x128.Idx) = (ValueIdx.ix2 r (at1 t x) : S4224x1024.Idx) := by
  refine pair ?_ ?_ <;> blk_simp [(places t).2.2.2.1] <;> simp [at0, at1]
theorem emb5 (t : Fin cfg0.N) (r : Fin 4224) (x : Fin 128) :
    ((cfg0.win 5).blk t).view.emb (ValueIdx.ix2 r x : S4224x128.Idx) = (ValueIdx.ix2 r (at1 t x) : S4224x1024.Idx) := by
  refine pair ?_ ?_ <;> blk_simp [(places t).2.2.2.2.2.1] <;> simp [at0, at1]
theorem emb6 (t : Fin cfg0.N) (r : Fin 4224) (x : Fin 128) :
    ((cfg0.win 6).blk t).view.emb (ValueIdx.ix2 r x : S4224x128.Idx) = (ValueIdx.ix2 r (at1 t x) : S4224x1024.Idx) := by
  refine pair ?_ ?_ <;> blk_simp [(places t).2.2.2.2.2.2.1] <;> simp [at0, at1]
theorem emb7 (t : Fin cfg0.N) (r : Fin 384) (x : Fin 128) :
    ((cfg0.win 7).blk t).view.emb (ValueIdx.ix2 r x : S384x128.Idx) = (ValueIdx.ix2 (at0 t r) (at1 t x) : S4224x1024.Idx) := by
  refine pair ?_ ?_ <;> blk_simp [(places t).2.2.2.2.2.2.2.1] <;> simp [at0, at1]
theorem emb8 (t : Fin cfg0.N) (r : Fin 384) (x : Fin 128) :
    ((cfg0.win 8).blk t).view.emb (ValueIdx.ix2 r x : S384x128.Idx) = (ValueIdx.ix2 (at0 t r) (at1 t x) : S4224x1024.Idx) := by
  refine pair ?_ ?_ <;> blk_simp [(places t).2.2.2.2.2.2.2.2] <;> simp [at0, at1]
theorem emb4 (t : Fin cfg0.N) (h : Fin 8) (hh : h.val = t.val / 11) (b : Fin 11) (y : Fin 384) :
    ((cfg0.win 4).blk t).view.emb (ValueIdx.ix4 0 b 0 y : S1x11x1x384.Idx) = (ValueIdx.ix4 h b 0 y : S8x11x1x384.Idx) := by
  refine funext fun a => ?_
  match a with
  | ⟨0, _⟩ => refine Fin.ext ?_; blk_simp [(places t).2.2.2.2.1]; simp [hh]
  | ⟨1, _⟩ => refine Fin.ext ?_; blk_simp [(places t).2.2.2.2.1]
  | ⟨2, _⟩ => refine Fin.ext ?_; blk_simp [(places t).2.2.2.2.1]
  | ⟨3, _⟩ => refine Fin.ext ?_; blk_simp [(places t).2.2.2.2.1]

theorem readQ (t : Fin cfg0.N) (r : Fin 4224) (x : Fin 128) : bQ m c t (ValueIdx.ix2 r x) = V (F := Ideal) m c main_v25 (ValueIdx.ix2 r (at1 t x)) :=
  congrArg (V (F := Ideal) m c main_v25) (emb0 t r x)
theorem readK (t : Fin cfg0.N) (r : Fin 384) (x : Fin 128) : bK m c t (ValueIdx.ix2 r x) = V (F := Ideal) m c main_v28 (ValueIdx.ix2 (at0 t r) (at1 t x)) :=
  congrArg (V (F := Ideal) m c main_v28) (emb1 t r x)
theorem readV (t : Fin cfg0.N) (r : Fin 384) (x : Fin 128) : bV m c t (ValueIdx.ix2 r x) = V (F := Ideal) m c main_v31 (ValueIdx.ix2 (at0 t r) (at1 t x)) :=
  congrArg (V (F := Ideal) m c main_v31) (emb2 t r x)
theorem readO (t : Fin cfg0.N) (r : Fin 4224) (x : Fin 128) : bO m c t (ValueIdx.ix2 r x) = V (F := Ideal) m c main_v34 (ValueIdx.ix2 r (at1 t x)) :=
  congrArg (V (F := Ideal) m c main_v34) (emb3 t r x)
theorem readG (t : Fin cfg0.N) (r : Fin 4224) (x : Fin 128) : bG m c t (ValueIdx.ix2 r x) = V (F := Ideal) m c main_v37 (ValueIdx.ix2 r (at1 t x)) :=
  congrArg (V (F := Ideal) m c main_v37) (emb5 t r x)
theorem readL (t : Fin cfg0.N) (h : Fin 8) (hh : h.val = t.val / 11) (b : Fin 11) (y : Fin 384) :
    bL m c t (ValueIdx.ix4 0 b 0 y) = V (F := Ideal) m c main_v22 (ValueIdx.ix4 h b 0 y) :=
  congrArg (V (F := Ideal) m c main_v22) (emb4 t h hh b y)

theorem trunc_at {s : Shape} (X : FVec Ideal s .f32) (i : s.Idx) : (truncf .bf16 X bitsLt_bf16_f32) i = X i := rfl

variable {A : Att}

theorem in_q {x2 x3} (H : Reads A (arg0 m c) (arg1 m c) x2 x3) (Y : Fin 4224) (C : Fin 1024) :
    V (F := Ideal) m c main_v25 (ValueIdx.ix2 Y C) = ((padded 96 A.q (C.val / 128) Y.val (C.val % 128) : ℝ) : EReal) := by
  rw [entry_q, trunc_at]
  exact Cert.ReferenceIdeal.Own.laid H.q (by norm_num) _ Cert.ReferenceIdeal.Own.zero_int pads_S4112x8x96_S4224x8x128_11200_000_0320 _ _ Y C
theorem in_k {x0 x2 x3} (H : Reads A x0 (arg1 m c) x2 x3) (Y : Fin 4224) (C : Fin 1024) :
    V (F := Ideal) m c main_v28 (ValueIdx.ix2 Y C) = ((padded 96 A.k (C.val / 128) Y.val (C.val % 128) : ℝ) : EReal) := by
  rw [entry_k, trunc_at]
  exact Cert.ReferenceIdeal.Own.laid H.k (by norm_num) _ Cert.ReferenceIdeal.Own.zero_int pads_S4112x8x96_S4224x8x128_11200_000_0320 _ _ Y C
theorem in_v {x0 x1 x3} (H : Reads A x0 x1 (arg2 m c) x3) (Y : Fin 4224) (C : Fin 1024) :
    V (F := Ideal) m c main_v31 (ValueIdx.ix2 Y C) = ((padded 64 A.v (C.val / 128) Y.val (C.val % 128) : ℝ) : EReal) := by
  rw [entry_v, trunc_at]
  exact Cert.ReferenceIdeal.Own.laid H.v (by norm_num) _ Cert.ReferenceIdeal.Own.zero_int pads_S4112x8x64_S4224x8x128_11200_000_0640 _ _ Y C
theorem in_g {x0 x1 x2} (H : Reads A x0 x1 x2 (arg3 m c)) (Y : Fin 4224) (C : Fin 1024) :
    V (F := Ideal) m c main_v37 (ValueIdx.ix2 Y C) = ((padded 64 A.g (C.val / 128) Y.val (C.val % 128) : ℝ) : EReal) := by
  rw [entry_g, trunc_at]
  exact Cert.ReferenceIdeal.Own.laid H.g (by norm_num) _ Cert.ReferenceIdeal.Own.zero_int pads_S4112x8x64_S4224x8x128_11200_000_0640 _ _ Y C
theorem in_o {x3} (H : Reads A (arg0 m c) (arg1 m c) (arg2 m c) x3) (Y : Fin 4224) (C : Fin 1024) :
    V (F := Ideal) m c main_v34 (ValueIdx.ix2 Y C) = ((padded 64 (fun y h x => A.o h y x) (C.val / 128) Y.val (C.val % 128) : ℝ) : EReal) := by
  rw [entry_o, trunc_at]
  exact Cert.ReferenceIdeal.Own.laid (outOf_real H) (by norm_num) _ Cert.ReferenceIdeal.Own.zero_int pads_S4112x8x64_S4224x8x128_11200_000_0640 _ _ Y C

variable {m c}

theorem holds (H : Reads A (arg0 m c) (arg1 m c) (arg2 m c) (arg3 m c)) :
    Holds m c A.head fun h Y x => padded 64 (fun y h x => A.o h y x) h Y x where
  Q t r x := by rw [readQ, in_q m c H, at1_div, at1_mod]; rfl
  K t r x := by rw [readK, in_k m c H, at1_div, at1_mod, Nat.mul_comm 384]; rfl
  V t r x := by rw [readV, in_v m c H, at1_div, at1_mod, Nat.mul_comm 384]; rfl
  O t r x := by rw [readO, in_o m c H, at1_div, at1_mod]
  G t r x := by rw [readG, in_g m c H, at1_div, at1_mod]; rfl
  L t b y := by rw [readL m c t ⟨t.val / 11, by have := pt_lt t; omega⟩ rfl, entry_lse_real m c H]
  d h Y := rfl

/-- The queries' gradient, laid out. -/
theorem left_q (H : Reads A (arg0 m c) (arg1 m c) (arg2 m c) (arg3 m c)) (G : S4224x1024.Idx → EReal)
    (hG : ∀ (Y : Fin 4224) (C : Fin 1024), G (ValueIdx.ix2 Y C) = ((padded 96 A.dq (C.val / 128) Y.val (C.val % 128) : ℝ) : EReal)) :
    (dats m 0 c).arrAt 6 cfg0.N = G := by
  refine (dats m 0 c).arrAt_eq_of_covers 6 G (by decide +kernel) fun t hf y => ?_
  have ht := (flush0_6 t).mp hf
  blk_simp
  rw [after0_6]
  have key : ∀ (r : Fin 4224) (x : Fin 128), outAll (carry m c (t.val + 1) t.isLt).2 (ValueIdx.ix2 r x)
      = G (((cfg0.win 6).blk t).view.emb (ValueIdx.ix2 r x : S4224x128.Idx)) := fun r x => by
    rw [(holds H).dq t ht r x]; beta_reduce
    rw [A.head_dq _ r.isLt, emb6, hG, at1_div, at1_mod]
  have hy : y = (ValueIdx.ix2 (y 0) (y 1) : S4224x128.Idx) := ext2 rfl rfl
  rw [hy]
  exact key (y 0) (y 1)

/-- The keys' gradient, laid out. -/
theorem left_k (H : Reads A (arg0 m c) (arg1 m c) (arg2 m c) (arg3 m c)) (G : S4224x1024.Idx → EReal)
    (hG : ∀ (Y : Fin 4224) (C : Fin 1024), G (ValueIdx.ix2 Y C) = ((padded 96 A.dk (C.val / 128) Y.val (C.val % 128) : ℝ) : EReal)) :
    (dats m 0 c).arrAt 7 cfg0.N = G := by
  refine (dats m 0 c).arrAt_eq_of_covers 7 G (by decide +kernel) fun t hf y => ?_
  blk_simp
  rw [after0_7]
  have key : ∀ (r : Fin 384) (x : Fin 128), dkT m c t (carry m c (t.val + 1) t.isLt).1 (ValueIdx.ix2 r x)
      = G (((cfg0.win 7).blk t).view.emb (ValueIdx.ix2 r x : S384x128.Idx)) := fun r x => by
    rw [(holds H).dk t r x]; beta_reduce
    rw [A.head_dk, emb7, hG, at1_div, at1_mod, Nat.mul_comm 384]; rfl
  have hy : y = (ValueIdx.ix2 (y 0) (y 1) : S384x128.Idx) := ext2 rfl rfl
  rw [hy]
  exact key (y 0) (y 1)

/-- The values' gradient, laid out. -/
theorem left_v (H : Reads A (arg0 m c) (arg1 m c) (arg2 m c) (arg3 m c)) (G : S4224x1024.Idx → EReal)
    (hG : ∀ (Y : Fin 4224) (C : Fin 1024), G (ValueIdx.ix2 Y C) = ((padded 64 A.dv (C.val / 128) Y.val (C.val % 128) : ℝ) : EReal)) :
    (dats m 0 c).arrAt 8 cfg0.N = G := by
  refine (dats m 0 c).arrAt_eq_of_covers 8 G (by decide +kernel) fun t hf y => ?_
  blk_simp
  rw [after0_8]
  have key : ∀ (r : Fin 384) (x : Fin 128), dvT m c t (carry m c (t.val + 1) t.isLt).1 (ValueIdx.ix2 r x)
      = G (((cfg0.win 8).blk t).view.emb (ValueIdx.ix2 r x : S384x128.Idx)) := fun r x => by
    rw [(holds H).dv t r x]; beta_reduce
    rw [A.head_dv, emb8, hG, at1_div, at1_mod, Nat.mul_comm 384]; rfl
  have hy : y = (ValueIdx.ix2 (y 0) (y 1) : S384x128.Idx) := ext2 rfl rfl
  rw [hy]
  exact key (y 0) (y 1)

/-- The run: the three results hold what `G0`, `G1`, `G2` say, and the arguments end as they were. -/
theorem run_values (ρ : Dev nD → PrngReg) (G0 G1 G2 : Dev nD → S4224x1024.Idx → EReal)
    (hG : ∀ c, ∃ A : Att, Reads A (arg0 m c) (arg1 m c) (arg2 m c) (arg3 m c)
      ∧ (∀ (Y : Fin 4224) (C : Fin 1024), G0 c (ValueIdx.ix2 Y C) = ((padded 96 A.dq (C.val / 128) Y.val (C.val % 128) : ℝ) : EReal))
      ∧ (∀ (Y : Fin 4224) (C : Fin 1024), G1 c (ValueIdx.ix2 Y C) = ((padded 96 A.dk (C.val / 128) Y.val (C.val % 128) : ℝ) : EReal))
      ∧ (∀ (Y : Fin 4224) (C : Fin 1024), G2 c (ValueIdx.ix2 Y C) = ((padded 64 A.dv (C.val / 128) Y.val (C.val % 128) : ℝ) : EReal))) :
    θ_run defs (onTc (τ := τ) (main (F := Ideal))) ⟨m, fun _ => 0, ρ⟩ (fun r => ∀ c : Dev nD,
      r.2.mem ((c.tc : Thread nD τ).loc main_v38_0) = G0 c
      ∧ r.2.mem ((c.tc : Thread nD τ).loc main_v38_1) = G1 c
      ∧ r.2.mem ((c.tc : Thread nD τ).loc main_v38_2) = G2 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ?_) (Idealize.ShloMosaic.θ_run_and (run_quiet m ρ) (kept m ρ))
  obtain ⟨A, H, h0, h1, h2⟩ := hG c
  exact ⟨((h.1.1 c).1 6).trans (left_q H _ h0), ((h.1.1 c).1 7).trans (left_k H _ h1), ((h.1.1 c).1 8).trans (left_v H _ h2), h.2.1 c⟩
end Cert.KernelIdeal.Own
-- ==== Proof.Products.lean ====
module
public import Idealize.ShloMosaic.Lib.MatmulPlain
public import Idealize.ShloMosaic.Lib.Pipeline.ValueKit
/-! Products of two matrices in blocks. -/
@[expose] public section
noncomputable section
namespace Cert.Products
open Idealize.ShloMosaic hiding ix2
open Idealize.ShloMosaic.ValueIdx

/-- A pair of places is made of its two places. -/
theorem ext2 {a b : ℕ} (i : (⟨2, ![a, b]⟩ : Shape).Idx) : i = ix2 (i 0) (i 1) := by
  funext x
  match x with
  | ⟨0, _⟩ => rfl
  | ⟨1, _⟩ => rfl

/-- The dimensions of the product of a transposed matrix and a matrix. -/
def turned (M K N : ℕ) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, (by decide : (([] ++ [1] ++ [0] : List (Fin 2))).Perm (List.finRange 2)),
    (by decide : (([] ++ [1] ++ [0] : List (Fin 2))).Perm (List.finRange 2)), rfl, by show 0 < 2; decide, fun a => by fin_cases a <;> rfl⟩

/-- The product of a transposed matrix and a matrix, at a place. -/
theorem turned_apply {M K N : ℕ} {φ₁ φ₂ : FTy} (prec : Option ContractPrecision)
    (lhs : FVec Ideal ⟨2, ![K, M]⟩ φ₁) (rhs : FVec Ideal ⟨2, ![K, N]⟩ φ₂) (acc : FVec Ideal ⟨2, ![M, N]⟩ .f32) (r : Fin M) (c : Fin N) :
    FloatOps.matmul (turned M K N) prec lhs rhs acc (ix2 r c) = acc (ix2 r c) + ∑ k : Fin K, lhs (ix2 k r) * rhs (ix2 k c) := by
  rw [Ideal.matmul_apply, ← Equiv.sum_comp (contrEquiv1 (turned M K N) K rfl rfl).symm]
  refine congrArg (acc (ix2 r c) + ·) (Finset.sum_congr rfl fun k _ => ?_)
  have hk := contrEquiv1_symm_val (turned M K N) K rfl rfl k
  have el : (turned M K N).lhsIdx (ix2 r c) ((contrEquiv1 (turned M K N) K rfl rfl).symm k) = ix2 k r := by
    funext a; apply Fin.ext
    match a with
    | ⟨0, _⟩ => exact hk
    | ⟨1, _⟩ => rfl
  have er : (turned M K N).rhsIdx (ix2 r c) ((contrEquiv1 (turned M K N) K rfl rfl).symm k) = ix2 k c := by
    funext a; apply Fin.ext
    match a with
    | ⟨0, _⟩ => exact hk
    | ⟨1, _⟩ => rfl
  rw [el, er]

theorem zero_word {s : Shape} (i : s.Idx) : (constant s .f32 0x00000000#32 : FVec Ideal s .f32) i = (0 : EReal) := by
  rw [constant_apply]; exact Ideal.ofBits_zero_f32

/-- A sum over the blocks and over the places of a block is the sum over all places. -/
theorem sum_blocks {J n : ℕ} (g : Fin (J * n) → EReal) :
    ∑ s : Fin J, ∑ k : Fin n, g ⟨s.val * n + k.val, by
      have := s.isLt; have := k.isLt
      calc s.val * n + k.val < s.val * n + n := by omega
        _ = (s.val + 1) * n := by ring
        _ ≤ J * n := Nat.mul_le_mul_right n (by omega)⟩ = ∑ k : Fin (J * n), g k := by
  rw [← Fintype.sum_prod_type' (f := fun (s : Fin J) (k : Fin n) => g _), ← Equiv.sum_comp finProdFinEquiv]
  refine Finset.sum_congr rfl fun x _ => congrArg g (Fin.ext ?_)
  show x.1.val * n + x.2.val = x.2.val + n * x.1.val
  ring

end Cert.Products
-- ==== Proof.P2.lean ====
module
public import proofs.«01_k».proof.Proof.Products
public import proofs.«01_k».proof.Proof.Gen.Kernel2Ideal.Value
public import proofs.«01_k».proof.Proof.Gen.Reference2Ideal.Read
public import Idealize.ShloMosaic.Lib.Claim
public import Idealize.ShloMosaic.Lib.StableHlo.RunRead
/-! The gradient of what enters the square of the two-layer network. -/
@[expose] public section
set_option maxRecDepth 16384
noncomputable section
namespace Cert.Kernel2Ideal.Own
open Idealize.ShloMosaic hiding ix2
open Idealize.ShloMosaic.TcCoe
open Idealize.ShloMosaic.ValueIdx
open Cert.Products
open Cert.Kernel2Ideal.Gen Cert.Kernel2Ideal

/-- Twice what is positive of a number. -/
def doubled (x : EReal) : EReal := (FloatOps.ofBits (F := Ideal) .f32 0x40000000#32 : EReal) * max x 0

/-- What a point leaves, at a place. -/
theorem part_apply (x : Vec Ideal S1056x1024 .f32) (w : Vec Ideal S1024x1024 .bf16) (f : Vec Ideal S1056x1024 .bf16) (j : S1056x1024.Idx) :
    k0_pay1 (F := Ideal) x w f j = ((∑ k : Fin 1024, x (ix2 (j 0) k) * w (ix2 (j 1) k)) * doubled (f j) : EReal) := by
  have hp : ∀ z : EReal, max z (FloatOps.ofBits (F := Ideal) .f32 0x00000000#32 : EReal) = max z 0 := fun z => congrArg (max z) Ideal.ofBits_zero_f32
  unfold k0_pay1
  simp only [shapeCast_self]
  refine congrArg₂ (fun a b : EReal => a * b) ?_ (congrArg (fun z : EReal => (FloatOps.ofBits (F := Ideal) .f32 0x40000000#32 : EReal) * z) (hp _))
  rw [ext2 j]
  refine (Ideal.matmul_transposedRhs_apply none _ _ _ (j 0) (j 1)).trans ((congrArg (· + _) (zero_word _)).trans ((zero_add _).trans ?_))
  rfl

/-- The reference's result, at a place. -/
theorem reference_apply (x0 : FVec Ideal S4224x4096 .f32) (x1 : FVec Ideal S4096x1024 .f32) (x2 : FVec Ideal S4224x1024 .f32) (i : S4224x4096.Idx) :
    (Cert.Reference2Ideal.Read.val_main_v14 (F := Ideal) x0 x1 x2 i : EReal) =
      (∑ k : Fin 1024, x2 (Cert.Reference2Ideal.Read.lidx_main_v10 i k) * x1 (Cert.Reference2Ideal.Read.ridx_main_v10 i k)) * doubled (x0 i) := by
  rw [← Cert.Reference2Ideal.Read.val_main_v10_apply]
  generalize hd : Cert.Reference2Ideal.Read.val_main_v10 (F := Ideal) x1 x2 i = d
  have e : (Cert.Reference2Ideal.Read.val_main_v14 (F := Ideal) x0 x1 x2 i : EReal) =
      Scalar.select (FloatOps.cmpf (F := Ideal) .ogt (x0 i) (0 : EReal)) (d * doubled (x0 i)) (0 : EReal) := by
    rw [Cert.Reference2Ideal.Read.val_main_v14_apply, Cert.Reference2Ideal.Read.val_main_v13_apply, Cert.Reference2Ideal.Read.val_main_v2_apply,
      Cert.Reference2Ideal.Read.val_main_v11_apply, hd, Cert.Reference2Ideal.Read.val_main_v6_apply, Cert.Reference2Ideal.Read.val_main_v0_apply,
      Cert.Reference2Ideal.Read.val_main_v1_apply, Cert.Reference2Ideal.Read.val_main_v5_apply, Cert.Reference2Ideal.Read.val_main_v12_apply,
      Cert.Reference2Ideal.Read.val_main_call0_v0_apply]
    unfold doubled
    rw [← Ideal.ofBits_zero_f32]
    rfl
  rw [e]
  by_cases h : (0 : EReal) < x0 i
  · simp only [Scalar.select, Ideal.cmpf_def, Ideal.cmp]
    simp [h]
  · have : doubled (x0 i) = 0 := by
      unfold doubled
      rw [max_eq_right (not_lt.mp h), mul_zero]
    rw [this, mul_zero]
    unfold Scalar.select
    exact ite_self _

variable (m : (ℓ : Loc nD τ sig) → Buf (Elt Ideal) ℓ) (c : Dev nD)

theorem entry0 : V (F := Ideal) m c main_arg2 = (m ((c : Thread nD τ).loc main_arg2) : FVec Ideal S4224x1024 .f32) := by
  entry_read
  rfl
theorem entry1 : V (F := Ideal) m c main_v0 = (truncf .bf16 (m ((c : Thread nD τ).loc main_arg1) : FVec Ideal S4096x1024 .f32) bitsLt_bf16_f32 : FVec Ideal S4096x1024 .bf16) := by
  entry_read
  rfl
theorem entry2 : V (F := Ideal) m c main_v1 = (truncf .bf16 (m ((c : Thread nD τ).loc main_arg0) : FVec Ideal S4224x4096 .f32) bitsLt_bf16_f32 : FVec Ideal S4224x4096 .bf16) := by
  entry_read
  rfl

/-- The places of the blocks. -/
theorem places : ∀ t : Fin cfg0.N, win0_0.index t = ![t.val / 4, 0] ∧ win0_1.index t = ![t.val % 4, 0] ∧
    win0_2.index t = ![t.val / 4, t.val % 4] ∧ win0_3.index t = ![t.val / 4, t.val % 4] :=
  (by decide +kernel : ∀ t : Fin grid0.N, _)

/-- The array the call leaves. -/
theorem left : (dats m 0 c).arrAt 3 cfg0.N = Cert.Reference2Ideal.Read.val_main_v14 (F := Ideal)
    (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  unfold out0_3
  frame_out
  have a0 : ((win0_3.blk t).view.emb y 0).val = t.val / 4 * 1056 + (y 0).val := by blk_simp [(places t).2.2.2]
  have a1 : ((win0_3.blk t).view.emb y 1).val = t.val % 4 * 1024 + (y 1).val := by blk_simp [(places t).2.2.2]
  refine (part_apply _ _ _ _).trans ((?_ : _ = _).trans (reference_apply _ _ _ _).symm)
  refine congrArg₂ (fun a b : EReal => a * b) (Finset.sum_congr rfl fun k _ => congrArg₂ (fun a b : EReal => a * b) ?_ ?_) (congrArg doubled ?_)
  · refine (congrFun (entry0 m c) _).trans (congrArg (m ((c : Thread nD τ).loc main_arg2)) (funext fun a => Fin.ext ?_))
    match a with
    | ⟨0, _⟩ =>
      blk_simp [(places _).1]
      show t.val / 4 * 1056 + (y 0).val = ((win0_3.blk t).view.emb y 0).val
      rw [a0]
    | ⟨1, _⟩ =>
      blk_simp [(places _).1]
  · refine (congrFun (entry1 m c) _).trans (congrArg (m ((c : Thread nD τ).loc main_arg1)) (funext fun a => Fin.ext ?_))
    match a with
    | ⟨0, _⟩ =>
      blk_simp [(places _).2.1]
      show t.val % 4 * 1024 + (y 1).val = ((win0_3.blk t).view.emb y 1).val
      rw [a1]
    | ⟨1, _⟩ =>
      blk_simp [(places _).2.1]
  · refine (congrFun (entry2 m c) _).trans (congrArg (m ((c : Thread nD τ).loc main_arg0)) (funext fun a => Fin.ext ?_))
    match a with
    | ⟨0, _⟩ =>
      blk_simp [(places t).2.2.1, (places t).2.2.2]
    | ⟨1, _⟩ =>
      blk_simp [(places t).2.2.1, (places t).2.2.2]

end Cert.Kernel2Ideal.Own
-- ==== Proof.P3.lean ====
module
public import proofs.«01_k».proof.Proof.Products
public import proofs.«01_k».proof.Proof.Gen.Kernel3Ideal.Value
public import proofs.«01_k».proof.Proof.Gen.Reference3Ideal.Read
public import Idealize.ShloMosaic.Lib.Claim
public import Idealize.ShloMosaic.Lib.StableHlo.RunRead
public import Idealize.ShloMosaic.Lib.Pipeline.ReadBack
/-! The gradient of the second weights of the two-layer network. -/
@[expose] public section
set_option maxRecDepth 16384
noncomputable section
namespace Cert.Kernel3Ideal.Own
open Idealize.ShloMosaic hiding ix2
open Idealize.ShloMosaic.TcCoe
open Idealize.ShloMosaic.ValueIdx
open Cert.Products
open Cert.Kernel3Ideal.Gen Cert.Kernel3Ideal

/-- The square of what is positive of a number. -/
def squared (x : EReal) : EReal := max x 0 * max x 0

/-- The product of two blocks, at a place. -/
theorem part_apply (x : Vec Ideal S1056x1024 .bf16) (w : Vec Ideal S1056x1024 .f32) (j : S1024x1024.Idx) :
    k0_pay1 (F := Ideal) x w j = ∑ k : Fin 1056, squared (x (ix2 k (j 0))) * w (ix2 k (j 1)) := by
  rw [ext2 j]
  unfold k0_pay1
  simp only [shapeCast_self]
  refine (turned_apply none _ _ _ (j 0) (j 1)).trans ((congrArg (· + _) (zero_word _)).trans ((zero_add _).trans ?_))
  refine Finset.sum_congr rfl fun k _ => congrArg (fun a : EReal => a * w (ix2 k (j 1))) ?_
  unfold squared
  rw [← Ideal.ofBits_zero_f32]
  rfl

/-- The reference's square, at a place. -/
theorem reference_squared (x0 : FVec Ideal S4224x4096 .f32) (i : S4224x4096.Idx) :
    Cert.Reference3Ideal.Read.val_main_v4 (F := Ideal) x0 i = squared (x0 i) := by
  unfold squared
  rw [← Ideal.ofBits_zero_f32]
  rw [Cert.Reference3Ideal.Read.val_main_v4_apply, Cert.Reference3Ideal.Read.val_main_v0_apply, Cert.Reference3Ideal.Read.val_main_call0_v0_apply]
  rfl

variable (m : (ℓ : Loc nD τ sig) → Buf (Elt Ideal) ℓ) (c : Dev nD)

theorem entry0 : V (F := Ideal) m c main_v0 = (truncf .bf16 (m ((c : Thread nD τ).loc main_arg0) : FVec Ideal S4224x4096 .f32) bitsLt_bf16_f32 : FVec Ideal S4224x4096 .bf16) := by
  entry_read
  rfl
theorem entry1 : V (F := Ideal) m c main_arg2 = (m ((c : Thread nD τ).loc main_arg2) : FVec Ideal S4224x1024 .f32) := by
  entry_read
  rfl

/-- The places of the blocks. -/
theorem places : ∀ t : Fin cfg0.N, win0_0.index t = ![t.val % 4, t.val / 4] ∧ win0_1.index t = ![t.val % 4, 0] ∧ win0_2.index t = ![t.val / 4, 0] :=
  (by decide +kernel : ∀ t : Fin grid0.N, _)

/-- What the accumulator holds at the last block of the contracted places. -/
theorem held (t : Fin cfg0.N) (hf : t.val % 4 = 4 - 1) (j : S1024x1024.Idx) :
    (outsAt0 m c t.val t.isLt).2 j = (0 : EReal) + ∑ s : Fin 4,
      k0_pay1 (F := Ideal) (iblk m c 0 ⟨4 * (t.val / 4) + s.val, Pipeline.run_point_lt_of_flush t hf s⟩)
        (iblk m c 1 ⟨4 * (t.val / 4) + s.val, Pipeline.run_point_lt_of_flush t hf s⟩) j :=
  Pipeline.eq_sum_fin_of_reset_step_apply_of_flush (fun n h => (outsAt0 m c n h).2) 4 (fun _ => (0 : EReal))
    (fun p => k0_pay1 (F := Ideal) (iblk m c 0 p) (iblk m c 1 p))
    (fun t h j => by
      rw [outsAt0_A m c t h (by omega) (by omega)]
      frame_out
      rw [zero_add]
      unfold k0_pay2
      exact congrFun (shapeCast_self _ _) j)
    (fun t h j => by
      by_cases h2 : t.val % 4 = 3
      · rw [outsAt0_C m c t h (by omega) h2]
        frame_out
        simp only [read_unread_whole]
        unfold k0_pay3
        exact congrFun (shapeCast_self _ _) j
      · rw [outsAt0_B m c t h (by omega) h2]
        frame_out
        simp only [read_unread_whole]
        unfold k0_pay3
        exact congrFun (shapeCast_self _ _) j) t hf j

theorem written (t : Fin cfg0.N) (hf : t.val % 4 = 4 - 1) (j : S1024x1024.Idx) :
    (outsAt0 m c t.val t.isLt).1 j = (outsAt0 m c t.val t.isLt).2 j := by
  rw [outsAt0_C m c t (by omega) (by omega) hf]
  frame_out
  rfl

/-- The array the call leaves. -/
theorem left : (dats m 0 c).arrAt 2 cfg0.N = Cert.Reference3Ideal.Read.val_main_v14 (F := Ideal)
    (m ((c : Thread nD τ).loc main_arg0)) (m ((c : Thread nD τ).loc main_arg2)) := by
  refine (dats m 0 c).arrAt_eq_of_covers 2 _ (by decide +kernel) fun t hf y => ?_
  have hm : t.val % 4 = 4 - 1 := (flush0_2 t).mp hf
  blk_simp
  rw [after0_2]
  have a0 : ((win0_2.blk t).view.emb y 0).val = t.val / 4 * 1024 + (y 0).val := by blk_simp [(places t).2.2]
  have a1 : ((win0_2.blk t).view.emb y 1).val = (y 1).val := by blk_simp [(places t).2.2]
  refine (written m c t hm _).trans ((held m c t hm _).trans ?_)
  rw [zero_add, Cert.Reference3Ideal.Read.val_main_v14_apply, Cert.Reference3Ideal.Read.val_main_v9_apply, Cert.Reference3Ideal.Read.val_main_v8_apply]
  refine Eq.trans ?_ (sum_blocks (J := 4) (n := 1056) _)
  refine Finset.sum_congr rfl fun s _ => ?_
  refine (part_apply _ _ _).trans ?_
  refine Finset.sum_congr rfl fun k _ => ?_
  rw [mul_comm, reference_squared]
  refine congrArg₂ (fun a b : EReal => a * b) ?_ (congrArg squared ?_)
  · refine (congrFun (entry1 m c) _).trans (congrArg (m ((c : Thread nD τ).loc main_arg2)) (funext fun a => Fin.ext ?_))
    match a with
    | ⟨0, _⟩ =>
      blk_simp [(places _).2.1]
      show (4 * (t.val / 4) + s.val) % 4 * 1056 + k.val = s.val * 1056 + k.val
      omega
    | ⟨1, _⟩ =>
      blk_simp [(places _).2.1]
      show (y 1).val = ((win0_2.blk t).view.emb y 1).val
      rw [a1]
  · refine (congrFun (entry0 m c) _).trans (congrArg (m ((c : Thread nD τ).loc main_arg0)) (funext fun a => Fin.ext ?_))
    match a with
    | ⟨0, _⟩ =>
      blk_simp [(places _).1]
      show (4 * (t.val / 4) + s.val) % 4 * 1056 + k.val = s.val * 1056 + k.val
      omega
    | ⟨1, _⟩ =>
      blk_simp [(places _).1]
      show (4 * (t.val / 4) + s.val) / 4 * 1024 + (y 0).val = ((win0_2.blk t).view.emb y 0).val
      rw [a0]; omega

end Cert.Kernel3Ideal.Own
-- ==== Proof.P4.lean ====
module
public import proofs.«01_k».proof.Proof.Products
public import proofs.«01_k».proof.Proof.Gen.Kernel4Ideal.Value
public import proofs.«01_k».proof.Proof.Gen.Reference4Ideal.Read
public import Idealize.ShloMosaic.Lib.Claim
public import Idealize.ShloMosaic.Lib.StableHlo.RunRead
public import Idealize.ShloMosaic.Lib.Pipeline.ReadBack
/-! The gradient of the first weights of the two-layer network. -/
@[expose] public section
set_option maxRecDepth 16384
noncomputable section
namespace Cert.Kernel4Ideal.Own
open Idealize.ShloMosaic hiding ix2
open Idealize.ShloMosaic.TcCoe
open Idealize.ShloMosaic.ValueIdx
open Cert.Products
open Cert.Kernel4Ideal.Gen Cert.Kernel4Ideal

/-- The product of two blocks, at a place. -/
theorem part_apply (x : Vec Ideal S1024x1408 .bf16) (w : Vec Ideal S1408x1024 .bf16) (j : S1024x1024.Idx) :
    k0_pay1 (F := Ideal) x w j = ∑ k : Fin 1408, x (ix2 (j 0) k) * w (ix2 k (j 1)) := by
  rw [ext2 j]
  unfold k0_pay1
  simp only [shapeCast_self]
  refine (Ideal.matmul_plain_apply none x w _ (j 0) (j 1)).trans ?_
  rw [zero_word, zero_add]

variable (m : (ℓ : Loc nD τ sig) → Buf (Elt Ideal) ℓ) (c : Dev nD)

/-- The left operand is the transposed rows. -/
theorem entry0 (i : Fin 1024) (k : Fin 4224) :
    (V (F := Ideal) m c main_v1 : FVec Ideal S1024x4224 .bf16) (ix2 i k) = (m ((c : Thread nD τ).loc main_arg0) : FVec Ideal S4224x1024 .f32) (ix2 k i) := by
  have e : (V (F := Ideal) m c main_v1 : FVec Ideal S1024x4224 .bf16) = transpose S1024x4224 [1, 0]
      (truncf .bf16 (m ((c : Thread nD τ).loc main_arg0) : FVec Ideal S4224x1024 .f32) bitsLt_bf16_f32 : FVec Ideal S4224x1024 .bf16) transposes_S4224x1024_S1024x4224_1_0 := by
    entry_read
    rfl
  rw [e]
  exact transpose_apply [1, 0] _ _ (ix2 i k) (ix2 k i) (fun b => match b with
    | ⟨0, _⟩ => rfl
    | ⟨1, _⟩ => rfl)
theorem entry1 : V (F := Ideal) m c main_v2 = (truncf .bf16 (m ((c : Thread nD τ).loc main_arg2) : FVec Ideal S4224x4096 .f32) bitsLt_bf16_f32 : FVec Ideal S4224x4096 .bf16) := by
  entry_read
  rfl

/-- The places of the blocks. -/
theorem places : ∀ t : Fin cfg0.N, win0_0.index t = ![0, t.val % 3] ∧ win0_1.index t = ![t.val % 3, t.val / 3] ∧ win0_2.index t = ![0, t.val / 3] :=
  (by decide +kernel : ∀ t : Fin grid0.N, _)

/-- What the accumulator holds at the last block of the contracted places. -/
theorem held (t : Fin cfg0.N) (hf : t.val % 3 = 3 - 1) (j : S1024x1024.Idx) :
    (outsAt0 m c t.val t.isLt).2 j = (0 : EReal) + ∑ s : Fin 3,
      k0_pay1 (F := Ideal) (iblk m c 0 ⟨3 * (t.val / 3) + s.val, Pipeline.run_point_lt_of_flush t hf s⟩)
        (iblk m c 1 ⟨3 * (t.val / 3) + s.val, Pipeline.run_point_lt_of_flush t hf s⟩) j :=
  Pipeline.eq_sum_fin_of_reset_step_apply_of_flush (fun n h => (outsAt0 m c n h).2) 3 (fun _ => (0 : EReal))
    (fun p => k0_pay1 (F := Ideal) (iblk m c 0 p) (iblk m c 1 p))
    (fun t h j => by
      rw [outsAt0_A m c t h (by omega) (by omega)]
      frame_out
      rw [zero_add]
      unfold k0_pay2
      exact congrFun (shapeCast_self _ _) j)
    (fun t h j => by
      by_cases h2 : t.val % 3 = 2
      · rw [outsAt0_C m c t h (by omega) h2]
        frame_out
        simp only [read_unread_whole]
        unfold k0_pay3
        exact congrFun (shapeCast_self _ _) j
      · rw [outsAt0_B m c t h (by omega) h2]
        frame_out
        simp only [read_unread_whole]
        unfold k0_pay3
        exact congrFun (shapeCast_self _ _) j) t hf j

theorem written (t : Fin cfg0.N) (hf : t.val % 3 = 3 - 1) (j : S1024x1024.Idx) :
    (outsAt0 m c t.val t.isLt).1 j = (outsAt0 m c t.val t.isLt).2 j := by
  rw [outsAt0_C m c t (by omega) (by omega) hf]
  frame_out
  rfl

/-- The array the call leaves. -/
theorem left : (dats m 0 c).arrAt 2 cfg0.N = Cert.Reference4Ideal.Read.val_main_v4 (F := Ideal)
    (m ((c : Thread nD τ).loc main_arg0)) (m ((c : Thread nD τ).loc main_arg2)) := by
  refine (dats m 0 c).arrAt_eq_of_covers 2 _ (by decide +kernel) fun t hf y => ?_
  have hm : t.val % 3 = 3 - 1 := (flush0_2 t).mp hf
  blk_simp
  rw [after0_2]
  have a0 : ((win0_2.blk t).view.emb y 0).val = (y 0).val := by blk_simp [(places t).2.2]
  have a1 : ((win0_2.blk t).view.emb y 1).val = t.val / 3 * 1024 + (y 1).val := by blk_simp [(places t).2.2]
  refine (written m c t hm _).trans ((held m c t hm _).trans ?_)
  rw [zero_add, Cert.Reference4Ideal.Read.val_main_v4_apply, Cert.Reference4Ideal.Read.val_main_v2_apply, Cert.Reference4Ideal.Read.val_main_v1_apply]
  refine Eq.trans ?_ (sum_blocks (J := 3) (n := 1408) _)
  refine Finset.sum_congr rfl fun s _ => ?_
  refine (part_apply _ _ _).trans ?_
  refine Finset.sum_congr rfl fun k _ => ?_
  rw [mul_comm]
  refine congrArg₂ (fun a b : EReal => a * b) ?_ ?_
  · refine (congrFun (entry1 m c) _).trans (congrArg (m ((c : Thread nD τ).loc main_arg2)) (funext fun a => Fin.ext ?_))
    match a with
    | ⟨0, _⟩ =>
      blk_simp [(places _).2.1]
      show (3 * (t.val / 3) + s.val) % 3 * 1408 + k.val = s.val * 1408 + k.val
      omega
    | ⟨1, _⟩ =>
      blk_simp [(places _).2.1]
      show (3 * (t.val / 3) + s.val) / 3 * 1024 + (y 1).val = ((win0_2.blk t).view.emb y 1).val
      rw [a1]; omega
  · refine Eq.trans (congrArg (V (F := Ideal) m c main_v1) (funext fun a => Fin.ext ?_))
      ((entry0 m c ((win0_2.blk t).view.emb y 0) ⟨s.val * 1408 + k.val, by omega⟩).trans
        (congrArg (m ((c : Thread nD τ).loc main_arg0)) (funext fun a => Fin.ext ?_)))
    · match a with
      | ⟨0, _⟩ =>
        blk_simp [(places _).1]
        show (y 0).val = ((win0_2.blk t).view.emb y 0).val
        rw [a0]
      | ⟨1, _⟩ =>
        blk_simp [(places _).1]
        show (3 * (t.val / 3) + s.val) % 3 * 1408 + k.val = s.val * 1408 + k.val
        omega
    · match a with
      | ⟨0, _⟩ => rfl
      | ⟨1, _⟩ => rfl

end Cert.Kernel4Ideal.Own
-- ==== Proof.P5.lean ====
module
public import proofs.«01_k».proof.Proof.Products
public import proofs.«01_k».proof.Proof.Gen.Kernel5Ideal.Value
public import proofs.«01_k».proof.Proof.Gen.Reference5Ideal.Read
public import Idealize.ShloMosaic.Lib.Claim
public import Idealize.ShloMosaic.Lib.StableHlo.RunRead
public import Idealize.ShloMosaic.Lib.Pipeline.ReadBack
/-! The gradient of the rows that enter the first product of the two-layer network. -/
@[expose] public section
set_option maxRecDepth 16384
noncomputable section
namespace Cert.Kernel5Ideal.Own
open Idealize.ShloMosaic hiding ix2
open Idealize.ShloMosaic.TcCoe
open Idealize.ShloMosaic.ValueIdx
open Cert.Products
open Cert.Kernel5Ideal.Gen Cert.Kernel5Ideal

/-- The product of two blocks, at a place. -/
theorem part_apply (x : Vec Ideal S1056x1024 .bf16) (w : Vec Ideal S1024x1024 .bf16) (j : S1056x1024.Idx) :
    k0_pay1 (F := Ideal) x w j = ∑ k : Fin 1024, x (ix2 (j 0) k) * w (ix2 (j 1) k) := by
  rw [ext2 j]
  unfold k0_pay1
  simp only [shapeCast_self]
  refine (Ideal.matmul_transposedRhs_apply none x w _ (j 0) (j 1)).trans ?_
  rw [zero_word, zero_add]

variable (m : (ℓ : Loc nD τ sig) → Buf (Elt Ideal) ℓ) (c : Dev nD)

theorem entry0 : V (F := Ideal) m c main_v0 = (truncf .bf16 (m ((c : Thread nD τ).loc main_arg2) : FVec Ideal S4224x4096 .f32) bitsLt_bf16_f32 : FVec Ideal S4224x4096 .bf16) := by
  entry_read
  rfl
theorem entry1 : V (F := Ideal) m c main_v1 = (truncf .bf16 (m ((c : Thread nD τ).loc main_arg1) : FVec Ideal S1024x4096 .f32) bitsLt_bf16_f32 : FVec Ideal S1024x4096 .bf16) := by
  entry_read
  rfl

/-- The places of the blocks. -/
theorem places : ∀ t : Fin cfg0.N, win0_0.index t = ![t.val / 4, t.val % 4] ∧ win0_1.index t = ![0, t.val % 4] ∧ win0_2.index t = ![t.val / 4, 0] :=
  (by decide +kernel : ∀ t : Fin grid0.N, _)

/-- What the accumulator holds at the last block of the contracted places. -/
theorem held (t : Fin cfg0.N) (hf : t.val % 4 = 4 - 1) (j : S1056x1024.Idx) :
    (outsAt0 m c t.val t.isLt).2 j = (0 : EReal) + ∑ s : Fin 4,
      k0_pay1 (F := Ideal) (iblk m c 0 ⟨4 * (t.val / 4) + s.val, Pipeline.run_point_lt_of_flush t hf s⟩)
        (iblk m c 1 ⟨4 * (t.val / 4) + s.val, Pipeline.run_point_lt_of_flush t hf s⟩) j :=
  Pipeline.eq_sum_fin_of_reset_step_apply_of_flush (fun n h => (outsAt0 m c n h).2) 4 (fun _ => (0 : EReal))
    (fun p => k0_pay1 (F := Ideal) (iblk m c 0 p) (iblk m c 1 p))
    (fun t h j => by
      rw [outsAt0_A m c t h (by omega) (by omega)]
      frame_out
      rw [zero_add]
      unfold k0_pay2
      exact congrFun (shapeCast_self _ _) j)
    (fun t h j => by
      by_cases h2 : t.val % 4 = 3
      · rw [outsAt0_C m c t h (by omega) h2]
        frame_out
        simp only [read_unread_whole]
        unfold k0_pay3
        exact congrFun (shapeCast_self _ _) j
      · rw [outsAt0_B m c t h (by omega) h2]
        frame_out
        simp only [read_unread_whole]
        unfold k0_pay3
        exact congrFun (shapeCast_self _ _) j) t hf j

theorem written (t : Fin cfg0.N) (hf : t.val % 4 = 4 - 1) (j : S1056x1024.Idx) :
    (outsAt0 m c t.val t.isLt).1 j = (outsAt0 m c t.val t.isLt).2 j := by
  rw [outsAt0_C m c t (by omega) (by omega) hf]
  frame_out

/-- The array the call leaves. -/
theorem left : (dats m 0 c).arrAt 2 cfg0.N = Cert.Reference5Ideal.Read.val_main_v3 (F := Ideal)
    (m ((c : Thread nD τ).loc main_arg1)) (m ((c : Thread nD τ).loc main_arg2)) := by
  refine (dats m 0 c).arrAt_eq_of_covers 2 _ (by decide +kernel) fun t hf y => ?_
  have hm : t.val % 4 = 4 - 1 := (flush0_2 t).mp hf
  blk_simp
  rw [after0_2]
  have a0 : ((win0_2.blk t).view.emb y 0).val = t.val / 4 * 1056 + (y 0).val := by blk_simp [(places t).2.2]
  have a1 : ((win0_2.blk t).view.emb y 1).val = (y 1).val := by blk_simp [(places t).2.2]
  refine (written m c t hm _).trans ((held m c t hm _).trans ?_)
  rw [zero_add, Cert.Reference5Ideal.Read.val_main_v3_apply]
  refine Eq.trans ?_ (sum_blocks (J := 4) (n := 1024) _)
  refine Finset.sum_congr rfl fun s _ => ?_
  refine (part_apply _ _ _).trans ?_
  refine Finset.sum_congr rfl fun k _ => ?_
  refine congrArg₂ (fun a b : EReal => a * b) ?_ ?_
  · refine (congrFun (entry0 m c) _).trans (congrArg (m ((c : Thread nD τ).loc main_arg2)) (funext fun a => Fin.ext ?_))
    match a with
    | ⟨0, _⟩ =>
      blk_simp [(places _).1]
      show (4 * (t.val / 4) + s.val) / 4 * 1056 + (y 0).val = ((win0_2.blk t).view.emb y 0).val
      rw [a0]; omega
    | ⟨1, _⟩ =>
      blk_simp [(places _).1]
      show (4 * (t.val / 4) + s.val) % 4 * 1024 + k.val = s.val * 1024 + k.val
      omega
  · refine (congrFun (entry1 m c) _).trans (congrArg (m ((c : Thread nD τ).loc main_arg1)) (funext fun a => Fin.ext ?_))
    match a with
    | ⟨0, _⟩ =>
      blk_simp [(places _).2.1]
      show (y 1).val = ((win0_2.blk t).view.emb y 1).val
      rw [a1]
    | ⟨1, _⟩ =>
      blk_simp [(places _).2.1]
      show (4 * (t.val / 4) + s.val) % 4 * 1024 + k.val = s.val * 1024 + k.val
      omega

end Cert.Kernel5Ideal.Own
-- ==== Proof.P6.lean ====
module
public import proofs.«01_k».proof.Proof.Products
public import proofs.«01_k».proof.Proof.Gen.Kernel6Ideal.Value
public import proofs.«01_k».proof.Proof.Gen.Reference6Ideal.Read
public import Idealize.ShloMosaic.Lib.Claim
public import Idealize.ShloMosaic.Lib.StableHlo.RunRead
public import Idealize.ShloMosaic.Lib.Pipeline.ReadBack
/-! The gradient of the weights of the projection in front of the attention and the recurrences. -/
@[expose] public section
set_option maxRecDepth 16384
noncomputable section
namespace Cert.Kernel6Ideal.Own
open Idealize.ShloMosaic hiding ix2
open Idealize.ShloMosaic.TcCoe
open Idealize.ShloMosaic.ValueIdx
open Cert.Products
open Cert.Kernel6Ideal.Gen Cert.Kernel6Ideal

/-- The product of two blocks, at a place. -/
theorem part_apply (x : Vec Ideal S1024x1408 .bf16) (w : Vec Ideal S1408x1664 .bf16) (j : S1024x1664.Idx) :
    k0_pay1 (F := Ideal) x w j = ∑ k : Fin 1408, x (ix2 (j 0) k) * w (ix2 k (j 1)) := by
  rw [ext2 j]
  unfold k0_pay1
  simp only [shapeCast_self]
  refine (Ideal.matmul_plain_apply none x w _ (j 0) (j 1)).trans ?_
  rw [zero_word, zero_add]

variable (m : (ℓ : Loc nD τ sig) → Buf (Elt Ideal) ℓ) (c : Dev nD)

/-- The left operand is the transposed rows. -/
theorem entry0 (i : Fin 1024) (k : Fin 4224) :
    (V (F := Ideal) m c main_v1 : FVec Ideal S1024x4224 .bf16) (ix2 i k) = (m ((c : Thread nD τ).loc main_arg0) : FVec Ideal S4224x1024 .f32) (ix2 k i) := by
  have e : (V (F := Ideal) m c main_v1 : FVec Ideal S1024x4224 .bf16) = transpose S1024x4224 [1, 0]
      (truncf .bf16 (m ((c : Thread nD τ).loc main_arg0) : FVec Ideal S4224x1024 .f32) bitsLt_bf16_f32 : FVec Ideal S4224x1024 .bf16) transposes_S4224x1024_S1024x4224_1_0 := by
    entry_read
    rfl
  rw [e]
  exact transpose_apply [1, 0] _ _ (ix2 i k) (ix2 k i) (fun b => match b with
    | ⟨0, _⟩ => rfl
    | ⟨1, _⟩ => rfl)
theorem entry1 : V (F := Ideal) m c main_v2 = (truncf .bf16 (m ((c : Thread nD τ).loc main_arg2) : FVec Ideal S4224x6656 .f32) bitsLt_bf16_f32 : FVec Ideal S4224x6656 .bf16) := by
  entry_read
  rfl

/-- The places of the blocks. -/
theorem places : ∀ t : Fin cfg0.N, win0_0.index t = ![0, t.val % 3] ∧ win0_1.index t = ![t.val % 3, t.val / 3] ∧ win0_2.index t = ![0, t.val / 3] :=
  (by decide +kernel : ∀ t : Fin grid0.N, _)

/-- What the accumulator holds at the last block of the contracted places. -/
theorem held (t : Fin cfg0.N) (hf : t.val % 3 = 3 - 1) (j : S1024x1664.Idx) :
    (outsAt0 m c t.val t.isLt).2 j = (0 : EReal) + ∑ s : Fin 3,
      k0_pay1 (F := Ideal) (iblk m c 0 ⟨3 * (t.val / 3) + s.val, Pipeline.run_point_lt_of_flush t hf s⟩)
        (iblk m c 1 ⟨3 * (t.val / 3) + s.val, Pipeline.run_point_lt_of_flush t hf s⟩) j :=
  Pipeline.eq_sum_fin_of_reset_step_apply_of_flush (fun n h => (outsAt0 m c n h).2) 3 (fun _ => (0 : EReal))
    (fun p => k0_pay1 (F := Ideal) (iblk m c 0 p) (iblk m c 1 p))
    (fun t h j => by
      rw [outsAt0_A m c t h (by omega) (by omega)]
      frame_out
      rw [zero_add]
      unfold k0_pay2
      exact congrFun (shapeCast_self _ _) j)
    (fun t h j => by
      by_cases h2 : t.val % 3 = 2
      · rw [outsAt0_C m c t h (by omega) h2]
        frame_out
        simp only [read_unread_whole]
        unfold k0_pay3
        exact congrFun (shapeCast_self _ _) j
      · rw [outsAt0_B m c t h (by omega) h2]
        frame_out
        simp only [read_unread_whole]
        unfold k0_pay3
        exact congrFun (shapeCast_self _ _) j) t hf j

theorem written (t : Fin cfg0.N) (hf : t.val % 3 = 3 - 1) (j : S1024x1664.Idx) :
    (outsAt0 m c t.val t.isLt).1 j = (outsAt0 m c t.val t.isLt).2 j := by
  rw [outsAt0_C m c t (by omega) (by omega) hf]
  frame_out
  rfl

/-- The array the call leaves. -/
theorem left : (dats m 0 c).arrAt 2 cfg0.N = Cert.Reference6Ideal.Read.val_main_v4 (F := Ideal)
    (m ((c : Thread nD τ).loc main_arg0)) (m ((c : Thread nD τ).loc main_arg2)) := by
  refine (dats m 0 c).arrAt_eq_of_covers 2 _ (by decide +kernel) fun t hf y => ?_
  have hm : t.val % 3 = 3 - 1 := (flush0_2 t).mp hf
  blk_simp
  rw [after0_2]
  have a0 : ((win0_2.blk t).view.emb y 0).val = (y 0).val := by blk_simp [(places t).2.2]
  have a1 : ((win0_2.blk t).view.emb y 1).val = t.val / 3 * 1664 + (y 1).val := by blk_simp [(places t).2.2]
  refine (written m c t hm _).trans ((held m c t hm _).trans ?_)
  rw [zero_add, Cert.Reference6Ideal.Read.val_main_v4_apply, Cert.Reference6Ideal.Read.val_main_v2_apply, Cert.Reference6Ideal.Read.val_main_v1_apply]
  refine Eq.trans ?_ (sum_blocks (J := 3) (n := 1408) _)
  refine Finset.sum_congr rfl fun s _ => ?_
  refine (part_apply _ _ _).trans ?_
  refine Finset.sum_congr rfl fun k _ => ?_
  rw [mul_comm]
  refine congrArg₂ (fun a b : EReal => a * b) ?_ ?_
  · refine (congrFun (entry1 m c) _).trans (congrArg (m ((c : Thread nD τ).loc main_arg2)) (funext fun a => Fin.ext ?_))
    match a with
    | ⟨0, _⟩ =>
      blk_simp [(places _).2.1]
      show (3 * (t.val / 3) + s.val) % 3 * 1408 + k.val = s.val * 1408 + k.val
      omega
    | ⟨1, _⟩ =>
      blk_simp [(places _).2.1]
      show (3 * (t.val / 3) + s.val) / 3 * 1664 + (y 1).val = ((win0_2.blk t).view.emb y 1).val
      rw [a1]; omega
  · refine Eq.trans (congrArg (V (F := Ideal) m c main_v1) (funext fun a => Fin.ext ?_))
      ((entry0 m c ((win0_2.blk t).view.emb y 0) ⟨s.val * 1408 + k.val, by omega⟩).trans
        (congrArg (m ((c : Thread nD τ).loc main_arg0)) (funext fun a => Fin.ext ?_)))
    · match a with
      | ⟨0, _⟩ =>
        blk_simp [(places _).1]
        show (y 0).val = ((win0_2.blk t).view.emb y 0).val
        rw [a0]
      | ⟨1, _⟩ =>
        blk_simp [(places _).1]
        show (3 * (t.val / 3) + s.val) % 3 * 1408 + k.val = s.val * 1408 + k.val
        omega
    · match a with
      | ⟨0, _⟩ => rfl
      | ⟨1, _⟩ => rfl

end Cert.Kernel6Ideal.Own
-- ==== Proof.P7.lean ====
module
public import proofs.«01_k».proof.Proof.Products
public import proofs.«01_k».proof.Proof.Gen.Kernel7Ideal.Value
public import proofs.«01_k».proof.Proof.Gen.Reference7Ideal.Read
public import Idealize.ShloMosaic.Lib.Claim
public import Idealize.ShloMosaic.Lib.StableHlo.RunRead
public import Idealize.ShloMosaic.Lib.Pipeline.ReadBack
/-! The gradient of the rows that enter the projection in front of the attention and the recurrences. -/
@[expose] public section
set_option maxRecDepth 16384
noncomputable section
namespace Cert.Kernel7Ideal.Own
open Idealize.ShloMosaic hiding ix2
open Idealize.ShloMosaic.TcCoe
open Idealize.ShloMosaic.ValueIdx
open Cert.Products
open Cert.Kernel7Ideal.Gen Cert.Kernel7Ideal

/-- The product of two blocks, at a place. -/
theorem part_apply (x : Vec Ideal S1056x1664 .bf16) (w : Vec Ideal S1024x1664 .bf16) (j : S1056x1024.Idx) :
    k0_pay1 (F := Ideal) x w j = ∑ k : Fin 1664, x (ix2 (j 0) k) * w (ix2 (j 1) k) := by
  rw [ext2 j]
  unfold k0_pay1
  simp only [shapeCast_self]
  refine (Ideal.matmul_transposedRhs_apply none x w _ (j 0) (j 1)).trans ?_
  rw [zero_word, zero_add]

variable (m : (ℓ : Loc nD τ sig) → Buf (Elt Ideal) ℓ) (c : Dev nD)

theorem entry0 : V (F := Ideal) m c main_v0 = (truncf .bf16 (m ((c : Thread nD τ).loc main_arg2) : FVec Ideal S4224x6656 .f32) bitsLt_bf16_f32 : FVec Ideal S4224x6656 .bf16) := by
  entry_read
  rfl
theorem entry1 : V (F := Ideal) m c main_v1 = (truncf .bf16 (m ((c : Thread nD τ).loc main_arg1) : FVec Ideal S1024x6656 .f32) bitsLt_bf16_f32 : FVec Ideal S1024x6656 .bf16) := by
  entry_read
  rfl

/-- The places of the blocks. -/
theorem places : ∀ t : Fin cfg0.N, win0_0.index t = ![t.val / 4, t.val % 4] ∧ win0_1.index t = ![0, t.val % 4] ∧ win0_2.index t = ![t.val / 4, 0] :=
  (by decide +kernel : ∀ t : Fin grid0.N, _)

/-- What the accumulator holds at the last block of the contracted places. -/
theorem held (t : Fin cfg0.N) (hf : t.val % 4 = 4 - 1) (j : S1056x1024.Idx) :
    (outsAt0 m c t.val t.isLt).2 j = (0 : EReal) + ∑ s : Fin 4,
      k0_pay1 (F := Ideal) (iblk m c 0 ⟨4 * (t.val / 4) + s.val, Pipeline.run_point_lt_of_flush t hf s⟩)
        (iblk m c 1 ⟨4 * (t.val / 4) + s.val, Pipeline.run_point_lt_of_flush t hf s⟩) j :=
  Pipeline.eq_sum_fin_of_reset_step_apply_of_flush (fun n h => (outsAt0 m c n h).2) 4 (fun _ => (0 : EReal))
    (fun p => k0_pay1 (F := Ideal) (iblk m c 0 p) (iblk m c 1 p))
    (fun t h j => by
      rw [outsAt0_A m c t h (by omega) (by omega)]
      frame_out
      rw [zero_add]
      unfold k0_pay2
      exact congrFun (shapeCast_self _ _) j)
    (fun t h j => by
      by_cases h2 : t.val % 4 = 3
      · rw [outsAt0_C m c t h (by omega) h2]
        frame_out
        simp only [read_unread_whole]
        unfold k0_pay3
        exact congrFun (shapeCast_self _ _) j
      · rw [outsAt0_B m c t h (by omega) h2]
        frame_out
        simp only [read_unread_whole]
        unfold k0_pay3
        exact congrFun (shapeCast_self _ _) j) t hf j

theorem written (t : Fin cfg0.N) (hf : t.val % 4 = 4 - 1) (j : S1056x1024.Idx) :
    (outsAt0 m c t.val t.isLt).1 j = (outsAt0 m c t.val t.isLt).2 j := by
  rw [outsAt0_C m c t (by omega) (by omega) hf]
  frame_out

/-- The array the call leaves. -/
theorem left : (dats m 0 c).arrAt 2 cfg0.N = Cert.Reference7Ideal.Read.val_main_v3 (F := Ideal)
    (m ((c : Thread nD τ).loc main_arg1)) (m ((c : Thread nD τ).loc main_arg2)) := by
  refine (dats m 0 c).arrAt_eq_of_covers 2 _ (by decide +kernel) fun t hf y => ?_
  have hm : t.val % 4 = 4 - 1 := (flush0_2 t).mp hf
  blk_simp
  rw [after0_2]
  have a0 : ((win0_2.blk t).view.emb y 0).val = t.val / 4 * 1056 + (y 0).val := by blk_simp [(places t).2.2]
  have a1 : ((win0_2.blk t).view.emb y 1).val = (y 1).val := by blk_simp [(places t).2.2]
  refine (written m c t hm _).trans ((held m c t hm _).trans ?_)
  rw [zero_add, Cert.Reference7Ideal.Read.val_main_v3_apply]
  refine Eq.trans ?_ (sum_blocks (J := 4) (n := 1664) _)
  refine Finset.sum_congr rfl fun s _ => ?_
  refine (part_apply _ _ _).trans ?_
  refine Finset.sum_congr rfl fun k _ => ?_
  refine congrArg₂ (fun a b : EReal => a * b) ?_ ?_
  · refine (congrFun (entry0 m c) _).trans (congrArg (m ((c : Thread nD τ).loc main_arg2)) (funext fun a => Fin.ext ?_))
    match a with
    | ⟨0, _⟩ =>
      blk_simp [(places _).1]
      show (4 * (t.val / 4) + s.val) / 4 * 1056 + (y 0).val = ((win0_2.blk t).view.emb y 0).val
      rw [a0]; omega
    | ⟨1, _⟩ =>
      blk_simp [(places _).1]
      show (4 * (t.val / 4) + s.val) % 4 * 1664 + k.val = s.val * 1664 + k.val
      omega
  · refine (congrFun (entry1 m c) _).trans (congrArg (m ((c : Thread nD τ).loc main_arg1)) (funext fun a => Fin.ext ?_))
    match a with
    | ⟨0, _⟩ =>
      blk_simp [(places _).2.1]
      show (y 1).val = ((win0_2.blk t).view.emb y 1).val
      rw [a1]
    | ⟨1, _⟩ =>
      blk_simp [(places _).2.1]
      show (4 * (t.val / 4) + s.val) % 4 * 1664 + k.val = s.val * 1664 + k.val
      omega

end Cert.Kernel7Ideal.Own
-- ==== Proof.P8.lean ====
module
public import proofs.«01_k».proof.Proof.Products
public import proofs.«01_k».proof.Proof.Gen.Kernel8Ideal.Value
public import proofs.«01_k».proof.Proof.Gen.Reference8Ideal.Read
public import Idealize.ShloMosaic.Lib.Claim
public import Idealize.ShloMosaic.Lib.IdealHost
public import Idealize.ShloMosaic.Lib.ValueLayout
public import Idealize.ShloMosaic.Lib.ValueLayoutCasts
public import Idealize.ShloMosaic.Lib.StableHlo.RunRead
public import Idealize.ShloMosaic.Lib.Pipeline.ReadBack
public import Idealize.ShloMosaic.PureOps.Ideal.Laws
/-! The gradient of the norm in front of the two-layer network. -/
@[expose] public section
set_option maxRecDepth 16384
noncomputable section
namespace Cert.Kernel8Ideal.Own
open Idealize.ShloMosaic hiding ix1 ix2
open Idealize.ShloMosaic.TcCoe
open Idealize.ShloMosaic.ValueIdx
open Cert.Products
open Cert.Kernel8Ideal.Gen Cert.Kernel8Ideal

/-- The length of a row. -/
def wide : EReal := Ideal.ofBits .f32 0x44800000#32
/-- The mean square of a row, and the small number added to it. -/
def mean (x : Fin 1024 → EReal) : EReal := Ideal.div (∑ k, x k * x k) wide + Ideal.ofBits .f32 0x358637BD#32
/-- What a row is multiplied by. -/
def inv (x : Fin 1024 → EReal) : EReal := Ideal.rsqrt (mean x)
/-- What the gradient of the multiplier adds to a row, per number of the row. -/
def pull (x g d : Fin 1024 → EReal) : EReal :=
  Ideal.div ((∑ k, x k * (d k * g k)) * (Ideal.ofBits .f32 0xBF000000#32 * Ideal.div (inv x) (mean x))) wide

/-! ## The sums and the repeated columns -/

theorem sum_row (v : FVec Ideal S384x1024 .f32) (p : Fin 384) :
    (multiReduction .add [1] S384 v 0x00000000#32 reduces_S384x1024_S384 (.inl rfl) rfl (ix1 p) : EReal) = ∑ k : Fin 1024, v (ix2 p k) := by
  refine (Ideal.multiReduction_add_single _ _ _ _ _ (ix1 p)).trans (Finset.sum_congr rfl fun k _ => congrArg v ?_)
  funext a
  match a with
  | ⟨0, _⟩ => rfl
  | ⟨1, _⟩ => rfl
theorem sum_column (v : FVec Ideal S384x1024 .f32) (k : Fin 1024) :
    (multiReduction .add [0] S1024 v 0x00000000#32 reduces_S384x1024_S1024 (.inl rfl) rfl (ix1 k) : EReal) = ∑ p : Fin 384, v (ix2 p k) := by
  refine (Ideal.multiReduction_add_single _ _ _ _ _ (ix1 k)).trans (Finset.sum_congr rfl fun p _ => congrArg v ?_)
  funext a
  match a with
  | ⟨0, _⟩ => rfl
  | ⟨1, _⟩ => rfl
theorem sum_one (v : FVec Ideal S384x1 .f32) (p : Fin 384) :
    (multiReduction .add [1] S384 v 0x00000000#32 reduces_S384x1_S384 (.inl rfl) rfl (ix1 p) : EReal) = v (ix2 p 0) := by
  refine (Ideal.multiReduction_add_single _ _ _ _ _ (ix1 p)).trans ((Fin.sum_univ_one _).trans (congrArg v ?_))
  funext a
  match a with
  | ⟨0, _⟩ => rfl
  | ⟨1, _⟩ => rfl
theorem repeated (v : FVec Ideal S384x1 .f32) (p : Fin 384) (k : Fin 1024) :
    (broadcastTo S384x1024 v broadcasts_S384x1_S384x1024 (ix2 p k) : EReal) = v (ix2 p 0) :=
  broadcastTo_apply v _ (ix2 p k) (ix2 p 0) (fun a => match a with
    | ⟨0, _⟩ => rfl
    | ⟨1, _⟩ => rfl)

/-! ## What a point computes -/

theorem mean_apply (x : Vec Ideal S384x1024 .f32) (p : Fin 384) (u : Fin 1) :
    (k0_pay3 (F := Ideal) x (ix2 p u) : EReal) = mean fun k => x (ix2 p k) := by
  unfold k0_pay3 mean
  refine congrArg (fun z : EReal => Ideal.div z wide + Ideal.ofBits .f32 0x358637BD#32) ?_
  refine (shapeCast_a_a1_apply _ _ p u).trans ((sum_row _ p).trans ?_)
  rfl
theorem inv_apply (x : Vec Ideal S384x1024 .f32) (p : Fin 384) (u : Fin 1) :
    (k0_pay4 (F := Ideal) x (ix2 p u) : EReal) = inv fun k => x (ix2 p k) := by
  unfold k0_pay4 inv
  exact congrArg Ideal.rsqrt (mean_apply x p u)
theorem scale_apply (x d : Vec Ideal S384x1024 .f32) (k : Fin 1024) (u : Fin 1) :
    (k0_pay5 (F := Ideal) x d (ix2 u k) : EReal) = ∑ p : Fin 384, x (ix2 p k) * (inv fun k => x (ix2 p k)) * d (ix2 p k) := by
  unfold k0_pay5
  refine (shapeCast_a_1a_apply _ _ u k).trans ((sum_column _ k).trans (Finset.sum_congr rfl fun p _ => ?_))
  exact congrArg (fun z : EReal => x (ix2 p k) * z * d (ix2 p k)) ((repeated _ p k).trans (inv_apply x p 0))
theorem row_apply (x : Vec Ideal S384x1024 .f32) (g : Vec Ideal S1x1024 .f32) (d r : Vec Ideal S384x1024 .f32) (p : Fin 384) (k : Fin 1024) :
    (k0_pay6 (F := Ideal) x g d r (ix2 p k) : EReal) =
      (d (ix2 p k) * g (ix2 0 k) * (inv fun k => x (ix2 p k))
        + x (ix2 p k) * pull (fun k => x (ix2 p k)) (fun k => g (ix2 0 k)) (fun k => d (ix2 p k))
        + pull (fun k => x (ix2 p k)) (fun k => g (ix2 0 k)) (fun k => d (ix2 p k)) * x (ix2 p k)) + r (ix2 p k) := by
  have hg : ∀ k : Fin 1024, (broadcastTo S384x1024 (g : FVec Ideal S1x1024 .f32) broadcasts_S1x1024_S384x1024 (ix2 p k) : EReal) = g (ix2 0 k) :=
    fun k => broadcastTo_1b_ab_apply _ _ p k
  unfold k0_pay6
  simp only [shapeCast_self]
  have hz : ∀ z : EReal, ∀ e : EReal, z = pull (fun k => x (ix2 p k)) (fun k => g (ix2 0 k)) (fun k => d (ix2 p k)) →
      e = d (ix2 p k) * g (ix2 0 k) * (inv fun k => x (ix2 p k)) →
      e + x (ix2 p k) * z + z * x (ix2 p k) + r (ix2 p k) = (d (ix2 p k) * g (ix2 0 k) * (inv fun k => x (ix2 p k))
        + x (ix2 p k) * pull (fun k => x (ix2 p k)) (fun k => g (ix2 0 k)) (fun k => d (ix2 p k))
        + pull (fun k => x (ix2 p k)) (fun k => g (ix2 0 k)) (fun k => d (ix2 p k)) * x (ix2 p k)) + r (ix2 p k) := by
    intro z e h h'
    rw [h, h']
  refine hz _ _ ?_ ?_
  · refine (repeated _ p k).trans ((shapeCast_a_a1_apply _ _ p 0).trans ((sum_one _ p).trans ?_))
    unfold pull
    refine congrArg (fun z : EReal => Ideal.div z wide) (congrArg₂ (fun a b : EReal => a * b) ?_ ?_)
    · refine (shapeCast_a_a1_apply _ _ p 0).trans ((sum_row _ p).trans (Finset.sum_congr rfl fun k _ => ?_))
      exact congrArg (fun z : EReal => x (ix2 p k) * (d (ix2 p k) * z)) (hg k)
    · exact congrArg (fun z : EReal => Ideal.ofBits .f32 0xBF000000#32 * z) (congrArg₂ Ideal.div (inv_apply x p 0) (mean_apply x p 0))
  · exact congrArg₂ (fun a b : EReal => d (ix2 p k) * a * b) (hg k) ((repeated _ p k).trans (inv_apply x p 0))

/-! ## The reference -/

theorem reference_mean (x : FVec Ideal S4224x1024 .f32) (i : Cert.Reference8Ideal.S4224x1.Idx) :
    (Cert.Reference8Ideal.Read.val_main_v6 (F := Ideal) x i : EReal) = mean fun k => x (ix2 (i 0) k) := by
  unfold mean
  rw [Cert.Reference8Ideal.Read.val_main_v6_apply, Cert.Reference8Ideal.Read.val_main_v4_apply, Cert.Reference8Ideal.Read.val_main_v2_apply,
    Cert.Reference8Ideal.Read.val_main_v1_apply, Cert.Reference8Ideal.Read.val_main_v3_apply, Cert.Reference8Ideal.Read.val_main_v5_apply]
  refine congrArg (fun z : EReal => Ideal.div z wide + Ideal.ofBits .f32 0x358637BD#32) ?_
  refine (congrArg (· + _) Ideal.ofBits_zero_f32).trans ((zero_add _).trans (Finset.sum_congr rfl fun k _ => ?_))
  have e : Cert.Reference8Ideal.Read.idx_main_v1 (Cert.Reference8Ideal.Read.idx_main_v2 i) k = ix2 (i 0) k := by
    funext a
    match a with
    | ⟨0, _⟩ => rfl
    | ⟨1, _⟩ => rfl
  rw [e]
  rfl
theorem reference_inv (x : FVec Ideal S4224x1024 .f32) (i : Cert.Reference8Ideal.S4224x1.Idx) :
    (Cert.Reference8Ideal.Read.val_main_v7 (F := Ideal) x i : EReal) = inv fun k => x (ix2 (i 0) k) :=
  congrArg Ideal.rsqrt (reference_mean x i)
theorem reference_pull (x : FVec Ideal S4224x1024 .f32) (g : FVec Ideal S1024 .f32) (d : FVec Ideal S4224x1024 .f32) (i : S4224x1024.Idx) :
    (Cert.Reference8Ideal.Read.val_main_v32 (F := Ideal) x g d i : EReal) =
      pull (fun k => x (ix2 (i 0) k)) (fun k => g (ix1 k)) (fun k => d (ix2 (i 0) k)) := by
  unfold pull
  rw [Cert.Reference8Ideal.Read.val_main_v32_apply, Cert.Reference8Ideal.Read.val_main_v31_apply]
  refine (congrArg (· + _) Ideal.ofBits_zero_f32).trans ((zero_add _).trans ((Fin.sum_univ_one _).trans ?_))
  rw [Cert.Reference8Ideal.Read.val_main_v30_apply, Cert.Reference8Ideal.Read.val_main_v28_apply, Cert.Reference8Ideal.Read.val_main_v24_apply,
    Cert.Reference8Ideal.Read.val_main_v23_apply, Cert.Reference8Ideal.Read.val_main_v29_apply, Cert.Reference8Ideal.Read.val_main_v10_apply,
    Cert.Reference8Ideal.Read.val_main_v8_apply, Cert.Reference8Ideal.Read.val_main_v9_apply]
  refine congrArg (fun z : EReal => Ideal.div z wide) (congrArg₂ (fun a b : EReal => a * b) ?_ ?_)
  · refine (congrArg (· + _) Ideal.ofBits_zero_f32).trans ((zero_add _).trans (Finset.sum_congr rfl fun k _ => ?_))
    have e : Cert.Reference8Ideal.Read.idx_main_v23 (Cert.Reference8Ideal.Read.idx_main_v24 (Cert.Reference8Ideal.Read.idx_main_v31 (Cert.Reference8Ideal.Read.idx_main_v32 i) 0)) k = ix2 (i 0) k := by
      funext a
      match a with
      | ⟨0, _⟩ => exact Fin.ext (by show (i 0).val * 1 + 0 = (i 0).val; omega)
      | ⟨1, _⟩ => rfl
    rw [Cert.Reference8Ideal.Read.val_main_v22_apply, Cert.Reference8Ideal.Read.val_main_v20_apply, Cert.Reference8Ideal.Read.val_main_v19_apply,
      Cert.Reference8Ideal.Read.val_main_v13_apply, e]
    refine congrArg (fun z : EReal => x (ix2 (i 0) k) * (d (ix2 (i 0) k) * z)) (congrArg g (funext fun a => ?_))
    match a with
    | ⟨0, _⟩ => rfl
  · refine congrArg (fun z : EReal => Ideal.ofBits .f32 0xBF000000#32 * z) (congrArg₂ Ideal.div (reference_inv x _) (reference_mean x _))
theorem reference_row (x : FVec Ideal S4224x1024 .f32) (g : FVec Ideal S1024 .f32) (d r : FVec Ideal S4224x1024 .f32) (i : S4224x1024.Idx) :
    (Cert.Reference8Ideal.Read.val_main_v36 (F := Ideal) x g d r i : EReal) =
      r i + d i * g (ix1 (i 1)) * (inv fun k => x (ix2 (i 0) k))
        + x i * pull (fun k => x (ix2 (i 0) k)) (fun k => g (ix1 k)) (fun k => d (ix2 (i 0) k))
        + pull (fun k => x (ix2 (i 0) k)) (fun k => g (ix1 k)) (fun k => d (ix2 (i 0) k)) * x i := by
  rw [Cert.Reference8Ideal.Read.val_main_v36_apply, Cert.Reference8Ideal.Read.val_main_v34_apply, Cert.Reference8Ideal.Read.val_main_v27_apply,
    Cert.Reference8Ideal.Read.val_main_v33_apply, Cert.Reference8Ideal.Read.val_main_v35_apply, Cert.Reference8Ideal.Read.val_main_v26_apply,
    Cert.Reference8Ideal.Read.val_main_v20_apply, Cert.Reference8Ideal.Read.val_main_v19_apply, Cert.Reference8Ideal.Read.val_main_v13_apply,
    Cert.Reference8Ideal.Read.val_main_v25_apply, reference_pull]
  refine congrArg (fun z : EReal => r i + z + x i * _ + _ * x i) (congrArg₂ (fun a b : EReal => d i * a * b) (congrArg g (funext fun a => ?_)) (reference_inv x _))
  match a with
  | ⟨0, _⟩ => rfl
theorem reference_scale (x d : FVec Ideal S4224x1024 .f32) (i : S1x1024.Idx) :
    (Cert.Reference8Ideal.Read.val_main_v37 (F := Ideal) x d i : EReal) =
      ∑ p : Fin 4224, x (ix2 p (i 1)) * (inv fun k => x (ix2 p k)) * d (ix2 p (i 1)) := by
  rw [Cert.Reference8Ideal.Read.val_main_v37_apply, Cert.Reference8Ideal.Read.val_main_v21_apply]
  refine (congrArg (· + _) Ideal.ofBits_zero_f32).trans ((zero_add _).trans ((Fin.sum_univ_one _).trans ?_))
  rw [Cert.Reference8Ideal.Read.val_main_v18_apply, Cert.Reference8Ideal.Read.val_main_v17_apply]
  refine (congrArg (· + _) Ideal.ofBits_zero_f32).trans ((zero_add _).trans (Finset.sum_congr rfl fun p _ => ?_))
  have e : Cert.Reference8Ideal.Read.idx_main_v17 (Cert.Reference8Ideal.Read.idx_main_v18 (Cert.Reference8Ideal.Read.idx_main_v21 (Cert.Reference8Ideal.Read.idx_main_v37 i) 0)) p = ix2 p (i 1) := by
    funext a
    match a with
    | ⟨0, _⟩ => rfl
    | ⟨1, _⟩ => exact Fin.ext (by
        have h0 : (i 0).val < 1 := (i 0).isLt
        show 0 * 1024 + ((i 0).val * 1024 + (i 1).val) = (i 1).val
        omega)
  rw [Cert.Reference8Ideal.Read.val_main_v16_apply, Cert.Reference8Ideal.Read.val_main_v12_apply, Cert.Reference8Ideal.Read.val_main_v11_apply, e]
  exact congrArg (fun z : EReal => x (ix2 p (i 1)) * z * d (ix2 p (i 1))) (reference_inv x _)

/-! ## The blocks -/

variable (m : (ℓ : Loc nD τ sig) → Buf (Elt Ideal) ℓ) (c : Dev nD)

theorem entry0 : V (F := Ideal) m c main_arg0 = (m ((c : Thread nD τ).loc main_arg0) : FVec Ideal S4224x1024 .f32) := by
  entry_read
  rfl
theorem entry1 (u : Fin 1) (k : Fin 1024) : (V (F := Ideal) m c main_v0 : FVec Ideal S1x1024 .f32) (ix2 u k) = (m ((c : Thread nD τ).loc main_arg1) : FVec Ideal S1024 .f32) (ix1 k) := by
  have e : (V (F := Ideal) m c main_v0 : FVec Ideal S1x1024 .f32) = shapeCast S1x1024 (m ((c : Thread nD τ).loc main_arg1) : FVec Ideal S1024 .f32) shapeCasts_S1024_S1x1024 := by
    entry_read
    rfl
  rw [e]
  exact shapeCast_a_1a_apply _ _ u k
theorem entry2 : V (F := Ideal) m c main_arg2 = (m ((c : Thread nD τ).loc main_arg2) : FVec Ideal S4224x1024 .f32) := by
  entry_read
  rfl
theorem entry3 : V (F := Ideal) m c main_arg3 = (m ((c : Thread nD τ).loc main_arg3) : FVec Ideal S4224x1024 .f32) := by
  entry_read
  rfl

/-- The places of the blocks. -/
theorem places : ∀ t : Fin cfg0.N, win0_0.index t = ![t.val, 0] ∧ win0_1.index t = ![0, 0] ∧ win0_2.index t = ![t.val, 0] ∧
    win0_3.index t = ![t.val, 0] ∧ win0_4.index t = ![t.val, 0] ∧ win0_5.index t = ![0, 0] :=
  (by decide +kernel : ∀ t : Fin grid0.N, _)

theorem block0 (t : Fin cfg0.N) (p : Fin 384) (k : Fin 1024) (q : Fin 4224) (h : q.val = t.val * 384 + p.val) :
    ((iblk m c 0 t : Vec Ideal S384x1024 .f32) (ix2 p k) : EReal) = (m ((c : Thread nD τ).loc main_arg0) : FVec Ideal S4224x1024 .f32) (ix2 q k) := by
  refine (congrFun (entry0 m c) _).trans (congrArg (m ((c : Thread nD τ).loc main_arg0)) (funext fun a => Fin.ext ?_))
  match a with
  | ⟨0, _⟩ =>
    refine Eq.trans ?_ h.symm
    blk_simp [(places t).1]
  | ⟨1, _⟩ => blk_simp [(places t).1]
theorem block1 (t : Fin cfg0.N) (k : Fin 1024) :
    ((iblk m c 1 t : Vec Ideal S1x1024 .f32) (ix2 0 k) : EReal) = (m ((c : Thread nD τ).loc main_arg1) : FVec Ideal S1024 .f32) (ix1 k) := by
  refine Eq.trans (congrArg (V (F := Ideal) m c main_v0) (funext fun a => Fin.ext ?_)) (entry1 m c 0 k)
  match a with
  | ⟨0, _⟩ => blk_simp [(places t).2.1]
  | ⟨1, _⟩ => blk_simp [(places t).2.1]
theorem block2 (t : Fin cfg0.N) (p : Fin 384) (k : Fin 1024) (q : Fin 4224) (h : q.val = t.val * 384 + p.val) :
    ((iblk m c 2 t : Vec Ideal S384x1024 .f32) (ix2 p k) : EReal) = (m ((c : Thread nD τ).loc main_arg2) : FVec Ideal S4224x1024 .f32) (ix2 q k) := by
  refine (congrFun (entry2 m c) _).trans (congrArg (m ((c : Thread nD τ).loc main_arg2)) (funext fun a => Fin.ext ?_))
  match a with
  | ⟨0, _⟩ =>
    refine Eq.trans ?_ h.symm
    blk_simp [(places t).2.2.1]
  | ⟨1, _⟩ => blk_simp [(places t).2.2.1]
theorem block3 (t : Fin cfg0.N) (p : Fin 384) (k : Fin 1024) (q : Fin 4224) (h : q.val = t.val * 384 + p.val) :
    ((iblk m c 3 t : Vec Ideal S384x1024 .f32) (ix2 p k) : EReal) = (m ((c : Thread nD τ).loc main_arg3) : FVec Ideal S4224x1024 .f32) (ix2 q k) := by
  refine (congrFun (entry3 m c) _).trans (congrArg (m ((c : Thread nD τ).loc main_arg3)) (funext fun a => Fin.ext ?_))
  match a with
  | ⟨0, _⟩ =>
    refine Eq.trans ?_ h.symm
    blk_simp [(places t).2.2.2.1]
  | ⟨1, _⟩ => blk_simp [(places t).2.2.2.1]

/-- What a point leaves of the rows' gradient. -/
theorem rows (t : Fin cfg0.N) : (outsAt0 m c t.val t.isLt).1 = k0_pay6 (F := Ideal) (iblk m c 0 t) (iblk m c 1 t) (iblk m c 2 t) (iblk m c 3 t) := by
  by_cases h : t.val % 11 = 0
  · rw [outsAt0_A m c t h]
    frame_out
  · rw [outsAt0_B m c t h]
    frame_out

/-- What the scale's gradient is at the last block of rows. -/
theorem held (t : Fin cfg0.N) (hf : t.val % 11 = 11 - 1) (j : S1x1024.Idx) :
    (outsAt0 m c t.val t.isLt).2 j = (0 : EReal) + ∑ s : Fin 11,
      k0_pay5 (F := Ideal) (iblk m c 0 ⟨11 * (t.val / 11) + s.val, Pipeline.run_point_lt_of_flush t hf s⟩)
        (iblk m c 2 ⟨11 * (t.val / 11) + s.val, Pipeline.run_point_lt_of_flush t hf s⟩) j :=
  Pipeline.eq_sum_fin_of_reset_step_apply_of_flush (fun n h => (outsAt0 m c n h).2) 11 (fun _ => (0 : EReal))
    (fun p => k0_pay5 (F := Ideal) (iblk m c 0 p) (iblk m c 2 p))
    (fun t h j => by
      rw [outsAt0_A m c t h]
      frame_out
      unfold k0_pay2 k0_pay1
      simp only [shapeCast_self]
      exact congrArg (fun z : EReal => z + k0_pay5 (F := Ideal) (iblk m c 0 t) (iblk m c 2 t) j) Ideal.ofBits_zero_f32)
    (fun t h j => by
      rw [outsAt0_B m c t h]
      frame_out
      unfold k0_pay2
      simp only [shapeCast_self]
      rfl) t hf j

theorem row_at (t : Fin cfg0.N) (p : Fin 384) (k : Fin 1024) (q : Fin 4224) (h : q.val = t.val * 384 + p.val) :
    (k0_pay6 (F := Ideal) (iblk m c 0 t) (iblk m c 1 t) (iblk m c 2 t) (iblk m c 3 t) (ix2 p k) : EReal) =
      Cert.Reference8Ideal.Read.val_main_v36 (F := Ideal) (m ((c : Thread nD τ).loc main_arg0)) (m ((c : Thread nD τ).loc main_arg1))
        (m ((c : Thread nD τ).loc main_arg2)) (m ((c : Thread nD τ).loc main_arg3)) (ix2 q k) := by
  refine (row_apply _ _ _ _ p k).trans (Eq.trans ?_ (reference_row _ _ _ _ (ix2 q k)).symm)
  have e0 : (ix2 q k : S4224x1024.Idx) 0 = q := rfl
  have e1 : (ix2 q k : S4224x1024.Idx) 1 = k := rfl
  rw [e0, e1]
  simp only [fun k => block0 m c t p k q h, fun k => block1 m c t k, fun k => block2 m c t p k q h, fun k => block3 m c t p k q h]
  rw [add_comm]
  simp only [add_assoc]

/-- The gradient of the rows. -/
theorem left4 : (dats m 0 c).arrAt 4 cfg0.N = Cert.Reference8Ideal.Read.val_main_v36 (F := Ideal)
    (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  have a0 : ((win0_4.blk t).view.emb y 0).val = t.val * 384 + (y 0).val := by blk_simp [(places t).2.2.2.2.1]
  have a1 : (win0_4.blk t).view.emb y 1 = (y 1 : Fin 1024) := Fin.ext (by blk_simp [(places t).2.2.2.2.1])
  have hy : y = ix2 (y 0) (y 1) := ext2 y
  have hi : (win0_4.blk t).view.emb y = ix2 ((win0_4.blk t).view.emb y 0) (y 1) := (ext2 _).trans (congrArg (ix2 _) a1)
  rw [rows]
  exact (congrArg (k0_pay6 (F := Ideal) (iblk m c 0 t) (iblk m c 1 t) (iblk m c 2 t) (iblk m c 3 t)) hy).trans
    ((row_at m c t (y 0) (y 1) _ a0).trans (congrArg (Cert.Reference8Ideal.Read.val_main_v36 (F := Ideal) _ _ _ _) hi.symm))

/-- The gradient of the scale. -/
theorem left5 : (dats m 0 c).arrAt 5 cfg0.N = Cert.Reference8Ideal.Read.val_main_v37 (F := Ideal)
    (m ((c : Thread nD τ).loc main_arg0)) (m ((c : Thread nD τ).loc main_arg2)) := by
  refine (dats m 0 c).arrAt_eq_of_covers 5 _ (by decide +kernel) fun t hf y => ?_
  have hm : t.val % 11 = 11 - 1 := (flush0_5 t).mp hf
  have hN : t.val < 11 := lt_of_lt_of_eq t.isLt (by decide)
  blk_simp
  rw [after0_5]
  have a1 : (win0_5.blk t).view.emb y 1 = (y 1 : Fin 1024) := Fin.ext (by blk_simp [(places t).2.2.2.2.2])
  refine (held m c t hm _).trans ((zero_add _).trans (Eq.trans ?_ (reference_scale _ _ _).symm))
  rw [a1]
  refine Eq.trans ?_ (sum_blocks (J := 11) (n := 384) _)
  refine Finset.sum_congr rfl fun s _ => ?_
  have hy : y = ix2 (y 0) (y 1) := ext2 y
  rw [hy]
  refine (scale_apply _ _ (y 1) (y 0)).trans (Finset.sum_congr rfl fun p _ => ?_)
  have hq : ∀ h, (⟨s.val * 384 + p.val, h⟩ : Fin 4224).val = (⟨11 * (t.val / 11) + s.val, Pipeline.run_point_lt_of_flush t hm s⟩ : Fin cfg0.N).val * 384 + p.val := fun h => by
    show s.val * 384 + p.val = (11 * (t.val / 11) + s.val) * 384 + p.val
    rw [Nat.div_eq_of_lt hN]; omega
  have hx : ∀ k : Fin 1024, _ := fun k => block0 m c _ p k _ (hq (by omega))
  have hd : ∀ k : Fin 1024, _ := fun k => block2 m c _ p k _ (hq (by omega))
  rw [hx (y 1), hd (y 1)]
  simp only [hx]
  rfl

end Cert.Kernel8Ideal.Own
-- ==== Proof.P9.lean ====
module
public import proofs.«01_k».proof.Proof.Products
public import proofs.«01_k».proof.Proof.Gen.Kernel9Ideal.Value
public import proofs.«01_k».proof.Proof.Gen.Reference9Ideal.Read
public import Idealize.ShloMosaic.Lib.Claim
public import Idealize.ShloMosaic.Lib.IdealHost
public import Idealize.ShloMosaic.Lib.StableHlo.RunRead
/-! The gradient of the gates that mix the three branches of a layer. -/
@[expose] public section
set_option maxRecDepth 16384
noncomputable section
namespace Cert.Kernel9Ideal.Own
open Idealize.ShloMosaic hiding ix2
open Idealize.ShloMosaic.TcCoe
open Idealize.ShloMosaic.ValueIdx
open Cert.Kernel9Ideal.Gen Cert.Kernel9Ideal

/-- The gate of a number. -/
def gate (x : EReal) : EReal := Ideal.logistic x
/-- The gradient of what a gate is taken of. -/
def slope (u y d : EReal) : EReal := d * y * (gate u * ((FloatOps.ofBits (F := Ideal) .f32 0x3F800000#32 : EReal) - gate u))

/-- The gate as a quotient. -/
theorem gate_eq (x : EReal) : (FloatOps.hostDivf (F := Ideal) (φ := .f32) (FloatOps.ofBits (F := Ideal) .f32 0x3F800000#32)
    (FloatOps.addf (F := Ideal) (φ := .f32) (FloatOps.ofBits (F := Ideal) .f32 0x3F800000#32) (FloatOps.hostUnary (F := Ideal) (φ := .f32) .exp (FloatOps.hostNegf (F := Ideal) (φ := .f32) x))) : EReal) = gate x := by
  show Ideal.div (Ideal.ofBits .f32 0x3F800000#32) (Ideal.ofBits .f32 0x3F800000#32 + Ideal.exp (-x)) = Ideal.logistic x
  rw [Ideal.ofBits_one_f32]
  rfl

theorem reference_gate0 (x0 : FVec Ideal S4224x6656 .f32) (i : S4224x1024.Idx) :
    (Cert.Reference9Ideal.Read.val_main_v8 (F := Ideal) x0 i : EReal) = gate (x0 (Cert.Reference9Ideal.Read.idx_main_v0 i)) := by
  rw [← gate_eq, Cert.Reference9Ideal.Read.val_main_v8_apply, Cert.Reference9Ideal.Read.val_main_v7_apply, Cert.Reference9Ideal.Read.val_main_v6_apply, Cert.Reference9Ideal.Read.val_main_v5_apply,
    Cert.Reference9Ideal.Read.val_main_v4_apply, Cert.Reference9Ideal.Read.val_main_v3_apply, Cert.Reference9Ideal.Read.val_main_v0_apply]
  rfl
theorem reference_gate1 (x0 : FVec Ideal S4224x6656 .f32) (i : S4224x1024.Idx) :
    (Cert.Reference9Ideal.Read.val_main_v18 (F := Ideal) x0 i : EReal) = gate (x0 (Cert.Reference9Ideal.Read.idx_main_v1 i)) := by
  rw [← gate_eq, Cert.Reference9Ideal.Read.val_main_v18_apply, Cert.Reference9Ideal.Read.val_main_v17_apply, Cert.Reference9Ideal.Read.val_main_v16_apply, Cert.Reference9Ideal.Read.val_main_v15_apply,
    Cert.Reference9Ideal.Read.val_main_v14_apply, Cert.Reference9Ideal.Read.val_main_v13_apply, Cert.Reference9Ideal.Read.val_main_v1_apply]
  rfl
theorem reference_gate2 (x0 : FVec Ideal S4224x6656 .f32) (i : S4224x1024.Idx) :
    (Cert.Reference9Ideal.Read.val_main_v29 (F := Ideal) x0 i : EReal) = gate (x0 (Cert.Reference9Ideal.Read.idx_main_v2 i)) := by
  rw [← gate_eq, Cert.Reference9Ideal.Read.val_main_v29_apply, Cert.Reference9Ideal.Read.val_main_v28_apply, Cert.Reference9Ideal.Read.val_main_v27_apply, Cert.Reference9Ideal.Read.val_main_v26_apply,
    Cert.Reference9Ideal.Read.val_main_v25_apply, Cert.Reference9Ideal.Read.val_main_v24_apply, Cert.Reference9Ideal.Read.val_main_v2_apply]
  rfl
theorem reference_ct (x : FVec Ideal S4224x1024 .f32) : Cert.Reference9Ideal.Read.val_main_v35 (F := Ideal) x = x := shapeCast_self _ _
theorem reference_ct' (x : FVec Ideal S4224x1024 .f32) : Cert.Reference9Ideal.Read.val_main_v36 (F := Ideal) x = x := shapeCast_self _ _

theorem reference_slope0 (x0 : FVec Ideal S4224x6656 .f32) (y d : FVec Ideal S4224x1024 .f32) (i : S4224x1024.Idx) :
    (Cert.Reference9Ideal.Read.val_main_v46 (F := Ideal) x0 y d i : EReal) = slope (x0 (Cert.Reference9Ideal.Read.idx_main_v0 i)) (y i) (d i) := by
  unfold slope
  rw [Cert.Reference9Ideal.Read.val_main_v46_apply, Cert.Reference9Ideal.Read.val_main_v45_apply, Cert.Reference9Ideal.Read.val_main_v44_apply, Cert.Reference9Ideal.Read.val_main_v11_apply, Cert.Reference9Ideal.Read.val_main_v10_apply,
    Cert.Reference9Ideal.Read.val_main_v9_apply, reference_ct, reference_gate0]
  rfl
theorem reference_branch0 (x0 : FVec Ideal S4224x6656 .f32) (d : FVec Ideal S4224x1024 .f32) (i : S4224x1024.Idx) :
    (Cert.Reference9Ideal.Read.val_main_v49 (F := Ideal) x0 d i : EReal) = gate (x0 (Cert.Reference9Ideal.Read.idx_main_v0 i)) * d i := by
  rw [Cert.Reference9Ideal.Read.val_main_v49_apply, Cert.Reference9Ideal.Read.val_main_v43_apply, reference_ct, reference_gate0]
  rfl
theorem reference_slope1 (x0 : FVec Ideal S4224x6656 .f32) (y d : FVec Ideal S4224x1024 .f32) (i : S4224x1024.Idx) :
    (Cert.Reference9Ideal.Read.val_main_v47 (F := Ideal) x0 y d i : EReal) = slope (x0 (Cert.Reference9Ideal.Read.idx_main_v1 i)) (y i) (d i) := by
  unfold slope
  rw [Cert.Reference9Ideal.Read.val_main_v47_apply, Cert.Reference9Ideal.Read.val_main_v42_apply, Cert.Reference9Ideal.Read.val_main_v41_apply, Cert.Reference9Ideal.Read.val_main_v21_apply, Cert.Reference9Ideal.Read.val_main_v20_apply,
    Cert.Reference9Ideal.Read.val_main_v19_apply, reference_ct, reference_gate1]
  rfl
theorem reference_branch1 (x0 : FVec Ideal S4224x6656 .f32) (d : FVec Ideal S4224x1024 .f32) (i : S4224x1024.Idx) :
    (Cert.Reference9Ideal.Read.val_main_v50 (F := Ideal) x0 d i : EReal) = gate (x0 (Cert.Reference9Ideal.Read.idx_main_v1 i)) * d i := by
  rw [Cert.Reference9Ideal.Read.val_main_v50_apply, Cert.Reference9Ideal.Read.val_main_v40_apply, reference_ct, reference_gate1]
  rfl
theorem reference_slope2 (x0 : FVec Ideal S4224x6656 .f32) (y d : FVec Ideal S4224x1024 .f32) (i : S4224x1024.Idx) :
    (Cert.Reference9Ideal.Read.val_main_v48 (F := Ideal) x0 y d i : EReal) = slope (x0 (Cert.Reference9Ideal.Read.idx_main_v2 i)) (y i) (d i) := by
  unfold slope
  rw [Cert.Reference9Ideal.Read.val_main_v48_apply, Cert.Reference9Ideal.Read.val_main_v39_apply, Cert.Reference9Ideal.Read.val_main_v38_apply, Cert.Reference9Ideal.Read.val_main_v32_apply, Cert.Reference9Ideal.Read.val_main_v31_apply,
    Cert.Reference9Ideal.Read.val_main_v30_apply, reference_ct', reference_gate2]
  rfl
theorem reference_branch2 (x0 : FVec Ideal S4224x6656 .f32) (d : FVec Ideal S4224x1024 .f32) (i : S4224x1024.Idx) :
    (Cert.Reference9Ideal.Read.val_main_v51 (F := Ideal) x0 d i : EReal) = gate (x0 (Cert.Reference9Ideal.Read.idx_main_v2 i)) * d i := by
  rw [Cert.Reference9Ideal.Read.val_main_v51_apply, Cert.Reference9Ideal.Read.val_main_v37_apply, reference_ct', reference_gate2]
  rfl
theorem slope0 (u y d : Vec Ideal S384x1024 .bf16) (j : S384x1024.Idx) :
    (k0_pay1 (F := Ideal) (k0_pay16 (F := Ideal) u y d) j : EReal) = slope (u j) (y j) (d j) := by
  unfold k0_pay1 k0_pay16 k0_pay8 k0_pay7
  simp only [shapeCast_self]
  rfl
theorem branch0 (u d : Vec Ideal S384x1024 .bf16) (j : S384x1024.Idx) :
    (k0_pay4 (F := Ideal) (k0_pay15 (F := Ideal) u d) j : EReal) = gate (u j) * d j := by
  unfold k0_pay4 k0_pay15 k0_pay8 k0_pay7
  simp only [shapeCast_self]
  rfl
theorem slope1 (u y d : Vec Ideal S384x1024 .bf16) (j : S384x1024.Idx) :
    (k0_pay2 (F := Ideal) (k0_pay14 (F := Ideal) u y d) j : EReal) = slope (u j) (y j) (d j) := by
  unfold k0_pay2 k0_pay14 k0_pay9 k0_pay7
  simp only [shapeCast_self]
  rfl
theorem branch1 (u d : Vec Ideal S384x1024 .bf16) (j : S384x1024.Idx) :
    (k0_pay5 (F := Ideal) (k0_pay13 (F := Ideal) u d) j : EReal) = gate (u j) * d j := by
  unfold k0_pay5 k0_pay13 k0_pay9 k0_pay7
  simp only [shapeCast_self]
  rfl
theorem slope2 (u y d : Vec Ideal S384x1024 .bf16) (j : S384x1024.Idx) :
    (k0_pay3 (F := Ideal) (k0_pay12 (F := Ideal) u y d) j : EReal) = slope (u j) (y j) (d j) := by
  unfold k0_pay3 k0_pay12 k0_pay10 k0_pay7
  simp only [shapeCast_self]
  rfl
theorem branch2 (u d : Vec Ideal S384x1024 .bf16) (j : S384x1024.Idx) :
    (k0_pay6 (F := Ideal) (k0_pay11 (F := Ideal) u d) j : EReal) = gate (u j) * d j := by
  unfold k0_pay6 k0_pay11 k0_pay10 k0_pay7
  simp only [shapeCast_self]
  rfl

variable (m : (ℓ : Loc nD τ sig) → Buf (Elt Ideal) ℓ) (c : Dev nD)

theorem entry0 : V (F := Ideal) m c main_v0 = (truncf .bf16 (m ((c : Thread nD τ).loc main_arg0) : FVec Ideal S4224x6656 .f32) bitsLt_bf16_f32 : FVec Ideal S4224x6656 .bf16) := by
  entry_read
  rfl
theorem entry1 : V (F := Ideal) m c main_v1 = (truncf .bf16 (m ((c : Thread nD τ).loc main_arg1) : FVec Ideal S4224x1024 .f32) bitsLt_bf16_f32 : FVec Ideal S4224x1024 .bf16) := by
  entry_read
  rfl
theorem entry2 : V (F := Ideal) m c main_v2 = (truncf .bf16 (m ((c : Thread nD τ).loc main_arg2) : FVec Ideal S4224x1024 .f32) bitsLt_bf16_f32 : FVec Ideal S4224x1024 .bf16) := by
  entry_read
  rfl
theorem entry3 : V (F := Ideal) m c main_v3 = (truncf .bf16 (m ((c : Thread nD τ).loc main_arg3) : FVec Ideal S4224x1024 .f32) bitsLt_bf16_f32 : FVec Ideal S4224x1024 .bf16) := by
  entry_read
  rfl
theorem entry4 : V (F := Ideal) m c main_v4 = (truncf .bf16 (m ((c : Thread nD τ).loc main_arg4) : FVec Ideal S4224x1024 .f32) bitsLt_bf16_f32 : FVec Ideal S4224x1024 .bf16) := by
  entry_read
  rfl

/-- The places of the blocks. -/
theorem place0 : ∀ t : Fin cfg0.N, win0_0.index t = ![t.val, 1] := (by decide +kernel : ∀ t : Fin grid0.N, _)
theorem place1 : ∀ t : Fin cfg0.N, win0_1.index t = ![t.val, 2] := (by decide +kernel : ∀ t : Fin grid0.N, _)
theorem place2 : ∀ t : Fin cfg0.N, win0_2.index t = ![t.val, 3] := (by decide +kernel : ∀ t : Fin grid0.N, _)
theorem place3 : ∀ t : Fin cfg0.N, win0_3.index t = ![t.val, 0] := (by decide +kernel : ∀ t : Fin grid0.N, _)
theorem place4 : ∀ t : Fin cfg0.N, win0_4.index t = ![t.val, 0] := (by decide +kernel : ∀ t : Fin grid0.N, _)
theorem place5 : ∀ t : Fin cfg0.N, win0_5.index t = ![t.val, 0] := (by decide +kernel : ∀ t : Fin grid0.N, _)
theorem place6 : ∀ t : Fin cfg0.N, win0_6.index t = ![t.val, 0] := (by decide +kernel : ∀ t : Fin grid0.N, _)
theorem place7 : ∀ t : Fin cfg0.N, win0_7.index t = ![t.val, 0] := (by decide +kernel : ∀ t : Fin grid0.N, _)
theorem place8 : ∀ t : Fin cfg0.N, win0_8.index t = ![t.val, 0] := (by decide +kernel : ∀ t : Fin grid0.N, _)
theorem place9 : ∀ t : Fin cfg0.N, win0_9.index t = ![t.val, 0] := (by decide +kernel : ∀ t : Fin grid0.N, _)
theorem place10 : ∀ t : Fin cfg0.N, win0_10.index t = ![t.val, 0] := (by decide +kernel : ∀ t : Fin grid0.N, _)
theorem place11 : ∀ t : Fin cfg0.N, win0_11.index t = ![t.val, 0] := (by decide +kernel : ∀ t : Fin grid0.N, _)
theorem place12 : ∀ t : Fin cfg0.N, win0_12.index t = ![t.val, 0] := (by decide +kernel : ∀ t : Fin grid0.N, _)

/-- A block of the gates' columns, at a place. -/
theorem column0 (t : Fin cfg0.N) (j : S384x1024.Idx) (k : S4224x6656.Idx) (h0 : (k 0).val = t.val * 384 + (j 0).val) (h1 : (k 1).val = 1024 + (j 1).val) :
    (X0_0 m c t j : EReal) = (m ((c : Thread nD τ).loc main_arg0) : FVec Ideal S4224x6656 .f32) k := by
  unfold X0_0 Pipeline.Window.fill
  rw [dif_pos (moved0_0 t j)]
  refine (congrFun (entry0 m c) _).trans (congrArg (m ((c : Thread nD τ).loc main_arg0)) (funext fun a => Fin.ext ?_))
  match a with
  | ⟨0, _⟩ =>
    refine Eq.trans ?_ h0.symm
    blk_simp [place0 t]
    rfl
  | ⟨1, _⟩ =>
    refine Eq.trans ?_ h1.symm
    blk_simp [place0 t]
    rfl

/-- A block of the gates' columns, at a place. -/
theorem column1 (t : Fin cfg0.N) (j : S384x1024.Idx) (k : S4224x6656.Idx) (h0 : (k 0).val = t.val * 384 + (j 0).val) (h1 : (k 1).val = 2048 + (j 1).val) :
    (X0_1 m c t j : EReal) = (m ((c : Thread nD τ).loc main_arg0) : FVec Ideal S4224x6656 .f32) k := by
  unfold X0_1 Pipeline.Window.fill
  rw [dif_pos (moved0_1 t j)]
  refine (congrFun (entry0 m c) _).trans (congrArg (m ((c : Thread nD τ).loc main_arg0)) (funext fun a => Fin.ext ?_))
  match a with
  | ⟨0, _⟩ =>
    refine Eq.trans ?_ h0.symm
    blk_simp [place1 t]
    rfl
  | ⟨1, _⟩ =>
    refine Eq.trans ?_ h1.symm
    blk_simp [place1 t]
    rfl

/-- A block of the gates' columns, at a place. -/
theorem column2 (t : Fin cfg0.N) (j : S384x1024.Idx) (k : S4224x6656.Idx) (h0 : (k 0).val = t.val * 384 + (j 0).val) (h1 : (k 1).val = 3072 + (j 1).val) :
    (X0_2 m c t j : EReal) = (m ((c : Thread nD τ).loc main_arg0) : FVec Ideal S4224x6656 .f32) k := by
  unfold X0_2 Pipeline.Window.fill
  rw [dif_pos (moved0_2 t j)]
  refine (congrFun (entry0 m c) _).trans (congrArg (m ((c : Thread nD τ).loc main_arg0)) (funext fun a => Fin.ext ?_))
  match a with
  | ⟨0, _⟩ =>
    refine Eq.trans ?_ h0.symm
    blk_simp [place2 t]
    rfl
  | ⟨1, _⟩ =>
    refine Eq.trans ?_ h1.symm
    blk_simp [place2 t]
    rfl

theorem left7 : (dats m 0 c).arrAt 7 cfg0.N = Cert.Reference9Ideal.Read.val_main_v46 (F := Ideal)
    (m ((c : Thread nD τ).loc main_arg0)) (m ((c : Thread nD τ).loc main_arg1)) (m ((c : Thread nD τ).loc main_arg4)) := by
  refine (dats m 0 c).arrAt_eq_of_covers 7 _ (by decide +kernel) fun t hf y => ?_
  blk_simp
  rw [after0_7]
  unfold outsAt0
  frame_out
  refine (slope0 _ _ _ _).trans (Eq.trans ?_ (reference_slope0 _ _ _ _).symm)
  refine congr (congrArg₂ slope (column0 m c t _ _ ?_ ?_) ?_) ?_
  · show ((win0_7.blk t).view.emb y 0).val = t.val * 384 + (y 0).val
    blk_simp [place7 t]
  · show 1024 + ((win0_7.blk t).view.emb y 1).val = 1024 + (y 1).val
    blk_simp [place7 t]
  · refine (congrFun (entry1 m c) _).trans (congrArg (m ((c : Thread nD τ).loc main_arg1)) (funext fun a => Fin.ext ?_))
    match a with
    | ⟨0, _⟩ => blk_simp [place3 t, place7 t]
    | ⟨1, _⟩ => blk_simp [place3 t, place7 t]
  · refine (congrFun (entry4 m c) _).trans (congrArg (m ((c : Thread nD τ).loc main_arg4)) (funext fun a => Fin.ext ?_))
    match a with
    | ⟨0, _⟩ => blk_simp [place6 t, place7 t]
    | ⟨1, _⟩ => blk_simp [place6 t, place7 t]

theorem left8 : (dats m 0 c).arrAt 8 cfg0.N = Cert.Reference9Ideal.Read.val_main_v47 (F := Ideal)
    (m ((c : Thread nD τ).loc main_arg0)) (m ((c : Thread nD τ).loc main_arg2)) (m ((c : Thread nD τ).loc main_arg4)) := by
  refine (dats m 0 c).arrAt_eq_of_covers 8 _ (by decide +kernel) fun t hf y => ?_
  blk_simp
  rw [after0_8]
  unfold outsAt0
  frame_out
  refine (slope1 _ _ _ _).trans (Eq.trans ?_ (reference_slope1 _ _ _ _).symm)
  refine congr (congrArg₂ slope (column1 m c t _ _ ?_ ?_) ?_) ?_
  · show ((win0_8.blk t).view.emb y 0).val = t.val * 384 + (y 0).val
    blk_simp [place8 t]
  · show 2048 + ((win0_8.blk t).view.emb y 1).val = 2048 + (y 1).val
    blk_simp [place8 t]
  · refine (congrFun (entry2 m c) _).trans (congrArg (m ((c : Thread nD τ).loc main_arg2)) (funext fun a => Fin.ext ?_))
    match a with
    | ⟨0, _⟩ => blk_simp [place4 t, place8 t]
    | ⟨1, _⟩ => blk_simp [place4 t, place8 t]
  · refine (congrFun (entry4 m c) _).trans (congrArg (m ((c : Thread nD τ).loc main_arg4)) (funext fun a => Fin.ext ?_))
    match a with
    | ⟨0, _⟩ => blk_simp [place6 t, place8 t]
    | ⟨1, _⟩ => blk_simp [place6 t, place8 t]

theorem left9 : (dats m 0 c).arrAt 9 cfg0.N = Cert.Reference9Ideal.Read.val_main_v48 (F := Ideal)
    (m ((c : Thread nD τ).loc main_arg0)) (m ((c : Thread nD τ).loc main_arg3)) (m ((c : Thread nD τ).loc main_arg4)) := by
  refine (dats m 0 c).arrAt_eq_of_covers 9 _ (by decide +kernel) fun t hf y => ?_
  blk_simp
  rw [after0_9]
  unfold outsAt0
  frame_out
  refine (slope2 _ _ _ _).trans (Eq.trans ?_ (reference_slope2 _ _ _ _).symm)
  refine congr (congrArg₂ slope (column2 m c t _ _ ?_ ?_) ?_) ?_
  · show ((win0_9.blk t).view.emb y 0).val = t.val * 384 + (y 0).val
    blk_simp [place9 t]
  · show 3072 + ((win0_9.blk t).view.emb y 1).val = 3072 + (y 1).val
    blk_simp [place9 t]
  · refine (congrFun (entry3 m c) _).trans (congrArg (m ((c : Thread nD τ).loc main_arg3)) (funext fun a => Fin.ext ?_))
    match a with
    | ⟨0, _⟩ => blk_simp [place5 t, place9 t]
    | ⟨1, _⟩ => blk_simp [place5 t, place9 t]
  · refine (congrFun (entry4 m c) _).trans (congrArg (m ((c : Thread nD τ).loc main_arg4)) (funext fun a => Fin.ext ?_))
    match a with
    | ⟨0, _⟩ => blk_simp [place6 t, place9 t]
    | ⟨1, _⟩ => blk_simp [place6 t, place9 t]

theorem left10 : (dats m 0 c).arrAt 10 cfg0.N = Cert.Reference9Ideal.Read.val_main_v49 (F := Ideal)
    (m ((c : Thread nD τ).loc main_arg0)) (m ((c : Thread nD τ).loc main_arg4)) := by
  refine (dats m 0 c).arrAt_eq_of_covers 10 _ (by decide +kernel) fun t hf y => ?_
  blk_simp
  rw [after0_10]
  unfold outsAt0
  frame_out
  refine (branch0 _ _ _).trans (Eq.trans ?_ (reference_branch0 _ _ _).symm)
  refine congrArg₂ (fun a b : EReal => a * b) (congrArg gate (column0 m c t _ _ ?_ ?_)) ?_
  · show ((win0_10.blk t).view.emb y 0).val = t.val * 384 + (y 0).val
    blk_simp [place10 t]
  · show 1024 + ((win0_10.blk t).view.emb y 1).val = 1024 + (y 1).val
    blk_simp [place10 t]
  · refine (congrFun (entry4 m c) _).trans (congrArg (m ((c : Thread nD τ).loc main_arg4)) (funext fun a => Fin.ext ?_))
    match a with
    | ⟨0, _⟩ => blk_simp [place6 t, place10 t]
    | ⟨1, _⟩ => blk_simp [place6 t, place10 t]

theorem left11 : (dats m 0 c).arrAt 11 cfg0.N = Cert.Reference9Ideal.Read.val_main_v50 (F := Ideal)
    (m ((c : Thread nD τ).loc main_arg0)) (m ((c : Thread nD τ).loc main_arg4)) := by
  refine (dats m 0 c).arrAt_eq_of_covers 11 _ (by decide +kernel) fun t hf y => ?_
  blk_simp
  rw [after0_11]
  unfold outsAt0
  frame_out
  refine (branch1 _ _ _).trans (Eq.trans ?_ (reference_branch1 _ _ _).symm)
  refine congrArg₂ (fun a b : EReal => a * b) (congrArg gate (column1 m c t _ _ ?_ ?_)) ?_
  · show ((win0_11.blk t).view.emb y 0).val = t.val * 384 + (y 0).val
    blk_simp [place11 t]
  · show 2048 + ((win0_11.blk t).view.emb y 1).val = 2048 + (y 1).val
    blk_simp [place11 t]
  · refine (congrFun (entry4 m c) _).trans (congrArg (m ((c : Thread nD τ).loc main_arg4)) (funext fun a => Fin.ext ?_))
    match a with
    | ⟨0, _⟩ => blk_simp [place6 t, place11 t]
    | ⟨1, _⟩ => blk_simp [place6 t, place11 t]

theorem left12 : (dats m 0 c).arrAt 12 cfg0.N = Cert.Reference9Ideal.Read.val_main_v51 (F := Ideal)
    (m ((c : Thread nD τ).loc main_arg0)) (m ((c : Thread nD τ).loc main_arg4)) := by
  refine (dats m 0 c).arrAt_eq_of_covers 12 _ (by decide +kernel) fun t hf y => ?_
  blk_simp
  rw [after0_12]
  unfold outsAt0
  frame_out
  refine (branch2 _ _ _).trans (Eq.trans ?_ (reference_branch2 _ _ _).symm)
  refine congrArg₂ (fun a b : EReal => a * b) (congrArg gate (column2 m c t _ _ ?_ ?_)) ?_
  · show ((win0_12.blk t).view.emb y 0).val = t.val * 384 + (y 0).val
    blk_simp [place12 t]
  · show 3072 + ((win0_12.blk t).view.emb y 1).val = 3072 + (y 1).val
    blk_simp [place12 t]
  · refine (congrFun (entry4 m c) _).trans (congrArg (m ((c : Thread nD τ).loc main_arg4)) (funext fun a => Fin.ext ?_))
    match a with
    | ⟨0, _⟩ => blk_simp [place6 t, place12 t]
    | ⟨1, _⟩ => blk_simp [place6 t, place12 t]

end Cert.Kernel9Ideal.Own
-- ==== Proof.P10.lean ====
module
public import proofs.«01_k».proof.Proof.Products
public import proofs.«01_k».proof.Proof.Gen.Kernel10Ideal.Value
public import proofs.«01_k».proof.Proof.Gen.Reference10Ideal.Read
public import Idealize.ShloMosaic.Lib.Claim
public import Idealize.ShloMosaic.Lib.StableHlo.RunRead
public import Idealize.ShloMosaic.Lib.Pipeline.ReadBack
/-! The gradient of the weights of the output projection. -/
@[expose] public section
set_option maxRecDepth 16384
noncomputable section
namespace Cert.Kernel10Ideal.Own
open Idealize.ShloMosaic hiding ix2
open Idealize.ShloMosaic.TcCoe
open Idealize.ShloMosaic.ValueIdx
open Cert.Products
open Cert.Kernel10Ideal.Gen Cert.Kernel10Ideal

/-- The product of two blocks, at a place. -/
theorem part_apply (x : Vec Ideal S1024x1408 .bf16) (w : Vec Ideal S1408x1024 .f32) (j : S1024x1024.Idx) :
    k0_pay1 (F := Ideal) x w j = ∑ k : Fin 1408, x (ix2 (j 0) k) * w (ix2 k (j 1)) := by
  rw [ext2 j]
  unfold k0_pay1
  simp only [shapeCast_self]
  refine (Ideal.matmul_plain_apply none _ _ _ (j 0) (j 1)).trans ((congrArg (· + _) (zero_word _)).trans ((zero_add _).trans ?_))
  rfl

variable (m : (ℓ : Loc nD τ sig) → Buf (Elt Ideal) ℓ) (c : Dev nD)

/-- The left operand is the transposed rows. -/
theorem entry0 (i : Fin 1024) (k : Fin 4224) :
    (V (F := Ideal) m c main_v1 : FVec Ideal S1024x4224 .bf16) (ix2 i k) = (m ((c : Thread nD τ).loc main_arg0) : FVec Ideal S4224x1024 .f32) (ix2 k i) := by
  have e : (V (F := Ideal) m c main_v1 : FVec Ideal S1024x4224 .bf16) = transpose S1024x4224 [1, 0]
      (truncf .bf16 (m ((c : Thread nD τ).loc main_arg0) : FVec Ideal S4224x1024 .f32) bitsLt_bf16_f32 : FVec Ideal S4224x1024 .bf16) transposes_S4224x1024_S1024x4224_1_0 := by
    entry_read
    rfl
  rw [e]
  exact transpose_apply [1, 0] _ _ (ix2 i k) (ix2 k i) (fun b => match b with
    | ⟨0, _⟩ => rfl
    | ⟨1, _⟩ => rfl)
theorem entry1 : V (F := Ideal) m c main_arg2 = (m ((c : Thread nD τ).loc main_arg2) : FVec Ideal S4224x1024 .f32) := by
  entry_read
  rfl

/-- The places of the blocks. -/
theorem places : ∀ t : Fin cfg0.N, win0_0.index t = ![0, t.val % 3] ∧ win0_1.index t = ![t.val % 3, 0] ∧ win0_2.index t = ![0, 0] :=
  (by decide +kernel : ∀ t : Fin grid0.N, _)

/-- What the accumulator holds at the last block of the contracted places. -/
theorem held (t : Fin cfg0.N) (hf : t.val % 3 = 3 - 1) (j : S1024x1024.Idx) :
    (outsAt0 m c t.val t.isLt).2 j = (0 : EReal) + ∑ s : Fin 3,
      k0_pay1 (F := Ideal) (iblk m c 0 ⟨3 * (t.val / 3) + s.val, Pipeline.run_point_lt_of_flush t hf s⟩)
        (iblk m c 1 ⟨3 * (t.val / 3) + s.val, Pipeline.run_point_lt_of_flush t hf s⟩) j :=
  Pipeline.eq_sum_fin_of_reset_step_apply_of_flush (fun n h => (outsAt0 m c n h).2) 3 (fun _ => (0 : EReal))
    (fun p => k0_pay1 (F := Ideal) (iblk m c 0 p) (iblk m c 1 p))
    (fun t h j => by
      have hN : t.val < 3 := lt_of_lt_of_eq t.isLt (by decide)
      rw [outsAt0_A m c t h (by omega) (by omega)]
      frame_out
      rw [zero_add]
      unfold k0_pay2
      exact congrFun (shapeCast_self _ _) j)
    (fun t h j => by
      by_cases h2 : t.val % 3 = 2
      · rw [outsAt0_C m c t h (by omega) h2]
        frame_out
        simp only [read_unread_whole]
        unfold k0_pay3
        exact congrFun (shapeCast_self _ _) j
      · rw [outsAt0_B m c t h (by omega) h2]
        frame_out
        simp only [read_unread_whole]
        unfold k0_pay3
        exact congrFun (shapeCast_self _ _) j) t hf j

theorem written (t : Fin cfg0.N) (hf : t.val % 3 = 3 - 1) (j : S1024x1024.Idx) :
    (outsAt0 m c t.val t.isLt).1 j = (outsAt0 m c t.val t.isLt).2 j := by
  rw [outsAt0_C m c t (by omega) (by omega) hf]
  frame_out
  rfl

/-- The array the call leaves. -/
theorem left : (dats m 0 c).arrAt 2 cfg0.N = Cert.Reference10Ideal.Read.val_main_v4 (F := Ideal)
    (m ((c : Thread nD τ).loc main_arg0)) (m ((c : Thread nD τ).loc main_arg2)) := by
  refine (dats m 0 c).arrAt_eq_of_covers 2 _ (by decide +kernel) fun t hf y => ?_
  have hm : t.val % 3 = 3 - 1 := (flush0_2 t).mp hf
  blk_simp
  rw [after0_2]
  have a0 : ((win0_2.blk t).view.emb y 0).val = (y 0).val := by blk_simp [(places t).2.2]
  have a1 : ((win0_2.blk t).view.emb y 1).val = (y 1).val := by blk_simp [(places t).2.2]
  refine (written m c t hm _).trans ((held m c t hm _).trans ?_)
  rw [zero_add, Cert.Reference10Ideal.Read.val_main_v4_apply, Cert.Reference10Ideal.Read.val_main_v2_apply, Cert.Reference10Ideal.Read.val_main_v1_apply]
  refine Eq.trans ?_ (sum_blocks (J := 3) (n := 1408) _)
  refine Finset.sum_congr rfl fun s _ => ?_
  refine (part_apply _ _ _).trans ?_
  refine Finset.sum_congr rfl fun k _ => ?_
  rw [mul_comm]
  refine congrArg₂ (fun a b : EReal => a * b) ?_ ?_
  · refine (congrFun (entry1 m c) _).trans (congrArg (m ((c : Thread nD τ).loc main_arg2)) (funext fun a => Fin.ext ?_))
    match a with
    | ⟨0, _⟩ =>
      blk_simp [(places _).2.1]
      show (3 * (t.val / 3) + s.val) % 3 * 1408 + k.val = s.val * 1408 + k.val
      omega
    | ⟨1, _⟩ =>
      blk_simp [(places _).2.1]
      show (y 1).val = ((win0_2.blk t).view.emb y 1).val
      rw [a1]
  · refine Eq.trans (congrArg (V (F := Ideal) m c main_v1) (funext fun a => Fin.ext ?_))
      ((entry0 m c ((win0_2.blk t).view.emb y 0) ⟨s.val * 1408 + k.val, by omega⟩).trans
        (congrArg (m ((c : Thread nD τ).loc main_arg0)) (funext fun a => Fin.ext ?_)))
    · match a with
      | ⟨0, _⟩ =>
        blk_simp [(places _).1]
        show (y 0).val = ((win0_2.blk t).view.emb y 0).val
        rw [a0]
      | ⟨1, _⟩ =>
        blk_simp [(places _).1]
        show (3 * (t.val / 3) + s.val) % 3 * 1408 + k.val = s.val * 1408 + k.val
        omega
    · match a with
      | ⟨0, _⟩ => rfl
      | ⟨1, _⟩ => rfl

end Cert.Kernel10Ideal.Own
-- ==== Proof.P11.lean ====
module
public import proofs.«01_k».proof.Proof.Products
public import proofs.«01_k».proof.Proof.Gen.Kernel11Ideal.Value
public import proofs.«01_k».proof.Proof.Gen.Reference11Ideal.Read
public import Idealize.ShloMosaic.Lib.Claim
public import Idealize.ShloMosaic.Lib.StableHlo.RunRead
/-! The gradient of the mixed rows in front of the output projection. -/
@[expose] public section
set_option maxRecDepth 16384
noncomputable section
namespace Cert.Kernel11Ideal.Own
open Idealize.ShloMosaic hiding ix2
open Idealize.ShloMosaic.TcCoe
open Idealize.ShloMosaic.ValueIdx
open Cert.Products
open Cert.Kernel11Ideal.Gen Cert.Kernel11Ideal

/-- What a point leaves, at a place. -/
theorem part_apply (x : Vec Ideal S1056x1024 .f32) (w : Vec Ideal S1024x1024 .bf16) (j : S1056x1024.Idx) :
    k0_pay1 (F := Ideal) x w j = ∑ k : Fin 1024, x (ix2 (j 0) k) * w (ix2 (j 1) k) := by
  unfold k0_pay1
  simp only [shapeCast_self]
  rw [ext2 j]
  refine (Ideal.matmul_transposedRhs_apply (φ₁ := .bf16) (φ₂ := .bf16) none (truncf .bf16 x bitsLt_bf16_f32 : FVec Ideal S1056x1024 .bf16) w (constant S1056x1024 .f32 0x00000000#32) (j 0) (j 1)).trans ((congrArg (· + _) (zero_word _)).trans ((zero_add _).trans ?_))
  rfl

variable (m : (ℓ : Loc nD τ sig) → Buf (Elt Ideal) ℓ) (c : Dev nD)

theorem entry0 : V (F := Ideal) m c main_arg2 = (m ((c : Thread nD τ).loc main_arg2) : FVec Ideal S4224x1024 .f32) := by
  entry_read
  rfl
theorem entry1 : V (F := Ideal) m c main_v0 = (truncf .bf16 (m ((c : Thread nD τ).loc main_arg1) : FVec Ideal S1024x1024 .f32) bitsLt_bf16_f32 : FVec Ideal S1024x1024 .bf16) := by
  entry_read
  rfl

/-- The places of the blocks. -/
theorem places : ∀ t : Fin cfg0.N, win0_0.index t = ![t.val, 0] ∧ win0_1.index t = ![0, 0] ∧
    win0_2.index t = ![t.val, 0] :=
  (by decide +kernel : ∀ t : Fin grid0.N, _)

/-- The array the call leaves. -/
theorem left : (dats m 0 c).arrAt 2 cfg0.N = Cert.Reference11Ideal.Read.val_main_v4 (F := Ideal)
    (m ((c : Thread nD τ).loc main_arg1)) (m ((c : Thread nD τ).loc main_arg2)) := by
  refine (dats m 0 c).arrAt_eq_of_covers 2 _ (by decide +kernel) fun t hf y => ?_
  blk_simp
  rw [after0_2]
  unfold out0_2
  frame_out
  have a0 : ((win0_2.blk t).view.emb y 0).val = t.val * 1056 + (y 0).val := by blk_simp [(places t).2.2]
  have a1 : ((win0_2.blk t).view.emb y 1).val = (y 1).val := by blk_simp [(places t).2.2]
  refine (part_apply _ _ _).trans ?_
  rw [Cert.Reference11Ideal.Read.val_main_v4_apply]
  refine Eq.trans ?_ (Cert.Reference11Ideal.Read.val_main_v3_apply _ _ _).symm
  refine Finset.sum_congr rfl fun k _ => congrArg₂ (fun a b : EReal => a * b) ?_ ?_
  · refine (congrFun (entry0 m c) _).trans (congrArg (m ((c : Thread nD τ).loc main_arg2)) (funext fun a => Fin.ext ?_))
    match a with
    | ⟨0, _⟩ =>
      blk_simp [(places _).1]
      show t.val * 1056 + (y 0).val = ((win0_2.blk t).view.emb y 0).val
      rw [a0]
    | ⟨1, _⟩ =>
      blk_simp [(places _).1]
  · refine (congrFun (entry1 m c) _).trans (congrArg (m ((c : Thread nD τ).loc main_arg1)) (funext fun a => Fin.ext ?_))
    match a with
    | ⟨0, _⟩ =>
      blk_simp [(places _).2.1]
      show (y 1).val = ((win0_2.blk t).view.emb y 1).val
      rw [a1]
    | ⟨1, _⟩ =>
      blk_simp [(places _).2.1]

end Cert.Kernel11Ideal.Own
-- ==== Proof.P12.lean ====
module
public import proofs.«01_k».proof.Proof.Products
public import proofs.«01_k».proof.Proof.Gen.Kernel12Ideal.Value
public import proofs.«01_k».proof.Proof.Gen.Reference12Ideal.Read
public import Idealize.ShloMosaic.Lib.Claim
public import Idealize.ShloMosaic.Lib.StableHlo.RunRead
/-! The first product of the two-layer network. -/
@[expose] public section
set_option maxRecDepth 16384
noncomputable section
namespace Cert.Kernel12Ideal.Own
open Idealize.ShloMosaic hiding ix2
open Idealize.ShloMosaic.TcCoe
open Idealize.ShloMosaic.ValueIdx
open Cert.Products
open Cert.Kernel12Ideal.Gen Cert.Kernel12Ideal

/-- What a point leaves, at a place. -/
theorem part_apply (x : Vec Ideal S1056x1024 .bf16) (w : Vec Ideal S1024x1024 .bf16) (j : S1056x1024.Idx) :
    k0_pay1 (F := Ideal) x w j = ∑ k : Fin 1024, x (ix2 (j 0) k) * w (ix2 k (j 1)) := by
  unfold k0_pay1
  simp only [shapeCast_self]
  rw [ext2 j]
  refine (Ideal.matmul_plain_apply (φ₁ := .bf16) (φ₂ := .bf16) none x w (constant S1056x1024 .f32 0x00000000#32) (j 0) (j 1)).trans ((congrArg (· + _) (zero_word _)).trans ((zero_add _).trans ?_))
  rfl

variable (m : (ℓ : Loc nD τ sig) → Buf (Elt Ideal) ℓ) (c : Dev nD)

theorem entry0 : V (F := Ideal) m c main_v0 = (truncf .bf16 (m ((c : Thread nD τ).loc main_arg0) : FVec Ideal S4224x1024 .f32) bitsLt_bf16_f32 : FVec Ideal S4224x1024 .bf16) := by
  entry_read
  rfl
theorem entry1 : V (F := Ideal) m c main_v1 = (truncf .bf16 (m ((c : Thread nD τ).loc main_arg1) : FVec Ideal S1024x4096 .f32) bitsLt_bf16_f32 : FVec Ideal S1024x4096 .bf16) := by
  entry_read
  rfl

/-- The places of the blocks. -/
theorem places : ∀ t : Fin cfg0.N, win0_0.index t = ![t.val / 4, 0] ∧ win0_1.index t = ![0, t.val % 4] ∧
    win0_2.index t = ![t.val / 4, t.val % 4] :=
  (by decide +kernel : ∀ t : Fin grid0.N, _)

/-- The array the call leaves. -/
theorem left : (dats m 0 c).arrAt 2 cfg0.N = Cert.Reference12Ideal.Read.val_main_v1 (F := Ideal)
    (m ((c : Thread nD τ).loc main_arg0)) (m ((c : Thread nD τ).loc main_arg1)) := by
  refine (dats m 0 c).arrAt_eq_of_covers 2 _ (by decide +kernel) fun t hf y => ?_
  blk_simp
  rw [after0_2]
  unfold out0_2
  frame_out
  have a0 : ((win0_2.blk t).view.emb y 0).val = t.val / 4 * 1056 + (y 0).val := by blk_simp [(places t).2.2]
  have a1 : ((win0_2.blk t).view.emb y 1).val = t.val % 4 * 1024 + (y 1).val := by blk_simp [(places t).2.2]
  refine (part_apply _ _ _).trans ?_
  rw [Cert.Reference12Ideal.Read.val_main_v1_apply]
  refine Eq.trans ?_ (Cert.Reference12Ideal.Read.val_main_v0_apply _ _ _).symm
  refine Finset.sum_congr rfl fun k _ => congrArg₂ (fun a b : EReal => a * b) ?_ ?_
  · refine (congrFun (entry0 m c) _).trans (congrArg (m ((c : Thread nD τ).loc main_arg0)) (funext fun a => Fin.ext ?_))
    match a with
    | ⟨0, _⟩ =>
      blk_simp [(places _).1]
      show t.val / 4 * 1056 + (y 0).val = ((win0_2.blk t).view.emb y 0).val
      rw [a0]
    | ⟨1, _⟩ =>
      blk_simp [(places _).1]
  · refine (congrFun (entry1 m c) _).trans (congrArg (m ((c : Thread nD τ).loc main_arg1)) (funext fun a => Fin.ext ?_))
    match a with
    | ⟨0, _⟩ =>
      blk_simp [(places _).2.1]
    | ⟨1, _⟩ =>
      blk_simp [(places _).2.1]
      show t.val % 4 * 1024 + (y 1).val = ((win0_2.blk t).view.emb y 1).val
      rw [a1]

end Cert.Kernel12Ideal.Own
-- ==== Proof.P13.lean ====
module
public import proofs.«01_k».proof.Proof.Products
public import proofs.«01_k».proof.Proof.Gen.Kernel13Ideal.Value
public import proofs.«01_k».proof.Proof.Gen.Reference13Ideal.Read
public import Idealize.ShloMosaic.Lib.Claim
public import Idealize.ShloMosaic.Lib.StableHlo.RunRead
/-! The projection in front of the attention and the recurrences. -/
@[expose] public section
set_option maxRecDepth 16384
noncomputable section
namespace Cert.Kernel13Ideal.Own
open Idealize.ShloMosaic hiding ix2
open Idealize.ShloMosaic.TcCoe
open Idealize.ShloMosaic.ValueIdx
open Cert.Products
open Cert.Kernel13Ideal.Gen Cert.Kernel13Ideal

/-- What a point leaves, at a place. -/
theorem part_apply (x : Vec Ideal S1056x1024 .bf16) (w : Vec Ideal S1024x1664 .bf16) (j : S1056x1664.Idx) :
    k0_pay1 (F := Ideal) x w j = ∑ k : Fin 1024, x (ix2 (j 0) k) * w (ix2 k (j 1)) := by
  unfold k0_pay1
  simp only [shapeCast_self]
  rw [ext2 j]
  refine (Ideal.matmul_plain_apply (φ₁ := .bf16) (φ₂ := .bf16) none x w (constant S1056x1664 .f32 0x00000000#32) (j 0) (j 1)).trans ((congrArg (· + _) (zero_word _)).trans ((zero_add _).trans ?_))
  rfl

variable (m : (ℓ : Loc nD τ sig) → Buf (Elt Ideal) ℓ) (c : Dev nD)

theorem entry0 : V (F := Ideal) m c main_v0 = (truncf .bf16 (m ((c : Thread nD τ).loc main_arg0) : FVec Ideal S4224x1024 .f32) bitsLt_bf16_f32 : FVec Ideal S4224x1024 .bf16) := by
  entry_read
  rfl
theorem entry1 : V (F := Ideal) m c main_v1 = (truncf .bf16 (m ((c : Thread nD τ).loc main_arg1) : FVec Ideal S1024x6656 .f32) bitsLt_bf16_f32 : FVec Ideal S1024x6656 .bf16) := by
  entry_read
  rfl

/-- The places of the blocks. -/
theorem places : ∀ t : Fin cfg0.N, win0_0.index t = ![t.val / 4, 0] ∧ win0_1.index t = ![0, t.val % 4] ∧
    win0_2.index t = ![t.val / 4, t.val % 4] :=
  (by decide +kernel : ∀ t : Fin grid0.N, _)

/-- The array the call leaves. -/
theorem left : (dats m 0 c).arrAt 2 cfg0.N = Cert.Reference13Ideal.Read.val_main_v1 (F := Ideal)
    (m ((c : Thread nD τ).loc main_arg0)) (m ((c : Thread nD τ).loc main_arg1)) := by
  refine (dats m 0 c).arrAt_eq_of_covers 2 _ (by decide +kernel) fun t hf y => ?_
  blk_simp
  rw [after0_2]
  unfold out0_2
  frame_out
  have a0 : ((win0_2.blk t).view.emb y 0).val = t.val / 4 * 1056 + (y 0).val := by blk_simp [(places t).2.2]
  have a1 : ((win0_2.blk t).view.emb y 1).val = t.val % 4 * 1664 + (y 1).val := by blk_simp [(places t).2.2]
  refine (part_apply _ _ _).trans ?_
  rw [Cert.Reference13Ideal.Read.val_main_v1_apply]
  refine Eq.trans ?_ (Cert.Reference13Ideal.Read.val_main_v0_apply _ _ _).symm
  refine Finset.sum_congr rfl fun k _ => congrArg₂ (fun a b : EReal => a * b) ?_ ?_
  · refine (congrFun (entry0 m c) _).trans (congrArg (m ((c : Thread nD τ).loc main_arg0)) (funext fun a => Fin.ext ?_))
    match a with
    | ⟨0, _⟩ =>
      blk_simp [(places _).1]
      show t.val / 4 * 1056 + (y 0).val = ((win0_2.blk t).view.emb y 0).val
      rw [a0]
    | ⟨1, _⟩ =>
      blk_simp [(places _).1]
  · refine (congrFun (entry1 m c) _).trans (congrArg (m ((c : Thread nD τ).loc main_arg1)) (funext fun a => Fin.ext ?_))
    match a with
    | ⟨0, _⟩ =>
      blk_simp [(places _).2.1]
    | ⟨1, _⟩ =>
      blk_simp [(places _).2.1]
      show t.val % 4 * 1664 + (y 1).val = ((win0_2.blk t).view.emb y 1).val
      rw [a1]

end Cert.Kernel13Ideal.Own
-- ==== Proof.P14.lean ====
module
public import proofs.«01_k».proof.Proof.Products
public import proofs.«01_k».proof.Proof.Gen.Kernel14Ideal.Value
public import proofs.«01_k».proof.Proof.Gen.Reference14Ideal.Read
public import Idealize.ShloMosaic.Lib.Claim
public import Idealize.ShloMosaic.Lib.StableHlo.RunRead
public import Idealize.ShloMosaic.Lib.Pipeline.ReadBack
/-! The second product of the two-layer network, added to the rows of the step. -/
@[expose] public section
set_option maxRecDepth 16384
noncomputable section
namespace Cert.Kernel14Ideal.Own
open Idealize.ShloMosaic hiding ix2
open Idealize.ShloMosaic.TcCoe
open Idealize.ShloMosaic.ValueIdx
open Cert.Products
open Cert.Kernel14Ideal.Gen Cert.Kernel14Ideal

/-- The square of what is positive of a number. -/
def squared (x : EReal) : EReal := max x 0 * max x 0

/-- The product of two blocks, at a place. -/
theorem part_apply (x : Vec Ideal S1056x1024 .bf16) (w : Vec Ideal S1024x1024 .bf16) (j : S1056x1024.Idx) :
    k0_pay1 (F := Ideal) x w j = ∑ k : Fin 1024, squared (x (ix2 (j 0) k)) * w (ix2 k (j 1)) := by
  rw [ext2 j]
  unfold k0_pay1
  simp only [shapeCast_self]
  refine (Ideal.matmul_plain_apply none _ _ _ (j 0) (j 1)).trans ((congrArg (· + _) (zero_word _)).trans ((zero_add _).trans ?_))
  refine Finset.sum_congr rfl fun k _ => congrArg (fun a : EReal => a * w (ix2 k (j 1))) ?_
  unfold squared
  rw [← Ideal.ofBits_zero_f32]
  rfl

/-- The reference's square, at a place. -/
theorem reference_squared (x0 : FVec Ideal S4224x4096 .f32) (i : S4224x4096.Idx) :
    Cert.Reference14Ideal.Read.val_main_v1 (F := Ideal) x0 i = squared (x0 i) := by
  unfold squared
  rw [← Ideal.ofBits_zero_f32]
  rw [Cert.Reference14Ideal.Read.val_main_v1_apply, Cert.Reference14Ideal.Read.val_main_v0_apply, Cert.Reference14Ideal.Read.val_main_call0_v0_apply]
  rfl

variable (m : (ℓ : Loc nD τ sig) → Buf (Elt Ideal) ℓ) (c : Dev nD)

theorem entry0 : V (F := Ideal) m c main_v0 = (truncf .bf16 (m ((c : Thread nD τ).loc main_arg0) : FVec Ideal S4224x4096 .f32) bitsLt_bf16_f32 : FVec Ideal S4224x4096 .bf16) := by
  entry_read
  rfl
theorem entry1 : V (F := Ideal) m c main_v1 = (truncf .bf16 (m ((c : Thread nD τ).loc main_arg1) : FVec Ideal S4096x1024 .f32) bitsLt_bf16_f32 : FVec Ideal S4096x1024 .bf16) := by
  entry_read
  rfl
theorem entry2 : V (F := Ideal) m c main_arg2 = (m ((c : Thread nD τ).loc main_arg2) : FVec Ideal S4224x1024 .f32) := by
  entry_read
  rfl

/-- The places of the blocks. -/
theorem places : ∀ t : Fin cfg0.N, win0_0.index t = ![t.val / 4, t.val % 4] ∧ win0_1.index t = ![t.val % 4, 0] ∧
    win0_2.index t = ![t.val / 4, 0] ∧ win0_3.index t = ![t.val / 4, 0] :=
  (by decide +kernel : ∀ t : Fin grid0.N, _)

/-- What the accumulator holds at the last block of the contracted places. -/
theorem held (t : Fin cfg0.N) (hf : t.val % 4 = 4 - 1) (j : S1056x1024.Idx) :
    (outsAt0 m c t.val t.isLt).2 j = (0 : EReal) + ∑ s : Fin 4,
      k0_pay1 (F := Ideal) (iblk m c 0 ⟨4 * (t.val / 4) + s.val, Pipeline.run_point_lt_of_flush t hf s⟩)
        (iblk m c 1 ⟨4 * (t.val / 4) + s.val, Pipeline.run_point_lt_of_flush t hf s⟩) j :=
  Pipeline.eq_sum_fin_of_reset_step_apply_of_flush (fun n h => (outsAt0 m c n h).2) 4 (fun _ => (0 : EReal))
    (fun p => k0_pay1 (F := Ideal) (iblk m c 0 p) (iblk m c 1 p))
    (fun t h j => by
      rw [outsAt0_A m c t h (by omega) (by omega)]
      frame_out
      rw [zero_add]
      unfold k0_pay2
      exact congrFun (shapeCast_self _ _) j)
    (fun t h j => by
      by_cases h2 : t.val % 4 = 3
      · rw [outsAt0_C m c t h (by omega) h2]
        frame_out
        simp only [read_unread_whole]
        unfold k0_pay3
        exact congrFun (shapeCast_self _ _) j
      · rw [outsAt0_B m c t h (by omega) h2]
        frame_out
        simp only [read_unread_whole]
        unfold k0_pay3
        exact congrFun (shapeCast_self _ _) j) t hf j

theorem written (t : Fin cfg0.N) (hf : t.val % 4 = 4 - 1) (j : S1056x1024.Idx) :
    (outsAt0 m c t.val t.isLt).1 j = (outsAt0 m c t.val t.isLt).2 j + (iblk m c 2 t : Vec Ideal S1056x1024 .f32) j := by
  rw [outsAt0_C m c t (by omega) (by omega) hf]
  frame_out
  rfl

/-- The array the call leaves. -/
theorem left : (dats m 0 c).arrAt 3 cfg0.N = Cert.Reference14Ideal.Read.val_main_v3 (F := Ideal)
    (m ((c : Thread nD τ).loc main_arg0)) (m ((c : Thread nD τ).loc main_arg1)) (m ((c : Thread nD τ).loc main_arg2)) := by
  refine (dats m 0 c).arrAt_eq_of_covers 3 _ (by decide +kernel) fun t hf y => ?_
  have hm : t.val % 4 = 4 - 1 := (flush0_3 t).mp hf
  blk_simp
  rw [after0_3]
  have a0 : ((win0_3.blk t).view.emb y 0).val = t.val / 4 * 1056 + (y 0).val := by blk_simp [(places t).2.2.2]
  have a1 : ((win0_3.blk t).view.emb y 1).val = (y 1).val := by blk_simp [(places t).2.2.2]
  refine (written m c t hm _).trans ((add_comm _ _).trans ?_)
  rw [held m c t hm _, zero_add, Cert.Reference14Ideal.Read.val_main_v3_apply, Cert.Reference14Ideal.Read.val_main_v2_apply]
  refine congrArg₂ (fun a b : EReal => a + b) ?_ ?_
  · refine (congrFun (entry2 m c) _).trans (congrArg (m ((c : Thread nD τ).loc main_arg2)) (funext fun a => Fin.ext ?_))
    match a with
    | ⟨0, _⟩ =>
      blk_simp [(places t).2.2.1, (places t).2.2.2]
    | ⟨1, _⟩ =>
      blk_simp [(places t).2.2.1, (places t).2.2.2]
  refine Eq.trans ?_ (sum_blocks (J := 4) (n := 1024) _)
  refine Finset.sum_congr rfl fun s _ => ?_
  refine (part_apply _ _ _).trans ?_
  refine Finset.sum_congr rfl fun k _ => ?_
  rw [reference_squared]
  refine congrArg₂ (fun a b : EReal => a * b) (congrArg squared ?_) ?_
  · refine (congrFun (entry0 m c) _).trans (congrArg (m ((c : Thread nD τ).loc main_arg0)) (funext fun a => Fin.ext ?_))
    match a with
    | ⟨0, _⟩ =>
      blk_simp [(places _).1]
      show (4 * (t.val / 4) + s.val) / 4 * 1056 + (y 0).val = ((win0_3.blk t).view.emb y 0).val
      rw [a0]; omega
    | ⟨1, _⟩ =>
      blk_simp [(places _).1]
      show (4 * (t.val / 4) + s.val) % 4 * 1024 + k.val = s.val * 1024 + k.val
      omega
  · refine (congrFun (entry1 m c) _).trans (congrArg (m ((c : Thread nD τ).loc main_arg1)) (funext fun a => Fin.ext ?_))
    match a with
    | ⟨0, _⟩ =>
      blk_simp [(places _).2.1]
      show (4 * (t.val / 4) + s.val) % 4 * 1024 + k.val = s.val * 1024 + k.val
      omega
    | ⟨1, _⟩ =>
      blk_simp [(places _).2.1]
      show (y 1).val = ((win0_3.blk t).view.emb y 1).val
      rw [a1]

end Cert.Kernel14Ideal.Own
-- ==== Proof.P15.lean ====
module
public import proofs.«01_k».proof.Proof.Products
public import proofs.«01_k».proof.Proof.Gen.Kernel15Ideal.Value
public import proofs.«01_k».proof.Proof.Gen.Reference15Ideal.Read
public import Idealize.ShloMosaic.Lib.Claim
public import Idealize.ShloMosaic.Lib.StableHlo.RunRead
/-! The output projection, added to the rows of the step. -/
@[expose] public section
set_option maxRecDepth 16384
noncomputable section
namespace Cert.Kernel15Ideal.Own
open Idealize.ShloMosaic hiding ix2
open Idealize.ShloMosaic.TcCoe
open Idealize.ShloMosaic.ValueIdx
open Cert.Products
open Cert.Kernel15Ideal.Gen Cert.Kernel15Ideal

/-- What a point leaves, at a place. -/
theorem part_apply (x : Vec Ideal S1056x1024 .bf16) (w : Vec Ideal S1024x1024 .bf16) (r : Vec Ideal S1056x1024 .f32) (j : S1056x1024.Idx) :
    k0_pay1 (F := Ideal) x w r j = r j + ∑ k : Fin 1024, x (ix2 (j 0) k) * w (ix2 k (j 1)) := by
  unfold k0_pay1
  simp only [shapeCast_self]
  refine Eq.trans (congrArg (fun a : EReal => a + r j) ?_) (add_comm _ _)
  rw [ext2 j]
  refine (Ideal.matmul_plain_apply (φ₁ := .bf16) (φ₂ := .bf16) none x w (constant S1056x1024 .f32 0x00000000#32) (j 0) (j 1)).trans ((congrArg (· + _) (zero_word _)).trans ((zero_add _).trans ?_))
  rfl

variable (m : (ℓ : Loc nD τ sig) → Buf (Elt Ideal) ℓ) (c : Dev nD)

theorem entry0 : V (F := Ideal) m c main_v0 = (truncf .bf16 (m ((c : Thread nD τ).loc main_arg0) : FVec Ideal S4224x1024 .f32) bitsLt_bf16_f32 : FVec Ideal S4224x1024 .bf16) := by
  entry_read
  rfl
theorem entry1 : V (F := Ideal) m c main_v1 = (truncf .bf16 (m ((c : Thread nD τ).loc main_arg1) : FVec Ideal S1024x1024 .f32) bitsLt_bf16_f32 : FVec Ideal S1024x1024 .bf16) := by
  entry_read
  rfl
theorem entry2 : V (F := Ideal) m c main_arg2 = (m ((c : Thread nD τ).loc main_arg2) : FVec Ideal S4224x1024 .f32) := by
  entry_read
  rfl

/-- The places of the blocks. -/
theorem places : ∀ t : Fin cfg0.N, win0_0.index t = ![t.val, 0] ∧ win0_1.index t = ![0, 0] ∧
    win0_2.index t = ![t.val, 0] ∧ win0_3.index t = ![t.val, 0] :=
  (by decide +kernel : ∀ t : Fin grid0.N, _)

/-- The array the call leaves. -/
theorem left : (dats m 0 c).arrAt 3 cfg0.N = Cert.Reference15Ideal.Read.val_main_v1 (F := Ideal)
    (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  unfold out0_3
  frame_out
  have a0 : ((win0_3.blk t).view.emb y 0).val = t.val * 1056 + (y 0).val := by blk_simp [(places t).2.2.2]
  have a1 : ((win0_3.blk t).view.emb y 1).val = (y 1).val := by blk_simp [(places t).2.2.2]
  refine (part_apply _ _ _ _).trans ?_
  rw [Cert.Reference15Ideal.Read.val_main_v1_apply, Cert.Reference15Ideal.Read.val_main_v0_apply]
  refine congrArg₂ (fun a b : EReal => a + b) ?_ (Finset.sum_congr rfl fun k _ => congrArg₂ (fun a b : EReal => a * b) ?_ ?_)
  · refine (congrFun (entry2 m c) _).trans (congrArg (m ((c : Thread nD τ).loc main_arg2)) (funext fun a => Fin.ext ?_))
    match a with
    | ⟨0, _⟩ =>
      blk_simp [(places t).2.2.1, (places t).2.2.2]
    | ⟨1, _⟩ =>
      blk_simp [(places t).2.2.1, (places t).2.2.2]
  · refine (congrFun (entry0 m c) _).trans (congrArg (m ((c : Thread nD τ).loc main_arg0)) (funext fun a => Fin.ext ?_))
    match a with
    | ⟨0, _⟩ =>
      blk_simp [(places _).1]
      show t.val * 1056 + (y 0).val = ((win0_3.blk t).view.emb y 0).val
      rw [a0]
    | ⟨1, _⟩ =>
      blk_simp [(places _).1]
  · refine (congrFun (entry1 m c) _).trans (congrArg (m ((c : Thread nD τ).loc main_arg1)) (funext fun a => Fin.ext ?_))
    match a with
    | ⟨0, _⟩ =>
      blk_simp [(places _).2.1]
    | ⟨1, _⟩ =>
      blk_simp [(places _).2.1]
      show (y 1).val = ((win0_3.blk t).view.emb y 1).val
      rw [a1]

end Cert.Kernel15Ideal.Own
-- ==== Proof.P16.lean ====
module
public import proofs.«01_k».proof.Proof.Blocks
public import proofs.«01_k».proof.Proof.Products
public import proofs.«01_k».proof.Proof.Gen.Kernel16Ideal.Value
public import proofs.«01_k».proof.Proof.Gen.Reference16Ideal.Read
public import Idealize.ShloMosaic.Lib.Claim
public import Idealize.ShloMosaic.Lib.KernelVsHost
public import Idealize.ShloMosaic.Lib.IdealHost
public import Idealize.ShloMosaic.Lib.StableHlo.RunRead
/-! The gradient of the gated linear unit in front of the convolution. -/
@[expose] public section
set_option maxRecDepth 16384
noncomputable section
namespace Cert.Kernel16Ideal.Own
open Idealize.ShloMosaic hiding ix1 ix2
open Idealize.ShloMosaic.TcCoe
open Idealize.ShloMosaic.ValueIdx
open Cert.Products
open Cert.Kernel16Ideal.Gen Cert.Kernel16Ideal

/-- The gate of a number. -/
def gate (x : EReal) : EReal := Ideal.logistic x
/-- The gradient of the number that is gated. -/
def linear (h d : EReal) : EReal := d * gate h
/-- The gradient of the number the gate is taken of. -/
def slope (a h d : EReal) : EReal := a * d * (gate h * ((FloatOps.ofBits (F := Ideal) .f32 0x3F800000#32 : EReal) - gate h))
/-- One from row 112 on, zero before. -/
def keep (n : ℕ) : EReal := if 112 ≤ n then 1 else 0

theorem linear_zero (h d : EReal) : linear h (d * 0) = 0 := by unfold linear; rw [mul_zero, zero_mul]
theorem slope_zero (a h d : EReal) : slope a h (d * 0) = 0 := by unfold slope; rw [mul_zero, mul_zero, zero_mul]

/-- The gate as a quotient. -/
theorem gate_eq (x : EReal) : (FloatOps.hostDivf (F := Ideal) (φ := .f32) (FloatOps.ofBits (F := Ideal) .f32 0x3F800000#32)
    (FloatOps.addf (F := Ideal) (φ := .f32) (FloatOps.ofBits (F := Ideal) .f32 0x3F800000#32) (FloatOps.hostUnary (F := Ideal) (φ := .f32) .exp (FloatOps.hostNegf (F := Ideal) (φ := .f32) x))) : EReal) = gate x := by
  show Ideal.div (Ideal.ofBits .f32 0x3F800000#32) (Ideal.ofBits .f32 0x3F800000#32 + Ideal.exp (-x)) = Ideal.logistic x
  rw [Ideal.ofBits_one_f32]
  rfl

/-! ## What a point computes -/

/-- The test of a row's number, as a number. -/
theorem keep_word (n : ℕ) (hn : n < 8192) : (FloatOps.sitofp (F := Ideal) .f32 ((BitVec.ofBool ((BitVec.ofNat 32 112).sle (BitVec.ofNat 32 n))).setWidth 32) : EReal) = keep n := by
  rw [Cert.KernelIdeal.Own.sle_ofNat (by omega) hn]
  unfold keep
  by_cases h : 112 ≤ n
  · rw [if_pos h, decide_eq_true h]
    show (((((BitVec.ofBool true).setWidth 32 : BitVec 32).toInt : ℝ)) : EReal) = 1
    have e : ((BitVec.ofBool true).setWidth 32 : BitVec 32).toInt = 1 := by decide
    rw [e]
    simp
  · rw [if_neg h, decide_eq_false h]
    show (((((BitVec.ofBool false).setWidth 32 : BitVec 32).toInt : ℝ)) : EReal) = 0
    have e : ((BitVec.ofBool false).setWidth 32 : BitVec 32).toInt = 0 := by decide
    rw [e]
    simp
theorem masked_apply (i : grid0.Coords) (d : Vec Ideal S384x512 .f32) (p : Fin 384) (k : Fin 512) :
    (k0_pay2 (F := Ideal) i d (ix2 p k) : EReal) = d (ix2 p k) * keep ((i 0).val * 384 + p.val) := by
  have hp := p.isLt
  have hi : (i 0).val < 11 := (i 0).isLt
  unfold k0_pay2
  refine congrArg (fun z : EReal => d (ix2 p k) * z) ?_
  refine (broadcastTo_apply _ _ (ix2 p k) (ix2 p 0 : S384x1.Idx) (fun a => match a with
    | ⟨0, _⟩ => rfl
    | ⟨1, _⟩ => rfl)).trans ?_
  refine Eq.trans ?_ (keep_word ((i 0).val * 384 + p.val) (by omega))
  have i0 : iota .tc S384x1 32 [0] iota_S384x1_d0_w32 (ix2 p 0) = BitVec.ofNat 32 p.val := iota_single_apply _ _ _ 0 _ _
  show FloatOps.sitofp (F := Ideal) .f32 ((BitVec.ofBool ((BitVec.ofNat 32 112).sle (BitVec.ofNat 32 (i 0).val * 384#32 + iota .tc S384x1 32 [0] iota_S384x1_d0_w32 (ix2 p 0)))).setWidth 32) = _
  rw [i0, BitVec.ofNat_add, BitVec.ofNat_mul]
theorem linear_apply (i : grid0.Coords) (h : Vec Ideal S384x512 .bf16) (d : Vec Ideal S384x512 .f32) (p : Fin 384) (k : Fin 512) :
    (k0_pay3 (F := Ideal) i h d (ix2 p k) : EReal) = linear (h (ix2 p k)) (d (ix2 p k) * keep ((i 0).val * 384 + p.val)) := by
  unfold k0_pay3 k0_pay1 linear
  simp only [shapeCast_self]
  exact congrArg (fun z : EReal => z * gate (h (ix2 p k))) (masked_apply i d p k)
theorem slope_apply (i : grid0.Coords) (a h : Vec Ideal S384x512 .bf16) (d : Vec Ideal S384x512 .f32) (p : Fin 384) (k : Fin 512) :
    (k0_pay4 (F := Ideal) i a h d (ix2 p k) : EReal) = slope (a (ix2 p k)) (h (ix2 p k)) (d (ix2 p k) * keep ((i 0).val * 384 + p.val)) := by
  unfold k0_pay4 k0_pay1 slope
  simp only [shapeCast_self]
  exact congrArg (fun z : EReal => a (ix2 p k) * z * (gate (h (ix2 p k)) * ((FloatOps.ofBits (F := Ideal) .f32 0x3F800000#32 : EReal) - gate (h (ix2 p k))))) (masked_apply i d p k)

/-! ## The reference -/

theorem zero_int (i) : (Cert.Reference16Ideal.Read.val_main_call0_v0 (F := Ideal) i : EReal) = 0 := by
  show ((((0#32 : BitVec 32).toInt : ℝ)) : EReal) = 0
  have e : (0#32 : BitVec 32).toInt = 0 := by decide
  rw [e]
  simp
theorem zero_int' (i) : (Cert.Reference16Ideal.Read.val_main_call1_v0 (F := Ideal) i : EReal) = 0 := by
  show ((((0#32 : BitVec 32).toInt : ℝ)) : EReal) = 0
  have e : (0#32 : BitVec 32).toInt = 0 := by decide
  rw [e]
  simp
theorem reference_gate (x : FVec Ideal S4224x6656 .f32) (i : Cert.Reference16Ideal.S4112x512.Idx) :
    (Cert.Reference16Ideal.Read.val_main_v7 (F := Ideal) x i : EReal) = gate (x (Cert.Reference16Ideal.Read.idx_main_v1 i)) := by
  rw [← gate_eq, Cert.Reference16Ideal.Read.val_main_v7_apply, Cert.Reference16Ideal.Read.val_main_v6_apply, Cert.Reference16Ideal.Read.val_main_v5_apply, Cert.Reference16Ideal.Read.val_main_v4_apply,
    Cert.Reference16Ideal.Read.val_main_v3_apply, Cert.Reference16Ideal.Read.val_main_v2_apply, Cert.Reference16Ideal.Read.val_main_v1_apply]
  rfl
theorem reference_linear (x : FVec Ideal S4224x6656 .f32) (d : FVec Ideal S4224x512 .f32) (q : Fin 4224) (k : Fin 512) :
    (Cert.Reference16Ideal.Read.val_main_v17 (F := Ideal) x d (ix2 q k) : EReal) =
      linear (x (ix2 q ⟨512 + k.val, by omega⟩)) (d (ix2 q k) * keep q.val) := by
  show (Cert.Reference16Ideal.Read.val_main_v16 (F := Ideal) x d (ix2 q k) : EReal) = _
  unfold Cert.Reference16Ideal.Read.val_main_v16 keep
  by_cases h : 112 ≤ q.val
  · rw [if_pos h, mul_one]
    refine (pad_apply_of_inside _ _ _ _ _ _ _ _ (ix2 ⟨q.val - 112, by omega⟩ k : Cert.Reference16Ideal.S4112x512.Idx) (fun a => by
      match a with
      | ⟨0, _⟩ => show q.val = 112 + (q.val - 112) * 1; omega
      | ⟨1, _⟩ => show k.val = 0 + k.val * 1; omega)).trans ?_
    rw [Cert.Reference16Ideal.Read.val_main_v14_apply, reference_gate, Cert.Reference16Ideal.Read.val_main_v12_apply]
    refine congrArg₂ (fun a b : EReal => a * gate b) (congrArg d (funext fun a => Fin.ext ?_)) (congrArg x (funext fun a => Fin.ext ?_))
    · match a with
      | ⟨0, _⟩ => show 112 + (q.val - 112) = q.val; omega
      | ⟨1, _⟩ => rfl
    · match a with
      | ⟨0, _⟩ => show 112 + (q.val - 112) = q.val; omega
      | ⟨1, _⟩ => rfl
  · rw [if_neg h, linear_zero]
    refine (pad_apply_of_not_inside _ _ _ _ _ _ _ _ (0 : Fin 2) fun hin => h ?_).trans (zero_int _)
    exact hin.1
theorem reference_slope (x : FVec Ideal S4224x6656 .f32) (d : FVec Ideal S4224x512 .f32) (q : Fin 4224) (k : Fin 512) :
    (Cert.Reference16Ideal.Read.val_main_v19 (F := Ideal) x d (ix2 q k) : EReal) =
      slope (x (ix2 q ⟨k.val, by omega⟩)) (x (ix2 q ⟨512 + k.val, by omega⟩)) (d (ix2 q k) * keep q.val) := by
  show (Cert.Reference16Ideal.Read.val_main_v18 (F := Ideal) x d (ix2 q k) : EReal) = _
  unfold Cert.Reference16Ideal.Read.val_main_v18 keep
  by_cases h : 112 ≤ q.val
  · rw [if_pos h, mul_one]
    refine (pad_apply_of_inside _ _ _ _ _ _ _ _ (ix2 ⟨q.val - 112, by omega⟩ k : Cert.Reference16Ideal.S4112x512.Idx) (fun a => by
      match a with
      | ⟨0, _⟩ => show q.val = 112 + (q.val - 112) * 1; omega
      | ⟨1, _⟩ => show k.val = 0 + k.val * 1; omega)).trans ?_
    rw [Cert.Reference16Ideal.Read.val_main_v15_apply, Cert.Reference16Ideal.Read.val_main_v13_apply, Cert.Reference16Ideal.Read.val_main_v10_apply, Cert.Reference16Ideal.Read.val_main_v9_apply,
      Cert.Reference16Ideal.Read.val_main_v8_apply, reference_gate, Cert.Reference16Ideal.Read.val_main_v12_apply, Cert.Reference16Ideal.Read.val_main_v0_apply]
    have ed : Cert.Reference16Ideal.Read.idx_main_v12 (ix2 ⟨q.val - 112, by omega⟩ k : Cert.Reference16Ideal.S4112x512.Idx) = ix2 q k := funext fun a => Fin.ext (by
      match a with
      | ⟨0, _⟩ => show 112 + (q.val - 112) = q.val; omega
      | ⟨1, _⟩ => rfl)
    have ea : Cert.Reference16Ideal.Read.idx_main_v0 (ix2 ⟨q.val - 112, by omega⟩ k : Cert.Reference16Ideal.S4112x512.Idx) = ix2 q ⟨k.val, by omega⟩ := funext fun a => Fin.ext (by
      match a with
      | ⟨0, _⟩ => show 112 + (q.val - 112) = q.val; omega
      | ⟨1, _⟩ => rfl)
    have eh : Cert.Reference16Ideal.Read.idx_main_v1 (ix2 ⟨q.val - 112, by omega⟩ k : Cert.Reference16Ideal.S4112x512.Idx) = ix2 q ⟨512 + k.val, by omega⟩ := funext fun a => Fin.ext (by
      match a with
      | ⟨0, _⟩ => show 112 + (q.val - 112) = q.val; omega
      | ⟨1, _⟩ => rfl)
    rw [ed, ea, eh]
    rfl
  · rw [if_neg h, slope_zero]
    refine (pad_apply_of_not_inside _ _ _ _ _ _ _ _ (0 : Fin 2) fun hin => h ?_).trans (zero_int' _)
    exact hin.1

/-! ## The blocks -/

variable (m : (ℓ : Loc nD τ sig) → Buf (Elt Ideal) ℓ) (c : Dev nD)

theorem entry0 : V (F := Ideal) m c main_v0 = (truncf .bf16 (m ((c : Thread nD τ).loc main_arg0) : FVec Ideal S4224x6656 .f32) bitsLt_bf16_f32 : FVec Ideal S4224x6656 .bf16) := by
  entry_read
  rfl
theorem entry1 : V (F := Ideal) m c main_arg1 = (m ((c : Thread nD τ).loc main_arg1) : FVec Ideal S4224x512 .f32) := by
  entry_read
  rfl

/-- The places of the blocks, and the coordinate of a point. -/
theorem places : ∀ t : Fin cfg0.N, win0_0.index t = ![t.val, 0] ∧ win0_1.index t = ![t.val, 1] ∧ win0_2.index t = ![t.val, 0] ∧
    win0_3.index t = ![t.val, 0] ∧ win0_4.index t = ![t.val, 0] :=
  (by decide +kernel : ∀ t : Fin grid0.N, _)
theorem coordinate : ∀ t : Fin cfg0.N, (grid0.coords t 0).val = t.val := (by decide +kernel : ∀ t : Fin grid0.N, _)

theorem block0 (t : Fin cfg0.N) (p : Fin 384) (k : Fin 512) (q : Fin 4224) (h : q.val = t.val * 384 + p.val) :
    ((iblk m c 0 t : Vec Ideal S384x512 .bf16) (ix2 p k) : EReal) = (m ((c : Thread nD τ).loc main_arg0) : FVec Ideal S4224x6656 .f32) (ix2 q ⟨k.val, by omega⟩) := by
  refine (congrFun (entry0 m c) _).trans (congrArg (m ((c : Thread nD τ).loc main_arg0)) (funext fun a => Fin.ext ?_))
  match a with
  | ⟨0, _⟩ =>
    refine Eq.trans ?_ h.symm
    blk_simp [(places t).1]
  | ⟨1, _⟩ => blk_simp [(places t).1]
theorem block1 (t : Fin cfg0.N) (p : Fin 384) (k : Fin 512) (q : Fin 4224) (h : q.val = t.val * 384 + p.val) :
    ((iblk m c 1 t : Vec Ideal S384x512 .bf16) (ix2 p k) : EReal) = (m ((c : Thread nD τ).loc main_arg0) : FVec Ideal S4224x6656 .f32) (ix2 q ⟨512 + k.val, by omega⟩) := by
  refine (congrFun (entry0 m c) _).trans (congrArg (m ((c : Thread nD τ).loc main_arg0)) (funext fun a => Fin.ext ?_))
  match a with
  | ⟨0, _⟩ =>
    refine Eq.trans ?_ h.symm
    blk_simp [(places t).2.1]
  | ⟨1, _⟩ => blk_simp [(places t).2.1]
theorem block2 (t : Fin cfg0.N) (p : Fin 384) (k : Fin 512) (q : Fin 4224) (h : q.val = t.val * 384 + p.val) :
    ((iblk m c 2 t : Vec Ideal S384x512 .f32) (ix2 p k) : EReal) = (m ((c : Thread nD τ).loc main_arg1) : FVec Ideal S4224x512 .f32) (ix2 q k) := by
  refine (congrFun (entry1 m c) _).trans (congrArg (m ((c : Thread nD τ).loc main_arg1)) (funext fun a => Fin.ext ?_))
  match a with
  | ⟨0, _⟩ =>
    refine Eq.trans ?_ h.symm
    blk_simp [(places t).2.2.1]
  | ⟨1, _⟩ => blk_simp [(places t).2.2.1]

theorem linear_at (t : Fin cfg0.N) (p : Fin 384) (k : Fin 512) (q : Fin 4224) (h : q.val = t.val * 384 + p.val) :
    (k0_pay3 (F := Ideal) (grid0.coords t) (iblk m c 1 t) (iblk m c 2 t) (ix2 p k) : EReal) =
      Cert.Reference16Ideal.Read.val_main_v17 (F := Ideal) (m ((c : Thread nD τ).loc main_arg0)) (m ((c : Thread nD τ).loc main_arg1)) (ix2 q k) := by
  refine (linear_apply _ _ _ p k).trans (Eq.trans ?_ (reference_linear _ _ q k).symm)
  rw [coordinate, ← h]
  exact congrArg₂ (fun a b : EReal => linear a (b * keep q.val)) (block1 m c t p k q h) (block2 m c t p k q h)
theorem slope_at (t : Fin cfg0.N) (p : Fin 384) (k : Fin 512) (q : Fin 4224) (h : q.val = t.val * 384 + p.val) :
    (k0_pay4 (F := Ideal) (grid0.coords t) (iblk m c 0 t) (iblk m c 1 t) (iblk m c 2 t) (ix2 p k) : EReal) =
      Cert.Reference16Ideal.Read.val_main_v19 (F := Ideal) (m ((c : Thread nD τ).loc main_arg0)) (m ((c : Thread nD τ).loc main_arg1)) (ix2 q k) := by
  refine (slope_apply _ _ _ _ p k).trans (Eq.trans ?_ (reference_slope _ _ q k).symm)
  rw [coordinate, ← h]
  have hs : ∀ a a' b b' d d' : EReal, a = a' → b = b' → d = d' → slope a b (d * keep q.val) = slope a' b' (d' * keep q.val) := by
    intro a a' b b' d d' h1 h2 h3
    rw [h1, h2, h3]
  exact hs _ _ _ _ _ _ (block0 m c t p k q h) (block1 m c t p k q h) (block2 m c t p k q h)

/-- The gradient of the numbers that are gated. -/
theorem left3 : (dats m 0 c).arrAt 3 cfg0.N = Cert.Reference16Ideal.Read.val_main_v17 (F := Ideal)
    (m ((c : Thread nD τ).loc main_arg0)) (m ((c : Thread nD τ).loc main_arg1)) := by
  refine (dats m 0 c).arrAt_eq_of_covers 3 _ (by decide +kernel) fun t hf y => ?_
  blk_simp
  rw [after0_3]
  unfold out0_3
  frame_out
  have a0 : ((win0_3.blk t).view.emb y 0).val = t.val * 384 + (y 0).val := by blk_simp [(places t).2.2.2.1]
  have a1 : (win0_3.blk t).view.emb y 1 = (y 1 : Fin 512) := Fin.ext (by blk_simp [(places t).2.2.2.1])
  have hy : y = ix2 (y 0) (y 1) := ext2 y
  have hi : (win0_3.blk t).view.emb y = ix2 ((win0_3.blk t).view.emb y 0) (y 1) := (ext2 _).trans (congrArg (ix2 _) a1)
  exact (congrArg (k0_pay3 (F := Ideal) (grid0.coords t) (iblk m c 1 t) (iblk m c 2 t)) hy).trans
    ((linear_at m c t (y 0) (y 1) _ a0).trans (congrArg (Cert.Reference16Ideal.Read.val_main_v17 (F := Ideal) _ _) hi.symm))

/-- The gradient of what the gates are taken of. -/
theorem left4 : (dats m 0 c).arrAt 4 cfg0.N = Cert.Reference16Ideal.Read.val_main_v19 (F := Ideal)
    (m ((c : Thread nD τ).loc main_arg0)) (m ((c : Thread nD τ).loc main_arg1)) := by
  refine (dats m 0 c).arrAt_eq_of_covers 4 _ (by decide +kernel) fun t hf y => ?_
  blk_simp
  rw [after0_4]
  unfold out0_4
  frame_out
  have a0 : ((win0_4.blk t).view.emb y 0).val = t.val * 384 + (y 0).val := by blk_simp [(places t).2.2.2.2]
  have a1 : (win0_4.blk t).view.emb y 1 = (y 1 : Fin 512) := Fin.ext (by blk_simp [(places t).2.2.2.2])
  have hy : y = ix2 (y 0) (y 1) := ext2 y
  have hi : (win0_4.blk t).view.emb y = ix2 ((win0_4.blk t).view.emb y 0) (y 1) := (ext2 _).trans (congrArg (ix2 _) a1)
  exact (congrArg (k0_pay4 (F := Ideal) (grid0.coords t) (iblk m c 0 t) (iblk m c 1 t) (iblk m c 2 t)) hy).trans
    ((slope_at m c t (y 0) (y 1) _ a0).trans (congrArg (Cert.Reference16Ideal.Read.val_main_v19 (F := Ideal) _ _) hi.symm))

end Cert.Kernel16Ideal.Own
-- ==== Proof.P17.lean ====
module
public import proofs.«01_k».proof.Proof.Products
public import proofs.«01_k».proof.Proof.Gen.Kernel17Ideal.Value
public import proofs.«01_k».proof.Proof.Gen.Reference17Ideal.Read
public import Idealize.ShloMosaic.Lib.Claim
public import Idealize.ShloMosaic.Lib.IdealHost
public import Idealize.ShloMosaic.Lib.ValueLayout
public import Idealize.ShloMosaic.Lib.ValueLayoutCasts
public import Idealize.ShloMosaic.Lib.StableHlo.RunRead
public import Idealize.ShloMosaic.Lib.Pipeline.ReadBack
public import Idealize.ShloMosaic.PureOps.Ideal.Laws
/-! The gradient of the norm and the activation behind the convolution. -/
@[expose] public section
set_option maxRecDepth 16384
noncomputable section
namespace Cert.Kernel17Ideal.Own
open Idealize.ShloMosaic hiding ix1 ix2
open Idealize.ShloMosaic.TcCoe
open Idealize.ShloMosaic.ValueIdx
open Cert.Products
open Cert.Kernel17Ideal.Gen Cert.Kernel17Ideal

/-- The length of a row. -/
def wide : EReal := Ideal.ofBits .f32 0x44000000#32
/-- One. -/
def one : EReal := FloatOps.ofBits (F := Ideal) .f32 0x3F800000#32
/-- The gate of a number. -/
def gate (x : EReal) : EReal := Ideal.logistic x
/-- A row less its mean. -/
def cent (x : Fin 512 → EReal) (k : Fin 512) : EReal := x k - Ideal.div (∑ k, x k) wide
/-- The variance of a row, and the small number added to it. -/
def mean (x : Fin 512 → EReal) : EReal := Ideal.div (∑ k, cent x k * cent x k) wide + Ideal.ofBits .f32 0x358637BD#32
/-- What a row is multiplied by. -/
def inv (x : Fin 512 → EReal) : EReal := Ideal.rsqrt (mean x)
/-- The multiplier's derivative. -/
def half (x : Fin 512 → EReal) : EReal := Ideal.ofBits .f32 0xBF000000#32 * Ideal.div (inv x) (mean x)
/-- The row that is activated. -/
def pre (x g b : Fin 512 → EReal) (k : Fin 512) : EReal := cent x k * inv x * g k + b k
/-- The gradient through the activation, of the number activated. -/
def act (n d : EReal) : EReal := d * gate n + n * d * (gate n * (one - gate n))
/-- The gradient of the row that is activated. -/
def back (x g b d : Fin 512 → EReal) (k : Fin 512) : EReal := act (pre x g b k) (d k)
/-- What the gradient of the multiplier adds to a row, per number of the row. -/
def pull (e : Fin 512 → EReal) (q : EReal) (w : Fin 512 → EReal) : EReal := Ideal.div ((∑ k, e k * w k) * q) wide
/-- The gradient of the centred row. -/
def inner (e : Fin 512 → EReal) (r q : EReal) (w : Fin 512 → EReal) (k : Fin 512) : EReal := w k * r + e k * pull e q w + pull e q w * e k
/-- The gradient of the row. -/
def outer (e : Fin 512 → EReal) (r q : EReal) (w : Fin 512 → EReal) (k : Fin 512) : EReal :=
  inner e r q w k + Ideal.div (∑ k, -inner e r q w k) wide
/-- The gradient of a row. -/
def row (x g b d : Fin 512 → EReal) (k : Fin 512) : EReal := outer (cent x) (inv x) (half x) (fun k => back x g b d k * g k) k

/-- The gate as a quotient. -/
theorem gate_eq (x : EReal) : (FloatOps.hostDivf (F := Ideal) (φ := .f32) (FloatOps.ofBits (F := Ideal) .f32 0x3F800000#32)
    (FloatOps.addf (F := Ideal) (φ := .f32) (FloatOps.ofBits (F := Ideal) .f32 0x3F800000#32) (FloatOps.hostUnary (F := Ideal) (φ := .f32) .exp (FloatOps.hostNegf (F := Ideal) (φ := .f32) x))) : EReal) = gate x := by
  show Ideal.div (Ideal.ofBits .f32 0x3F800000#32) (Ideal.ofBits .f32 0x3F800000#32 + Ideal.exp (-x)) = Ideal.logistic x
  rw [Ideal.ofBits_one_f32]
  rfl

/-! ## The sums and the repeated columns -/

theorem sum_row (v : FVec Ideal S384x512 .f32) (p : Fin 384) :
    (multiReduction .add [1] S384 v 0x00000000#32 reduces_S384x512_S384 (.inl rfl) rfl (ix1 p) : EReal) = ∑ k : Fin 512, v (ix2 p k) := by
  refine (Ideal.multiReduction_add_single _ _ _ _ _ (ix1 p)).trans (Finset.sum_congr rfl fun k _ => congrArg v ?_)
  funext a
  match a with
  | ⟨0, _⟩ => rfl
  | ⟨1, _⟩ => rfl
theorem sum_column (v : FVec Ideal S384x512 .f32) (k : Fin 512) :
    (multiReduction .add [0] S512 v 0x00000000#32 reduces_S384x512_S512 (.inl rfl) rfl (ix1 k) : EReal) = ∑ p : Fin 384, v (ix2 p k) := by
  refine (Ideal.multiReduction_add_single _ _ _ _ _ (ix1 k)).trans (Finset.sum_congr rfl fun p _ => congrArg v ?_)
  funext a
  match a with
  | ⟨0, _⟩ => rfl
  | ⟨1, _⟩ => rfl
theorem sum_one (v : FVec Ideal S384x1 .f32) (p : Fin 384) :
    (multiReduction .add [1] S384 v 0x00000000#32 reduces_S384x1_S384 (.inl rfl) rfl (ix1 p) : EReal) = v (ix2 p 0) := by
  refine (Ideal.multiReduction_add_single _ _ _ _ _ (ix1 p)).trans ((Fin.sum_univ_one _).trans (congrArg v ?_))
  funext a
  match a with
  | ⟨0, _⟩ => rfl
  | ⟨1, _⟩ => rfl
theorem repeated (v : FVec Ideal S384x1 .f32) (p : Fin 384) (k : Fin 512) :
    (broadcastTo S384x512 v broadcasts_S384x1_S384x512 (ix2 p k) : EReal) = v (ix2 p 0) :=
  broadcastTo_apply v _ (ix2 p k) (ix2 p 0) (fun a => match a with
    | ⟨0, _⟩ => rfl
    | ⟨1, _⟩ => rfl)

/-! ## What a point computes -/

theorem cent_apply (x : Vec Ideal S384x512 .f32) (p : Fin 384) (k : Fin 512) :
    (k0_pay2 (F := Ideal) x (ix2 p k) : EReal) = cent (fun k => x (ix2 p k)) k := by
  unfold k0_pay2 cent
  refine congrArg (fun z : EReal => x (ix2 p k) - z) ((repeated _ p k).trans ?_)
  exact congrArg (fun z : EReal => Ideal.div z wide) ((shapeCast_a_a1_apply _ _ p 0).trans (sum_row _ p))
theorem mean_apply (x : Vec Ideal S384x512 .f32) (p : Fin 384) (u : Fin 1) :
    (k0_pay3 (F := Ideal) x (ix2 p u) : EReal) = mean fun k => x (ix2 p k) := by
  unfold k0_pay3 mean
  refine congrArg (fun z : EReal => Ideal.div z wide + Ideal.ofBits .f32 0x358637BD#32) ?_
  exact (shapeCast_a_a1_apply _ _ p u).trans ((sum_row _ p).trans (Finset.sum_congr rfl fun k _ =>
    congrArg₂ (fun a b : EReal => a * b) (cent_apply x p k) (cent_apply x p k)))
theorem inv_apply (x : Vec Ideal S384x512 .f32) (p : Fin 384) (u : Fin 1) :
    (k0_pay4 (F := Ideal) x (ix2 p u) : EReal) = inv fun k => x (ix2 p k) := by
  unfold k0_pay4 inv
  exact congrArg Ideal.rsqrt (mean_apply x p u)
theorem half_apply (x : Vec Ideal S384x512 .f32) (p : Fin 384) (u : Fin 1) :
    (k0_pay5 (F := Ideal) x (ix2 p u) : EReal) = half fun k => x (ix2 p k) := by
  unfold k0_pay5 half
  exact congrArg (fun z : EReal => Ideal.ofBits .f32 0xBF000000#32 * z) (congrArg₂ Ideal.div (inv_apply x p u) (mean_apply x p u))
theorem norm_apply (x : Vec Ideal S384x512 .f32) (p : Fin 384) (k : Fin 512) :
    (k0_pay6 (F := Ideal) x (ix2 p k) : EReal) = cent (fun k => x (ix2 p k)) k * inv fun k => x (ix2 p k) := by
  unfold k0_pay6
  exact congrArg₂ (fun a b : EReal => a * b) (cent_apply x p k) ((repeated _ p k).trans (inv_apply x p 0))
theorem back_apply (x : Vec Ideal S384x512 .f32) (g b : Vec Ideal S1x512 .f32) (d : Vec Ideal S384x512 .bf16) (p : Fin 384) (k : Fin 512) :
    (k0_pay7 (F := Ideal) x g b d (ix2 p k) : EReal) = back (fun k => x (ix2 p k)) (fun k => g (ix2 0 k)) (fun k => b (ix2 0 k)) (fun k => d (ix2 p k)) k := by
  have hr : ∀ g : FVec Ideal S1x512 .f32, (broadcastTo S384x512 g broadcasts_S1x512_S384x512 (ix2 p k) : EReal) = g (ix2 0 k) :=
    fun g => broadcastTo_1b_ab_apply _ _ p k
  unfold k0_pay7 k0_pay1 back pre
  simp only [shapeCast_self]
  exact congrArg (fun n : EReal => act n (d (ix2 p k))) (congrArg₂ (fun a b : EReal => a + b)
    (congrArg₂ (fun a b : EReal => a * b) (norm_apply x p k) (hr g)) (hr b))

/-- A column, summed along its one place and repeated. -/
def spread (v : FVec Ideal S384x1 .f32) : FVec Ideal S384x512 .f32 :=
  broadcastTo S384x512 (shapeCast S384x1 (multiReduction .add [1] S384 v 0x00000000#32 reduces_S384x1_S384 (.inl rfl) rfl) shapeCasts_S384_S384x1) broadcasts_S384x1_S384x512
/-- The sums of the rows, as a column. -/
def sums (v : FVec Ideal S384x512 .f32) : FVec Ideal S384x1 .f32 :=
  shapeCast S384x1 (multiReduction .add [1] S384 v 0x00000000#32 reduces_S384x512_S384 (.inl rfl) rfl) shapeCasts_S384_S384x1
/-- The incoming gradient by the scale. -/
def scaled (g : FVec Ideal S1x512 .f32) (e : FVec Ideal S384x512 .f32) : FVec Ideal S384x512 .f32 := mulf e (broadcastTo S384x512 g broadcasts_S1x512_S384x512)
/-- What the multiplier's gradient adds. -/
def pulled (g : FVec Ideal S1x512 .f32) (v : FVec Ideal S384x512 .f32) (q : FVec Ideal S384x1 .f32) (e : FVec Ideal S384x512 .f32) : FVec Ideal S384x512 .f32 :=
  spread (divf (mulf (sums (mulf v (scaled g e))) q) (broadcast S384x1 (Scalar.ofBits .f32 0x44000000#32)))
/-- The gradient of the centred rows. -/
def inners (g : FVec Ideal S1x512 .f32) (v : FVec Ideal S384x512 .f32) (r q : FVec Ideal S384x1 .f32) (e : FVec Ideal S384x512 .f32) : FVec Ideal S384x512 .f32 :=
  addf (addf (mulf (scaled g e) (broadcastTo S384x512 r broadcasts_S384x1_S384x512)) (mulf v (pulled g v q e))) (mulf (pulled g v q e) v)
theorem rows_eq (g : FVec Ideal S1x512 .f32) (v : FVec Ideal S384x512 .f32) (r q : FVec Ideal S384x1 .f32) (e : FVec Ideal S384x512 .f32) :
    k0_pay10 (F := Ideal) g v r q e = addf (inners g v r q e) (spread (divf (sums (subf (broadcast S384x512 (Scalar.ofBits .f32 0x00000000#32)) (inners g v r q e)))
      (broadcast S384x1 (Scalar.ofBits .f32 0x44000000#32)))) := rfl
theorem spread_apply (v : FVec Ideal S384x1 .f32) (p : Fin 384) (k : Fin 512) : (spread v (ix2 p k) : EReal) = v (ix2 p 0) :=
  (repeated _ p k).trans ((shapeCast_a_a1_apply _ _ p 0).trans (sum_one v p))
theorem sums_apply (v : FVec Ideal S384x512 .f32) (p : Fin 384) (u : Fin 1) : (sums v (ix2 p u) : EReal) = ∑ k : Fin 512, v (ix2 p k) :=
  (shapeCast_a_a1_apply _ _ p u).trans (sum_row v p)
theorem scaled_apply (g : FVec Ideal S1x512 .f32) (e : FVec Ideal S384x512 .f32) (p : Fin 384) (k : Fin 512) :
    (scaled g e (ix2 p k) : EReal) = e (ix2 p k) * g (ix2 0 k) :=
  congrArg (fun z : EReal => e (ix2 p k) * z) (broadcastTo_1b_ab_apply _ _ p k)
theorem pulled_apply (g : FVec Ideal S1x512 .f32) (v : FVec Ideal S384x512 .f32) (q : FVec Ideal S384x1 .f32) (e : FVec Ideal S384x512 .f32) (p : Fin 384) (k : Fin 512) :
    (pulled g v q e (ix2 p k) : EReal) = pull (fun k => v (ix2 p k)) (q (ix2 p 0)) (fun k => e (ix2 p k) * g (ix2 0 k)) := by
  refine (spread_apply _ p k).trans (congrArg (fun z : EReal => Ideal.div (z * q (ix2 p 0)) wide) ((sums_apply _ p 0).trans (Finset.sum_congr rfl fun k _ => ?_)))
  exact congrArg (fun z : EReal => v (ix2 p k) * z) (scaled_apply g e p k)
theorem inners_apply (g : FVec Ideal S1x512 .f32) (v : FVec Ideal S384x512 .f32) (r q : FVec Ideal S384x1 .f32) (e : FVec Ideal S384x512 .f32) (p : Fin 384) (k : Fin 512) :
    (inners g v r q e (ix2 p k) : EReal) = inner (fun k => v (ix2 p k)) (r (ix2 p 0)) (q (ix2 p 0)) (fun k => e (ix2 p k) * g (ix2 0 k)) k :=
  congrArg₂ (fun a z : EReal => a + v (ix2 p k) * z + z * v (ix2 p k)) (congrArg₂ (fun a b : EReal => a * b) (scaled_apply g e p k) (repeated r p k)) (pulled_apply g v q e p k)
theorem outer_apply (g : FVec Ideal S1x512 .f32) (v : FVec Ideal S384x512 .f32) (r q : FVec Ideal S384x1 .f32) (e : FVec Ideal S384x512 .f32) (p : Fin 384) (k : Fin 512) :
    (k0_pay10 (F := Ideal) g v r q e (ix2 p k) : EReal) = outer (fun k => v (ix2 p k)) (r (ix2 p 0)) (q (ix2 p 0)) (fun k => e (ix2 p k) * g (ix2 0 k)) k := by
  rw [rows_eq]
  refine congrArg₂ (fun a z : EReal => a + z) (inners_apply g v r q e p k) ((spread_apply _ p k).trans
    (congrArg (fun z : EReal => Ideal.div z wide) ((sums_apply _ p 0).trans (Finset.sum_congr rfl fun k _ => ?_))))
  refine (congrArg₂ (fun a b : EReal => a - b) Ideal.ofBits_zero_f32 (inners_apply g v r q e p k)).trans ?_
  exact zero_sub _

/-- The rows a point leaves. -/
def rowsV (x : Vec Ideal S384x512 .f32) (g b : Vec Ideal S1x512 .f32) (d : Vec Ideal S384x512 .bf16) : FVec Ideal S384x512 .f32 :=
  k0_pay10 (F := Ideal) (k0_pay1 (F := Ideal) g) (k0_pay2 (F := Ideal) x) (k0_pay4 (F := Ideal) x) (k0_pay5 (F := Ideal) x) (k0_pay7 (F := Ideal) x g b d)
/-- What a point adds to the scale's gradient. -/
def scaleV (x : Vec Ideal S384x512 .f32) (g b : Vec Ideal S1x512 .f32) (d : Vec Ideal S384x512 .bf16) : FVec Ideal S1x512 .f32 :=
  shapeCast S1x512 (multiReduction .add [0] S512 (k0_pay9 (F := Ideal) x g b d) 0x00000000#32 reduces_S384x512_S512 (.inl rfl) rfl : FVec Ideal S512 .f32) shapeCasts_S512_S1x512
theorem row_apply (x : Vec Ideal S384x512 .f32) (g b : Vec Ideal S1x512 .f32) (d : Vec Ideal S384x512 .bf16) (p : Fin 384) (k : Fin 512) :
    (rowsV x g b d (ix2 p k) : EReal) = row (fun k => x (ix2 p k)) (fun k => g (ix2 0 k)) (fun k => b (ix2 0 k)) (fun k => d (ix2 p k)) k := by
  refine (outer_apply _ _ _ _ _ p k).trans ?_
  unfold row k0_pay1
  simp only [shapeCast_self, cent_apply, inv_apply, half_apply, back_apply]
theorem scale_apply (x : Vec Ideal S384x512 .f32) (g b : Vec Ideal S1x512 .f32) (d : Vec Ideal S384x512 .bf16) (u : Fin 1) (k : Fin 512) :
    (scaleV x g b d (ix2 u k) : EReal) = ∑ p : Fin 384, cent (fun k => x (ix2 p k)) k * inv (fun k => x (ix2 p k)) * back (fun k => x (ix2 p k)) (fun k => g (ix2 0 k)) (fun k => b (ix2 0 k)) (fun k => d (ix2 p k)) k := by
  refine (shapeCast_a_1a_apply _ _ u k).trans ((sum_column _ k).trans (Finset.sum_congr rfl fun p _ => ?_))
  exact congrArg₂ (fun a b : EReal => a * b) (norm_apply x p k) (back_apply x g b d p k)
theorem shift_apply (x : Vec Ideal S384x512 .f32) (g b : Vec Ideal S1x512 .f32) (d : Vec Ideal S384x512 .bf16) (u : Fin 1) (k : Fin 512) :
    (k0_pay8 (F := Ideal) x g b d (ix2 u k) : EReal) = ∑ p : Fin 384, back (fun k => x (ix2 p k)) (fun k => g (ix2 0 k)) (fun k => b (ix2 0 k)) (fun k => d (ix2 p k)) k := by
  unfold k0_pay8
  exact (shapeCast_a_1a_apply _ _ u k).trans ((sum_column _ k).trans (Finset.sum_congr rfl fun p _ => back_apply x g b d p k))

/-! ## The reference -/

theorem reference_cent (x : FVec Ideal S4224x512 .f32) (q : Fin 4224) (k : Fin 512) :
    (Cert.Reference17Ideal.Read.val_main_v5 (F := Ideal) x (ix2 q k) : EReal) = cent (fun k => x (ix2 q k)) k := by
  unfold cent
  rw [Cert.Reference17Ideal.Read.val_main_v5_apply, Cert.Reference17Ideal.Read.val_main_v4_apply, Cert.Reference17Ideal.Read.val_main_v3_apply, Cert.Reference17Ideal.Read.val_main_v1_apply, Cert.Reference17Ideal.Read.val_main_v0_apply, Cert.Reference17Ideal.Read.val_main_v2_apply]
  refine congrArg (fun z : EReal => x (ix2 q k) - Ideal.div z wide) ?_
  refine (congrArg (· + _) Ideal.ofBits_zero_f32).trans ((zero_add _).trans (Finset.sum_congr rfl fun k _ => congrArg x ?_))
  funext a
  match a with
  | ⟨0, _⟩ => rfl
  | ⟨1, _⟩ => rfl
theorem reference_mean (x : FVec Ideal S4224x512 .f32) (i : Cert.Reference17Ideal.S4224x1.Idx) :
    (Cert.Reference17Ideal.Read.val_main_v12 (F := Ideal) x i : EReal) = mean fun k => x (ix2 (i 0) k) := by
  unfold mean
  rw [Cert.Reference17Ideal.Read.val_main_v12_apply, Cert.Reference17Ideal.Read.val_main_v10_apply, Cert.Reference17Ideal.Read.val_main_v8_apply, Cert.Reference17Ideal.Read.val_main_v7_apply, Cert.Reference17Ideal.Read.val_main_v9_apply, Cert.Reference17Ideal.Read.val_main_v11_apply]
  refine congrArg (fun z : EReal => Ideal.div z wide + Ideal.ofBits .f32 0x358637BD#32) ?_
  refine (congrArg (· + _) Ideal.ofBits_zero_f32).trans ((zero_add _).trans (Finset.sum_congr rfl fun k _ => ?_))
  have e : Cert.Reference17Ideal.Read.idx_main_v7 (Cert.Reference17Ideal.Read.idx_main_v8 i) k = ix2 (i 0) k := by
    funext a
    match a with
    | ⟨0, _⟩ => rfl
    | ⟨1, _⟩ => rfl
  rw [e]
  exact congrArg₂ (fun a b : EReal => a * b) (reference_cent x (i 0) k) (reference_cent x (i 0) k)
theorem reference_inv (x : FVec Ideal S4224x512 .f32) (i : Cert.Reference17Ideal.S4224x1.Idx) :
    (Cert.Reference17Ideal.Read.val_main_v13 (F := Ideal) x i : EReal) = inv fun k => x (ix2 (i 0) k) :=
  congrArg Ideal.rsqrt (reference_mean x i)
theorem reference_half (x : FVec Ideal S4224x512 .f32) (i : Cert.Reference17Ideal.S4224x1.Idx) :
    (Cert.Reference17Ideal.Read.val_main_v16 (F := Ideal) x i : EReal) = half fun k => x (ix2 (i 0) k) := by
  rw [Cert.Reference17Ideal.Read.val_main_v16_apply, Cert.Reference17Ideal.Read.val_main_v15_apply, Cert.Reference17Ideal.Read.val_main_v14_apply]
  exact congrArg (fun z : EReal => Ideal.ofBits .f32 0xBF000000#32 * z) (congrArg₂ Ideal.div (reference_inv x i) (reference_mean x i))
theorem reference_norm (x : FVec Ideal S4224x512 .f32) (q : Fin 4224) (k : Fin 512) :
    (Cert.Reference17Ideal.Read.val_main_v18 (F := Ideal) x (ix2 q k) : EReal) = cent (fun k => x (ix2 q k)) k * inv fun k => x (ix2 q k) := by
  rw [Cert.Reference17Ideal.Read.val_main_v18_apply, Cert.Reference17Ideal.Read.val_main_v17_apply]
  exact congrArg₂ (fun a b : EReal => a * b) (reference_cent x q k) (reference_inv x _)
theorem reference_pre (x : FVec Ideal S4224x512 .f32) (g b : FVec Ideal S512 .f32) (q : Fin 4224) (k : Fin 512) :
    (Cert.Reference17Ideal.Read.val_main_v24 (F := Ideal) x g b (ix2 q k) : EReal) = pre (fun k => x (ix2 q k)) (fun k => g (ix1 k)) (fun k => b (ix1 k)) k := by
  rw [Cert.Reference17Ideal.Read.val_main_v24_apply, Cert.Reference17Ideal.Read.val_main_v21_apply, Cert.Reference17Ideal.Read.val_main_v20_apply, Cert.Reference17Ideal.Read.val_main_v19_apply, Cert.Reference17Ideal.Read.val_main_v23_apply, Cert.Reference17Ideal.Read.val_main_v22_apply]
  refine congrArg₂ (fun a b : EReal => a + b) (congrArg₂ (fun a b : EReal => a * b) (reference_norm x q k) (congrArg g (funext fun a => ?_))) (congrArg b (funext fun a => ?_))
  · match a with
    | ⟨0, _⟩ => rfl
  · match a with
    | ⟨0, _⟩ => rfl
theorem reference_gate (x : FVec Ideal S4224x512 .f32) (g b : FVec Ideal S512 .f32) (i : S4224x512.Idx) :
    (Cert.Reference17Ideal.Read.val_main_v25_2 (F := Ideal) x g b i : EReal) = gate (Cert.Reference17Ideal.Read.val_main_v24 (F := Ideal) x g b i) := by
  rw [← gate_eq, Cert.Reference17Ideal.Read.val_main_v25_2_apply, Cert.Reference17Ideal.Read.val_main_call0_v4_apply, Cert.Reference17Ideal.Read.val_main_call0_v3_apply, Cert.Reference17Ideal.Read.val_main_call0_v2_apply, Cert.Reference17Ideal.Read.val_main_call0_v1_apply, Cert.Reference17Ideal.Read.val_main_call0_v0_apply]
  rfl
theorem reference_back (x : FVec Ideal S4224x512 .f32) (g b : FVec Ideal S512 .f32) (d : FVec Ideal S4224x512 .f32) (q : Fin 4224) (k : Fin 512) :
    (Cert.Reference17Ideal.Read.val_main_v26 (F := Ideal) x g b d (ix2 q k) : EReal) = back (fun k => x (ix2 q k)) (fun k => g (ix1 k)) (fun k => b (ix1 k)) (fun k => d (ix2 q k)) k := by
  rw [Cert.Reference17Ideal.Read.val_main_v26_apply, Cert.Reference17Ideal.Read.val_main_call1_v2_apply, Cert.Reference17Ideal.Read.val_main_call1_v1_apply, Cert.Reference17Ideal.Read.val_main_call1_v0_apply, Cert.Reference17Ideal.Read.val_main_v25_1_apply, Cert.Reference17Ideal.Read.val_main_call0_v7_apply, Cert.Reference17Ideal.Read.val_main_call0_v6_apply, reference_gate]
  exact congrArg (fun n : EReal => act n (d (ix2 q k))) (reference_pre x g b q k)
theorem reference_scaled (x : FVec Ideal S4224x512 .f32) (g b : FVec Ideal S512 .f32) (d : FVec Ideal S4224x512 .f32) (q : Fin 4224) (k : Fin 512) :
    (Cert.Reference17Ideal.Read.val_main_v34 (F := Ideal) x g b d (ix2 q k) : EReal) = back (fun k => x (ix2 q k)) (fun k => g (ix1 k)) (fun k => b (ix1 k)) (fun k => d (ix2 q k)) k * g (ix1 k) := by
  rw [Cert.Reference17Ideal.Read.val_main_v34_apply, Cert.Reference17Ideal.Read.val_main_v33_apply, Cert.Reference17Ideal.Read.val_main_v19_apply]
  refine congrArg₂ (fun a b : EReal => a * b) (reference_back x g b d q k) (congrArg g (funext fun a => ?_))
  match a with
  | ⟨0, _⟩ => rfl
theorem reference_pull (x : FVec Ideal S4224x512 .f32) (g b : FVec Ideal S512 .f32) (d : FVec Ideal S4224x512 .f32) (q : Fin 4224) (k : Fin 512) :
    (Cert.Reference17Ideal.Read.val_main_v45 (F := Ideal) x g b d (ix2 q k) : EReal) =
      pull (cent fun k => x (ix2 q k)) (half fun k => x (ix2 q k)) (fun k => back (fun k => x (ix2 q k)) (fun k => g (ix1 k)) (fun k => b (ix1 k)) (fun k => d (ix2 q k)) k * g (ix1 k)) := by
  unfold pull
  rw [Cert.Reference17Ideal.Read.val_main_v45_apply, Cert.Reference17Ideal.Read.val_main_v44_apply]
  refine (congrArg (· + _) Ideal.ofBits_zero_f32).trans ((zero_add _).trans ((Fin.sum_univ_one _).trans ?_))
  rw [Cert.Reference17Ideal.Read.val_main_v43_apply, Cert.Reference17Ideal.Read.val_main_v41_apply, Cert.Reference17Ideal.Read.val_main_v38_apply, Cert.Reference17Ideal.Read.val_main_v37_apply, Cert.Reference17Ideal.Read.val_main_v42_apply]
  refine congrArg (fun z : EReal => Ideal.div z wide) (congrArg₂ (fun a b : EReal => a * b) ?_ (reference_half x _))
  refine (congrArg (· + _) Ideal.ofBits_zero_f32).trans ((zero_add _).trans (Finset.sum_congr rfl fun k' _ => ?_))
  have e : Cert.Reference17Ideal.Read.idx_main_v37 (Cert.Reference17Ideal.Read.idx_main_v38 (Cert.Reference17Ideal.Read.idx_main_v44 (Cert.Reference17Ideal.Read.idx_main_v45 (ix2 q k : S4224x512.Idx)) 0)) k' = ix2 q k' := by
    funext a
    match a with
    | ⟨0, _⟩ => exact Fin.ext (by show q.val * 1 + 0 = q.val; omega)
    | ⟨1, _⟩ => rfl
  rw [e, Cert.Reference17Ideal.Read.val_main_v36_apply]
  exact congrArg₂ (fun a b : EReal => a * b) (reference_cent x q k') (reference_scaled x g b d q k')
theorem reference_inner (x : FVec Ideal S4224x512 .f32) (g b : FVec Ideal S512 .f32) (d : FVec Ideal S4224x512 .f32) (q : Fin 4224) (k : Fin 512) :
    (Cert.Reference17Ideal.Read.val_main_v49 (F := Ideal) x g b d (ix2 q k) : EReal) =
      inner (cent fun k => x (ix2 q k)) (inv fun k => x (ix2 q k)) (half fun k => x (ix2 q k)) (fun k => back (fun k => x (ix2 q k)) (fun k => g (ix1 k)) (fun k => b (ix1 k)) (fun k => d (ix2 q k)) k * g (ix1 k)) k := by
  rw [Cert.Reference17Ideal.Read.val_main_v49_apply, Cert.Reference17Ideal.Read.val_main_v48_apply, Cert.Reference17Ideal.Read.val_main_v47_apply, Cert.Reference17Ideal.Read.val_main_v46_apply, Cert.Reference17Ideal.Read.val_main_v40_apply, Cert.Reference17Ideal.Read.val_main_v39_apply, reference_pull, reference_cent, reference_scaled, reference_inv]
  rfl
theorem reference_row (x : FVec Ideal S4224x512 .f32) (g b : FVec Ideal S512 .f32) (d : FVec Ideal S4224x512 .f32) (q : Fin 4224) (k : Fin 512) :
    (Cert.Reference17Ideal.Read.val_main_v57 (F := Ideal) x g b d (ix2 q k) : EReal) = row (fun k => x (ix2 q k)) (fun k => g (ix1 k)) (fun k => b (ix1 k)) (fun k => d (ix2 q k)) k := by
  unfold row outer
  rw [Cert.Reference17Ideal.Read.val_main_v57_apply, Cert.Reference17Ideal.Read.val_main_v56_apply, Cert.Reference17Ideal.Read.val_main_v55_apply]
  refine congrArg₂ (fun a b : EReal => a + b) (reference_inner x g b d q k) ?_
  refine (congrArg (· + _) Ideal.ofBits_zero_f32).trans ((zero_add _).trans ((Fin.sum_univ_one _).trans ?_))
  rw [Cert.Reference17Ideal.Read.val_main_v54_apply, Cert.Reference17Ideal.Read.val_main_v52_apply, Cert.Reference17Ideal.Read.val_main_v51_apply, Cert.Reference17Ideal.Read.val_main_v53_apply]
  refine congrArg (fun z : EReal => Ideal.div z wide) ?_
  refine (congrArg (· + _) Ideal.ofBits_zero_f32).trans ((zero_add _).trans (Finset.sum_congr rfl fun k' _ => ?_))
  have e : Cert.Reference17Ideal.Read.idx_main_v51 (Cert.Reference17Ideal.Read.idx_main_v52 (Cert.Reference17Ideal.Read.idx_main_v55 (Cert.Reference17Ideal.Read.idx_main_v56 (ix2 q k : S4224x512.Idx)) 0)) k' = ix2 q k' := by
    funext a
    match a with
    | ⟨0, _⟩ => exact Fin.ext (by show q.val * 1 + 0 = q.val; omega)
    | ⟨1, _⟩ => rfl
  rw [e, Cert.Reference17Ideal.Read.val_main_v50_apply]
  exact congrArg (fun z : EReal => -z) (reference_inner x g b d q k')
theorem reference_scale (x : FVec Ideal S4224x512 .f32) (g b : FVec Ideal S512 .f32) (d : FVec Ideal S4224x512 .f32) (i : S1x512.Idx) :
    (Cert.Reference17Ideal.Read.val_main_v58 (F := Ideal) x g b d i : EReal) = ∑ q : Fin 4224, cent (fun k => x (ix2 q k)) (i 1) * inv (fun k => x (ix2 q k)) * back (fun k => x (ix2 q k)) (fun k => g (ix1 k)) (fun k => b (ix1 k)) (fun k => d (ix2 q k)) (i 1) := by
  rw [Cert.Reference17Ideal.Read.val_main_v58_apply, Cert.Reference17Ideal.Read.val_main_v35_apply]
  refine (congrArg (· + _) Ideal.ofBits_zero_f32).trans ((zero_add _).trans ((Fin.sum_univ_one _).trans ?_))
  rw [Cert.Reference17Ideal.Read.val_main_v32_apply, Cert.Reference17Ideal.Read.val_main_v31_apply]
  refine (congrArg (· + _) Ideal.ofBits_zero_f32).trans ((zero_add _).trans (Finset.sum_congr rfl fun q _ => ?_))
  have e : Cert.Reference17Ideal.Read.idx_main_v31 (Cert.Reference17Ideal.Read.idx_main_v32 (Cert.Reference17Ideal.Read.idx_main_v35 (Cert.Reference17Ideal.Read.idx_main_v58 i) 0)) q = ix2 q (i 1) := by
    funext a
    match a with
    | ⟨0, _⟩ => rfl
    | ⟨1, _⟩ => exact Fin.ext (by
        have h0 : (i 0).val < 1 := (i 0).isLt
        show 0 * 512 + ((i 0).val * 512 + (i 1).val) = (i 1).val
        omega)
  rw [e]
  exact congrArg₂ (fun a b : EReal => a * b) (reference_norm x q (i 1)) (reference_back x g b d q (i 1))
theorem reference_shift (x : FVec Ideal S4224x512 .f32) (g b : FVec Ideal S512 .f32) (d : FVec Ideal S4224x512 .f32) (i : S1x512.Idx) :
    (Cert.Reference17Ideal.Read.val_main_v59 (F := Ideal) x g b d i : EReal) = ∑ q : Fin 4224, back (fun k => x (ix2 q k)) (fun k => g (ix1 k)) (fun k => b (ix1 k)) (fun k => d (ix2 q k)) (i 1) := by
  rw [Cert.Reference17Ideal.Read.val_main_v59_apply, Cert.Reference17Ideal.Read.val_main_v29_apply]
  refine (congrArg (· + _) Ideal.ofBits_zero_f32).trans ((zero_add _).trans ((Fin.sum_univ_one _).trans ?_))
  rw [Cert.Reference17Ideal.Read.val_main_v28_apply, Cert.Reference17Ideal.Read.val_main_v27_apply]
  refine (congrArg (· + _) Ideal.ofBits_zero_f32).trans ((zero_add _).trans (Finset.sum_congr rfl fun q _ => ?_))
  have e : Cert.Reference17Ideal.Read.idx_main_v27 (Cert.Reference17Ideal.Read.idx_main_v28 (Cert.Reference17Ideal.Read.idx_main_v29 (Cert.Reference17Ideal.Read.idx_main_v59 i) 0)) q = ix2 q (i 1) := by
    funext a
    match a with
    | ⟨0, _⟩ => rfl
    | ⟨1, _⟩ => exact Fin.ext (by
        have h0 : (i 0).val < 1 := (i 0).isLt
        show 0 * 512 + ((i 0).val * 512 + (i 1).val) = (i 1).val
        omega)
  rw [e]
  exact reference_back x g b d q (i 1)

/-! ## The blocks -/

variable (m : (ℓ : Loc nD τ sig) → Buf (Elt Ideal) ℓ) (c : Dev nD)

theorem entry0 : V (F := Ideal) m c main_arg0 = (m ((c : Thread nD τ).loc main_arg0) : FVec Ideal S4224x512 .f32) := by
  entry_read
  rfl
theorem entry1 (u : Fin 1) (k : Fin 512) : (V (F := Ideal) m c main_v1 : FVec Ideal S1x512 .f32) (ix2 u k) = (m ((c : Thread nD τ).loc main_arg1) : FVec Ideal S512 .f32) (ix1 k) := by
  have e : (V (F := Ideal) m c main_v1 : FVec Ideal S1x512 .f32) = shapeCast S1x512 (m ((c : Thread nD τ).loc main_arg1) : FVec Ideal S512 .f32) shapeCasts_S512_S1x512 := by
    entry_read
    rfl
  rw [e]
  exact shapeCast_a_1a_apply _ _ u k
theorem entry2 (u : Fin 1) (k : Fin 512) : (V (F := Ideal) m c main_v2 : FVec Ideal S1x512 .f32) (ix2 u k) = (m ((c : Thread nD τ).loc main_arg2) : FVec Ideal S512 .f32) (ix1 k) := by
  have e : (V (F := Ideal) m c main_v2 : FVec Ideal S1x512 .f32) = shapeCast S1x512 (m ((c : Thread nD τ).loc main_arg2) : FVec Ideal S512 .f32) shapeCasts_S512_S1x512 := by
    entry_read
    rfl
  rw [e]
  exact shapeCast_a_1a_apply _ _ u k
theorem entry3 : V (F := Ideal) m c main_v0 = (truncf .bf16 (m ((c : Thread nD τ).loc main_arg3) : FVec Ideal S4224x512 .f32) bitsLt_bf16_f32 : FVec Ideal S4224x512 .bf16) := by
  entry_read
  rfl

/-- The places of the blocks. -/
theorem places : ∀ t : Fin cfg0.N, win0_0.index t = ![t.val, 0] ∧ win0_1.index t = ![0, 0] ∧ win0_2.index t = ![0, 0] ∧
    win0_3.index t = ![t.val, 0] ∧ win0_4.index t = ![t.val, 0] ∧ win0_5.index t = ![0, 0] ∧ win0_6.index t = ![0, 0] :=
  (by decide +kernel : ∀ t : Fin grid0.N, _)

theorem block0 (t : Fin cfg0.N) (p : Fin 384) (k : Fin 512) (q : Fin 4224) (h : q.val = t.val * 384 + p.val) :
    ((iblk m c 0 t : Vec Ideal S384x512 .f32) (ix2 p k) : EReal) = (m ((c : Thread nD τ).loc main_arg0) : FVec Ideal S4224x512 .f32) (ix2 q k) := by
  refine (congrFun (entry0 m c) _).trans (congrArg (m ((c : Thread nD τ).loc main_arg0)) (funext fun a => Fin.ext ?_))
  match a with
  | ⟨0, _⟩ =>
    refine Eq.trans ?_ h.symm
    blk_simp [(places t).1]
  | ⟨1, _⟩ => blk_simp [(places t).1]
theorem block3 (t : Fin cfg0.N) (p : Fin 384) (k : Fin 512) (q : Fin 4224) (h : q.val = t.val * 384 + p.val) :
    ((iblk m c 3 t : Vec Ideal S384x512 .bf16) (ix2 p k) : EReal) = (m ((c : Thread nD τ).loc main_arg3) : FVec Ideal S4224x512 .f32) (ix2 q k) := by
  refine (congrFun (entry3 m c) _).trans (congrArg (m ((c : Thread nD τ).loc main_arg3)) (funext fun a => Fin.ext ?_))
  match a with
  | ⟨0, _⟩ =>
    refine Eq.trans ?_ h.symm
    blk_simp [(places t).2.2.2.1]
  | ⟨1, _⟩ => blk_simp [(places t).2.2.2.1]
theorem block1 (t : Fin cfg0.N) (k : Fin 512) :
    ((iblk m c 1 t : Vec Ideal S1x512 .f32) (ix2 0 k) : EReal) = (m ((c : Thread nD τ).loc main_arg1) : FVec Ideal S512 .f32) (ix1 k) := by
  refine Eq.trans (congrArg (V (F := Ideal) m c main_v1) (funext fun a => Fin.ext ?_)) (entry1 m c 0 k)
  match a with
  | ⟨0, _⟩ => blk_simp [(places t).2.1]
  | ⟨1, _⟩ => blk_simp [(places t).2.1]
theorem block2 (t : Fin cfg0.N) (k : Fin 512) :
    ((iblk m c 2 t : Vec Ideal S1x512 .f32) (ix2 0 k) : EReal) = (m ((c : Thread nD τ).loc main_arg2) : FVec Ideal S512 .f32) (ix1 k) := by
  refine Eq.trans (congrArg (V (F := Ideal) m c main_v2) (funext fun a => Fin.ext ?_)) (entry2 m c 0 k)
  match a with
  | ⟨0, _⟩ => blk_simp [(places t).2.2.1]
  | ⟨1, _⟩ => blk_simp [(places t).2.2.1]

/-- What a point leaves of the rows' gradient. -/
theorem rows (t : Fin cfg0.N) : (outsAt0 m c t.val t.isLt).1 = rowsV (iblk m c 0 t) (iblk m c 1 t) (iblk m c 2 t) (iblk m c 3 t) := by
  unfold rowsV
  by_cases h : t.val % 11 = 0
  · rw [outsAt0_A m c t h]
    frame_out
  · rw [outsAt0_B m c t h]
    frame_out

/-- What the scale's gradient is at the last block of rows. -/
theorem held5 (t : Fin cfg0.N) (hf : t.val % 11 = 11 - 1) (j : S1x512.Idx) :
    (outsAt0 m c t.val t.isLt).2.1 j = (0 : EReal) + ∑ s : Fin 11,
      scaleV (iblk m c 0 ⟨11 * (t.val / 11) + s.val, Pipeline.run_point_lt_of_flush t hf s⟩) (iblk m c 1 ⟨11 * (t.val / 11) + s.val, Pipeline.run_point_lt_of_flush t hf s⟩)
        (iblk m c 2 ⟨11 * (t.val / 11) + s.val, Pipeline.run_point_lt_of_flush t hf s⟩) (iblk m c 3 ⟨11 * (t.val / 11) + s.val, Pipeline.run_point_lt_of_flush t hf s⟩) j :=
  Pipeline.eq_sum_fin_of_reset_step_apply_of_flush (fun n h => (outsAt0 m c n h).2.1) 11 (fun _ => (0 : EReal))
    (fun p => scaleV (iblk m c 0 p) (iblk m c 1 p) (iblk m c 2 p) (iblk m c 3 p))
    (fun t h j => by
      rw [outsAt0_A m c t h]
      frame_out
      unfold k0_pay13 k0_pay11
      simp only [shapeCast_self]
      exact congrArg (fun z : EReal => z + scaleV (iblk m c 0 t) (iblk m c 1 t) (iblk m c 2 t) (iblk m c 3 t) j) Ideal.ofBits_zero_f32)
    (fun t h j => by
      rw [outsAt0_B m c t h]
      frame_out
      unfold k0_pay13
      simp only [shapeCast_self]
      rfl) t hf j

/-- What the shift's gradient is at the last block of rows. -/
theorem held6 (t : Fin cfg0.N) (hf : t.val % 11 = 11 - 1) (j : S1x512.Idx) :
    (outsAt0 m c t.val t.isLt).2.2 j = (0 : EReal) + ∑ s : Fin 11,
      k0_pay8 (F := Ideal) (iblk m c 0 ⟨11 * (t.val / 11) + s.val, Pipeline.run_point_lt_of_flush t hf s⟩) (iblk m c 1 ⟨11 * (t.val / 11) + s.val, Pipeline.run_point_lt_of_flush t hf s⟩)
        (iblk m c 2 ⟨11 * (t.val / 11) + s.val, Pipeline.run_point_lt_of_flush t hf s⟩) (iblk m c 3 ⟨11 * (t.val / 11) + s.val, Pipeline.run_point_lt_of_flush t hf s⟩) j :=
  Pipeline.eq_sum_fin_of_reset_step_apply_of_flush (fun n h => (outsAt0 m c n h).2.2) 11 (fun _ => (0 : EReal))
    (fun p => k0_pay8 (F := Ideal) (iblk m c 0 p) (iblk m c 1 p) (iblk m c 2 p) (iblk m c 3 p))
    (fun t h j => by
      rw [outsAt0_A m c t h]
      frame_out
      unfold k0_pay14 k0_pay12
      simp only [shapeCast_self]
      exact congrArg (fun z : EReal => z + k0_pay8 (F := Ideal) (iblk m c 0 t) (iblk m c 1 t) (iblk m c 2 t) (iblk m c 3 t) j) Ideal.ofBits_zero_f32)
    (fun t h j => by
      rw [outsAt0_B m c t h]
      frame_out
      unfold k0_pay14
      simp only [shapeCast_self]
      rfl) t hf j

theorem row_at (t : Fin cfg0.N) (p : Fin 384) (k : Fin 512) (q : Fin 4224) (h : q.val = t.val * 384 + p.val) :
    (rowsV (iblk m c 0 t) (iblk m c 1 t) (iblk m c 2 t) (iblk m c 3 t) (ix2 p k) : EReal) =
      Cert.Reference17Ideal.Read.val_main_v57 (F := Ideal) (m ((c : Thread nD τ).loc main_arg0)) (m ((c : Thread nD τ).loc main_arg1))
        (m ((c : Thread nD τ).loc main_arg2)) (m ((c : Thread nD τ).loc main_arg3)) (ix2 q k) := by
  refine (row_apply _ _ _ _ p k).trans (Eq.trans ?_ (reference_row _ _ _ _ q k).symm)
  simp only [fun k => block0 m c t p k q h, fun k => block1 m c t k, fun k => block2 m c t k, fun k => block3 m c t p k q h]

/-- The gradient of the rows. -/
theorem left4 : (dats m 0 c).arrAt 4 cfg0.N = Cert.Reference17Ideal.Read.val_main_v57 (F := Ideal)
    (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  have a0 : ((win0_4.blk t).view.emb y 0).val = t.val * 384 + (y 0).val := by blk_simp [(places t).2.2.2.2.1]
  have a1 : (win0_4.blk t).view.emb y 1 = (y 1 : Fin 512) := Fin.ext (by blk_simp [(places t).2.2.2.2.1])
  have hy : y = ix2 (y 0) (y 1) := ext2 y
  have hi : (win0_4.blk t).view.emb y = ix2 ((win0_4.blk t).view.emb y 0) (y 1) := (ext2 _).trans (congrArg (ix2 _) a1)
  rw [rows]
  exact (congrArg (rowsV (iblk m c 0 t) (iblk m c 1 t) (iblk m c 2 t) (iblk m c 3 t)) hy).trans
    ((row_at m c t (y 0) (y 1) _ a0).trans (congrArg (Cert.Reference17Ideal.Read.val_main_v57 (F := Ideal) _ _ _ _) hi.symm))

/-- The gradient of the scale. -/
theorem left5 : (dats m 0 c).arrAt 5 cfg0.N = Cert.Reference17Ideal.Read.val_main_v58 (F := Ideal)
    (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  have hm : t.val % 11 = 11 - 1 := (flush0_5 t).mp hf
  have hN : t.val < 11 := lt_of_lt_of_eq t.isLt (by decide)
  blk_simp
  rw [after0_5]
  have a1 : (win0_5.blk t).view.emb y 1 = (y 1 : Fin 512) := Fin.ext (by blk_simp [(places t).2.2.2.2.2.1])
  refine (held5 m c t hm _).trans ((zero_add _).trans (Eq.trans ?_ (reference_scale _ _ _ _ _).symm))
  rw [a1]
  refine Eq.trans ?_ (sum_blocks (J := 11) (n := 384) _)
  refine Finset.sum_congr rfl fun s _ => ?_
  have hy : y = ix2 (y 0) (y 1) := ext2 y
  rw [hy]
  refine (scale_apply _ _ _ _ (y 0) (y 1)).trans (Finset.sum_congr rfl fun p _ => ?_)
  have hq : ∀ h, (⟨s.val * 384 + p.val, h⟩ : Fin 4224).val = (⟨11 * (t.val / 11) + s.val, Pipeline.run_point_lt_of_flush t hm s⟩ : Fin cfg0.N).val * 384 + p.val := fun h => by
    show s.val * 384 + p.val = (11 * (t.val / 11) + s.val) * 384 + p.val
    rw [Nat.div_eq_of_lt hN]; omega
  have hx : ∀ k : Fin 512, _ := fun k => block0 m c _ p k _ (hq (by omega))
  have hd : ∀ k : Fin 512, _ := fun k => block3 m c _ p k _ (hq (by omega))
  simp only [hx, hd, block1 m c, block2 m c]
  rfl

/-- The gradient of the shift. -/
theorem left6 : (dats m 0 c).arrAt 6 cfg0.N = Cert.Reference17Ideal.Read.val_main_v59 (F := Ideal)
    (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  have hm : t.val % 11 = 11 - 1 := (flush0_6 t).mp hf
  have hN : t.val < 11 := lt_of_lt_of_eq t.isLt (by decide)
  blk_simp
  rw [after0_6]
  have a1 : (win0_6.blk t).view.emb y 1 = (y 1 : Fin 512) := Fin.ext (by blk_simp [(places t).2.2.2.2.2.2])
  refine (held6 m c t hm _).trans ((zero_add _).trans (Eq.trans ?_ (reference_shift _ _ _ _ _).symm))
  rw [a1]
  refine Eq.trans ?_ (sum_blocks (J := 11) (n := 384) _)
  refine Finset.sum_congr rfl fun s _ => ?_
  have hy : y = ix2 (y 0) (y 1) := ext2 y
  rw [hy]
  refine (shift_apply _ _ _ _ (y 0) (y 1)).trans (Finset.sum_congr rfl fun p _ => ?_)
  have hq : ∀ h, (⟨s.val * 384 + p.val, h⟩ : Fin 4224).val = (⟨11 * (t.val / 11) + s.val, Pipeline.run_point_lt_of_flush t hm s⟩ : Fin cfg0.N).val * 384 + p.val := fun h => by
    show s.val * 384 + p.val = (11 * (t.val / 11) + s.val) * 384 + p.val
    rw [Nat.div_eq_of_lt hN]; omega
  have hx : ∀ k : Fin 512, _ := fun k => block0 m c _ p k _ (hq (by omega))
  have hd : ∀ k : Fin 512, _ := fun k => block3 m c _ p k _ (hq (by omega))
  simp only [hx, hd, block1 m c, block2 m c]
  rfl

end Cert.Kernel17Ideal.Own
-- ==== Proof.P18.lean ====
module
public import proofs.«01_k».proof.Proof.Products
public import proofs.«01_k».proof.Proof.Gen.Kernel18Ideal.Value
public import proofs.«01_k».proof.Proof.Gen.Reference18Ideal.Read
public import Idealize.ShloMosaic.Lib.Claim
public import Idealize.ShloMosaic.Lib.StableHlo.RunRead
/-! The projection behind the convolution. -/
@[expose] public section
set_option maxRecDepth 16384
noncomputable section
namespace Cert.Kernel18Ideal.Own
open Idealize.ShloMosaic hiding ix2
open Idealize.ShloMosaic.TcCoe
open Idealize.ShloMosaic.ValueIdx
open Cert.Products
open Cert.Kernel18Ideal.Gen Cert.Kernel18Ideal

/-- What a point leaves, at a place. -/
theorem part_apply (x : Vec Ideal S1056x512 .bf16) (w : Vec Ideal S512x1024 .bf16) (j : S1056x1024.Idx) :
    k0_pay1 (F := Ideal) x w j = ∑ k : Fin 512, x (ix2 (j 0) k) * w (ix2 k (j 1)) := by
  unfold k0_pay1
  simp only [shapeCast_self]
  rw [ext2 j]
  refine (Ideal.matmul_plain_apply (φ₁ := .bf16) (φ₂ := .bf16) none x w (constant S1056x1024 .f32 0x00000000#32) (j 0) (j 1)).trans ((congrArg (· + _) (zero_word _)).trans ((zero_add _).trans ?_))
  rfl

variable (m : (ℓ : Loc nD τ sig) → Buf (Elt Ideal) ℓ) (c : Dev nD)

theorem entry0 : V (F := Ideal) m c main_v0 = (truncf .bf16 (m ((c : Thread nD τ).loc main_arg0) : FVec Ideal S4224x512 .f32) bitsLt_bf16_f32 : FVec Ideal S4224x512 .bf16) := by
  entry_read
  rfl
theorem entry1 : V (F := Ideal) m c main_v1 = (truncf .bf16 (m ((c : Thread nD τ).loc main_arg1) : FVec Ideal S512x1024 .f32) bitsLt_bf16_f32 : FVec Ideal S512x1024 .bf16) := by
  entry_read
  rfl

/-- The places of the blocks. -/
theorem places : ∀ t : Fin cfg0.N, win0_0.index t = ![t.val, 0] ∧ win0_1.index t = ![0, 0] ∧
    win0_2.index t = ![t.val, 0] :=
  (by decide +kernel : ∀ t : Fin grid0.N, _)

/-- The array the call leaves. -/
theorem left : (dats m 0 c).arrAt 2 cfg0.N = Cert.Reference18Ideal.Read.val_main_v1 (F := Ideal)
    (m ((c : Thread nD τ).loc main_arg0)) (m ((c : Thread nD τ).loc main_arg1)) := by
  refine (dats m 0 c).arrAt_eq_of_covers 2 _ (by decide +kernel) fun t hf y => ?_
  blk_simp
  rw [after0_2]
  unfold out0_2
  frame_out
  have a0 : ((win0_2.blk t).view.emb y 0).val = t.val * 1056 + (y 0).val := by blk_simp [(places t).2.2]
  have a1 : ((win0_2.blk t).view.emb y 1).val = (y 1).val := by blk_simp [(places t).2.2]
  refine (part_apply _ _ _).trans ?_
  rw [Cert.Reference18Ideal.Read.val_main_v1_apply]
  refine Eq.trans ?_ (Cert.Reference18Ideal.Read.val_main_v0_apply _ _ _).symm
  refine Finset.sum_congr rfl fun k _ => congrArg₂ (fun a b : EReal => a * b) ?_ ?_
  · refine (congrFun (entry0 m c) _).trans (congrArg (m ((c : Thread nD τ).loc main_arg0)) (funext fun a => Fin.ext ?_))
    match a with
    | ⟨0, _⟩ =>
      blk_simp [(places _).1]
      show t.val * 1056 + (y 0).val = ((win0_2.blk t).view.emb y 0).val
      rw [a0]
    | ⟨1, _⟩ =>
      blk_simp [(places _).1]
  · refine (congrFun (entry1 m c) _).trans (congrArg (m ((c : Thread nD τ).loc main_arg1)) (funext fun a => Fin.ext ?_))
    match a with
    | ⟨0, _⟩ =>
      blk_simp [(places _).2.1]
    | ⟨1, _⟩ =>
      blk_simp [(places _).2.1]
      show (y 1).val = ((win0_2.blk t).view.emb y 1).val
      rw [a1]

end Cert.Kernel18Ideal.Own
-- ==== Proof.P19.lean ====
module
public import proofs.«01_k».proof.Proof.Products
public import proofs.«01_k».proof.Proof.Gen.Kernel19Ideal.Value
public import proofs.«01_k».proof.Proof.Gen.Reference19Ideal.Read
public import Idealize.ShloMosaic.Lib.Claim
public import Idealize.ShloMosaic.Lib.StableHlo.RunRead
/-! The gradient of the rows that enter the projection behind the convolution. -/
@[expose] public section
set_option maxRecDepth 16384
noncomputable section
namespace Cert.Kernel19Ideal.Own
open Idealize.ShloMosaic hiding ix2
open Idealize.ShloMosaic.TcCoe
open Idealize.ShloMosaic.ValueIdx
open Cert.Products
open Cert.Kernel19Ideal.Gen Cert.Kernel19Ideal

/-- What a point leaves, at a place. -/
theorem part_apply (x : Vec Ideal S1056x1024 .bf16) (w : Vec Ideal S512x1024 .bf16) (j : S1056x512.Idx) :
    k0_pay1 (F := Ideal) x w j = ∑ k : Fin 1024, x (ix2 (j 0) k) * w (ix2 (j 1) k) := by
  unfold k0_pay1
  simp only [shapeCast_self]
  rw [ext2 j]
  refine (Ideal.matmul_transposedRhs_apply (φ₁ := .bf16) (φ₂ := .bf16) none x w (constant S1056x512 .f32 0x00000000#32) (j 0) (j 1)).trans ((congrArg (· + _) (zero_word _)).trans ((zero_add _).trans ?_))
  rfl

variable (m : (ℓ : Loc nD τ sig) → Buf (Elt Ideal) ℓ) (c : Dev nD)

theorem entry0 : V (F := Ideal) m c main_v0 = (truncf .bf16 (m ((c : Thread nD τ).loc main_arg2) : FVec Ideal S4224x1024 .f32) bitsLt_bf16_f32 : FVec Ideal S4224x1024 .bf16) := by
  entry_read
  rfl
theorem entry1 : V (F := Ideal) m c main_v1 = (truncf .bf16 (m ((c : Thread nD τ).loc main_arg1) : FVec Ideal S512x1024 .f32) bitsLt_bf16_f32 : FVec Ideal S512x1024 .bf16) := by
  entry_read
  rfl

/-- The places of the blocks. -/
theorem places : ∀ t : Fin cfg0.N, win0_0.index t = ![t.val, 0] ∧ win0_1.index t = ![0, 0] ∧
    win0_2.index t = ![t.val, 0] :=
  (by decide +kernel : ∀ t : Fin grid0.N, _)

/-- The array the call leaves. -/
theorem left : (dats m 0 c).arrAt 2 cfg0.N = Cert.Reference19Ideal.Read.val_main_v4 (F := Ideal)
    (m ((c : Thread nD τ).loc main_arg1)) (m ((c : Thread nD τ).loc main_arg2)) := by
  refine (dats m 0 c).arrAt_eq_of_covers 2 _ (by decide +kernel) fun t hf y => ?_
  blk_simp
  rw [after0_2]
  unfold out0_2
  frame_out
  have a0 : ((win0_2.blk t).view.emb y 0).val = t.val * 1056 + (y 0).val := by blk_simp [(places t).2.2]
  have a1 : ((win0_2.blk t).view.emb y 1).val = (y 1).val := by blk_simp [(places t).2.2]
  refine (part_apply _ _ _).trans ?_
  rw [Cert.Reference19Ideal.Read.val_main_v4_apply]
  refine Eq.trans ?_ (Cert.Reference19Ideal.Read.val_main_v3_apply _ _ _).symm
  refine Finset.sum_congr rfl fun k _ => congrArg₂ (fun a b : EReal => a * b) ?_ ?_
  · refine (congrFun (entry0 m c) _).trans (congrArg (m ((c : Thread nD τ).loc main_arg2)) (funext fun a => Fin.ext ?_))
    match a with
    | ⟨0, _⟩ =>
      blk_simp [(places _).1]
      show t.val * 1056 + (y 0).val = ((win0_2.blk t).view.emb y 0).val
      rw [a0]
    | ⟨1, _⟩ =>
      blk_simp [(places _).1]
  · refine (congrFun (entry1 m c) _).trans (congrArg (m ((c : Thread nD τ).loc main_arg1)) (funext fun a => Fin.ext ?_))
    match a with
    | ⟨0, _⟩ =>
      blk_simp [(places _).2.1]
      show (y 1).val = ((win0_2.blk t).view.emb y 1).val
      rw [a1]
    | ⟨1, _⟩ =>
      blk_simp [(places _).2.1]

end Cert.Kernel19Ideal.Own
-- ==== Proof.P20.lean ====
module
public import proofs.«01_k».proof.Proof.Products
public import proofs.«01_k».proof.Proof.Gen.Kernel20Ideal.Value
public import proofs.«01_k».proof.Proof.Gen.Reference20Ideal.Read
public import Idealize.ShloMosaic.Lib.Claim
public import Idealize.ShloMosaic.Lib.StableHlo.RunRead
public import Idealize.ShloMosaic.Lib.Pipeline.ReadBack
/-! The gradient of the weights of the projection behind the convolution. -/
@[expose] public section
set_option maxRecDepth 16384
noncomputable section
namespace Cert.Kernel20Ideal.Own
open Idealize.ShloMosaic hiding ix2
open Idealize.ShloMosaic.TcCoe
open Idealize.ShloMosaic.ValueIdx
open Cert.Products
open Cert.Kernel20Ideal.Gen Cert.Kernel20Ideal

/-- The product of two blocks, at a place. -/
theorem part_apply (x : Vec Ideal S1056x512 .bf16) (w : Vec Ideal S1056x1024 .bf16) (j : S512x1024.Idx) :
    k0_pay1 (F := Ideal) x w j = ∑ k : Fin 1056, x (ix2 k (j 0)) * w (ix2 k (j 1)) := by
  rw [ext2 j]
  unfold k0_pay1
  simp only [shapeCast_self]
  refine (turned_apply none _ _ _ (j 0) (j 1)).trans ((congrArg (· + _) (zero_word _)).trans ((zero_add _).trans ?_))
  rfl

variable (m : (ℓ : Loc nD τ sig) → Buf (Elt Ideal) ℓ) (c : Dev nD)

theorem entry0 : V (F := Ideal) m c main_v0 = (truncf .bf16 (m ((c : Thread nD τ).loc main_arg0) : FVec Ideal S4224x512 .f32) bitsLt_bf16_f32 : FVec Ideal S4224x512 .bf16) := by
  entry_read
  rfl
theorem entry1 : V (F := Ideal) m c main_v1 = (truncf .bf16 (m ((c : Thread nD τ).loc main_arg2) : FVec Ideal S4224x1024 .f32) bitsLt_bf16_f32 : FVec Ideal S4224x1024 .bf16) := by
  entry_read
  rfl

/-- The places of the blocks. -/
theorem places : ∀ t : Fin cfg0.N, win0_0.index t = ![t.val % 4, 0] ∧ win0_1.index t = ![t.val % 4, 0] ∧ win0_2.index t = ![0, 0] :=
  (by decide +kernel : ∀ t : Fin grid0.N, _)

/-- What the accumulator holds at the last block of the contracted places. -/
theorem held (t : Fin cfg0.N) (hf : t.val % 4 = 4 - 1) (j : S512x1024.Idx) :
    (outsAt0 m c t.val t.isLt).2 j = (0 : EReal) + ∑ s : Fin 4,
      k0_pay1 (F := Ideal) (iblk m c 0 ⟨4 * (t.val / 4) + s.val, Pipeline.run_point_lt_of_flush t hf s⟩)
        (iblk m c 1 ⟨4 * (t.val / 4) + s.val, Pipeline.run_point_lt_of_flush t hf s⟩) j :=
  Pipeline.eq_sum_fin_of_reset_step_apply_of_flush (fun n h => (outsAt0 m c n h).2) 4 (fun _ => (0 : EReal))
    (fun p => k0_pay1 (F := Ideal) (iblk m c 0 p) (iblk m c 1 p))
    (fun t h j => by
      have hN : t.val < 4 := lt_of_lt_of_eq t.isLt (by decide)
      rw [outsAt0_A m c t h (by omega) (by omega)]
      frame_out
      rw [zero_add]
      unfold k0_pay2
      exact congrFun (shapeCast_self _ _) j)
    (fun t h j => by
      by_cases h2 : t.val % 4 = 3
      · rw [outsAt0_C m c t h (by omega) h2]
        frame_out
        simp only [read_unread_whole]
        unfold k0_pay3
        exact congrFun (shapeCast_self _ _) j
      · rw [outsAt0_B m c t h (by omega) h2]
        frame_out
        simp only [read_unread_whole]
        unfold k0_pay3
        exact congrFun (shapeCast_self _ _) j) t hf j

theorem written (t : Fin cfg0.N) (hf : t.val % 4 = 4 - 1) (j : S512x1024.Idx) :
    (outsAt0 m c t.val t.isLt).1 j = (outsAt0 m c t.val t.isLt).2 j := by
  rw [outsAt0_C m c t (by omega) (by omega) hf]
  frame_out
  rfl

/-- The array the call leaves. -/
theorem left : (dats m 0 c).arrAt 2 cfg0.N = Cert.Reference20Ideal.Read.val_main_v4 (F := Ideal)
    (m ((c : Thread nD τ).loc main_arg0)) (m ((c : Thread nD τ).loc main_arg2)) := by
  refine (dats m 0 c).arrAt_eq_of_covers 2 _ (by decide +kernel) fun t hf y => ?_
  have hm : t.val % 4 = 4 - 1 := (flush0_2 t).mp hf
  blk_simp
  rw [after0_2]
  have a0 : ((win0_2.blk t).view.emb y 0).val = (y 0).val := by blk_simp [(places t).2.2]
  have a1 : ((win0_2.blk t).view.emb y 1).val = (y 1).val := by blk_simp [(places t).2.2]
  refine (written m c t hm _).trans ((held m c t hm _).trans ?_)
  rw [zero_add, Cert.Reference20Ideal.Read.val_main_v4_apply, Cert.Reference20Ideal.Read.val_main_v2_apply, Cert.Reference20Ideal.Read.val_main_v1_apply]
  refine Eq.trans ?_ (sum_blocks (J := 4) (n := 1056) _)
  refine Finset.sum_congr rfl fun s _ => ?_
  refine (part_apply _ _ _).trans ?_
  refine Finset.sum_congr rfl fun k _ => ?_
  rw [mul_comm]
  refine congrArg₂ (fun a b : EReal => a * b) ?_ ?_
  · refine (congrFun (entry1 m c) _).trans (congrArg (m ((c : Thread nD τ).loc main_arg2)) (funext fun a => Fin.ext ?_))
    match a with
    | ⟨0, _⟩ =>
      blk_simp [(places _).2.1]
      show (4 * (t.val / 4) + s.val) % 4 * 1056 + k.val = s.val * 1056 + k.val
      omega
    | ⟨1, _⟩ =>
      blk_simp [(places _).2.1]
      show (y 1).val = ((win0_2.blk t).view.emb y 1).val
      rw [a1]
  · refine (congrFun (entry0 m c) _).trans (congrArg (m ((c : Thread nD τ).loc main_arg0)) (funext fun a => Fin.ext ?_))
    match a with
    | ⟨0, _⟩ =>
      blk_simp [(places _).1]
      show (4 * (t.val / 4) + s.val) % 4 * 1056 + k.val = s.val * 1056 + k.val
      omega
    | ⟨1, _⟩ =>
      blk_simp [(places _).1]
      show (y 0).val = ((win0_2.blk t).view.emb y 0).val
      rw [a0]

end Cert.Kernel20Ideal.Own
-- ==== Proof.P21.lean ====
module
public import proofs.«01_k».proof.Proof.Products
public import proofs.«01_k».proof.Proof.Gen.Kernel21Ideal.Value
public import proofs.«01_k».proof.Proof.Gen.Reference21Ideal.Read
public import Idealize.ShloMosaic.Lib.Claim
public import Idealize.ShloMosaic.Lib.StableHlo.RunRead
/-! The projection behind the attention. -/
@[expose] public section
set_option maxRecDepth 16384
noncomputable section
namespace Cert.Kernel21Ideal.Own
open Idealize.ShloMosaic hiding ix2
open Idealize.ShloMosaic.TcCoe
open Idealize.ShloMosaic.ValueIdx
open Cert.Products
open Cert.Kernel21Ideal.Gen Cert.Kernel21Ideal

/-- What a point leaves, at a place. -/
theorem part_apply (x : Vec Ideal S1056x1024 .bf16) (w : Vec Ideal S1024x1024 .bf16) (j : S1056x1024.Idx) :
    k0_pay1 (F := Ideal) x w j = ∑ k : Fin 1024, x (ix2 (j 0) k) * w (ix2 k (j 1)) := by
  unfold k0_pay1
  simp only [shapeCast_self]
  rw [ext2 j]
  refine (Ideal.matmul_plain_apply (φ₁ := .bf16) (φ₂ := .bf16) none x w (constant S1056x1024 .f32 0x00000000#32) (j 0) (j 1)).trans ((congrArg (· + _) (zero_word _)).trans ((zero_add _).trans ?_))
  rfl

variable (m : (ℓ : Loc nD τ sig) → Buf (Elt Ideal) ℓ) (c : Dev nD)

theorem entry0 : V (F := Ideal) m c main_v0 = (truncf .bf16 (m ((c : Thread nD τ).loc main_arg0) : FVec Ideal S4224x1024 .f32) bitsLt_bf16_f32 : FVec Ideal S4224x1024 .bf16) := by
  entry_read
  rfl
theorem entry1 : V (F := Ideal) m c main_v1 = (truncf .bf16 (m ((c : Thread nD τ).loc main_arg1) : FVec Ideal S1024x1024 .f32) bitsLt_bf16_f32 : FVec Ideal S1024x1024 .bf16) := by
  entry_read
  rfl

/-- The places of the blocks. -/
theorem places : ∀ t : Fin cfg0.N, win0_0.index t = ![t.val, 0] ∧ win0_1.index t = ![0, 0] ∧
    win0_2.index t = ![t.val, 0] :=
  (by decide +kernel : ∀ t : Fin grid0.N, _)

/-- The array the call leaves. -/
theorem left : (dats m 0 c).arrAt 2 cfg0.N = Cert.Reference21Ideal.Read.val_main_v1 (F := Ideal)
    (m ((c : Thread nD τ).loc main_arg0)) (m ((c : Thread nD τ).loc main_arg1)) := by
  refine (dats m 0 c).arrAt_eq_of_covers 2 _ (by decide +kernel) fun t hf y => ?_
  blk_simp
  rw [after0_2]
  unfold out0_2
  frame_out
  have a0 : ((win0_2.blk t).view.emb y 0).val = t.val * 1056 + (y 0).val := by blk_simp [(places t).2.2]
  have a1 : ((win0_2.blk t).view.emb y 1).val = (y 1).val := by blk_simp [(places t).2.2]
  refine (part_apply _ _ _).trans ?_
  rw [Cert.Reference21Ideal.Read.val_main_v1_apply]
  refine Eq.trans ?_ (Cert.Reference21Ideal.Read.val_main_v0_apply _ _ _).symm
  refine Finset.sum_congr rfl fun k _ => congrArg₂ (fun a b : EReal => a * b) ?_ ?_
  · refine (congrFun (entry0 m c) _).trans (congrArg (m ((c : Thread nD τ).loc main_arg0)) (funext fun a => Fin.ext ?_))
    match a with
    | ⟨0, _⟩ =>
      blk_simp [(places _).1]
      show t.val * 1056 + (y 0).val = ((win0_2.blk t).view.emb y 0).val
      rw [a0]
    | ⟨1, _⟩ =>
      blk_simp [(places _).1]
  · refine (congrFun (entry1 m c) _).trans (congrArg (m ((c : Thread nD τ).loc main_arg1)) (funext fun a => Fin.ext ?_))
    match a with
    | ⟨0, _⟩ =>
      blk_simp [(places _).2.1]
    | ⟨1, _⟩ =>
      blk_simp [(places _).2.1]
      show (y 1).val = ((win0_2.blk t).view.emb y 1).val
      rw [a1]

end Cert.Kernel21Ideal.Own
-- ==== Proof.P22.lean ====
module
public import proofs.«01_k».proof.Proof.Products
public import proofs.«01_k».proof.Proof.Gen.Kernel22Ideal.Value
public import proofs.«01_k».proof.Proof.Gen.Reference22Ideal.Read
public import Idealize.ShloMosaic.Lib.Claim
public import Idealize.ShloMosaic.Lib.StableHlo.RunRead
/-! The gradient of the rows that enter the projection behind the attention. -/
@[expose] public section
set_option maxRecDepth 16384
noncomputable section
namespace Cert.Kernel22Ideal.Own
open Idealize.ShloMosaic hiding ix2
open Idealize.ShloMosaic.TcCoe
open Idealize.ShloMosaic.ValueIdx
open Cert.Products
open Cert.Kernel22Ideal.Gen Cert.Kernel22Ideal

/-- What a point leaves, at a place. -/
theorem part_apply (x : Vec Ideal S1056x1024 .bf16) (w : Vec Ideal S1024x1024 .bf16) (j : S1056x1024.Idx) :
    k0_pay1 (F := Ideal) x w j = ∑ k : Fin 1024, x (ix2 (j 0) k) * w (ix2 (j 1) k) := by
  unfold k0_pay1
  simp only [shapeCast_self]
  rw [ext2 j]
  refine (Ideal.matmul_transposedRhs_apply (φ₁ := .bf16) (φ₂ := .bf16) none x w (constant S1056x1024 .f32 0x00000000#32) (j 0) (j 1)).trans ((congrArg (· + _) (zero_word _)).trans ((zero_add _).trans ?_))
  rfl

variable (m : (ℓ : Loc nD τ sig) → Buf (Elt Ideal) ℓ) (c : Dev nD)

theorem entry0 : V (F := Ideal) m c main_v0 = (truncf .bf16 (m ((c : Thread nD τ).loc main_arg2) : FVec Ideal S4224x1024 .f32) bitsLt_bf16_f32 : FVec Ideal S4224x1024 .bf16) := by
  entry_read
  rfl
theorem entry1 : V (F := Ideal) m c main_v1 = (truncf .bf16 (m ((c : Thread nD τ).loc main_arg1) : FVec Ideal S1024x1024 .f32) bitsLt_bf16_f32 : FVec Ideal S1024x1024 .bf16) := by
  entry_read
  rfl

/-- The places of the blocks. -/
theorem places : ∀ t : Fin cfg0.N, win0_0.index t = ![t.val, 0] ∧ win0_1.index t = ![0, 0] ∧
    win0_2.index t = ![t.val, 0] :=
  (by decide +kernel : ∀ t : Fin grid0.N, _)

/-- The array the call leaves. -/
theorem left : (dats m 0 c).arrAt 2 cfg0.N = Cert.Reference22Ideal.Read.val_main_v4 (F := Ideal)
    (m ((c : Thread nD τ).loc main_arg1)) (m ((c : Thread nD τ).loc main_arg2)) := by
  refine (dats m 0 c).arrAt_eq_of_covers 2 _ (by decide +kernel) fun t hf y => ?_
  blk_simp
  rw [after0_2]
  unfold out0_2
  frame_out
  have a0 : ((win0_2.blk t).view.emb y 0).val = t.val * 1056 + (y 0).val := by blk_simp [(places t).2.2]
  have a1 : ((win0_2.blk t).view.emb y 1).val = (y 1).val := by blk_simp [(places t).2.2]
  refine (part_apply _ _ _).trans ?_
  rw [Cert.Reference22Ideal.Read.val_main_v4_apply]
  refine Eq.trans ?_ (Cert.Reference22Ideal.Read.val_main_v3_apply _ _ _).symm
  refine Finset.sum_congr rfl fun k _ => congrArg₂ (fun a b : EReal => a * b) ?_ ?_
  · refine (congrFun (entry0 m c) _).trans (congrArg (m ((c : Thread nD τ).loc main_arg2)) (funext fun a => Fin.ext ?_))
    match a with
    | ⟨0, _⟩ =>
      blk_simp [(places _).1]
      show t.val * 1056 + (y 0).val = ((win0_2.blk t).view.emb y 0).val
      rw [a0]
    | ⟨1, _⟩ =>
      blk_simp [(places _).1]
  · refine (congrFun (entry1 m c) _).trans (congrArg (m ((c : Thread nD τ).loc main_arg1)) (funext fun a => Fin.ext ?_))
    match a with
    | ⟨0, _⟩ =>
      blk_simp [(places _).2.1]
      show (y 1).val = ((win0_2.blk t).view.emb y 1).val
      rw [a1]
    | ⟨1, _⟩ =>
      blk_simp [(places _).2.1]

end Cert.Kernel22Ideal.Own
-- ==== Proof.P23.lean ====
module
public import proofs.«01_k».proof.Proof.Products
public import proofs.«01_k».proof.Proof.Gen.Kernel23Ideal.Value
public import proofs.«01_k».proof.Proof.Gen.Reference23Ideal.Read
public import Idealize.ShloMosaic.Lib.Claim
public import Idealize.ShloMosaic.Lib.StableHlo.RunRead
public import Idealize.ShloMosaic.Lib.Pipeline.ReadBack
/-! The gradient of the weights of the projection behind the attention. -/
@[expose] public section
set_option maxRecDepth 16384
noncomputable section
namespace Cert.Kernel23Ideal.Own
open Idealize.ShloMosaic hiding ix2
open Idealize.ShloMosaic.TcCoe
open Idealize.ShloMosaic.ValueIdx
open Cert.Products
open Cert.Kernel23Ideal.Gen Cert.Kernel23Ideal

/-- The product of two blocks, at a place. -/
theorem part_apply (x : Vec Ideal S1056x1024 .bf16) (w : Vec Ideal S1056x1024 .bf16) (j : S1024x1024.Idx) :
    k0_pay1 (F := Ideal) x w j = ∑ k : Fin 1056, x (ix2 k (j 0)) * w (ix2 k (j 1)) := by
  rw [ext2 j]
  unfold k0_pay1
  simp only [shapeCast_self]
  refine (turned_apply none _ _ _ (j 0) (j 1)).trans ((congrArg (· + _) (zero_word _)).trans ((zero_add _).trans ?_))
  rfl

variable (m : (ℓ : Loc nD τ sig) → Buf (Elt Ideal) ℓ) (c : Dev nD)

theorem entry0 : V (F := Ideal) m c main_v0 = (truncf .bf16 (m ((c : Thread nD τ).loc main_arg0) : FVec Ideal S4224x1024 .f32) bitsLt_bf16_f32 : FVec Ideal S4224x1024 .bf16) := by
  entry_read
  rfl
theorem entry1 : V (F := Ideal) m c main_v1 = (truncf .bf16 (m ((c : Thread nD τ).loc main_arg2) : FVec Ideal S4224x1024 .f32) bitsLt_bf16_f32 : FVec Ideal S4224x1024 .bf16) := by
  entry_read
  rfl

/-- The places of the blocks. -/
theorem places : ∀ t : Fin cfg0.N, win0_0.index t = ![t.val % 4, 0] ∧ win0_1.index t = ![t.val % 4, 0] ∧ win0_2.index t = ![0, 0] :=
  (by decide +kernel : ∀ t : Fin grid0.N, _)

/-- What the accumulator holds at the last block of the contracted places. -/
theorem held (t : Fin cfg0.N) (hf : t.val % 4 = 4 - 1) (j : S1024x1024.Idx) :
    (outsAt0 m c t.val t.isLt).2 j = (0 : EReal) + ∑ s : Fin 4,
      k0_pay1 (F := Ideal) (iblk m c 0 ⟨4 * (t.val / 4) + s.val, Pipeline.run_point_lt_of_flush t hf s⟩)
        (iblk m c 1 ⟨4 * (t.val / 4) + s.val, Pipeline.run_point_lt_of_flush t hf s⟩) j :=
  Pipeline.eq_sum_fin_of_reset_step_apply_of_flush (fun n h => (outsAt0 m c n h).2) 4 (fun _ => (0 : EReal))
    (fun p => k0_pay1 (F := Ideal) (iblk m c 0 p) (iblk m c 1 p))
    (fun t h j => by
      have hN : t.val < 4 := lt_of_lt_of_eq t.isLt (by decide)
      rw [outsAt0_A m c t h (by omega) (by omega)]
      frame_out
      rw [zero_add]
      unfold k0_pay2
      exact congrFun (shapeCast_self _ _) j)
    (fun t h j => by
      by_cases h2 : t.val % 4 = 3
      · rw [outsAt0_C m c t h (by omega) h2]
        frame_out
        simp only [read_unread_whole]
        unfold k0_pay3
        exact congrFun (shapeCast_self _ _) j
      · rw [outsAt0_B m c t h (by omega) h2]
        frame_out
        simp only [read_unread_whole]
        unfold k0_pay3
        exact congrFun (shapeCast_self _ _) j) t hf j

theorem written (t : Fin cfg0.N) (hf : t.val % 4 = 4 - 1) (j : S1024x1024.Idx) :
    (outsAt0 m c t.val t.isLt).1 j = (outsAt0 m c t.val t.isLt).2 j := by
  rw [outsAt0_C m c t (by omega) (by omega) hf]
  frame_out
  rfl

/-- The array the call leaves. -/
theorem left : (dats m 0 c).arrAt 2 cfg0.N = Cert.Reference23Ideal.Read.val_main_v4 (F := Ideal)
    (m ((c : Thread nD τ).loc main_arg0)) (m ((c : Thread nD τ).loc main_arg2)) := by
  refine (dats m 0 c).arrAt_eq_of_covers 2 _ (by decide +kernel) fun t hf y => ?_
  have hm : t.val % 4 = 4 - 1 := (flush0_2 t).mp hf
  blk_simp
  rw [after0_2]
  have a0 : ((win0_2.blk t).view.emb y 0).val = (y 0).val := by blk_simp [(places t).2.2]
  have a1 : ((win0_2.blk t).view.emb y 1).val = (y 1).val := by blk_simp [(places t).2.2]
  refine (written m c t hm _).trans ((held m c t hm _).trans ?_)
  rw [zero_add, Cert.Reference23Ideal.Read.val_main_v4_apply, Cert.Reference23Ideal.Read.val_main_v2_apply, Cert.Reference23Ideal.Read.val_main_v1_apply]
  refine Eq.trans ?_ (sum_blocks (J := 4) (n := 1056) _)
  refine Finset.sum_congr rfl fun s _ => ?_
  refine (part_apply _ _ _).trans ?_
  refine Finset.sum_congr rfl fun k _ => ?_
  rw [mul_comm]
  refine congrArg₂ (fun a b : EReal => a * b) ?_ ?_
  · refine (congrFun (entry1 m c) _).trans (congrArg (m ((c : Thread nD τ).loc main_arg2)) (funext fun a => Fin.ext ?_))
    match a with
    | ⟨0, _⟩ =>
      blk_simp [(places _).2.1]
      show (4 * (t.val / 4) + s.val) % 4 * 1056 + k.val = s.val * 1056 + k.val
      omega
    | ⟨1, _⟩ =>
      blk_simp [(places _).2.1]
      show (y 1).val = ((win0_2.blk t).view.emb y 1).val
      rw [a1]
  · refine (congrFun (entry0 m c) _).trans (congrArg (m ((c : Thread nD τ).loc main_arg0)) (funext fun a => Fin.ext ?_))
    match a with
    | ⟨0, _⟩ =>
      blk_simp [(places _).1]
      show (4 * (t.val / 4) + s.val) % 4 * 1056 + k.val = s.val * 1056 + k.val
      omega
    | ⟨1, _⟩ =>
      blk_simp [(places _).1]
      show (y 0).val = ((win0_2.blk t).view.emb y 0).val
      rw [a0]

end Cert.Kernel23Ideal.Own
-- ==== Proof.P24.lean ====
module
public import proofs.«01_k».proof.Proof.Products
public import proofs.«01_k».proof.Proof.Gen.Kernel24Ideal.Value
public import proofs.«01_k».proof.Proof.Gen.Reference24Ideal.Read
public import Idealize.ShloMosaic.Lib.Claim
public import Idealize.ShloMosaic.Lib.StableHlo.RunRead
/-! The projection behind the recurrence. -/
@[expose] public section
set_option maxRecDepth 16384
noncomputable section
namespace Cert.Kernel24Ideal.Own
open Idealize.ShloMosaic hiding ix2
open Idealize.ShloMosaic.TcCoe
open Idealize.ShloMosaic.ValueIdx
open Cert.Products
open Cert.Kernel24Ideal.Gen Cert.Kernel24Ideal

/-- What a point leaves, at a place. -/
theorem part_apply (x : Vec Ideal S1056x512 .bf16) (w : Vec Ideal S512x1024 .bf16) (j : S1056x1024.Idx) :
    k0_pay1 (F := Ideal) x w j = ∑ k : Fin 512, x (ix2 (j 0) k) * w (ix2 k (j 1)) := by
  unfold k0_pay1
  simp only [shapeCast_self]
  rw [ext2 j]
  refine (Ideal.matmul_plain_apply (φ₁ := .bf16) (φ₂ := .bf16) none x w (constant S1056x1024 .f32 0x00000000#32) (j 0) (j 1)).trans ((congrArg (· + _) (zero_word _)).trans ((zero_add _).trans ?_))
  rfl

variable (m : (ℓ : Loc nD τ sig) → Buf (Elt Ideal) ℓ) (c : Dev nD)

theorem entry0 : V (F := Ideal) m c main_v0 = (truncf .bf16 (m ((c : Thread nD τ).loc main_arg0) : FVec Ideal S4224x512 .f32) bitsLt_bf16_f32 : FVec Ideal S4224x512 .bf16) := by
  entry_read
  rfl
theorem entry1 : V (F := Ideal) m c main_v1 = (truncf .bf16 (m ((c : Thread nD τ).loc main_arg1) : FVec Ideal S512x1024 .f32) bitsLt_bf16_f32 : FVec Ideal S512x1024 .bf16) := by
  entry_read
  rfl

/-- The places of the blocks. -/
theorem places : ∀ t : Fin cfg0.N, win0_0.index t = ![t.val, 0] ∧ win0_1.index t = ![0, 0] ∧
    win0_2.index t = ![t.val, 0] :=
  (by decide +kernel : ∀ t : Fin grid0.N, _)

/-- The array the call leaves. -/
theorem left : (dats m 0 c).arrAt 2 cfg0.N = Cert.Reference24Ideal.Read.val_main_v1 (F := Ideal)
    (m ((c : Thread nD τ).loc main_arg0)) (m ((c : Thread nD τ).loc main_arg1)) := by
  refine (dats m 0 c).arrAt_eq_of_covers 2 _ (by decide +kernel) fun t hf y => ?_
  blk_simp
  rw [after0_2]
  unfold out0_2
  frame_out
  have a0 : ((win0_2.blk t).view.emb y 0).val = t.val * 1056 + (y 0).val := by blk_simp [(places t).2.2]
  have a1 : ((win0_2.blk t).view.emb y 1).val = (y 1).val := by blk_simp [(places t).2.2]
  refine (part_apply _ _ _).trans ?_
  rw [Cert.Reference24Ideal.Read.val_main_v1_apply]
  refine Eq.trans ?_ (Cert.Reference24Ideal.Read.val_main_v0_apply _ _ _).symm
  refine Finset.sum_congr rfl fun k _ => congrArg₂ (fun a b : EReal => a * b) ?_ ?_
  · refine (congrFun (entry0 m c) _).trans (congrArg (m ((c : Thread nD τ).loc main_arg0)) (funext fun a => Fin.ext ?_))
    match a with
    | ⟨0, _⟩ =>
      blk_simp [(places _).1]
      show t.val * 1056 + (y 0).val = ((win0_2.blk t).view.emb y 0).val
      rw [a0]
    | ⟨1, _⟩ =>
      blk_simp [(places _).1]
  · refine (congrFun (entry1 m c) _).trans (congrArg (m ((c : Thread nD τ).loc main_arg1)) (funext fun a => Fin.ext ?_))
    match a with
    | ⟨0, _⟩ =>
      blk_simp [(places _).2.1]
    | ⟨1, _⟩ =>
      blk_simp [(places _).2.1]
      show (y 1).val = ((win0_2.blk t).view.emb y 1).val
      rw [a1]

end Cert.Kernel24Ideal.Own
-- ==== Proof.P25.lean ====
module
public import proofs.«01_k».proof.Proof.Products
public import proofs.«01_k».proof.Proof.Gen.Kernel25Ideal.Value
public import proofs.«01_k».proof.Proof.Gen.Reference25Ideal.Read
public import Idealize.ShloMosaic.Lib.Claim
public import Idealize.ShloMosaic.Lib.StableHlo.RunRead
/-! The gradient of the rows that enter the projection behind the recurrence. -/
@[expose] public section
set_option maxRecDepth 16384
noncomputable section
namespace Cert.Kernel25Ideal.Own
open Idealize.ShloMosaic hiding ix2
open Idealize.ShloMosaic.TcCoe
open Idealize.ShloMosaic.ValueIdx
open Cert.Products
open Cert.Kernel25Ideal.Gen Cert.Kernel25Ideal

/-- What a point leaves, at a place. -/
theorem part_apply (x : Vec Ideal S1056x1024 .bf16) (w : Vec Ideal S512x1024 .bf16) (j : S1056x512.Idx) :
    k0_pay1 (F := Ideal) x w j = ∑ k : Fin 1024, x (ix2 (j 0) k) * w (ix2 (j 1) k) := by
  unfold k0_pay1
  simp only [shapeCast_self]
  rw [ext2 j]
  refine (Ideal.matmul_transposedRhs_apply (φ₁ := .bf16) (φ₂ := .bf16) none x w (constant S1056x512 .f32 0x00000000#32) (j 0) (j 1)).trans ((congrArg (· + _) (zero_word _)).trans ((zero_add _).trans ?_))
  rfl

variable (m : (ℓ : Loc nD τ sig) → Buf (Elt Ideal) ℓ) (c : Dev nD)

theorem entry0 : V (F := Ideal) m c main_v0 = (truncf .bf16 (m ((c : Thread nD τ).loc main_arg2) : FVec Ideal S4224x1024 .f32) bitsLt_bf16_f32 : FVec Ideal S4224x1024 .bf16) := by
  entry_read
  rfl
theorem entry1 : V (F := Ideal) m c main_v1 = (truncf .bf16 (m ((c : Thread nD τ).loc main_arg1) : FVec Ideal S512x1024 .f32) bitsLt_bf16_f32 : FVec Ideal S512x1024 .bf16) := by
  entry_read
  rfl

/-- The places of the blocks. -/
theorem places : ∀ t : Fin cfg0.N, win0_0.index t = ![t.val, 0] ∧ win0_1.index t = ![0, 0] ∧
    win0_2.index t = ![t.val, 0] :=
  (by decide +kernel : ∀ t : Fin grid0.N, _)

/-- The array the call leaves. -/
theorem left : (dats m 0 c).arrAt 2 cfg0.N = Cert.Reference25Ideal.Read.val_main_v4 (F := Ideal)
    (m ((c : Thread nD τ).loc main_arg1)) (m ((c : Thread nD τ).loc main_arg2)) := by
  refine (dats m 0 c).arrAt_eq_of_covers 2 _ (by decide +kernel) fun t hf y => ?_
  blk_simp
  rw [after0_2]
  unfold out0_2
  frame_out
  have a0 : ((win0_2.blk t).view.emb y 0).val = t.val * 1056 + (y 0).val := by blk_simp [(places t).2.2]
  have a1 : ((win0_2.blk t).view.emb y 1).val = (y 1).val := by blk_simp [(places t).2.2]
  refine (part_apply _ _ _).trans ?_
  rw [Cert.Reference25Ideal.Read.val_main_v4_apply]
  refine Eq.trans ?_ (Cert.Reference25Ideal.Read.val_main_v3_apply _ _ _).symm
  refine Finset.sum_congr rfl fun k _ => congrArg₂ (fun a b : EReal => a * b) ?_ ?_
  · refine (congrFun (entry0 m c) _).trans (congrArg (m ((c : Thread nD τ).loc main_arg2)) (funext fun a => Fin.ext ?_))
    match a with
    | ⟨0, _⟩ =>
      blk_simp [(places _).1]
      show t.val * 1056 + (y 0).val = ((win0_2.blk t).view.emb y 0).val
      rw [a0]
    | ⟨1, _⟩ =>
      blk_simp [(places _).1]
  · refine (congrFun (entry1 m c) _).trans (congrArg (m ((c : Thread nD τ).loc main_arg1)) (funext fun a => Fin.ext ?_))
    match a with
    | ⟨0, _⟩ =>
      blk_simp [(places _).2.1]
      show (y 1).val = ((win0_2.blk t).view.emb y 1).val
      rw [a1]
    | ⟨1, _⟩ =>
      blk_simp [(places _).2.1]

end Cert.Kernel25Ideal.Own
-- ==== Proof.P26.lean ====
module
public import proofs.«01_k».proof.Proof.Products
public import proofs.«01_k».proof.Proof.Gen.Kernel26Ideal.Value
public import proofs.«01_k».proof.Proof.Gen.Reference26Ideal.Read
public import Idealize.ShloMosaic.Lib.Claim
public import Idealize.ShloMosaic.Lib.StableHlo.RunRead
public import Idealize.ShloMosaic.Lib.Pipeline.ReadBack
/-! The gradient of the weights of the projection behind the recurrence. -/
@[expose] public section
set_option maxRecDepth 16384
noncomputable section
namespace Cert.Kernel26Ideal.Own
open Idealize.ShloMosaic hiding ix2
open Idealize.ShloMosaic.TcCoe
open Idealize.ShloMosaic.ValueIdx
open Cert.Products
open Cert.Kernel26Ideal.Gen Cert.Kernel26Ideal

/-- The product of two blocks, at a place. -/
theorem part_apply (x : Vec Ideal S1056x512 .bf16) (w : Vec Ideal S1056x1024 .bf16) (j : S512x1024.Idx) :
    k0_pay1 (F := Ideal) x w j = ∑ k : Fin 1056, x (ix2 k (j 0)) * w (ix2 k (j 1)) := by
  rw [ext2 j]
  unfold k0_pay1
  simp only [shapeCast_self]
  refine (turned_apply none _ _ _ (j 0) (j 1)).trans ((congrArg (· + _) (zero_word _)).trans ((zero_add _).trans ?_))
  rfl

variable (m : (ℓ : Loc nD τ sig) → Buf (Elt Ideal) ℓ) (c : Dev nD)

theorem entry0 : V (F := Ideal) m c main_v0 = (truncf .bf16 (m ((c : Thread nD τ).loc main_arg0) : FVec Ideal S4224x512 .f32) bitsLt_bf16_f32 : FVec Ideal S4224x512 .bf16) := by
  entry_read
  rfl
theorem entry1 : V (F := Ideal) m c main_v1 = (truncf .bf16 (m ((c : Thread nD τ).loc main_arg2) : FVec Ideal S4224x1024 .f32) bitsLt_bf16_f32 : FVec Ideal S4224x1024 .bf16) := by
  entry_read
  rfl

/-- The places of the blocks. -/
theorem places : ∀ t : Fin cfg0.N, win0_0.index t = ![t.val % 4, 0] ∧ win0_1.index t = ![t.val % 4, 0] ∧ win0_2.index t = ![0, 0] :=
  (by decide +kernel : ∀ t : Fin grid0.N, _)

/-- What the accumulator holds at the last block of the contracted places. -/
theorem held (t : Fin cfg0.N) (hf : t.val % 4 = 4 - 1) (j : S512x1024.Idx) :
    (outsAt0 m c t.val t.isLt).2 j = (0 : EReal) + ∑ s : Fin 4,
      k0_pay1 (F := Ideal) (iblk m c 0 ⟨4 * (t.val / 4) + s.val, Pipeline.run_point_lt_of_flush t hf s⟩)
        (iblk m c 1 ⟨4 * (t.val / 4) + s.val, Pipeline.run_point_lt_of_flush t hf s⟩) j :=
  Pipeline.eq_sum_fin_of_reset_step_apply_of_flush (fun n h => (outsAt0 m c n h).2) 4 (fun _ => (0 : EReal))
    (fun p => k0_pay1 (F := Ideal) (iblk m c 0 p) (iblk m c 1 p))
    (fun t h j => by
      have hN : t.val < 4 := lt_of_lt_of_eq t.isLt (by decide)
      rw [outsAt0_A m c t h (by omega) (by omega)]
      frame_out
      rw [zero_add]
      unfold k0_pay2
      exact congrFun (shapeCast_self _ _) j)
    (fun t h j => by
      by_cases h2 : t.val % 4 = 3
      · rw [outsAt0_C m c t h (by omega) h2]
        frame_out
        simp only [read_unread_whole]
        unfold k0_pay3
        exact congrFun (shapeCast_self _ _) j
      · rw [outsAt0_B m c t h (by omega) h2]
        frame_out
        simp only [read_unread_whole]
        unfold k0_pay3
        exact congrFun (shapeCast_self _ _) j) t hf j

theorem written (t : Fin cfg0.N) (hf : t.val % 4 = 4 - 1) (j : S512x1024.Idx) :
    (outsAt0 m c t.val t.isLt).1 j = (outsAt0 m c t.val t.isLt).2 j := by
  rw [outsAt0_C m c t (by omega) (by omega) hf]
  frame_out
  rfl

/-- The array the call leaves. -/
theorem left : (dats m 0 c).arrAt 2 cfg0.N = Cert.Reference26Ideal.Read.val_main_v4 (F := Ideal)
    (m ((c : Thread nD τ).loc main_arg0)) (m ((c : Thread nD τ).loc main_arg2)) := by
  refine (dats m 0 c).arrAt_eq_of_covers 2 _ (by decide +kernel) fun t hf y => ?_
  have hm : t.val % 4 = 4 - 1 := (flush0_2 t).mp hf
  blk_simp
  rw [after0_2]
  have a0 : ((win0_2.blk t).view.emb y 0).val = (y 0).val := by blk_simp [(places t).2.2]
  have a1 : ((win0_2.blk t).view.emb y 1).val = (y 1).val := by blk_simp [(places t).2.2]
  refine (written m c t hm _).trans ((held m c t hm _).trans ?_)
  rw [zero_add, Cert.Reference26Ideal.Read.val_main_v4_apply, Cert.Reference26Ideal.Read.val_main_v2_apply, Cert.Reference26Ideal.Read.val_main_v1_apply]
  refine Eq.trans ?_ (sum_blocks (J := 4) (n := 1056) _)
  refine Finset.sum_congr rfl fun s _ => ?_
  refine (part_apply _ _ _).trans ?_
  refine Finset.sum_congr rfl fun k _ => ?_
  rw [mul_comm]
  refine congrArg₂ (fun a b : EReal => a * b) ?_ ?_
  · refine (congrFun (entry1 m c) _).trans (congrArg (m ((c : Thread nD τ).loc main_arg2)) (funext fun a => Fin.ext ?_))
    match a with
    | ⟨0, _⟩ =>
      blk_simp [(places _).2.1]
      show (4 * (t.val / 4) + s.val) % 4 * 1056 + k.val = s.val * 1056 + k.val
      omega
    | ⟨1, _⟩ =>
      blk_simp [(places _).2.1]
      show (y 1).val = ((win0_2.blk t).view.emb y 1).val
      rw [a1]
  · refine (congrFun (entry0 m c) _).trans (congrArg (m ((c : Thread nD τ).loc main_arg0)) (funext fun a => Fin.ext ?_))
    match a with
    | ⟨0, _⟩ =>
      blk_simp [(places _).1]
      show (4 * (t.val / 4) + s.val) % 4 * 1056 + k.val = s.val * 1056 + k.val
      omega
    | ⟨1, _⟩ =>
      blk_simp [(places _).1]
      show (y 0).val = ((win0_2.blk t).view.emb y 0).val
      rw [a0]

end Cert.Kernel26Ideal.Own
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Points
public import proofs.«01_k».proof.Proof.Bits.Points
public import proofs.«01_k».proof.Proof.Args
public import proofs.«01_k».proof.Proof.Final
public import proofs.«01_k».proof.Proof.Gen.Kernel.Frame
public import proofs.«01_k».proof.Proof.Gen.Kernel.Skeleton
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.P2
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.P3
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.P4
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.P5
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.P6
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.P7
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.P8
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.P9
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.P10
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.P11
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.P12
public import proofs.«01_k».proof.Proof.Gen.Kernel13.Frame
public import proofs.«01_k».proof.Proof.Gen.Kernel13Ideal.Value
public import proofs.«01_k».proof.Proof.Gen.Reference13Ideal.Run
public import proofs.«01_k».proof.Proof.Gen.Reference13Ideal.Read
public import proofs.«01_k».proof.Proof.P13
public import proofs.«01_k».proof.Proof.Gen.Kernel14.Frame
public import proofs.«01_k».proof.Proof.Gen.Kernel14Ideal.Value
public import proofs.«01_k».proof.Proof.Gen.Reference14Ideal.Run
public import proofs.«01_k».proof.Proof.Gen.Reference14Ideal.Read
public import proofs.«01_k».proof.Proof.P14
public import proofs.«01_k».proof.Proof.Gen.Kernel15.Frame
public import proofs.«01_k».proof.Proof.Gen.Kernel15Ideal.Value
public import proofs.«01_k».proof.Proof.Gen.Reference15Ideal.Run
public import proofs.«01_k».proof.Proof.Gen.Reference15Ideal.Read
public import proofs.«01_k».proof.Proof.P15
public import proofs.«01_k».proof.Proof.Gen.Kernel16.Frame
public import proofs.«01_k».proof.Proof.Gen.Kernel16Ideal.Value
public import proofs.«01_k».proof.Proof.Gen.Reference16Ideal.Run
public import proofs.«01_k».proof.Proof.Gen.Reference16Ideal.Read
public import proofs.«01_k».proof.Proof.P16
public import proofs.«01_k».proof.Proof.Gen.Kernel17.Frame
public import proofs.«01_k».proof.Proof.Gen.Kernel17Ideal.Value
public import proofs.«01_k».proof.Proof.Gen.Reference17Ideal.Run
public import proofs.«01_k».proof.Proof.Gen.Reference17Ideal.Read
public import proofs.«01_k».proof.Proof.P17
public import proofs.«01_k».proof.Proof.Gen.Kernel18.Frame
public import proofs.«01_k».proof.Proof.Gen.Kernel18Ideal.Value
public import proofs.«01_k».proof.Proof.Gen.Reference18Ideal.Run
public import proofs.«01_k».proof.Proof.Gen.Reference18Ideal.Read
public import proofs.«01_k».proof.Proof.P18
public import proofs.«01_k».proof.Proof.Gen.Kernel19.Frame
public import proofs.«01_k».proof.Proof.Gen.Kernel19Ideal.Value
public import proofs.«01_k».proof.Proof.Gen.Reference19Ideal.Run
public import proofs.«01_k».proof.Proof.Gen.Reference19Ideal.Read
public import proofs.«01_k».proof.Proof.P19
public import proofs.«01_k».proof.Proof.Gen.Kernel20.Frame
public import proofs.«01_k».proof.Proof.Gen.Kernel20Ideal.Value
public import proofs.«01_k».proof.Proof.Gen.Reference20Ideal.Run
public import proofs.«01_k».proof.Proof.Gen.Reference20Ideal.Read
public import proofs.«01_k».proof.Proof.P20
public import proofs.«01_k».proof.Proof.Gen.Kernel21.Frame
public import proofs.«01_k».proof.Proof.Gen.Kernel21Ideal.Value
public import proofs.«01_k».proof.Proof.Gen.Reference21Ideal.Run
public import proofs.«01_k».proof.Proof.Gen.Reference21Ideal.Read
public import proofs.«01_k».proof.Proof.P21
public import proofs.«01_k».proof.Proof.Gen.Kernel22.Frame
public import proofs.«01_k».proof.Proof.Gen.Kernel22Ideal.Value
public import proofs.«01_k».proof.Proof.Gen.Reference22Ideal.Run
public import proofs.«01_k».proof.Proof.Gen.Reference22Ideal.Read
public import proofs.«01_k».proof.Proof.P22
public import proofs.«01_k».proof.Proof.Gen.Kernel23.Frame
public import proofs.«01_k».proof.Proof.Gen.Kernel23Ideal.Value
public import proofs.«01_k».proof.Proof.Gen.Reference23Ideal.Run
public import proofs.«01_k».proof.Proof.Gen.Reference23Ideal.Read
public import proofs.«01_k».proof.Proof.P23
public import proofs.«01_k».proof.Proof.Gen.Kernel24.Frame
public import proofs.«01_k».proof.Proof.Gen.Kernel24Ideal.Value
public import proofs.«01_k».proof.Proof.Gen.Reference24Ideal.Run
public import proofs.«01_k».proof.Proof.Gen.Reference24Ideal.Read
public import proofs.«01_k».proof.Proof.P24
public import proofs.«01_k».proof.Proof.Gen.Kernel25.Frame
public import proofs.«01_k».proof.Proof.Gen.Kernel25Ideal.Value
public import proofs.«01_k».proof.Proof.Gen.Reference25Ideal.Run
public import proofs.«01_k».proof.Proof.Gen.Reference25Ideal.Read
public import proofs.«01_k».proof.Proof.P25
public import proofs.«01_k».proof.Proof.Gen.Kernel26.Frame
public import proofs.«01_k».proof.Proof.Gen.Kernel26Ideal.Value
public import proofs.«01_k».proof.Proof.Gen.Reference26Ideal.Run
public import proofs.«01_k».proof.Proof.Gen.Reference26Ideal.Read
public import proofs.«01_k».proof.Proof.P26
public import Idealize.ShloMosaic.Adequacy
public import Idealize.ShloMosaic.Init

@[expose] public section

noncomputable section

namespace Cert.Proof

open Idealize.ShloMosaic Idealize.SL.Sem Cert.Kernel

attribute [local instance] Cert.Kernel.Gen.facts Cert.KernelIdeal.Gen.facts Cert.ReferenceIdeal.Gen.facts Cert.Pre_finite.Gen.facts
  Cert.Kernel2.Gen.facts Cert.Kernel2Ideal.Gen.facts Cert.Reference2Ideal.Gen.facts
  Cert.Kernel3.Gen.facts Cert.Kernel3Ideal.Gen.facts Cert.Reference3Ideal.Gen.facts
  Cert.Kernel4.Gen.facts Cert.Kernel4Ideal.Gen.facts Cert.Reference4Ideal.Gen.facts
  Cert.Kernel5.Gen.facts Cert.Kernel5Ideal.Gen.facts Cert.Reference5Ideal.Gen.facts
  Cert.Kernel6.Gen.facts Cert.Kernel6Ideal.Gen.facts Cert.Reference6Ideal.Gen.facts
  Cert.Kernel7.Gen.facts Cert.Kernel7Ideal.Gen.facts Cert.Reference7Ideal.Gen.facts
  Cert.Kernel8.Gen.facts Cert.Kernel8Ideal.Gen.facts Cert.Reference8Ideal.Gen.facts
  Cert.Kernel9.Gen.facts Cert.Kernel9Ideal.Gen.facts Cert.Reference9Ideal.Gen.facts
  Cert.Kernel10.Gen.facts Cert.Kernel10Ideal.Gen.facts Cert.Reference10Ideal.Gen.facts
  Cert.Kernel11.Gen.facts Cert.Kernel11Ideal.Gen.facts Cert.Reference11Ideal.Gen.facts
  Cert.Kernel12.Gen.facts Cert.Kernel12Ideal.Gen.facts Cert.Reference12Ideal.Gen.facts
  Cert.Kernel13.Gen.facts Cert.Kernel13Ideal.Gen.facts Cert.Reference13Ideal.Gen.facts
  Cert.Kernel14.Gen.facts Cert.Kernel14Ideal.Gen.facts Cert.Reference14Ideal.Gen.facts
  Cert.Kernel15.Gen.facts Cert.Kernel15Ideal.Gen.facts Cert.Reference15Ideal.Gen.facts
  Cert.Kernel16.Gen.facts Cert.Kernel16Ideal.Gen.facts Cert.Reference16Ideal.Gen.facts
  Cert.Kernel17.Gen.facts Cert.Kernel17Ideal.Gen.facts Cert.Reference17Ideal.Gen.facts
  Cert.Kernel18.Gen.facts Cert.Kernel18Ideal.Gen.facts Cert.Reference18Ideal.Gen.facts
  Cert.Kernel19.Gen.facts Cert.Kernel19Ideal.Gen.facts Cert.Reference19Ideal.Gen.facts
  Cert.Kernel20.Gen.facts Cert.Kernel20Ideal.Gen.facts Cert.Reference20Ideal.Gen.facts
  Cert.Kernel21.Gen.facts Cert.Kernel21Ideal.Gen.facts Cert.Reference21Ideal.Gen.facts
  Cert.Kernel22.Gen.facts Cert.Kernel22Ideal.Gen.facts Cert.Reference22Ideal.Gen.facts
  Cert.Kernel23.Gen.facts Cert.Kernel23Ideal.Gen.facts Cert.Reference23Ideal.Gen.facts
  Cert.Kernel24.Gen.facts Cert.Kernel24Ideal.Gen.facts Cert.Reference24Ideal.Gen.facts
  Cert.Kernel25.Gen.facts Cert.Kernel25Ideal.Gen.facts Cert.Reference25Ideal.Gen.facts
  Cert.Kernel26.Gen.facts Cert.Kernel26Ideal.Gen.facts Cert.Reference26Ideal.Gen.facts

theorem frame_kernel : Cert.quiescent_Kernel := fun m ρ _ => Cert.Kernel.Own.kept m ρ

theorem frame_reference : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

theorem values : Cert.algebraic_KernelIdeal_ReferenceIdeal_pre_finite := fun m g m' g' hp hm => by
  refine ⟨fun c => Cert.ReferenceIdeal.Read.val_main_v59 (F := Ideal) (Cert.KernelIdeal.Own.arg0 m c) (Cert.KernelIdeal.Own.arg1 m c) (Cert.KernelIdeal.Own.arg2 m c) (Cert.KernelIdeal.Own.arg3 m c),
    fun c => Cert.ReferenceIdeal.Read.val_main_v62 (F := Ideal) (Cert.KernelIdeal.Own.arg0 m c) (Cert.KernelIdeal.Own.arg1 m c) (Cert.KernelIdeal.Own.arg2 m c) (Cert.KernelIdeal.Own.arg3 m c),
    fun c => Cert.ReferenceIdeal.Read.val_main_v65 (F := Ideal) (Cert.KernelIdeal.Own.arg0 m c) (Cert.KernelIdeal.Own.arg1 m c) (Cert.KernelIdeal.Own.arg3 m c),
    Cert.KernelIdeal.Own.run_values g _ _ _ fun c => ?_, (θ_run Cert.ReferenceIdeal.defs _ _).mono (fun r h c => ?_) (Cert.ReferenceIdeal.Value.run (F := Ideal) m' g')⟩
  · obtain ⟨A, H⟩ := Cert.ReferenceIdeal.Own.exists_reads (Cert.ReferenceIdeal.Own.real_of_finite _ _ _ (hp c).1)
      (Cert.ReferenceIdeal.Own.real_of_finite _ _ _ (hp c).2.1)
      (Cert.ReferenceIdeal.Own.real_of_finite _ _ _ (hp c).2.2.1)
      (Cert.ReferenceIdeal.Own.real_of_finite _ _ _ (hp c).2.2.2)
    exact ⟨A, H, Cert.ReferenceIdeal.Own.resultQ H, Cert.ReferenceIdeal.Own.resultK H, Cert.ReferenceIdeal.Own.resultV H⟩
  · have h0 := (hm c).1
    have h1 := (hm c).2.1
    have h2 := (hm c).2.2.1
    have h3 := (hm c).2.2.2
    refine ⟨(h c).1.trans ((Cert.ReferenceIdeal.Read.val_main_v59_eq m' c).trans ?_), (h c).2.1.trans ((Cert.ReferenceIdeal.Read.val_main_v62_eq m' c).trans ?_),
      (h c).2.2.1.trans ((Cert.ReferenceIdeal.Read.val_main_v65_eq _ _ _).trans ?_), (h c).2.2.2⟩
    · rw [h0, h1, h2, h3]
    · rw [h0, h1, h2, h3]
    · rw [h0, h1, h3]

theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem values2 : Cert.algebraic_Kernel2Ideal_Reference2Ideal := fun m g m' g' _ hm => by
  refine ⟨fun c => Cert.Reference2Ideal.Read.val_main_v14 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)),
    (θ_run Cert.Kernel2Ideal.defs _ _).mono (fun r h c => ⟨(h c).1.trans (Cert.Kernel2Ideal.Own.left m c), (h c).2⟩) (Cert.Kernel2Ideal.Value.run_blocks (F := Ideal) m g),
    (θ_run Cert.Reference2Ideal.defs _ _).mono (fun r h c => ⟨(h c).1.trans ((Cert.Reference2Ideal.Read.val_main_v14_eq _ _ _).trans ?_), (h c).2⟩) (Cert.Reference2Ideal.Value.run (F := Ideal) m' g')⟩
  rw [(hm c).1, (hm c).2.1, (hm c).2.2]

theorem frame_reference3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem values3 : Cert.algebraic_Kernel3Ideal_Reference3Ideal := fun m g m' g' _ hm => by
  refine ⟨fun c => Cert.Reference3Ideal.Read.val_main_v14 (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg2)),
    (θ_run Cert.Kernel3Ideal.defs _ _).mono (fun r h c => ⟨(h c).1.trans (Cert.Kernel3Ideal.Own.left m c), (h c).2⟩) (Cert.Kernel3Ideal.Value.run_blocks (F := Ideal) m g),
    (θ_run Cert.Reference3Ideal.defs _ _).mono (fun r h c => ⟨(h c).1.trans ((Cert.Reference3Ideal.Read.val_main_v14_eq _ _).trans ?_), (h c).2⟩) (Cert.Reference3Ideal.Value.run (F := Ideal) m' g')⟩
  rw [(hm c).1, (hm c).2.2]

theorem frame_reference4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem values4 : Cert.algebraic_Kernel4Ideal_Reference4Ideal := fun m g m' g' _ hm => by
  refine ⟨fun c => Cert.Reference4Ideal.Read.val_main_v4 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg2)),
    (θ_run Cert.Kernel4Ideal.defs _ _).mono (fun r h c => ⟨(h c).1.trans (Cert.Kernel4Ideal.Own.left m c), (h c).2⟩) (Cert.Kernel4Ideal.Value.run_blocks (F := Ideal) m g),
    (θ_run Cert.Reference4Ideal.defs _ _).mono (fun r h c => ⟨(h c).1.trans ((Cert.Reference4Ideal.Read.val_main_v4_eq _ _).trans ?_), (h c).2⟩) (Cert.Reference4Ideal.Value.run (F := Ideal) m' g')⟩
  rw [(hm c).1, (hm c).2.2]

theorem frame_reference5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem values5 : Cert.algebraic_Kernel5Ideal_Reference5Ideal := fun m g m' g' _ hm => by
  refine ⟨fun c => Cert.Reference5Ideal.Read.val_main_v3 (F := Ideal) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)),
    (θ_run Cert.Kernel5Ideal.defs _ _).mono (fun r h c => ⟨(h c).1.trans (Cert.Kernel5Ideal.Own.left m c), (h c).2⟩) (Cert.Kernel5Ideal.Value.run_blocks (F := Ideal) m g),
    (θ_run Cert.Reference5Ideal.defs _ _).mono (fun r h c => ⟨(h c).1.trans ((Cert.Reference5Ideal.Read.val_main_v3_eq _ _).trans ?_), (h c).2⟩) (Cert.Reference5Ideal.Value.run (F := Ideal) m' g')⟩
  rw [(hm c).2.1, (hm c).2.2]

theorem frame_reference6 : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

theorem values6 : Cert.algebraic_Kernel6Ideal_Reference6Ideal := fun m g m' g' _ hm => by
  refine ⟨fun c => Cert.Reference6Ideal.Read.val_main_v4 (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg2)),
    (θ_run Cert.Kernel6Ideal.defs _ _).mono (fun r h c => ⟨(h c).1.trans (Cert.Kernel6Ideal.Own.left m c), (h c).2⟩) (Cert.Kernel6Ideal.Value.run_blocks (F := Ideal) m g),
    (θ_run Cert.Reference6Ideal.defs _ _).mono (fun r h c => ⟨(h c).1.trans ((Cert.Reference6Ideal.Read.val_main_v4_eq _ _).trans ?_), (h c).2⟩) (Cert.Reference6Ideal.Value.run (F := Ideal) m' g')⟩
  rw [(hm c).1, (hm c).2.2]

theorem frame_reference7 : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

theorem values7 : Cert.algebraic_Kernel7Ideal_Reference7Ideal := fun m g m' g' _ hm => by
  refine ⟨fun c => Cert.Reference7Ideal.Read.val_main_v3 (F := Ideal) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)),
    (θ_run Cert.Kernel7Ideal.defs _ _).mono (fun r h c => ⟨(h c).1.trans (Cert.Kernel7Ideal.Own.left m c), (h c).2⟩) (Cert.Kernel7Ideal.Value.run_blocks (F := Ideal) m g),
    (θ_run Cert.Reference7Ideal.defs _ _).mono (fun r h c => ⟨(h c).1.trans ((Cert.Reference7Ideal.Read.val_main_v3_eq _ _).trans ?_), (h c).2⟩) (Cert.Reference7Ideal.Value.run (F := Ideal) m' g')⟩
  rw [(hm c).2.1, (hm c).2.2]

theorem frame_reference8 : Cert.quiescent_Reference8Ideal := fun m ρ _ =>
  (θ_run Cert.Reference8Ideal.defs _ _).mono (fun r h => ⟨fun c => (h c).2.2, sem_eq_zero_of_no_sems (by decide) r.2⟩)
    (Cert.Reference8Ideal.Value.run (F := Ideal) m ρ)

theorem values8 : Cert.algebraic_Kernel8Ideal_Reference8Ideal := fun m g m' g' _ hm => by
  refine ⟨fun c => Cert.Reference8Ideal.Read.val_main_v36 (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)),
    fun c => Cert.Reference8Ideal.Read.val_main_v37 (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg2)),
    (θ_run Cert.Kernel8Ideal.defs _ _).mono (fun r h c => ⟨(h c).1.trans (Cert.Kernel8Ideal.Own.left4 m c), (h c).2.1.trans (Cert.Kernel8Ideal.Own.left5 m c), (h c).2.2⟩) (Cert.Kernel8Ideal.Value.run_blocks (F := Ideal) m g),
    (θ_run Cert.Reference8Ideal.defs _ _).mono (fun r h c => ⟨(h c).1.trans ((Cert.Reference8Ideal.Read.val_main_v36_eq _ _ _ _).trans ?_), (h c).2.1.trans ((Cert.Reference8Ideal.Read.val_main_v37_eq _ _).trans ?_), (h c).2.2⟩) (Cert.Reference8Ideal.Value.run (F := Ideal) m' g')⟩
  · rw [(hm c).1, (hm c).2.1, (hm c).2.2.1, (hm c).2.2.2]
  · rw [(hm c).1, (hm c).2.2.1]

theorem frame_reference9 : Cert.quiescent_Reference9Ideal := fun m ρ _ =>
  (θ_run Cert.Reference9Ideal.defs _ _).mono (fun r h => ⟨fun c => (h c).2.2.2.2.2.2, sem_eq_zero_of_no_sems (by decide) r.2⟩)
    (Cert.Reference9Ideal.Value.run (F := Ideal) m ρ)

theorem values9 : Cert.algebraic_Kernel9Ideal_Reference9Ideal := fun m g m' g' _ hm => by
  refine ⟨fun c => Cert.Reference9Ideal.Read.val_main_v46 (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg4)),
    fun c => Cert.Reference9Ideal.Read.val_main_v47 (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg4)),
    fun c => Cert.Reference9Ideal.Read.val_main_v48 (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)),
    fun c => Cert.Reference9Ideal.Read.val_main_v49 (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg4)),
    fun c => Cert.Reference9Ideal.Read.val_main_v50 (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg4)),
    fun c => Cert.Reference9Ideal.Read.val_main_v51 (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg4)),
    (θ_run Cert.Kernel9Ideal.defs _ _).mono (fun r h c => ⟨(h c).1.trans (Cert.Kernel9Ideal.Own.left7 m c), (h c).2.1.trans (Cert.Kernel9Ideal.Own.left8 m c), (h c).2.2.1.trans (Cert.Kernel9Ideal.Own.left9 m c), (h c).2.2.2.1.trans (Cert.Kernel9Ideal.Own.left10 m c), (h c).2.2.2.2.1.trans (Cert.Kernel9Ideal.Own.left11 m c), (h c).2.2.2.2.2.1.trans (Cert.Kernel9Ideal.Own.left12 m c), (h c).2.2.2.2.2.2⟩) (Cert.Kernel9Ideal.Value.run_blocks (F := Ideal) m g),
    (θ_run Cert.Reference9Ideal.defs _ _).mono (fun r h c => ⟨(h c).1.trans ((Cert.Reference9Ideal.Read.val_main_v46_eq _ _ _).trans ?_), (h c).2.1.trans ((Cert.Reference9Ideal.Read.val_main_v47_eq _ _ _).trans ?_), (h c).2.2.1.trans ((Cert.Reference9Ideal.Read.val_main_v48_eq _ _ _).trans ?_), (h c).2.2.2.1.trans ((Cert.Reference9Ideal.Read.val_main_v49_eq _ _).trans ?_), (h c).2.2.2.2.1.trans ((Cert.Reference9Ideal.Read.val_main_v50_eq _ _).trans ?_), (h c).2.2.2.2.2.1.trans ((Cert.Reference9Ideal.Read.val_main_v51_eq _ _).trans ?_), (h c).2.2.2.2.2.2⟩) (Cert.Reference9Ideal.Value.run (F := Ideal) m' g')⟩
  · rw [(hm c).1, (hm c).2.1, (hm c).2.2.2.2]
  · rw [(hm c).1, (hm c).2.2.1, (hm c).2.2.2.2]
  · rw [(hm c).1, (hm c).2.2.2.1, (hm c).2.2.2.2]
  · rw [(hm c).1, (hm c).2.2.2.2]
  · rw [(hm c).1, (hm c).2.2.2.2]
  · rw [(hm c).1, (hm c).2.2.2.2]

theorem frame_reference10 : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

theorem values10 : Cert.algebraic_Kernel10Ideal_Reference10Ideal := fun m g m' g' _ hm => by
  refine ⟨fun c => Cert.Reference10Ideal.Read.val_main_v4 (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg2)),
    (θ_run Cert.Kernel10Ideal.defs _ _).mono (fun r h c => ⟨(h c).1.trans (Cert.Kernel10Ideal.Own.left m c), (h c).2⟩) (Cert.Kernel10Ideal.Value.run_blocks (F := Ideal) m g),
    (θ_run Cert.Reference10Ideal.defs _ _).mono (fun r h c => ⟨(h c).1.trans ((Cert.Reference10Ideal.Read.val_main_v4_eq _ _).trans ?_), (h c).2⟩) (Cert.Reference10Ideal.Value.run (F := Ideal) m' g')⟩
  rw [(hm c).1, (hm c).2.2]

theorem frame_reference11 : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

theorem values11 : Cert.algebraic_Kernel11Ideal_Reference11Ideal := fun m g m' g' _ hm => by
  refine ⟨fun c => Cert.Reference11Ideal.Read.val_main_v4 (F := Ideal) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)),
    (θ_run Cert.Kernel11Ideal.defs _ _).mono (fun r h c => ⟨(h c).1.trans (Cert.Kernel11Ideal.Own.left m c), (h c).2⟩) (Cert.Kernel11Ideal.Value.run_blocks (F := Ideal) m g),
    (θ_run Cert.Reference11Ideal.defs _ _).mono (fun r h c => ⟨(h c).1.trans ((Cert.Reference11Ideal.Read.val_main_v4_eq _ _).trans ?_), (h c).2⟩) (Cert.Reference11Ideal.Value.run (F := Ideal) m' g')⟩
  rw [(hm c).2.1, (hm c).2.2]

theorem frame_reference12 : Cert.quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)

theorem values12 : Cert.algebraic_Kernel12Ideal_Reference12Ideal := fun m g m' g' _ hm => by
  refine ⟨fun c => Cert.Reference12Ideal.Read.val_main_v1 (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)),
    (θ_run Cert.Kernel12Ideal.defs _ _).mono (fun r h c => ⟨(h c).1.trans (Cert.Kernel12Ideal.Own.left m c), (h c).2⟩) (Cert.Kernel12Ideal.Value.run_blocks (F := Ideal) m g),
    (θ_run Cert.Reference12Ideal.defs _ _).mono (fun r h c => ⟨(h c).1.trans ((Cert.Reference12Ideal.Read.val_main_v1_eq _ _).trans ?_), (h c).2⟩) (Cert.Reference12Ideal.Value.run (F := Ideal) m' g')⟩
  rw [(hm c).1, (hm c).2]

theorem frame_reference13 : Cert.quiescent_Reference13Ideal := fun m ρ _ =>
  (θ_run Cert.Reference13Ideal.defs _ _).mono (fun r h => ⟨fun c => (h c).2, sem_eq_zero_of_no_sems (by decide) r.2⟩)
    (Cert.Reference13Ideal.Value.run (F := Ideal) m ρ)

theorem values13 : Cert.algebraic_Kernel13Ideal_Reference13Ideal := fun m g m' g' _ hm => by
  refine ⟨fun c => Cert.Reference13Ideal.Read.val_main_v1 (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)),
    (θ_run Cert.Kernel13Ideal.defs _ _).mono (fun r h c => ⟨(h c).1.trans (Cert.Kernel13Ideal.Own.left m c), (h c).2⟩) (Cert.Kernel13Ideal.Value.run_blocks (F := Ideal) m g),
    (θ_run Cert.Reference13Ideal.defs _ _).mono (fun r h c => ⟨(h c).1.trans ((Cert.Reference13Ideal.Read.val_main_v1_eq _ _).trans ?_), (h c).2⟩) (Cert.Reference13Ideal.Value.run (F := Ideal) m' g')⟩
  rw [(hm c).1, (hm c).2]

theorem frame_reference14 : Cert.quiescent_Reference14Ideal := fun m ρ _ =>
  (θ_run Cert.Reference14Ideal.defs _ _).mono (fun r h => ⟨fun c => (h c).2, sem_eq_zero_of_no_sems (by decide) r.2⟩)
    (Cert.Reference14Ideal.Value.run (F := Ideal) m ρ)

theorem values14 : Cert.algebraic_Kernel14Ideal_Reference14Ideal := fun m g m' g' _ hm => by
  refine ⟨fun c => Cert.Reference14Ideal.Read.val_main_v3 (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)),
    (θ_run Cert.Kernel14Ideal.defs _ _).mono (fun r h c => ⟨(h c).1.trans (Cert.Kernel14Ideal.Own.left m c), (h c).2⟩) (Cert.Kernel14Ideal.Value.run_blocks (F := Ideal) m g),
    (θ_run Cert.Reference14Ideal.defs _ _).mono (fun r h c => ⟨(h c).1.trans ((Cert.Reference14Ideal.Read.val_main_v3_eq _ _ _).trans ?_), (h c).2⟩) (Cert.Reference14Ideal.Value.run (F := Ideal) m' g')⟩
  rw [(hm c).1, (hm c).2.1, (hm c).2.2]

theorem frame_reference15 : Cert.quiescent_Reference15Ideal := fun m ρ _ =>
  (θ_run Cert.Reference15Ideal.defs _ _).mono (fun r h => ⟨fun c => (h c).2, sem_eq_zero_of_no_sems (by decide) r.2⟩)
    (Cert.Reference15Ideal.Value.run (F := Ideal) m ρ)

theorem values15 : Cert.algebraic_Kernel15Ideal_Reference15Ideal := fun m g m' g' _ hm => by
  refine ⟨fun c => Cert.Reference15Ideal.Read.val_main_v1 (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)),
    (θ_run Cert.Kernel15Ideal.defs _ _).mono (fun r h c => ⟨(h c).1.trans (Cert.Kernel15Ideal.Own.left m c), (h c).2⟩) (Cert.Kernel15Ideal.Value.run_blocks (F := Ideal) m g),
    (θ_run Cert.Reference15Ideal.defs _ _).mono (fun r h c => ⟨(h c).1.trans ((Cert.Reference15Ideal.Read.val_main_v1_eq _ _ _).trans ?_), (h c).2⟩) (Cert.Reference15Ideal.Value.run (F := Ideal) m' g')⟩
  rw [(hm c).1, (hm c).2.1, (hm c).2.2]

theorem frame_reference16 : Cert.quiescent_Reference16Ideal := fun m ρ _ =>
  (θ_run Cert.Reference16Ideal.defs _ _).mono (fun r h => ⟨fun c => (h c).2.2, sem_eq_zero_of_no_sems (by decide) r.2⟩)
    (Cert.Reference16Ideal.Value.run (F := Ideal) m ρ)

theorem values16 : Cert.algebraic_Kernel16Ideal_Reference16Ideal := fun m g m' g' _ hm => by
  refine ⟨fun c => Cert.Reference16Ideal.Read.val_main_v17 (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)),
    fun c => Cert.Reference16Ideal.Read.val_main_v19 (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)),
    (θ_run Cert.Kernel16Ideal.defs _ _).mono (fun r h c => ⟨(h c).1.trans (Cert.Kernel16Ideal.Own.left3 m c), (h c).2.1.trans (Cert.Kernel16Ideal.Own.left4 m c), (h c).2.2⟩) (Cert.Kernel16Ideal.Value.run_blocks (F := Ideal) m g),
    (θ_run Cert.Reference16Ideal.defs _ _).mono (fun r h c => ⟨(h c).1.trans ((Cert.Reference16Ideal.Read.val_main_v17_eq _ _).trans ?_), (h c).2.1.trans ((Cert.Reference16Ideal.Read.val_main_v19_eq _ _).trans ?_), (h c).2.2⟩) (Cert.Reference16Ideal.Value.run (F := Ideal) m' g')⟩
  · rw [(hm c).1, (hm c).2]
  · rw [(hm c).1, (hm c).2]

theorem frame_reference17 : Cert.quiescent_Reference17Ideal := fun m ρ _ =>
  (θ_run Cert.Reference17Ideal.defs _ _).mono (fun r h => ⟨fun c => (h c).2.2.2, sem_eq_zero_of_no_sems (by decide) r.2⟩)
    (Cert.Reference17Ideal.Value.run (F := Ideal) m ρ)

theorem values17 : Cert.algebraic_Kernel17Ideal_Reference17Ideal := fun m g m' g' _ hm => by
  refine ⟨fun c => Cert.Reference17Ideal.Read.val_main_v57 (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3)),
    fun c => Cert.Reference17Ideal.Read.val_main_v58 (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3)),
    fun c => Cert.Reference17Ideal.Read.val_main_v59 (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3)),
    (θ_run Cert.Kernel17Ideal.defs _ _).mono (fun r h c => ⟨(h c).1.trans (Cert.Kernel17Ideal.Own.left4 m c), (h c).2.1.trans (Cert.Kernel17Ideal.Own.left5 m c), (h c).2.2.1.trans (Cert.Kernel17Ideal.Own.left6 m c), (h c).2.2.2⟩) (Cert.Kernel17Ideal.Value.run_blocks (F := Ideal) m g),
    (θ_run Cert.Reference17Ideal.defs _ _).mono (fun r h c => ⟨(h c).1.trans ((Cert.Reference17Ideal.Read.val_main_v57_eq _ _).trans ?_), (h c).2.1.trans ((Cert.Reference17Ideal.Read.val_main_v58_eq _ _).trans ?_), (h c).2.2.1.trans ((Cert.Reference17Ideal.Read.val_main_v59_eq _ _).trans ?_), (h c).2.2.2⟩) (Cert.Reference17Ideal.Value.run (F := Ideal) m' g')⟩
  · rw [(hm c).1, (hm c).2.1, (hm c).2.2.1, (hm c).2.2.2]
  · rw [(hm c).1, (hm c).2.1, (hm c).2.2.1, (hm c).2.2.2]
  · rw [(hm c).1, (hm c).2.1, (hm c).2.2.1, (hm c).2.2.2]

theorem frame_reference18 : Cert.quiescent_Reference18Ideal := fun m ρ _ =>
  (θ_run Cert.Reference18Ideal.defs _ _).mono (fun r h => ⟨fun c => (h c).2, sem_eq_zero_of_no_sems (by decide) r.2⟩)
    (Cert.Reference18Ideal.Value.run (F := Ideal) m ρ)

theorem values18 : Cert.algebraic_Kernel18Ideal_Reference18Ideal := fun m g m' g' _ hm => by
  refine ⟨fun c => Cert.Reference18Ideal.Read.val_main_v1 (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)),
    (θ_run Cert.Kernel18Ideal.defs _ _).mono (fun r h c => ⟨(h c).1.trans (Cert.Kernel18Ideal.Own.left m c), (h c).2⟩) (Cert.Kernel18Ideal.Value.run_blocks (F := Ideal) m g),
    (θ_run Cert.Reference18Ideal.defs _ _).mono (fun r h c => ⟨(h c).1.trans ((Cert.Reference18Ideal.Read.val_main_v1_eq _ _).trans ?_), (h c).2⟩) (Cert.Reference18Ideal.Value.run (F := Ideal) m' g')⟩
  rw [(hm c).1, (hm c).2]

theorem frame_reference19 : Cert.quiescent_Reference19Ideal := fun m ρ _ =>
  (θ_run Cert.Reference19Ideal.defs _ _).mono (fun r h => ⟨fun c => (h c).2, sem_eq_zero_of_no_sems (by decide) r.2⟩)
    (Cert.Reference19Ideal.Value.run (F := Ideal) m ρ)

theorem values19 : Cert.algebraic_Kernel19Ideal_Reference19Ideal := fun m g m' g' _ hm => by
  refine ⟨fun c => Cert.Reference19Ideal.Read.val_main_v4 (F := Ideal) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2)),
    (θ_run Cert.Kernel19Ideal.defs _ _).mono (fun r h c => ⟨(h c).1.trans (Cert.Kernel19Ideal.Own.left m c), (h c).2⟩) (Cert.Kernel19Ideal.Value.run_blocks (F := Ideal) m g),
    (θ_run Cert.Reference19Ideal.defs _ _).mono (fun r h c => ⟨(h c).1.trans ((Cert.Reference19Ideal.Read.val_main_v4_eq _ _).trans ?_), (h c).2⟩) (Cert.Reference19Ideal.Value.run (F := Ideal) m' g')⟩
  rw [(hm c).2.1, (hm c).2.2]

theorem frame_reference20 : Cert.quiescent_Reference20Ideal := fun m ρ _ =>
  (θ_run Cert.Reference20Ideal.defs _ _).mono (fun r h => ⟨fun c => (h c).2, sem_eq_zero_of_no_sems (by decide) r.2⟩)
    (Cert.Reference20Ideal.Value.run (F := Ideal) m ρ)

theorem values20 : Cert.algebraic_Kernel20Ideal_Reference20Ideal := fun m g m' g' _ hm => by
  refine ⟨fun c => Cert.Reference20Ideal.Read.val_main_v4 (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg2)),
    (θ_run Cert.Kernel20Ideal.defs _ _).mono (fun r h c => ⟨(h c).1.trans (Cert.Kernel20Ideal.Own.left m c), (h c).2⟩) (Cert.Kernel20Ideal.Value.run_blocks (F := Ideal) m g),
    (θ_run Cert.Reference20Ideal.defs _ _).mono (fun r h c => ⟨(h c).1.trans ((Cert.Reference20Ideal.Read.val_main_v4_eq _ _).trans ?_), (h c).2⟩) (Cert.Reference20Ideal.Value.run (F := Ideal) m' g')⟩
  rw [(hm c).1, (hm c).2.2]

theorem frame_reference21 : Cert.quiescent_Reference21Ideal := fun m ρ _ =>
  (θ_run Cert.Reference21Ideal.defs _ _).mono (fun r h => ⟨fun c => (h c).2, sem_eq_zero_of_no_sems (by decide) r.2⟩)
    (Cert.Reference21Ideal.Value.run (F := Ideal) m ρ)

theorem values21 : Cert.algebraic_Kernel21Ideal_Reference21Ideal := fun m g m' g' _ hm => by
  refine ⟨fun c => Cert.Reference21Ideal.Read.val_main_v1 (F := Ideal) (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)),
    (θ_run Cert.Kernel21Ideal.defs _ _).mono (fun r h c => ⟨(h c).1.trans (Cert.Kernel21Ideal.Own.left m c), (h c).2⟩) (Cert.Kernel21Ideal.Value.run_blocks (F := Ideal) m g),
    (θ_run Cert.Reference21Ideal.defs _ _).mono (fun r h c => ⟨(h c).1.trans ((Cert.Reference21Ideal.Read.val_main_v1_eq _ _).trans ?_), (h c).2⟩) (Cert.Reference21Ideal.Value.run (F := Ideal) m' g')⟩
  rw [(hm c).1, (hm c).2]

theorem frame_reference22 : Cert.quiescent_Reference22Ideal := fun m ρ _ =>
  (θ_run Cert.Reference22Ideal.defs _ _).mono (fun r h => ⟨fun c => (h c).2, sem_eq_zero_of_no_sems (by decide) r.2⟩)
    (Cert.Reference22Ideal.Value.run (F := Ideal) m ρ)

theorem values22 : Cert.algebraic_Kernel22Ideal_Reference22Ideal := fun m g m' g' _ hm => by
  refine ⟨fun c => Cert.Reference22Ideal.Read.val_main_v4 (F := Ideal) (m ((c.tc : Thread Cert.Kernel22Ideal.nD Cert.Kernel22Ideal.τ).loc Cert.Kernel22Ideal.main_arg1)) (m ((c.tc : Thread Cert.Kernel22Ideal.nD Cert.Kernel22Ideal.τ).loc Cert.Kernel22Ideal.main_arg2)),
    (θ_run Cert.Kernel22Ideal.defs _ _).mono (fun r h c => ⟨(h c).1.trans (Cert.Kernel22Ideal.Own.left m c), (h c).2⟩) (Cert.Kernel22Ideal.Value.run_blocks (F := Ideal) m g),
    (θ_run Cert.Reference22Ideal.defs _ _).mono (fun r h c => ⟨(h c).1.trans ((Cert.Reference22Ideal.Read.val_main_v4_eq _ _).trans ?_), (h c).2⟩) (Cert.Reference22Ideal.Value.run (F := Ideal) m' g')⟩
  rw [(hm c).2.1, (hm c).2.2]

theorem frame_reference23 : Cert.quiescent_Reference23Ideal := fun m ρ _ =>
  (θ_run Cert.Reference23Ideal.defs _ _).mono (fun r h => ⟨fun c => (h c).2, sem_eq_zero_of_no_sems (by decide) r.2⟩)
    (Cert.Reference23Ideal.Value.run (F := Ideal) m ρ)

theorem values23 : Cert.algebraic_Kernel23Ideal_Reference23Ideal := fun m g m' g' _ hm => by
  refine ⟨fun c => Cert.Reference23Ideal.Read.val_main_v4 (F := Ideal) (m ((c.tc : Thread Cert.Kernel23Ideal.nD Cert.Kernel23Ideal.τ).loc Cert.Kernel23Ideal.main_arg0)) (m ((c.tc : Thread Cert.Kernel23Ideal.nD Cert.Kernel23Ideal.τ).loc Cert.Kernel23Ideal.main_arg2)),
    (θ_run Cert.Kernel23Ideal.defs _ _).mono (fun r h c => ⟨(h c).1.trans (Cert.Kernel23Ideal.Own.left m c), (h c).2⟩) (Cert.Kernel23Ideal.Value.run_blocks (F := Ideal) m g),
    (θ_run Cert.Reference23Ideal.defs _ _).mono (fun r h c => ⟨(h c).1.trans ((Cert.Reference23Ideal.Read.val_main_v4_eq _ _).trans ?_), (h c).2⟩) (Cert.Reference23Ideal.Value.run (F := Ideal) m' g')⟩
  rw [(hm c).1, (hm c).2.2]

theorem frame_reference24 : Cert.quiescent_Reference24Ideal := fun m ρ _ =>
  (θ_run Cert.Reference24Ideal.defs _ _).mono (fun r h => ⟨fun c => (h c).2, sem_eq_zero_of_no_sems (by decide) r.2⟩)
    (Cert.Reference24Ideal.Value.run (F := Ideal) m ρ)

theorem values24 : Cert.algebraic_Kernel24Ideal_Reference24Ideal := fun m g m' g' _ hm => by
  refine ⟨fun c => Cert.Reference24Ideal.Read.val_main_v1 (F := Ideal) (m ((c.tc : Thread Cert.Kernel24Ideal.nD Cert.Kernel24Ideal.τ).loc Cert.Kernel24Ideal.main_arg0)) (m ((c.tc : Thread Cert.Kernel24Ideal.nD Cert.Kernel24Ideal.τ).loc Cert.Kernel24Ideal.main_arg1)),
    (θ_run Cert.Kernel24Ideal.defs _ _).mono (fun r h c => ⟨(h c).1.trans (Cert.Kernel24Ideal.Own.left m c), (h c).2⟩) (Cert.Kernel24Ideal.Value.run_blocks (F := Ideal) m g),
    (θ_run Cert.Reference24Ideal.defs _ _).mono (fun r h c => ⟨(h c).1.trans ((Cert.Reference24Ideal.Read.val_main_v1_eq _ _).trans ?_), (h c).2⟩) (Cert.Reference24Ideal.Value.run (F := Ideal) m' g')⟩
  rw [(hm c).1, (hm c).2]

theorem frame_reference25 : Cert.quiescent_Reference25Ideal := fun m ρ _ =>
  (θ_run Cert.Reference25Ideal.defs _ _).mono (fun r h => ⟨fun c => (h c).2, sem_eq_zero_of_no_sems (by decide) r.2⟩)
    (Cert.Reference25Ideal.Value.run (F := Ideal) m ρ)

theorem values25 : Cert.algebraic_Kernel25Ideal_Reference25Ideal := fun m g m' g' _ hm => by
  refine ⟨fun c => Cert.Reference25Ideal.Read.val_main_v4 (F := Ideal) (m ((c.tc : Thread Cert.Kernel25Ideal.nD Cert.Kernel25Ideal.τ).loc Cert.Kernel25Ideal.main_arg1)) (m ((c.tc : Thread Cert.Kernel25Ideal.nD Cert.Kernel25Ideal.τ).loc Cert.Kernel25Ideal.main_arg2)),
    (θ_run Cert.Kernel25Ideal.defs _ _).mono (fun r h c => ⟨(h c).1.trans (Cert.Kernel25Ideal.Own.left m c), (h c).2⟩) (Cert.Kernel25Ideal.Value.run_blocks (F := Ideal) m g),
    (θ_run Cert.Reference25Ideal.defs _ _).mono (fun r h c => ⟨(h c).1.trans ((Cert.Reference25Ideal.Read.val_main_v4_eq _ _).trans ?_), (h c).2⟩) (Cert.Reference25Ideal.Value.run (F := Ideal) m' g')⟩
  rw [(hm c).2.1, (hm c).2.2]

theorem frame_reference26 : Cert.quiescent_Reference26Ideal := fun m ρ _ =>
  (θ_run Cert.Reference26Ideal.defs _ _).mono (fun r h => ⟨fun c => (h c).2, sem_eq_zero_of_no_sems (by decide) r.2⟩)
    (Cert.Reference26Ideal.Value.run (F := Ideal) m ρ)

theorem values26 : Cert.algebraic_Kernel26Ideal_Reference26Ideal := fun m g m' g' _ hm => by
  refine ⟨fun c => Cert.Reference26Ideal.Read.val_main_v4 (F := Ideal) (m ((c.tc : Thread Cert.Kernel26Ideal.nD Cert.Kernel26Ideal.τ).loc Cert.Kernel26Ideal.main_arg0)) (m ((c.tc : Thread Cert.Kernel26Ideal.nD Cert.Kernel26Ideal.τ).loc Cert.Kernel26Ideal.main_arg2)),
    (θ_run Cert.Kernel26Ideal.defs _ _).mono (fun r h c => ⟨(h c).1.trans (Cert.Kernel26Ideal.Own.left m c), (h c).2⟩) (Cert.Kernel26Ideal.Value.run_blocks (F := Ideal) m g),
    (θ_run Cert.Reference26Ideal.defs _ _).mono (fun r h c => ⟨(h c).1.trans ((Cert.Reference26Ideal.Read.val_main_v4_eq _ _).trans ?_), (h c).2⟩) (Cert.Reference26Ideal.Value.run (F := Ideal) m' g')⟩
  rw [(hm c).1, (hm c).2.2]

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  Cert.Kernel26.Gen.facts, Cert.Kernel26Ideal.Gen.facts, Cert.Reference26Ideal.Gen.facts,
  Cert.Pre_finite.Gen.facts,
  frame_kernel, fun m ρ _ => Cert.KernelIdeal.Own.kept m ρ, fun m ρ _ => Cert.KernelIdeal.Own.kept m ρ,
  frame_reference, fun m ρ _ => frame_reference m ρ trivial,
  fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ, frame_reference5,
  fun m ρ _ => Cert.Kernel6.Gen.frame m ρ, fun m ρ _ => Cert.Kernel6Ideal.Gen.frame m ρ, frame_reference6,
  fun m ρ _ => Cert.Kernel7.Gen.frame m ρ, fun m ρ _ => Cert.Kernel7Ideal.Gen.frame m ρ, frame_reference7,
  fun m ρ _ => Cert.Kernel8.Gen.frame m ρ, fun m ρ _ => Cert.Kernel8Ideal.Gen.frame m ρ, frame_reference8,
  fun m ρ _ => Cert.Kernel9.Gen.frame m ρ, fun m ρ _ => Cert.Kernel9Ideal.Gen.frame m ρ, frame_reference9,
  fun m ρ _ => Cert.Kernel10.Gen.frame m ρ, fun m ρ _ => Cert.Kernel10Ideal.Gen.frame m ρ, frame_reference10,
  fun m ρ _ => Cert.Kernel11.Gen.frame m ρ, fun m ρ _ => Cert.Kernel11Ideal.Gen.frame m ρ, frame_reference11,
  fun m ρ _ => Cert.Kernel12.Gen.frame m ρ, fun m ρ _ => Cert.Kernel12Ideal.Gen.frame m ρ, frame_reference12,
  fun m ρ _ => Cert.Kernel13.Gen.frame m ρ, fun m ρ _ => Cert.Kernel13Ideal.Gen.frame m ρ, frame_reference13,
  fun m ρ _ => Cert.Kernel14.Gen.frame m ρ, fun m ρ _ => Cert.Kernel14Ideal.Gen.frame m ρ, frame_reference14,
  fun m ρ _ => Cert.Kernel15.Gen.frame m ρ, fun m ρ _ => Cert.Kernel15Ideal.Gen.frame m ρ, frame_reference15,
  fun m ρ _ => Cert.Kernel16.Gen.frame m ρ, fun m ρ _ => Cert.Kernel16Ideal.Gen.frame m ρ, frame_reference16,
  fun m ρ _ => Cert.Kernel17.Gen.frame m ρ, fun m ρ _ => Cert.Kernel17Ideal.Gen.frame m ρ, frame_reference17,
  fun m ρ _ => Cert.Kernel18.Gen.frame m ρ, fun m ρ _ => Cert.Kernel18Ideal.Gen.frame m ρ, frame_reference18,
  fun m ρ _ => Cert.Kernel19.Gen.frame m ρ, fun m ρ _ => Cert.Kernel19Ideal.Gen.frame m ρ, frame_reference19,
  fun m ρ _ => Cert.Kernel20.Gen.frame m ρ, fun m ρ _ => Cert.Kernel20Ideal.Gen.frame m ρ, frame_reference20,
  fun m ρ _ => Cert.Kernel21.Gen.frame m ρ, fun m ρ _ => Cert.Kernel21Ideal.Gen.frame m ρ, frame_reference21,
  fun m ρ _ => Cert.Kernel22.Gen.frame m ρ, fun m ρ _ => Cert.Kernel22Ideal.Gen.frame m ρ, frame_reference22,
  fun m ρ _ => Cert.Kernel23.Gen.frame m ρ, fun m ρ _ => Cert.Kernel23Ideal.Gen.frame m ρ, frame_reference23,
  fun m ρ _ => Cert.Kernel24.Gen.frame m ρ, fun m ρ _ => Cert.Kernel24Ideal.Gen.frame m ρ, frame_reference24,
  fun m ρ _ => Cert.Kernel25.Gen.frame m ρ, fun m ρ _ => Cert.Kernel25Ideal.Gen.frame m ρ, frame_reference25,
  fun m ρ _ => Cert.Kernel26.Gen.frame m ρ, fun m ρ _ => Cert.Kernel26Ideal.Gen.frame m ρ, frame_reference26,
  trivial, values, trivial, values2, trivial, values3, trivial, values4, trivial, values5, trivial, values6, trivial, values7, trivial, values8, trivial, values9, trivial, values10, trivial, values11, trivial, values12, trivial, values13, trivial, values14, trivial, values15, trivial, values16, trivial, values17, trivial, values18, trivial, values19, trivial, values20, trivial, values21, trivial, values22, trivial, values23, trivial, values24, trivial, values25, trivial, values26⟩

end Cert.Proof

end
